-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite [hPre_finite : Cert.Pre_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite [hPre_finite : Cert.Pre_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite [hPre_finite : Cert.Pre_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite [hPre_finite : Cert.Pre_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite [hKernel4Ideal : Cert.Kernel4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite [hReference4Ideal : Cert.Reference4Ideal.Facts] [hPre_finite : Cert.Pre_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite [hKernel8Ideal : Cert.Kernel8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite [hReference8Ideal : Cert.Reference8Ideal.Facts] [hPre_finite : Cert.Pre_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite [hKernel4Ideal : Cert.Kernel4Ideal.Facts] [hReference4Ideal : Cert.Reference4Ideal.Facts] [hPre_finite : Cert.Pre_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v37) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_finite [hKernel8Ideal : Cert.Kernel8Ideal.Facts] [hReference8Ideal : Cert.Reference8Ideal.Facts] [hPre_finite : Cert.Pre_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v34) = v0 c
          ∧ r.2.mem ((c.tc : Thread Cert.Reference8Ideal.nD Cert.Reference8Ideal.τ).loc Cert.Reference8Ideal.main_v36) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v18) = v0 c
          ∧ r.2.mem ((c.tc : Thread Cert.Reference9Ideal.nD Cert.Reference9Ideal.τ).loc Cert.Reference9Ideal.main_v37) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal_on_layer_zero [hKernel10Ideal : Cert.Kernel10Ideal.Facts] [hReference10Ideal : Cert.Reference10Ideal.Facts] [hOn_layer_zero : Cert.On_layer_zero.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v1_0)) (v1 : (c : Dev Cert.Kernel10Ideal.nD) → Buf (Elt Ideal) ((c.tc : Thread Cert.Kernel10Ideal.nD Cert.Kernel10Ideal.τ).loc Cert.Kernel10Ideal.main_v1_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          (∀ i : (⟨3, ![2, 8192, 1024]⟩ : Shape).Idx, (Cert.On_layer_zero.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).1 i = 1#1 → r.2.mem ((c.tc : Thread Cert.Kernel10Ideal.nD Cert.Kernel10Ideal.τ).loc Cert.Kernel10Ideal.main_v1_0) i = v0 c i)
          ∧ (∀ i : (⟨3, ![2, 8192, 1024]⟩ : Shape).Idx, (Cert.On_layer_zero.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).2 i = 1#1 → r.2.mem ((c.tc : Thread Cert.Kernel10Ideal.nD Cert.Kernel10Ideal.τ).loc Cert.Kernel10Ideal.main_v1_1) i = v1 c i)
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          (∀ i : (⟨3, ![2, 8192, 1024]⟩ : Shape).Idx, (Cert.On_layer_zero.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).1 i = 1#1 → r.2.mem ((c.tc : Thread Cert.Reference10Ideal.nD Cert.Reference10Ideal.τ).loc Cert.Reference10Ideal.main_v9) i = v0 c i)
          ∧ (∀ i : (⟨3, ![2, 8192, 1024]⟩ : Shape).Idx, (Cert.On_layer_zero.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1))).2 i = 1#1 → r.2.mem ((c.tc : Thread Cert.Reference10Ideal.nD Cert.Reference10Ideal.τ).loc Cert.Reference10Ideal.main_v13) i = v1 c i)
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v16) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v2_0)) (v1 : (c : Dev Cert.Kernel12Ideal.nD) → Buf (Elt Ideal) ((c.tc : Thread Cert.Kernel12Ideal.nD Cert.Kernel12Ideal.τ).loc Cert.Kernel12Ideal.main_v2_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2_0) = v0 c
          ∧ r.2.mem ((c.tc : Thread Cert.Kernel12Ideal.nD Cert.Kernel12Ideal.τ).loc Cert.Kernel12Ideal.main_v2_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_v27) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v13) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v13) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v10) = v0 c
          ∧ r.2.mem ((c.tc : Thread Cert.Reference17Ideal.nD Cert.Reference17Ideal.τ).loc Cert.Reference17Ideal.main_v15) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal_on_layer_zero_sample [hKernel18Ideal : Cert.Kernel18Ideal.Facts] [hReference18Ideal : Cert.Reference18Ideal.Facts] [hOn_layer_zero_sample : Cert.On_layer_zero_sample.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v1_0)) (v1 : (c : Dev Cert.Kernel18Ideal.nD) → Buf (Elt Ideal) ((c.tc : Thread Cert.Kernel18Ideal.nD Cert.Kernel18Ideal.τ).loc Cert.Kernel18Ideal.main_v1_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          (∀ i : (⟨3, ![2, 64, 1024]⟩ : Shape).Idx, (Cert.On_layer_zero_sample.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1))).1 i = 1#1 → r.2.mem ((c.tc : Thread Cert.Kernel18Ideal.nD Cert.Kernel18Ideal.τ).loc Cert.Kernel18Ideal.main_v1_0) i = v0 c i)
          ∧ (∀ i : (⟨3, ![2, 64, 1024]⟩ : Shape).Idx, (Cert.On_layer_zero_sample.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1))).2 i = 1#1 → r.2.mem ((c.tc : Thread Cert.Kernel18Ideal.nD Cert.Kernel18Ideal.τ).loc Cert.Kernel18Ideal.main_v1_1) i = v1 c i)
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          (∀ i : (⟨3, ![2, 64, 1024]⟩ : Shape).Idx, (Cert.On_layer_zero_sample.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1))).1 i = 1#1 → r.2.mem ((c.tc : Thread Cert.Reference18Ideal.nD Cert.Reference18Ideal.τ).loc Cert.Reference18Ideal.main_v9) i = v0 c i)
          ∧ (∀ i : (⟨3, ![2, 64, 1024]⟩ : Shape).Idx, (Cert.On_layer_zero_sample.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1))).2 i = 1#1 → r.2.mem ((c.tc : Thread Cert.Reference18Ideal.nD Cert.Reference18Ideal.τ).loc Cert.Reference18Ideal.main_v13) i = v1 c i)
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hPre_finite : Cert.Pre_finite.Facts) (hOn_layer_zero : Cert.On_layer_zero.Facts) (hOn_layer_zero_sample : Cert.On_layer_zero_sample.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite (hKernel4Ideal := hKernel4Ideal) (hPre_finite := hPre_finite)
    ∧ quiescent_Reference4Ideal (hReference4Ideal := hReference4Ideal)
    ∧ quiescent_Reference4Ideal_pre_finite (hReference4Ideal := hReference4Ideal) (hPre_finite := hPre_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite (hKernel8Ideal := hKernel8Ideal) (hPre_finite := hPre_finite)
    ∧ quiescent_Reference8Ideal (hReference8Ideal := hReference8Ideal)
    ∧ quiescent_Reference8Ideal_pre_finite (hReference8Ideal := hReference8Ideal) (hPre_finite := hPre_finite)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite (hKernel4Ideal := hKernel4Ideal) (hReference4Ideal := hReference4Ideal) (hPre_finite := hPre_finite)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite (hKernel8Ideal := hKernel8Ideal) (hReference8Ideal := hReference8Ideal) (hPre_finite := hPre_finite)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_on_layer_zero (hKernel10Ideal := hKernel10Ideal) (hReference10Ideal := hReference10Ideal) (hOn_layer_zero := hOn_layer_zero)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_on_layer_zero_sample (hKernel18Ideal := hKernel18Ideal) (hReference18Ideal := hReference18Ideal) (hOn_layer_zero_sample := hOn_layer_zero_sample)
-- ==== On_layer_zero.lean ====
abbrev S8192x4096 : Shape := ⟨2, ![8192, 4096]⟩
abbrev S2x4096x13120 : Shape := ⟨3, ![2, 4096, 13120]⟩
abbrev S2x8192x1024 : Shape := ⟨3, ![2, 8192, 1024]⟩
abbrev S_ : Shape := ⟨0, ![]⟩

class Facts : Prop where
  bcast_S_S2x8192x1024 : S_.BroadcastsInDim S2x8192x1024 (![] : Fin 0 → Fin S2x8192x1024.rank)

variable [Facts]

def fn {F : FTy → Type} [FloatOps F] (main_arg0 : FVec F S8192x4096 .bf16) (main_arg1 : FVec F S2x4096x13120 .f32) : IVec S2x8192x1024 1 × IVec S2x8192x1024 1 :=
  let main_v0 : IVec S2x8192x1024 32 := iotaInDim S2x8192x1024 32 0
  let main_c : IVec S_ 32 := constantI S_ 32 0#32
  let main_v1 : IVec S2x8192x1024 32 := broadcastInDim S2x8192x1024 ![] bcast_S_S2x8192x1024 main_c
  let main_v2 : IVec S2x8192x1024 1 := cmpi .eq main_v0 main_v1
  (main_v2, main_v2)
-- ==== On_layer_zero_sample.lean ====
abbrev S64x4096 : Shape := ⟨2, ![64, 4096]⟩
abbrev S2x4096x13120 : Shape := ⟨3, ![2, 4096, 13120]⟩
abbrev S2x64x1024 : Shape := ⟨3, ![2, 64, 1024]⟩
abbrev S_ : Shape := ⟨0, ![]⟩

class Facts : Prop where
  bcast_S_S2x64x1024 : S_.BroadcastsInDim S2x64x1024 (![] : Fin 0 → Fin S2x64x1024.rank)

variable [Facts]

def fn {F : FTy → Type} [FloatOps F] (main_arg0 : FVec F S64x4096 .bf16) (main_arg1 : FVec F S2x4096x13120 .f32) : IVec S2x64x1024 1 × IVec S2x64x1024 1 :=
  let main_v0 : IVec S2x64x1024 32 := iotaInDim S2x64x1024 32 0
  let main_c : IVec S_ 32 := constantI S_ 32 0#32
  let main_v1 : IVec S2x64x1024 32 := broadcastInDim S2x64x1024 ![] bcast_S_S2x64x1024 main_c
  let main_v2 : IVec S2x64x1024 1 := cmpi .eq main_v0 main_v1
  (main_v2, main_v2)
-- ==== Pre_finite.lean ====
abbrev S8192x4096 : Shape := ⟨2, ![8192, 4096]⟩
abbrev S2x4096x22016 : Shape := ⟨3, ![2, 4096, 22016]⟩
abbrev S4x2x11008 : Shape := ⟨3, ![4, 2, 11008]⟩
abbrev S3x11008 : Shape := ⟨2, ![3, 11008]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S2x4096x22016 : S_.BroadcastsInDim S2x4096x22016 (![] : Fin 0 → Fin S2x4096x22016.rank)
  reducesTo_S2x4096x22016_S_d0_1_2 : S2x4096x22016.ReducesTo [0, 1, 2] S_
  bcast_S_S4x2x11008 : S_.BroadcastsInDim S4x2x11008 (![] : Fin 0 → Fin S4x2x11008.rank)
  reducesTo_S4x2x11008_S_d0_1_2 : S4x2x11008.ReducesTo [0, 1, 2] S_
  bcast_S_S3x11008 : S_.BroadcastsInDim S3x11008 (![] : Fin 0 → Fin S3x11008.rank)
  reducesTo_S3x11008_S_d0_1 : S3x11008.ReducesTo [0, 1] S_
  bcast_S_S11008 : S_.BroadcastsInDim S11008 (![] : Fin 0 → Fin S11008.rank)
  reducesTo_S11008_S_d0 : S11008.ReducesTo [0] S_

variable [Facts]

def fn_part1 {F : FTy → Type} [FloatOps F] (main_arg4 : FVec F S11008 .f32) (main_v13 : IVec S_ 1) (main_v16 : IVec S3x11008 1) : IVec S_ 1 :=
  let main_c_5 : IVec S_ 1 := constantI S_ 1 1#1
  let main_v17 : IVec S_ 1 := (fun x v => Host.reduce IntOp.andi x v reducesTo_S3x11008_S_d0_1 h_S_) main_v16 main_c_5
  let main_v18 : IVec S_ 1 := andi main_v13 main_v17
  let main_v19 : FVec F S11008 .f32 := Host.absf main_arg4
  let main_cst_6 : FVec F S_ .f32 := constant S_ .f32 0x7F800000#32
  let main_v20 : FVec F S11008 .f32 := broadcastInDim S11008 ![] bcast_S_S11008 main_cst_6
  let main_v21 : IVec S11008 1 := cmpf .olt main_v19 main_v20
  let main_c_7 : IVec S_ 1 := constantI S_ 1 1#1
  let main_v22 : IVec S_ 1 := (fun x v => Host.reduce IntOp.andi x v reducesTo_S11008_S_d0 h_S_) main_v21 main_c_7
  let main_v23 : IVec S_ 1 := andi main_v18 main_v22
  main_v23

def fn {F : FTy → Type} [FloatOps F] (main_arg0 : FVec F S8192x4096 .bf16) (main_arg1 : FVec F S2x4096x22016 .f32) (main_arg2 : FVec F S4x2x11008 .f32) (main_arg3 : FVec F S3x11008 .f32) (main_arg4 : FVec F S11008 .f32) : IVec S_ 1 :=
  let main_v0 : FVec F S8192x4096 .bf16 := Host.absf main_arg0
  let main_cst : FVec F S_ .bf16 := constant S_ .bf16 0x7F80#16
  let main_v1 : FVec F S8192x4096 .bf16 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S2x4096x22016 .f32 := Host.absf main_arg1
  let main_cst_0 : FVec F S_ .f32 := constant S_ .f32 0x7F800000#32
  let main_v5 : FVec F S2x4096x22016 .f32 := broadcastInDim S2x4096x22016 ![] bcast_S_S2x4096x22016 main_cst_0
  let main_v6 : IVec S2x4096x22016 1 := cmpf .olt main_v4 main_v5
  let main_c_1 : IVec S_ 1 := constantI S_ 1 1#1
  let main_v7 : IVec S_ 1 := (fun x v => Host.reduce IntOp.andi x v reducesTo_S2x4096x22016_S_d0_1_2 h_S_) main_v6 main_c_1
  let main_v8 : IVec S_ 1 := andi main_v3 main_v7
  let main_v9 : FVec F S4x2x11008 .f32 := Host.absf main_arg2
  let main_cst_2 : FVec F S_ .f32 := constant S_ .f32 0x7F800000#32
  let main_v10 : FVec F S4x2x11008 .f32 := broadcastInDim S4x2x11008 ![] bcast_S_S4x2x11008 main_cst_2
  let main_v11 : IVec S4x2x11008 1 := cmpf .olt main_v9 main_v10
  let main_c_3 : IVec S_ 1 := constantI S_ 1 1#1
  let main_v12 : IVec S_ 1 := (fun x v => Host.reduce IntOp.andi x v reducesTo_S4x2x11008_S_d0_1_2 h_S_) main_v11 main_c_3
  let main_v13 : IVec S_ 1 := andi main_v8 main_v12
  let main_v14 : FVec F S3x11008 .f32 := Host.absf main_arg3
  let main_cst_4 : FVec F S_ .f32 := constant S_ .f32 0x7F800000#32
  let main_v15 : FVec F S3x11008 .f32 := broadcastInDim S3x11008 ![] bcast_S_S3x11008 main_cst_4
  let main_v16 : IVec S3x11008 1 := cmpf .olt main_v14 main_v15
  fn_part1 (F := F) main_arg4 main_v13 main_v16
-- ==== Kernel.lean ====
abbrev S8192x4096 : Shape := ⟨2, ![8192, 4096]⟩
abbrev S2x4096x13120 : Shape := ⟨3, ![2, 4096, 13120]⟩
abbrev S2x8192x1024 : Shape := ⟨3, ![2, 8192, 1024]⟩
abbrev S2x13120x4096 : Shape := ⟨3, ![2, 13120, 4096]⟩
abbrev S1024x4096 : Shape := ⟨2, ![1024, 4096]⟩
abbrev S1x256x4096 : Shape := ⟨3, ![1, 256, 4096]⟩
abbrev S1x1024x256 : Shape := ⟨3, ![1, 1024, 256]⟩
abbrev S256x4096 : Shape := ⟨2, ![256, 4096]⟩
abbrev S1024x256 : Shape := ⟨2, ![1024, 256]⟩

abbrev nBuf : Space → Nat
  | .hbm => 7
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2x4096x13120, .f32⟩
  | .hbm, ⟨2, _⟩ => ⟨S2x8192x1024, .f32⟩
  | .hbm, ⟨3, _⟩ => ⟨S2x8192x1024, .f32⟩
  | .hbm, ⟨4, _⟩ => ⟨S2x13120x4096, .f32⟩
  | .hbm, ⟨5, _⟩ => ⟨S2x8192x1024, .f32⟩
  | .hbm, ⟨6, _⟩ => ⟨S2x8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S256x4096, .bf16⟩
  | .local _ .vmem, ⟨11, _⟩ => ⟨S256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c692_i32 : BitVec 32 := 692#32
  let v1 : BitVec 32 := Scalar.addi c692_i32 v0
  let c16_i32_0 : BitVec 32 := 16#32
  let v2 : BitVec 32 := Scalar.muli v1 c16_i32_0
  let c1_i32 : BitVec 32 := 1#32
  let c0_i32 : BitVec 32 := 0#32
  let c0_i32_1 : BitVec 32 := 0#32
  ![c1_i32.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c756_i32 : BitVec 32 := 756#32
  let v1 : BitVec 32 := Scalar.addi c756_i32 v0
  let c16_i32_0 : BitVec 32 := 16#32
  let v2 : BitVec 32 := Scalar.muli v1 c16_i32_0
  let c1_i32 : BitVec 32 := 1#32
  let c0_i32 : BitVec 32 := 0#32
  let c0_i32_1 : BitVec 32 := 0#32
  ![c1_i32.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8192x4096 : Shape := ⟨2, ![8192, 4096]⟩
abbrev S2x4096x13120 : Shape := ⟨3, ![2, 4096, 13120]⟩
abbrev S2x8192x1024 : Shape := ⟨3, ![2, 8192, 1024]⟩
abbrev S1x4096x13120 : Shape := ⟨3, ![1, 4096, 13120]⟩
abbrev S4096x13120 : Shape := ⟨2, ![4096, 13120]⟩
abbrev S8192x13120 : Shape := ⟨2, ![8192, 13120]⟩
abbrev S8192x1024 : Shape := ⟨2, ![8192, 1024]⟩
abbrev S1x8192x1024 : Shape := ⟨3, ![1, 8192, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x13120, .f32⟩
  | .hbm, ⟨2, _⟩ => ⟨S2x8192x1024, .f32⟩
  | .hbm, ⟨3, _⟩ => ⟨S2x8192x1024, .f32⟩
  | .hbm, ⟨4, _⟩ => ⟨S8192x4096, .f32⟩
  | .hbm, ⟨5, _⟩ => ⟨S1x4096x13120, .f32⟩
  | .hbm, ⟨6, _⟩ => ⟨S4096x13120, .f32⟩
  | .hbm, ⟨7, _⟩ => ⟨S8192x13120, .f32⟩
  | .hbm, ⟨8, _⟩ => ⟨S8192x1024, .f32⟩
  | .hbm, ⟨9, _⟩ => ⟨S8192x1024, .f32⟩
  | .hbm, ⟨10, _⟩ => ⟨S1x8192x1024, .f32⟩
  | .hbm, ⟨11, _⟩ => ⟨S8192x1024, .f32⟩
  | .hbm, ⟨12, _⟩ => ⟨S1x8192x1024, .f32⟩
  | .hbm, ⟨13, _⟩ => ⟨S1x8192x1024, .f32⟩
  | .hbm, ⟨14, _⟩ => ⟨S2x8192x1024, .f32⟩
  | .hbm, ⟨15, _⟩ => ⟨S1x8192x1024, .f32⟩
  | .hbm, ⟨16, _⟩ => ⟨S8192x1024, .f32⟩
  | .hbm, ⟨17, _⟩ => ⟨S1x8192x1024, .f32⟩
  | .hbm, ⟨18, _⟩ => ⟨S1x8192x1024, .f32⟩
  | .hbm, ⟨19, _⟩ => ⟨S2x8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel2.lean ====
abbrev S8192x1024 : Shape := ⟨2, ![8192, 1024]⟩
abbrev S2x4096x4096 : Shape := ⟨3, ![2, 4096, 4096]⟩
abbrev S8192x4096 : Shape := ⟨2, ![8192, 4096]⟩
abbrev S1024x1024 : Shape := ⟨2, ![1024, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x4096x4096, .f32⟩
  | .hbm, ⟨5, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x4096x512, .f32⟩
  | .local _ .vmem, ⟨9, _⟩ => ⟨S1x4096x512, .f32⟩
  | .local _ .vmem, ⟨10, _⟩ => ⟨S1024x512, .f32⟩
  | .local _ .vmem, ⟨11, _⟩ => ⟨S1024x512, .f32⟩
  | .local _ .vmem, ⟨12, _⟩ => ⟨S4096x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S8192x1024 : Shape := ⟨2, ![8192, 1024]⟩
abbrev S2x4096x4096 : Shape := ⟨3, ![2, 4096, 4096]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x4096x4096, .f32⟩
  | .hbm, ⟨5, _⟩ => ⟨S8192x4096, .bf16⟩
  | .hbm, ⟨6, _⟩ => ⟨S8192x4096, .f32⟩
  | .hbm, ⟨7, _⟩ => ⟨S1x4096x4096, .f32⟩
  | .hbm, ⟨8, _⟩ => ⟨S4096x4096, .f32⟩
  | .hbm, ⟨9, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel3.lean ====
abbrev S8192x11008 : Shape := ⟨2, ![8192, 11008]⟩
abbrev S2x11008x4096 : Shape := ⟨3, ![2, 11008, 4096]⟩
abbrev S8192x4096 : Shape := ⟨2, ![8192, 4096]⟩
abbrev S1024x5504 : Shape := ⟨2, ![1024, 5504]⟩
abbrev S1x5504x512 : Shape := ⟨3, ![1, 5504, 512]⟩
abbrev S1024x512 : Shape := ⟨2, ![1024, 512]⟩
abbrev S5504x512 : Shape := ⟨2, ![5504, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S2x11008x4096, .bf16⟩
  | .hbm, ⟨3, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x512, .bf16⟩
  | .local _ .vmem, ⟨3, _⟩ => ⟨S1x5504x512, .bf16⟩
  | .local _ .vmem, ⟨4, _⟩ => ⟨S1024x512, .f32⟩
  | .local _ .vmem, ⟨5, _⟩ => ⟨S1024x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x11008 : Shape := ⟨2, ![8192, 11008]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x11008, .f32⟩
  | .hbm, ⟨3, _⟩ => ⟨S1x11008x4096, .f32⟩
  | .hbm, ⟨4, _⟩ => ⟨S11008x4096, .f32⟩
  | .hbm, ⟨5, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel4.lean ====
abbrev S8192x4096 : Shape := ⟨2, ![8192, 4096]⟩
abbrev S2x4096x22016 : Shape := ⟨3, ![2, 4096, 22016]⟩
abbrev S4x2x11008 : Shape := ⟨3, ![4, 2, 11008]⟩
abbrev S3x11008 : Shape := ⟨2, ![3, 11008]⟩
abbrev S11008 : Shape := ⟨1, ![11008]⟩
abbrev S_ : Shape := ⟨0, ![]⟩
abbrev S4x8x11008 : Shape := ⟨3, ![4, 8, 11008]⟩
abbrev S1x11008 : Shape := ⟨2, ![1, 11008]⟩
abbrev S8192x11008 : Shape := ⟨2, ![8192, 11008]⟩
abbrev S8x8x11008 : Shape := ⟨3, ![8, 8, 11008]⟩
abbrev S1024x4096 : Shape := ⟨2, ![1024, 4096]⟩
abbrev S1x4096x256 : Shape := ⟨3, ![1, 4096, 256]⟩
abbrev S1x8x256 : Shape := ⟨3, ![1, 8, 256]⟩
abbrev S3x256 : Shape := ⟨2, ![3, 256]⟩
abbrev S1x256 : Shape := ⟨2, ![1, 256]⟩
abbrev S1024x256 : Shape := ⟨2, ![1024, 256]⟩
abbrev S4096x256 : Shape := ⟨2, ![4096, 256]⟩
abbrev S8x256 : Shape := ⟨2, ![8, 256]⟩
abbrev S256x4096 : Shape := ⟨2, ![256, 4096]⟩
abbrev S256x256 : Shape := ⟨2, ![256, 256]⟩
abbrev S264x256 : Shape := ⟨2, ![264, 256]⟩

abbrev nBuf : Space → Nat
  | .hbm => 11
  | .vmem => 19
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S4x2x11008, .f32⟩
  | .hbm, ⟨3, _⟩ => ⟨S3x11008, .f32⟩
  | .hbm, ⟨4, _⟩ => ⟨S11008, .f32⟩
  | .hbm, ⟨5, _⟩ => ⟨S_, .i32⟩
  | .hbm, ⟨6, _⟩ => ⟨S_, .f32⟩
  | .hbm, ⟨7, _⟩ => ⟨S4x8x11008, .f32⟩
  | .hbm, ⟨8, _⟩ => ⟨S1x11008, .f32⟩
  | .hbm, ⟨9, _⟩ => ⟨S8192x11008, .bf16⟩
  | .hbm, ⟨10, _⟩ => ⟨S8x8x11008, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x8x256, .f32⟩
  | .local _ .vmem, ⟨7, _⟩ => ⟨S1x8x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1024x256, .bf16⟩
  | .local _ .vmem, ⟨13, _⟩ => ⟨S1024x256, .bf16⟩
  | .local _ .vmem, ⟨14, _⟩ => ⟨S1x8x256, .f32⟩
  | .local _ .vmem, ⟨15, _⟩ => ⟨S1x8x256, .f32⟩
  | .local _ .vmem, ⟨16, _⟩ => ⟨S4096x256, .bf16⟩
  | .local _ .vmem, ⟨17, _⟩ => ⟨S4096x256, .bf16⟩
  | .local _ .vmem, ⟨18, _⟩ => ⟨S8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8192x4096 : Shape := ⟨2, ![8192, 4096]⟩
abbrev S2x4096x22016 : Shape := ⟨3, ![2, 4096, 22016]⟩
abbrev S4x2x11008 : Shape := ⟨3, ![4, 2, 11008]⟩
abbrev S3x11008 : Shape := ⟨2, ![3, 11008]⟩
abbrev S11008 : Shape := ⟨1, ![11008]⟩
abbrev S1x4096x22016 : Shape := ⟨3, ![1, 4096, 22016]⟩
abbrev S4096x22016 : Shape := ⟨2, ![4096, 22016]⟩
abbrev S8192x22016 : Shape := ⟨2, ![8192, 22016]⟩
abbrev S4x2048x22016 : Shape := ⟨3, ![4, 2048, 22016]⟩
abbrev S4x2048x11008 : Shape := ⟨3, ![4, 2048, 11008]⟩
abbrev S4x2050x11008 : Shape := ⟨3, ![4, 2050, 11008]⟩
abbrev S1x11008 : Shape := ⟨2, ![1, 11008]⟩
abbrev S1x1x11008 : Shape := ⟨3, ![1, 1, 11008]⟩
abbrev S_ : Shape := ⟨0, ![]⟩
abbrev S8192x11008 : Shape := ⟨2, ![8192, 11008]⟩
abbrev S8x1024x11008 : Shape := ⟨3, ![8, 1024, 11008]⟩
abbrev S8x8x11008 : Shape := ⟨3, ![8, 8, 11008]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S4x2x11008, .f32⟩
  | .hbm, ⟨3, _⟩ => ⟨S3x11008, .f32⟩
  | .hbm, ⟨4, _⟩ => ⟨S11008, .f32⟩
  | .hbm, ⟨5, _⟩ => ⟨S8192x4096, .f32⟩
  | .hbm, ⟨6, _⟩ => ⟨S1x4096x22016, .f32⟩
  | .hbm, ⟨7, _⟩ => ⟨S4096x22016, .f32⟩
  | .hbm, ⟨8, _⟩ => ⟨S8192x22016, .f32⟩
  | .hbm, ⟨9, _⟩ => ⟨S4x2048x22016, .f32⟩
  | .hbm, ⟨10, _⟩ => ⟨S4x2048x11008, .f32⟩
  | .hbm, ⟨11, _⟩ => ⟨S4x2048x11008, .f32⟩
  | .hbm, ⟨12, _⟩ => ⟨S4x2050x11008, .f32⟩
  | .hbm, ⟨13, _⟩ => ⟨S4x2048x11008, .f32⟩
  | .hbm, ⟨14, _⟩ => ⟨S1x11008, .f32⟩
  | .hbm, ⟨15, _⟩ => ⟨S11008, .f32⟩
  | .hbm, ⟨16, _⟩ => ⟨S1x1x11008, .f32⟩
  | .hbm, ⟨17, _⟩ => ⟨S4x2048x11008, .f32⟩
  | .hbm, ⟨18, _⟩ => ⟨S4x2048x11008, .f32⟩
  | .hbm, ⟨19, _⟩ => ⟨S4x2048x11008, .f32⟩
  | .hbm, ⟨20, _⟩ => ⟨S1x11008, .f32⟩
  | .hbm, ⟨21, _⟩ => ⟨S11008, .f32⟩
  | .hbm, ⟨22, _⟩ => ⟨S1x1x11008, .f32⟩
  | .hbm, ⟨23, _⟩ => ⟨S4x2048x11008, .f32⟩
  | .hbm, ⟨24, _⟩ => ⟨S4x2048x11008, .f32⟩
  | .hbm, ⟨25, _⟩ => ⟨S4x2048x11008, .f32⟩
  | .hbm, ⟨26, _⟩ => ⟨S4x2048x11008, .f32⟩
  | .hbm, ⟨27, _⟩ => ⟨S1x11008, .f32⟩
  | .hbm, ⟨28, _⟩ => ⟨S11008, .f32⟩
  | .hbm, ⟨29, _⟩ => ⟨S1x1x11008, .f32⟩
  | .hbm, ⟨30, _⟩ => ⟨S4x2048x11008, .f32⟩
  | .hbm, ⟨31, _⟩ => ⟨S4x2048x11008, .f32⟩
  | .hbm, ⟨32, _⟩ => ⟨S4x2048x11008, .f32⟩
  | .hbm, ⟨33, _⟩ => ⟨S1x1x11008, .f32⟩
  | .hbm, ⟨34, _⟩ => ⟨S4x2048x11008, .f32⟩
  | .hbm, ⟨35, _⟩ => ⟨S4x2048x11008, .f32⟩
  | .hbm, ⟨36, _⟩ => ⟨S4x2048x11008, .f32⟩
  | .hbm, ⟨37, _⟩ => ⟨S4x2048x11008, .f32⟩
  | .hbm, ⟨38, _⟩ => ⟨S_, .f32⟩
  | .hbm, ⟨39, _⟩ => ⟨S4x2048x11008, .f32⟩
  | .hbm, ⟨40, _⟩ => ⟨S4x2048x11008, .f32⟩
  | .hbm, ⟨41, _⟩ => ⟨S_, .f32⟩
  | .hbm, ⟨42, _⟩ => ⟨S4x2048x11008, .f32⟩
  | .hbm, ⟨43, _⟩ => ⟨S4x2048x11008, .f32⟩
  | .hbm, ⟨44, _⟩ => ⟨S4x2048x11008, .f32⟩
  | .hbm, ⟨45, _⟩ => ⟨S4x2048x11008, .f32⟩
  | .hbm, ⟨46, _⟩ => ⟨S4x2048x11008, .bf16⟩
  | .hbm, ⟨47, _⟩ => ⟨S8192x11008, .bf16⟩
  | .hbm, ⟨48, _⟩ => ⟨S8x1024x11008, .f32⟩
  | .hbm, ⟨49, _⟩ => ⟨S8x8x11008, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel5.lean ====
abbrev S8192x4096 : Shape := ⟨2, ![8192, 4096]⟩
abbrev S64x4096 : Shape := ⟨2, ![64, 4096]⟩
abbrev S2x4096x13120 : Shape := ⟨3, ![2, 4096, 13120]⟩
abbrev S22 : Shape := ⟨1, ![22]⟩
abbrev S2x13120x4096 : Shape := ⟨3, ![2, 13120, 4096]⟩
abbrev S8192x11264 : Shape := ⟨2, ![8192, 11264]⟩
abbrev S64x11264 : Shape := ⟨2, ![64, 11264]⟩
abbrev S1024x4096 : Shape := ⟨2, ![1024, 4096]⟩
abbrev S1x512x4096 : Shape := ⟨3, ![1, 512, 4096]⟩
abbrev S1 : Shape := ⟨1, ![1]⟩
abbrev S1x288x4096 : Shape := ⟨3, ![1, 288, 4096]⟩
abbrev S1x16x4096 : Shape := ⟨3, ![1, 16, 4096]⟩
abbrev S1024x512 : Shape := ⟨2, ![1024, 512]⟩
abbrev S64x512 : Shape := ⟨2, ![64, 512]⟩
abbrev S512x4096 : Shape := ⟨2, ![512, 4096]⟩
abbrev S288x4096 : Shape := ⟨2, ![288, 4096]⟩
abbrev S16x4096 : Shape := ⟨2, ![16, 4096]⟩

abbrev nBuf : Space → Nat
  | .hbm => 6
  | .vmem => 13
  | .smem => 1
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S2x4096x13120, .f32⟩
  | .hbm, ⟨3, _⟩ => ⟨S2x13120x4096, .f32⟩
  | .hbm, ⟨4, _⟩ => ⟨S8192x11264, .f32⟩
  | .hbm, ⟨5, _⟩ => ⟨S64x11264, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x288x4096, .f32⟩
  | .local _ .vmem, ⟨5, _⟩ => ⟨S1x16x4096, .f32⟩
  | .local _ .vmem, ⟨6, _⟩ => ⟨S1x16x4096, .f32⟩
  | .local _ .vmem, ⟨7, _⟩ => ⟨S64x4096, .bf16⟩
  | .local _ .vmem, ⟨8, _⟩ => ⟨S1024x512, .f32⟩
  | .local _ .vmem, ⟨9, _⟩ => ⟨S1024x512, .f32⟩
  | .local _ .vmem, ⟨10, _⟩ => ⟨S64x512, .f32⟩
  | .local _ .vmem, ⟨11, _⟩ => ⟨S64x512, .f32⟩
  | .local _ .vmem, ⟨12, _⟩ => ⟨S512x4096, .bf16⟩
  | .local _ .smem, ⟨0, _⟩ => ⟨S22, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![22, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  let c16_i32 : BitVec 32 := 16#32
  let v2 : BitVec 32 := Scalar.muli v1 c16_i32
  v2

def k0_cond4 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S22.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S22) ![v0.toNat] S1.size (k0_off1_inb i)) numel1_S1
  let c16_i32 : BitVec 32 := 16#32
  let v2 : BitVec 32 := Scalar.muli v1 c16_i32
  let v3 : BitVec 32 := v2
  let c0_i32 : BitVec 32 := 0#32
  let c0_i32_0 : BitVec 32 := 0#32
  let c0_i32_1 : BitVec 32 := 0#32
  ![c0_i32.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c7184_i32 : BitVec 32 := 7184#32
  let c0_i32_0 : BitVec 32 := 0#32
  let c0_i32_1 : BitVec 32 := 0#32
  ![c0_i32.toNat, c7184_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c4096_i32 : BitVec 32 := 4096#32
  let c0_i32_0 : BitVec 32 := 0#32
  let c0_i32_1 : BitVec 32 := 0#32
  ![c0_i32.toNat, c4096_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c10032_i32 : BitVec 32 := 10032#32
  let c0_i32_0 : BitVec 32 := 0#32
  let c0_i32_1 : BitVec 32 := 0#32
  ![c0_i32.toNat, c10032_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x288x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference5Ideal.lean ====
abbrev S8192x4096 : Shape := ⟨2, ![8192, 4096]⟩
abbrev S64x4096 : Shape := ⟨2, ![64, 4096]⟩
abbrev S2x4096x13120 : Shape := ⟨3, ![2, 4096, 13120]⟩
abbrev S1x4096x13120 : Shape := ⟨3, ![1, 4096, 13120]⟩
abbrev S4096x13120 : Shape := ⟨2, ![4096, 13120]⟩
abbrev S8192x13120 : Shape := ⟨2, ![8192, 13120]⟩
abbrev S8192x3072 : Shape := ⟨2, ![8192, 3072]⟩
abbrev S8192x1024 : Shape := ⟨2, ![8192, 1024]⟩
abbrev S8192x8 : Shape := ⟨2, ![8192, 8]⟩
abbrev S8192x3360 : Shape := ⟨2, ![8192, 3360]⟩
abbrev S8192x1536 : Shape := ⟨2, ![8192, 1536]⟩
abbrev S8192x16 : Shape := ⟨2, ![8192, 16]⟩
abbrev S8192x288 : Shape := ⟨2, ![8192, 288]⟩
abbrev S_ : Shape := ⟨0, ![]⟩
abbrev S8192x96 : Shape := ⟨2, ![8192, 96]⟩
abbrev S8192x11264 : Shape := ⟨2, ![8192, 11264]⟩
abbrev S64x13120 : Shape := ⟨2, ![64, 13120]⟩
abbrev S64x3072 : Shape := ⟨2, ![64, 3072]⟩
abbrev S64x1024 : Shape := ⟨2, ![64, 1024]⟩
abbrev S64x8 : Shape := ⟨2, ![64, 8]⟩
abbrev S64x3360 : Shape := ⟨2, ![64, 3360]⟩
abbrev S64x1536 : Shape := ⟨2, ![64, 1536]⟩
abbrev S64x16 : Shape := ⟨2, ![64, 16]⟩
abbrev S64x288 : Shape := ⟨2, ![64, 288]⟩
abbrev S64x96 : Shape := ⟨2, ![64, 96]⟩
abbrev S64x11264 : Shape := ⟨2, ![64, 11264]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S2x4096x13120, .f32⟩
  | .hbm, ⟨3, _⟩ => ⟨S8192x4096, .f32⟩
  | .hbm, ⟨4, _⟩ => ⟨S1x4096x13120, .f32⟩
  | .hbm, ⟨5, _⟩ => ⟨S4096x13120, .f32⟩
  | .hbm, ⟨6, _⟩ => ⟨S8192x13120, .f32⟩
  | .hbm, ⟨7, _⟩ => ⟨S8192x3072, .f32⟩
  | .hbm, ⟨8, _⟩ => ⟨S8192x1024, .f32⟩
  | .hbm, ⟨9, _⟩ => ⟨S8192x8, .f32⟩
  | .hbm, ⟨10, _⟩ => ⟨S8192x8, .f32⟩
  | .hbm, ⟨11, _⟩ => ⟨S8192x3360, .f32⟩
  | .hbm, ⟨12, _⟩ => ⟨S8192x1024, .f32⟩
  | .hbm, ⟨13, _⟩ => ⟨S8192x1536, .f32⟩
  | .hbm, ⟨14, _⟩ => ⟨S8192x16, .f32⟩
  | .hbm, ⟨15, _⟩ => ⟨S8192x3072, .f32⟩
  | .hbm, ⟨16, _⟩ => ⟨S8192x3072, .f32⟩
  | .hbm, ⟨17, _⟩ => ⟨S8192x1024, .f32⟩
  | .hbm, ⟨18, _⟩ => ⟨S8192x288, .f32⟩
  | .hbm, ⟨19, _⟩ => ⟨S_, .f32⟩
  | .hbm, ⟨20, _⟩ => ⟨S8192x96, .f32⟩
  | .hbm, ⟨21, _⟩ => ⟨S_, .f32⟩
  | .hbm, ⟨22, _⟩ => ⟨S8192x96, .f32⟩
  | .hbm, ⟨23, _⟩ => ⟨S8192x11264, .f32⟩
  | .hbm, ⟨24, _⟩ => ⟨S64x4096, .f32⟩
  | .hbm, ⟨25, _⟩ => ⟨S1x4096x13120, .f32⟩
  | .hbm, ⟨26, _⟩ => ⟨S4096x13120, .f32⟩
  | .hbm, ⟨27, _⟩ => ⟨S64x13120, .f32⟩
  | .hbm, ⟨28, _⟩ => ⟨S64x3072, .f32⟩
  | .hbm, ⟨29, _⟩ => ⟨S64x1024, .f32⟩
  | .hbm, ⟨30, _⟩ => ⟨S64x8, .f32⟩
  | .hbm, ⟨31, _⟩ => ⟨S64x8, .f32⟩
  | .hbm, ⟨32, _⟩ => ⟨S64x3360, .f32⟩
  | .hbm, ⟨33, _⟩ => ⟨S64x1024, .f32⟩
  | .hbm, ⟨34, _⟩ => ⟨S64x1536, .f32⟩
  | .hbm, ⟨35, _⟩ => ⟨S64x16, .f32⟩
  | .hbm, ⟨36, _⟩ => ⟨S64x3072, .f32⟩
  | .hbm, ⟨37, _⟩ => ⟨S64x3072, .f32⟩
  | .hbm, ⟨38, _⟩ => ⟨S64x1024, .f32⟩
  | .hbm, ⟨39, _⟩ => ⟨S64x288, .f32⟩
  | .hbm, ⟨40, _⟩ => ⟨S_, .f32⟩
  | .hbm, ⟨41, _⟩ => ⟨S64x96, .f32⟩
  | .hbm, ⟨42, _⟩ => ⟨S_, .f32⟩
  | .hbm, ⟨43, _⟩ => ⟨S64x96, .f32⟩
  | .hbm, ⟨44, _⟩ => ⟨S64x11264, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== Kernel6.lean ====
abbrev S8192x1024 : Shape := ⟨2, ![8192, 1024]⟩
abbrev S2x4096x4096 : Shape := ⟨3, ![2, 4096, 4096]⟩
abbrev S8192x4096 : Shape := ⟨2, ![8192, 4096]⟩
abbrev S1024x1024 : Shape := ⟨2, ![1024, 1024]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x4096x4096, .f32⟩
  | .hbm, ⟨5, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x4096x512, .f32⟩
  | .local _ .vmem, ⟨9, _⟩ => ⟨S1x4096x512, .f32⟩
  | .local _ .vmem, ⟨10, _⟩ => ⟨S1024x512, .f32⟩
  | .local _ .vmem, ⟨11, _⟩ => ⟨S1024x512, .f32⟩
  | .local _ .vmem, ⟨12, _⟩ => ⟨S4096x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x4096x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x1024 : Shape := ⟨2, ![8192, 1024]⟩
abbrev S2x4096x4096 : Shape := ⟨3, ![2, 4096, 4096]⟩
abbrev S8192x4096 : Shape := ⟨2, ![8192, 4096]⟩
abbrev S1x4096x4096 : Shape := ⟨3, ![1, 4096, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S2x4096x4096, .f32⟩
  | .hbm, ⟨5, _⟩ => ⟨S8192x4096, .bf16⟩
  | .hbm, ⟨6, _⟩ => ⟨S8192x4096, .f32⟩
  | .hbm, ⟨7, _⟩ => ⟨S1x4096x4096, .f32⟩
  | .hbm, ⟨8, _⟩ => ⟨S4096x4096, .f32⟩
  | .hbm, ⟨9, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== Kernel7.lean ====
abbrev S8192x11008 : Shape := ⟨2, ![8192, 11008]⟩
abbrev S2x11008x4096 : Shape := ⟨3, ![2, 11008, 4096]⟩
abbrev S8192x4096 : Shape := ⟨2, ![8192, 4096]⟩
abbrev S1024x5504 : Shape := ⟨2, ![1024, 5504]⟩
abbrev S1x5504x512 : Shape := ⟨3, ![1, 5504, 512]⟩
abbrev S1024x512 : Shape := ⟨2, ![1024, 512]⟩
abbrev S5504x512 : Shape := ⟨2, ![5504, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S2x11008x4096, .bf16⟩
  | .hbm, ⟨3, _⟩ => ⟨S8192x4096, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x512, .bf16⟩
  | .local _ .vmem, ⟨3, _⟩ => ⟨S1x5504x512, .bf16⟩
  | .local _ .vmem, ⟨4, _⟩ => ⟨S1024x512, .f32⟩
  | .local _ .vmem, ⟨5, _⟩ => ⟨S1024x512, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x11008 : Shape := ⟨2, ![8192, 11008]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S8192x4096 : Shape := ⟨2, ![8192, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S2x11008x4096, .f32⟩
  | .hbm, ⟨2, _⟩ => ⟨S8192x11008, .f32⟩
  | .hbm, ⟨3, _⟩ => ⟨S1x11008x4096, .f32⟩
  | .hbm, ⟨4, _⟩ => ⟨S11008x4096, .f32⟩
  | .hbm, ⟨5, _⟩ => ⟨S8192x4096, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel8.lean ====
abbrev S8192x4096 : Shape := ⟨2, ![8192, 4096]⟩
abbrev S2x4096x22016 : Shape := ⟨3, ![2, 4096, 22016]⟩
abbrev S4x2x11008 : Shape := ⟨3, ![4, 2, 11008]⟩
abbrev S3x11008 : Shape := ⟨2, ![3, 11008]⟩
abbrev S11008 : Shape := ⟨1, ![11008]⟩
abbrev S_ : Shape := ⟨0, ![]⟩
abbrev S4x8x11008 : Shape := ⟨3, ![4, 8, 11008]⟩
abbrev S1x11008 : Shape := ⟨2, ![1, 11008]⟩
abbrev S8192x11008 : Shape := ⟨2, ![8192, 11008]⟩
abbrev S8x8x11008 : Shape := ⟨3, ![8, 8, 11008]⟩
abbrev S1024x4096 : Shape := ⟨2, ![1024, 4096]⟩
abbrev S1x4096x256 : Shape := ⟨3, ![1, 4096, 256]⟩
abbrev S1x8x256 : Shape := ⟨3, ![1, 8, 256]⟩
abbrev S3x256 : Shape := ⟨2, ![3, 256]⟩
abbrev S1x256 : Shape := ⟨2, ![1, 256]⟩
abbrev S1024x256 : Shape := ⟨2, ![1024, 256]⟩
abbrev S4096x256 : Shape := ⟨2, ![4096, 256]⟩
abbrev S8x256 : Shape := ⟨2, ![8, 256]⟩
abbrev S256x4096 : Shape := ⟨2, ![256, 4096]⟩
abbrev S256x256 : Shape := ⟨2, ![256, 256]⟩
abbrev S264x256 : Shape := ⟨2, ![264, 256]⟩

abbrev nBuf : Space → Nat
  | .hbm => 11
  | .vmem => 19
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S4x2x11008, .f32⟩
  | .hbm, ⟨3, _⟩ => ⟨S3x11008, .f32⟩
  | .hbm, ⟨4, _⟩ => ⟨S11008, .f32⟩
  | .hbm, ⟨5, _⟩ => ⟨S_, .i32⟩
  | .hbm, ⟨6, _⟩ => ⟨S_, .f32⟩
  | .hbm, ⟨7, _⟩ => ⟨S4x8x11008, .f32⟩
  | .hbm, ⟨8, _⟩ => ⟨S1x11008, .f32⟩
  | .hbm, ⟨9, _⟩ => ⟨S8192x11008, .bf16⟩
  | .hbm, ⟨10, _⟩ => ⟨S8x8x11008, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x256, .f32⟩
  | .local _ .vmem, ⟨3, _⟩ => ⟨S1x4096x256, .f32⟩
  | .local _ .vmem, ⟨4, _⟩ => ⟨S1x4096x256, .f32⟩
  | .local _ .vmem, ⟨5, _⟩ => ⟨S1x4096x256, .f32⟩
  | .local _ .vmem, ⟨6, _⟩ => ⟨S1x8x256, .f32⟩
  | .local _ .vmem, ⟨7, _⟩ => ⟨S1x8x256, .f32⟩
  | .local _ .vmem, ⟨8, _⟩ => ⟨S3x256, .f32⟩
  | .local _ .vmem, ⟨9, _⟩ => ⟨S3x256, .f32⟩
  | .local _ .vmem, ⟨10, _⟩ => ⟨S1x256, .f32⟩
  | .local _ .vmem, ⟨11, _⟩ => ⟨S1x256, .f32⟩
  | .local _ .vmem, ⟨12, _⟩ => ⟨S1024x256, .bf16⟩
  | .local _ .vmem, ⟨13, _⟩ => ⟨S1024x256, .bf16⟩
  | .local _ .vmem, ⟨14, _⟩ => ⟨S1x8x256, .f32⟩
  | .local _ .vmem, ⟨15, _⟩ => ⟨S1x8x256, .f32⟩
  | .local _ .vmem, ⟨16, _⟩ => ⟨S4096x256, .bf16⟩
  | .local _ .vmem, ⟨17, _⟩ => ⟨S4096x256, .bf16⟩
  | .local _ .vmem, ⟨18, _⟩ => ⟨S8x256, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi arg0 c43_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S8192x4096 : Shape := ⟨2, ![8192, 4096]⟩
abbrev S2x4096x22016 : Shape := ⟨3, ![2, 4096, 22016]⟩
abbrev S4x2x11008 : Shape := ⟨3, ![4, 2, 11008]⟩
abbrev S3x11008 : Shape := ⟨2, ![3, 11008]⟩
abbrev S11008 : Shape := ⟨1, ![11008]⟩
abbrev S1x4096x22016 : Shape := ⟨3, ![1, 4096, 22016]⟩
abbrev S4096x22016 : Shape := ⟨2, ![4096, 22016]⟩
abbrev S8192x22016 : Shape := ⟨2, ![8192, 22016]⟩
abbrev S4x2048x22016 : Shape := ⟨3, ![4, 2048, 22016]⟩
abbrev S4x2048x11008 : Shape := ⟨3, ![4, 2048, 11008]⟩
abbrev S4x2050x11008 : Shape := ⟨3, ![4, 2050, 11008]⟩
abbrev S1x11008 : Shape := ⟨2, ![1, 11008]⟩
abbrev S1x1x11008 : Shape := ⟨3, ![1, 1, 11008]⟩
abbrev S_ : Shape := ⟨0, ![]⟩
abbrev S8192x11008 : Shape := ⟨2, ![8192, 11008]⟩
abbrev S8x1024x11008 : Shape := ⟨3, ![8, 1024, 11008]⟩
abbrev S8x8x11008 : Shape := ⟨3, ![8, 8, 11008]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x22016, .f32⟩
  | .hbm, ⟨2, _⟩ => ⟨S4x2x11008, .f32⟩
  | .hbm, ⟨3, _⟩ => ⟨S3x11008, .f32⟩
  | .hbm, ⟨4, _⟩ => ⟨S11008, .f32⟩
  | .hbm, ⟨5, _⟩ => ⟨S8192x4096, .f32⟩
  | .hbm, ⟨6, _⟩ => ⟨S1x4096x22016, .f32⟩
  | .hbm, ⟨7, _⟩ => ⟨S4096x22016, .f32⟩
  | .hbm, ⟨8, _⟩ => ⟨S8192x22016, .f32⟩
  | .hbm, ⟨9, _⟩ => ⟨S4x2048x22016, .f32⟩
  | .hbm, ⟨10, _⟩ => ⟨S4x2048x11008, .f32⟩
  | .hbm, ⟨11, _⟩ => ⟨S4x2048x11008, .f32⟩
  | .hbm, ⟨12, _⟩ => ⟨S4x2050x11008, .f32⟩
  | .hbm, ⟨13, _⟩ => ⟨S4x2048x11008, .f32⟩
  | .hbm, ⟨14, _⟩ => ⟨S1x11008, .f32⟩
  | .hbm, ⟨15, _⟩ => ⟨S11008, .f32⟩
  | .hbm, ⟨16, _⟩ => ⟨S1x1x11008, .f32⟩
  | .hbm, ⟨17, _⟩ => ⟨S4x2048x11008, .f32⟩
  | .hbm, ⟨18, _⟩ => ⟨S4x2048x11008, .f32⟩
  | .hbm, ⟨19, _⟩ => ⟨S4x2048x11008, .f32⟩
  | .hbm, ⟨20, _⟩ => ⟨S1x11008, .f32⟩
  | .hbm, ⟨21, _⟩ => ⟨S11008, .f32⟩
  | .hbm, ⟨22, _⟩ => ⟨S1x1x11008, .f32⟩
  | .hbm, ⟨23, _⟩ => ⟨S4x2048x11008, .f32⟩
  | .hbm, ⟨24, _⟩ => ⟨S4x2048x11008, .f32⟩
  | .hbm, ⟨25, _⟩ => ⟨S4x2048x11008, .f32⟩
  | .hbm, ⟨26, _⟩ => ⟨S4x2048x11008, .f32⟩
  | .hbm, ⟨27, _⟩ => ⟨S1x11008, .f32⟩
  | .hbm, ⟨28, _⟩ => ⟨S11008, .f32⟩
  | .hbm, ⟨29, _⟩ => ⟨S1x1x11008, .f32⟩
  | .hbm, ⟨30, _⟩ => ⟨S4x2048x11008, .f32⟩
  | .hbm, ⟨31, _⟩ => ⟨S4x2048x11008, .f32⟩
  | .hbm, ⟨32, _⟩ => ⟨S4x2048x11008, .f32⟩
  | .hbm, ⟨33, _⟩ => ⟨S1x1x11008, .f32⟩
  | .hbm, ⟨34, _⟩ => ⟨S4x2048x11008, .f32⟩
  | .hbm, ⟨35, _⟩ => ⟨S4x2048x11008, .f32⟩
  | .hbm, ⟨36, _⟩ => ⟨S4x2048x11008, .f32⟩
  | .hbm, ⟨37, _⟩ => ⟨S4x2048x11008, .f32⟩
  | .hbm, ⟨38, _⟩ => ⟨S_, .f32⟩
  | .hbm, ⟨39, _⟩ => ⟨S4x2048x11008, .f32⟩
  | .hbm, ⟨40, _⟩ => ⟨S4x2048x11008, .f32⟩
  | .hbm, ⟨41, _⟩ => ⟨S_, .f32⟩
  | .hbm, ⟨42, _⟩ => ⟨S4x2048x11008, .f32⟩
  | .hbm, ⟨43, _⟩ => ⟨S4x2048x11008, .f32⟩
  | .hbm, ⟨44, _⟩ => ⟨S4x2048x11008, .f32⟩
  | .hbm, ⟨45, _⟩ => ⟨S4x2048x11008, .f32⟩
  | .hbm, ⟨46, _⟩ => ⟨S4x2048x11008, .bf16⟩
  | .hbm, ⟨47, _⟩ => ⟨S8192x11008, .bf16⟩
  | .hbm, ⟨48, _⟩ => ⟨S8x1024x11008, .f32⟩
  | .hbm, ⟨49, _⟩ => ⟨S8x8x11008, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call0_v0 : Ref sig .tc := ⟨.hbm, 36, rfl⟩
abbrev main_call0_v1 : Ref sig .tc := ⟨.hbm, 37, rfl⟩
abbrev main_call0_cst : Ref sig .tc := ⟨.hbm, 38, rfl⟩
abbrev main_call0_v2 : Ref sig .tc := ⟨.hbm, 39, rfl⟩
abbrev main_call0_v3 : Ref sig .tc := ⟨.hbm, 40, rfl⟩
abbrev main_call0_cst_0 : Ref sig .tc := ⟨.hbm, 41, rfl⟩
abbrev main_call0_v4 : Ref sig .tc := ⟨.hbm, 42, rfl⟩
abbrev main_call0_v5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Kernel9.lean ====
abbrev S8192x4096 : Shape := ⟨2, ![8192, 4096]⟩
abbrev S64x4096 : Shape := ⟨2, ![64, 4096]⟩
abbrev S2x4096x13120 : Shape := ⟨3, ![2, 4096, 13120]⟩
abbrev S22 : Shape := ⟨1, ![22]⟩
abbrev S2x13120x4096 : Shape := ⟨3, ![2, 13120, 4096]⟩
abbrev S8192x11264 : Shape := ⟨2, ![8192, 11264]⟩
abbrev S64x11264 : Shape := ⟨2, ![64, 11264]⟩
abbrev S1024x4096 : Shape := ⟨2, ![1024, 4096]⟩
abbrev S1x512x4096 : Shape := ⟨3, ![1, 512, 4096]⟩
abbrev S1 : Shape := ⟨1, ![1]⟩
abbrev S1x288x4096 : Shape := ⟨3, ![1, 288, 4096]⟩
abbrev S1x16x4096 : Shape := ⟨3, ![1, 16, 4096]⟩
abbrev S1024x512 : Shape := ⟨2, ![1024, 512]⟩
abbrev S64x512 : Shape := ⟨2, ![64, 512]⟩
abbrev S512x4096 : Shape := ⟨2, ![512, 4096]⟩
abbrev S288x4096 : Shape := ⟨2, ![288, 4096]⟩
abbrev S16x4096 : Shape := ⟨2, ![16, 4096]⟩

abbrev nBuf : Space → Nat
  | .hbm => 6
  | .vmem => 13
  | .smem => 1
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S2x4096x13120, .f32⟩
  | .hbm, ⟨3, _⟩ => ⟨S2x13120x4096, .f32⟩
  | .hbm, ⟨4, _⟩ => ⟨S8192x11264, .f32⟩
  | .hbm, ⟨5, _⟩ => ⟨S64x11264, .f32⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1x288x4096, .f32⟩
  | .local _ .vmem, ⟨5, _⟩ => ⟨S1x16x4096, .f32⟩
  | .local _ .vmem, ⟨6, _⟩ => ⟨S1x16x4096, .f32⟩
  | .local _ .vmem, ⟨7, _⟩ => ⟨S64x4096, .bf16⟩
  | .local _ .vmem, ⟨8, _⟩ => ⟨S1024x512, .f32⟩
  | .local _ .vmem, ⟨9, _⟩ => ⟨S1024x512, .f32⟩
  | .local _ .vmem, ⟨10, _⟩ => ⟨S64x512, .f32⟩
  | .local _ .vmem, ⟨11, _⟩ => ⟨S64x512, .f32⟩
  | .local _ .vmem, ⟨12, _⟩ => ⟨S512x4096, .bf16⟩
  | .local _ .smem, ⟨0, _⟩ => ⟨S22, .i32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![22, 8], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_mult1 (pf : pre0.Contents (Elt F)) (i : grid0.Coords) : BitVec 32 :=
  let arg0 : BitVec 32 := BitVec.ofNat 32 (i 0).val
  let v0 : Index := Scalar.indexCast arg0
  let v1 : BitVec 32 := pf.atD 0 ![v0.toNat]
  let c16_i32 : BitVec 32 := 16#32
  let v2 : BitVec 32 := Scalar.muli v1 c16_i32
  v2

def k0_cond4 (i : grid0.Coords) : BitVec 1 :=
  let arg1 : BitVec 32 := BitVec.ofNat 32 (i 1).val
  let c0_i32_1 : BitVec 32 := 0#32
  let v3 : BitVec 1 := Scalar.cmpi .eq arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S22.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S22) ![v0.toNat] S1.size (k0_off1_inb i)) numel1_S1
  let c16_i32 : BitVec 32 := 16#32
  let v2 : BitVec 32 := Scalar.muli v1 c16_i32
  let v3 : BitVec 32 := v2
  let c1_i32 : BitVec 32 := 1#32
  let c0_i32 : BitVec 32 := 0#32
  let c0_i32_0 : BitVec 32 := 0#32
  ![c1_i32.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c7184_i32 : BitVec 32 := 7184#32
  let c0_i32 : BitVec 32 := 0#32
  let c0_i32_0 : BitVec 32 := 0#32
  ![c1_i32.toNat, c7184_i32.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c4096_i32 : BitVec 32 := 4096#32
  let c0_i32 : BitVec 32 := 0#32
  let c0_i32_0 : BitVec 32 := 0#32
  ![c1_i32.toNat, c4096_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c10032_i32 : BitVec 32 := 10032#32
  let c0_i32 : BitVec 32 := 0#32
  let c0_i32_0 : BitVec 32 := 0#32
  ![c1_i32.toNat, c10032_i32.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x288x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x16x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S64x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference9Ideal.lean ====
abbrev S8192x4096 : Shape := ⟨2, ![8192, 4096]⟩
abbrev S64x4096 : Shape := ⟨2, ![64, 4096]⟩
abbrev S2x4096x13120 : Shape := ⟨3, ![2, 4096, 13120]⟩
abbrev S1x4096x13120 : Shape := ⟨3, ![1, 4096, 13120]⟩
abbrev S4096x13120 : Shape := ⟨2, ![4096, 13120]⟩
abbrev S8192x13120 : Shape := ⟨2, ![8192, 13120]⟩
abbrev S8192x3072 : Shape := ⟨2, ![8192, 3072]⟩
abbrev S8192x1024 : Shape := ⟨2, ![8192, 1024]⟩
abbrev S8192x8 : Shape := ⟨2, ![8192, 8]⟩
abbrev S8192x3360 : Shape := ⟨2, ![8192, 3360]⟩
abbrev S8192x1536 : Shape := ⟨2, ![8192, 1536]⟩
abbrev S8192x16 : Shape := ⟨2, ![8192, 16]⟩
abbrev S8192x288 : Shape := ⟨2, ![8192, 288]⟩
abbrev S_ : Shape := ⟨0, ![]⟩
abbrev S8192x96 : Shape := ⟨2, ![8192, 96]⟩
abbrev S8192x11264 : Shape := ⟨2, ![8192, 11264]⟩
abbrev S64x13120 : Shape := ⟨2, ![64, 13120]⟩
abbrev S64x3072 : Shape := ⟨2, ![64, 3072]⟩
abbrev S64x1024 : Shape := ⟨2, ![64, 1024]⟩
abbrev S64x8 : Shape := ⟨2, ![64, 8]⟩
abbrev S64x3360 : Shape := ⟨2, ![64, 3360]⟩
abbrev S64x1536 : Shape := ⟨2, ![64, 1536]⟩
abbrev S64x16 : Shape := ⟨2, ![64, 16]⟩
abbrev S64x288 : Shape := ⟨2, ![64, 288]⟩
abbrev S64x96 : Shape := ⟨2, ![64, 96]⟩
abbrev S64x11264 : Shape := ⟨2, ![64, 11264]⟩

abbrev nBuf : Space → Nat
  | .hbm => 45
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S64x4096, .bf16⟩
  | .hbm, ⟨2, _⟩ => ⟨S2x4096x13120, .f32⟩
  | .hbm, ⟨3, _⟩ => ⟨S8192x4096, .f32⟩
  | .hbm, ⟨4, _⟩ => ⟨S1x4096x13120, .f32⟩
  | .hbm, ⟨5, _⟩ => ⟨S4096x13120, .f32⟩
  | .hbm, ⟨6, _⟩ => ⟨S8192x13120, .f32⟩
  | .hbm, ⟨7, _⟩ => ⟨S8192x3072, .f32⟩
  | .hbm, ⟨8, _⟩ => ⟨S8192x1024, .f32⟩
  | .hbm, ⟨9, _⟩ => ⟨S8192x8, .f32⟩
  | .hbm, ⟨10, _⟩ => ⟨S8192x8, .f32⟩
  | .hbm, ⟨11, _⟩ => ⟨S8192x3360, .f32⟩
  | .hbm, ⟨12, _⟩ => ⟨S8192x1024, .f32⟩
  | .hbm, ⟨13, _⟩ => ⟨S8192x1536, .f32⟩
  | .hbm, ⟨14, _⟩ => ⟨S8192x16, .f32⟩
  | .hbm, ⟨15, _⟩ => ⟨S8192x3072, .f32⟩
  | .hbm, ⟨16, _⟩ => ⟨S8192x3072, .f32⟩
  | .hbm, ⟨17, _⟩ => ⟨S8192x1024, .f32⟩
  | .hbm, ⟨18, _⟩ => ⟨S8192x288, .f32⟩
  | .hbm, ⟨19, _⟩ => ⟨S_, .f32⟩
  | .hbm, ⟨20, _⟩ => ⟨S8192x96, .f32⟩
  | .hbm, ⟨21, _⟩ => ⟨S_, .f32⟩
  | .hbm, ⟨22, _⟩ => ⟨S8192x96, .f32⟩
  | .hbm, ⟨23, _⟩ => ⟨S8192x11264, .f32⟩
  | .hbm, ⟨24, _⟩ => ⟨S64x4096, .f32⟩
  | .hbm, ⟨25, _⟩ => ⟨S1x4096x13120, .f32⟩
  | .hbm, ⟨26, _⟩ => ⟨S4096x13120, .f32⟩
  | .hbm, ⟨27, _⟩ => ⟨S64x13120, .f32⟩
  | .hbm, ⟨28, _⟩ => ⟨S64x3072, .f32⟩
  | .hbm, ⟨29, _⟩ => ⟨S64x1024, .f32⟩
  | .hbm, ⟨30, _⟩ => ⟨S64x8, .f32⟩
  | .hbm, ⟨31, _⟩ => ⟨S64x8, .f32⟩
  | .hbm, ⟨32, _⟩ => ⟨S64x3360, .f32⟩
  | .hbm, ⟨33, _⟩ => ⟨S64x1024, .f32⟩
  | .hbm, ⟨34, _⟩ => ⟨S64x1536, .f32⟩
  | .hbm, ⟨35, _⟩ => ⟨S64x16, .f32⟩
  | .hbm, ⟨36, _⟩ => ⟨S64x3072, .f32⟩
  | .hbm, ⟨37, _⟩ => ⟨S64x3072, .f32⟩
  | .hbm, ⟨38, _⟩ => ⟨S64x1024, .f32⟩
  | .hbm, ⟨39, _⟩ => ⟨S64x288, .f32⟩
  | .hbm, ⟨40, _⟩ => ⟨S_, .f32⟩
  | .hbm, ⟨41, _⟩ => ⟨S64x96, .f32⟩
  | .hbm, ⟨42, _⟩ => ⟨S_, .f32⟩
  | .hbm, ⟨43, _⟩ => ⟨S64x96, .f32⟩
  | .hbm, ⟨44, _⟩ => ⟨S64x11264, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_cst_0 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_cst_1 : Ref sig .tc := ⟨.hbm, 40, rfl⟩
abbrev main_v35 : Ref sig .tc := ⟨.hbm, 41, rfl⟩
abbrev main_cst_2 : Ref sig .tc := ⟨.hbm, 42, rfl⟩
abbrev main_v36 : Ref sig .tc := ⟨.hbm, 43, rfl⟩
abbrev main_v37 : Ref sig .tc := ⟨.hbm, 44, rfl⟩

abbrev nD : Nat := 1
abbrev τ : Topo := Topo.v7x

variable {F : FTy → Type} [FloatOps F]
-- ==== Kernel10.lean ====
abbrev S8192x4096 : Shape := ⟨2, ![8192, 4096]⟩
abbrev S2x4096x13120 : Shape := ⟨3, ![2, 4096, 13120]⟩
abbrev S2x13120x4096 : Shape := ⟨3, ![2, 13120, 4096]⟩
abbrev S2x8192x1024 : Shape := ⟨3, ![2, 8192, 1024]⟩
abbrev S1024x4096 : Shape := ⟨2, ![1024, 4096]⟩
abbrev S1x256x4096 : Shape := ⟨3, ![1, 256, 4096]⟩
abbrev S1x1024x256 : Shape := ⟨3, ![1, 1024, 256]⟩
abbrev S256x4096 : Shape := ⟨2, ![256, 4096]⟩
abbrev S1024x256 : Shape := ⟨2, ![1024, 256]⟩

abbrev nBuf : Space → Nat
  | .hbm => 5
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2x4096x13120, .f32⟩
  | .hbm, ⟨2, _⟩ => ⟨S2x13120x4096, .f32⟩
  | .hbm, ⟨3, _⟩ => ⟨S2x8192x1024, .f32⟩
  | .hbm, ⟨4, _⟩ => ⟨S2x8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x256x4096, .f32⟩
  | .local _ .vmem, ⟨6, _⟩ => ⟨S1x1024x256, .f32⟩
  | .local _ .vmem, ⟨7, _⟩ => ⟨S1x1024x256, .f32⟩
  | .local _ .vmem, ⟨8, _⟩ => ⟨S1x1024x256, .f32⟩
  | .local _ .vmem, ⟨9, _⟩ => ⟨S1x1024x256, .f32⟩
  | .local _ .vmem, ⟨10, _⟩ => ⟨S256x4096, .bf16⟩
  | .local _ .vmem, ⟨11, _⟩ => ⟨S256x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c692_i32 : BitVec 32 := 692#32
  let v1 : BitVec 32 := Scalar.addi c692_i32 v0
  let c16_i32_0 : BitVec 32 := 16#32
  let v2 : BitVec 32 := Scalar.muli v1 c16_i32_0
  let c0_i32 : BitVec 32 := 0#32
  let c0_i32_1 : BitVec 32 := 0#32
  let c0_i32_2 : BitVec 32 := 0#32
  ![c0_i32.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c756_i32 : BitVec 32 := 756#32
  let v1 : BitVec 32 := Scalar.addi c756_i32 v0
  let c16_i32_0 : BitVec 32 := 16#32
  let v2 : BitVec 32 := Scalar.muli v1 c16_i32_0
  let c0_i32 : BitVec 32 := 0#32
  let c0_i32_1 : BitVec 32 := 0#32
  let c0_i32_2 : BitVec 32 := 0#32
  ![c0_i32.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S8192x4096 : Shape := ⟨2, ![8192, 4096]⟩
abbrev S2x4096x13120 : Shape := ⟨3, ![2, 4096, 13120]⟩
abbrev S1x4096x13120 : Shape := ⟨3, ![1, 4096, 13120]⟩
abbrev S4096x13120 : Shape := ⟨2, ![4096, 13120]⟩
abbrev S8192x13120 : Shape := ⟨2, ![8192, 13120]⟩
abbrev S8192x1024 : Shape := ⟨2, ![8192, 1024]⟩
abbrev S_ : Shape := ⟨0, ![]⟩
abbrev S1x8192x1024 : Shape := ⟨3, ![1, 8192, 1024]⟩
abbrev S2x8192x1024 : Shape := ⟨3, ![2, 8192, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x13120, .f32⟩
  | .hbm, ⟨2, _⟩ => ⟨S8192x4096, .f32⟩
  | .hbm, ⟨3, _⟩ => ⟨S1x4096x13120, .f32⟩
  | .hbm, ⟨4, _⟩ => ⟨S4096x13120, .f32⟩
  | .hbm, ⟨5, _⟩ => ⟨S8192x13120, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192x1024, .f32⟩
  | .hbm, ⟨10, _⟩ => ⟨S1x8192x1024, .f32⟩
  | .hbm, ⟨11, _⟩ => ⟨S1x8192x1024, .f32⟩
  | .hbm, ⟨12, _⟩ => ⟨S2x8192x1024, .f32⟩
  | .hbm, ⟨13, _⟩ => ⟨S_, .f32⟩
  | .hbm, ⟨14, _⟩ => ⟨S8192x1024, .f32⟩
  | .hbm, ⟨15, _⟩ => ⟨S1x8192x1024, .f32⟩
  | .hbm, ⟨16, _⟩ => ⟨S1x8192x1024, .f32⟩
  | .hbm, ⟨17, _⟩ => ⟨S2x8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Kernel11.lean ====
abbrev S4x2048x4096 : Shape := ⟨3, ![4, 2048, 4096]⟩
abbrev S2x4096 : Shape := ⟨2, ![2, 4096]⟩
abbrev S8192x4096 : Shape := ⟨2, ![8192, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 7
  | .vmem => 5
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S8192x4096, .f32⟩
  | .hbm, ⟨3, _⟩ => ⟨S1x4096, .f32⟩
  | .hbm, ⟨4, _⟩ => ⟨S4096, .f32⟩
  | .hbm, ⟨5, _⟩ => ⟨S1x4096, .f32⟩
  | .hbm, ⟨6, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference11Ideal.lean ====
abbrev S4x2048x4096 : Shape := ⟨3, ![4, 2048, 4096]⟩
abbrev S2x4096 : Shape := ⟨2, ![2, 4096]⟩
abbrev S1x4096 : Shape := ⟨2, ![1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S2x4096, .f32⟩
  | .hbm, ⟨2, _⟩ => ⟨S1x4096, .f32⟩
  | .hbm, ⟨3, _⟩ => ⟨S4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S8192x4096, .f32⟩
  | .hbm, ⟨21, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel12.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x4096, .f32⟩
  | .hbm, ⟨16, _⟩ => ⟨S8192x4096, .f32⟩
  | .hbm, ⟨17, _⟩ => ⟨S1x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x4096, .f32⟩
  | .hbm, ⟨33, _⟩ => ⟨S8192x4096, .f32⟩
  | .hbm, ⟨34, _⟩ => ⟨S1x4096, .f32⟩
  | .hbm, ⟨35, _⟩ => ⟨S8192x4096, .f32⟩
  | .hbm, ⟨36, _⟩ => ⟨S8192x4096, .f32⟩
  | .hbm, ⟨37, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== Kernel13.lean ====
abbrev S8192x4096 : Shape := ⟨2, ![8192, 4096]⟩
abbrev S4096 : Shape := ⟨1, ![4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S4096, .f32⟩
  | .hbm, ⟨3, _⟩ => ⟨S8192x4096, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel14.lean ====
abbrev S64x4096 : Shape := ⟨2, ![64, 4096]⟩
abbrev S4096 : Shape := ⟨1, ![4096]⟩
abbrev S1x4096 : Shape := ⟨2, ![1, 4096]⟩
abbrev S64 : Shape := ⟨1, ![64]⟩
abbrev S64x1 : Shape := ⟨2, ![64, 1]⟩

abbrev nBuf : Space → Nat
  | .hbm => 5
  | .vmem => 4
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S4096, .f32⟩
  | .hbm, ⟨3, _⟩ => ⟨S1x4096, .f32⟩
  | .hbm, ⟨4, _⟩ => ⟨S64x4096, .f32⟩
  | .local _ .vmem, ⟨0, _⟩ => ⟨S64x4096, .f32⟩
  | .local _ .vmem, ⟨1, _⟩ => ⟨S64x4096, .f32⟩
  | .local _ .vmem, ⟨2, _⟩ => ⟨S1x4096, .f32⟩
  | .local _ .vmem, ⟨3, _⟩ => ⟨S64x4096, .f32⟩
  | _, _ => ⟨S64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S64x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]
-- ==== Reference14Ideal.lean ====
abbrev S64x4096 : Shape := ⟨2, ![64, 4096]⟩
abbrev S4096 : Shape := ⟨1, ![4096]⟩
abbrev S_ : Shape := ⟨0, ![]⟩
abbrev S64 : Shape := ⟨1, ![64]⟩
abbrev S64x1 : Shape := ⟨2, ![64, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S64x4096, .f32⟩
  | .hbm, ⟨1, _⟩ => ⟨S64x4096, .f32⟩
  | .hbm, ⟨2, _⟩ => ⟨S4096, .f32⟩
  | .hbm, ⟨3, _⟩ => ⟨S64x4096, .f32⟩
  | .hbm, ⟨4, _⟩ => ⟨S_, .f32⟩
  | .hbm, ⟨5, _⟩ => ⟨S64, .f32⟩
  | .hbm, ⟨6, _⟩ => ⟨S64x1, .f32⟩
  | .hbm, ⟨7, _⟩ => ⟨S_, .f32⟩
  | .hbm, ⟨8, _⟩ => ⟨S64x1, .f32⟩
  | .hbm, ⟨9, _⟩ => ⟨S64x1, .f32⟩
  | .hbm, ⟨10, _⟩ => ⟨S_, .f32⟩
  | .hbm, ⟨11, _⟩ => ⟨S64x1, .f32⟩
  | .hbm, ⟨12, _⟩ => ⟨S64x1, .f32⟩
  | .hbm, ⟨13, _⟩ => ⟨S64x1, .f32⟩
  | .hbm, ⟨14, _⟩ => ⟨S64x4096, .f32⟩
  | .hbm, ⟨15, _⟩ => ⟨S64x4096, .f32⟩
  | .hbm, ⟨16, _⟩ => ⟨S1x4096, .f32⟩
  | .hbm, ⟨17, _⟩ => ⟨S64x4096, .f32⟩
  | .hbm, ⟨18, _⟩ => ⟨S64x4096, .f32⟩
  | .hbm, ⟨19, _⟩ => ⟨S64x4096, .f32⟩
  | _, _ => ⟨S64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel15.lean ====
abbrev S64x4096 : Shape := ⟨2, ![64, 4096]⟩
abbrev S2x4096x22016 : Shape := ⟨3, ![2, 4096, 22016]⟩
abbrev S64x22016 : Shape := ⟨2, ![64, 22016]⟩
abbrev S1x4096x512 : Shape := ⟨3, ![1, 4096, 512]⟩
abbrev S64x512 : Shape := ⟨2, ![64, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S64x4096, .bf16⟩
  | .hbm, ⟨1, _⟩ => ⟨S2x4096x22016, .f32⟩
  | .hbm, ⟨2, _⟩ => ⟨S64x22016, .f32⟩
  | .local _ .vmem, ⟨0, _⟩ => ⟨S64x4096, .bf16⟩
  | .local _ .vmem, ⟨1, _⟩ => ⟨S1x4096x512, .f32⟩
  | .local _ .vmem, ⟨2, _⟩ => ⟨S1x4096x512, .f32⟩
  | .local _ .vmem, ⟨3, _⟩ => ⟨S64x512, .f32⟩
  | .local _ .vmem, ⟨4, _⟩ => ⟨S64x512, .f32⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S64x4096 : Shape := ⟨2, ![64, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S64x22016 : Shape := ⟨2, ![64, 22016]⟩

abbrev nBuf : Space → Nat
  | .hbm => 6
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S2x4096x22016, .f32⟩
  | .hbm, ⟨2, _⟩ => ⟨S64x4096, .f32⟩
  | .hbm, ⟨3, _⟩ => ⟨S1x4096x22016, .f32⟩
  | .hbm, ⟨4, _⟩ => ⟨S4096x22016, .f32⟩
  | .hbm, ⟨5, _⟩ => ⟨S64x22016, .f32⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S64x4096 : Shape := ⟨2, ![64, 4096]⟩
abbrev S2x4096x22016 : Shape := ⟨3, ![2, 4096, 22016]⟩
abbrev S64x22016 : Shape := ⟨2, ![64, 22016]⟩
abbrev S1x4096x512 : Shape := ⟨3, ![1, 4096, 512]⟩
abbrev S64x512 : Shape := ⟨2, ![64, 512]⟩
abbrev S4096x512 : Shape := ⟨2, ![4096, 512]⟩

abbrev nBuf : Space → Nat
  | .hbm => 3
  | .vmem => 5
  | .smem => 0
  | _ => 0

abbrev bufTy : (tb : Table) → Fin (tcTables nBuf tb) → BufTy
  | .hbm, ⟨0, _⟩ => ⟨S64x4096, .bf16⟩
  | .hbm, ⟨1, _⟩ => ⟨S2x4096x22016, .f32⟩
  | .hbm, ⟨2, _⟩ => ⟨S64x22016, .f32⟩
  | .local _ .vmem, ⟨0, _⟩ => ⟨S64x4096, .bf16⟩
  | .local _ .vmem, ⟨1, _⟩ => ⟨S1x4096x512, .f32⟩
  | .local _ .vmem, ⟨2, _⟩ => ⟨S1x4096x512, .f32⟩
  | .local _ .vmem, ⟨3, _⟩ => ⟨S64x512, .f32⟩
  | .local _ .vmem, ⟨4, _⟩ => ⟨S64x512, .f32⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S64x4096 : Shape := ⟨2, ![64, 4096]⟩
abbrev S2x4096x22016 : Shape := ⟨3, ![2, 4096, 22016]⟩
abbrev S1x4096x22016 : Shape := ⟨3, ![1, 4096, 22016]⟩
abbrev S4096x22016 : Shape := ⟨2, ![4096, 22016]⟩
abbrev S64x22016 : Shape := ⟨2, ![64, 22016]⟩

abbrev nBuf : Space → Nat
  | .hbm => 6
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S2x4096x22016, .f32⟩
  | .hbm, ⟨2, _⟩ => ⟨S64x4096, .f32⟩
  | .hbm, ⟨3, _⟩ => ⟨S1x4096x22016, .f32⟩
  | .hbm, ⟨4, _⟩ => ⟨S4096x22016, .f32⟩
  | .hbm, ⟨5, _⟩ => ⟨S64x22016, .f32⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S64x4096 : Shape := ⟨2, ![64, 4096]⟩
abbrev S2x4096x13120 : Shape := ⟨3, ![2, 4096, 13120]⟩
abbrev S2x64x1024 : Shape := ⟨3, ![2, 64, 1024]⟩
abbrev S2x13120x4096 : Shape := ⟨3, ![2, 13120, 4096]⟩
abbrev S1x256x4096 : Shape := ⟨3, ![1, 256, 4096]⟩
abbrev S1x64x256 : Shape := ⟨3, ![1, 64, 256]⟩
abbrev S256x4096 : Shape := ⟨2, ![256, 4096]⟩
abbrev S64x256 : Shape := ⟨2, ![64, 256]⟩

abbrev nBuf : Space → Nat
  | .hbm => 7
  | .vmem => 11
  | .smem => 0
  | _ => 0

abbrev bufTy : (tb : Table) → Fin (tcTables nBuf tb) → BufTy
  | .hbm, ⟨0, _⟩ => ⟨S64x4096, .bf16⟩
  | .hbm, ⟨1, _⟩ => ⟨S2x4096x13120, .f32⟩
  | .hbm, ⟨2, _⟩ => ⟨S2x64x1024, .f32⟩
  | .hbm, ⟨3, _⟩ => ⟨S2x64x1024, .f32⟩
  | .hbm, ⟨4, _⟩ => ⟨S2x13120x4096, .f32⟩
  | .hbm, ⟨5, _⟩ => ⟨S2x64x1024, .f32⟩
  | .hbm, ⟨6, _⟩ => ⟨S2x64x1024, .f32⟩
  | .local _ .vmem, ⟨0, _⟩ => ⟨S64x4096, .bf16⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x64x256, .f32⟩
  | .local _ .vmem, ⟨6, _⟩ => ⟨S1x64x256, .f32⟩
  | .local _ .vmem, ⟨7, _⟩ => ⟨S1x64x256, .f32⟩
  | .local _ .vmem, ⟨8, _⟩ => ⟨S1x64x256, .f32⟩
  | .local _ .vmem, ⟨9, _⟩ => ⟨S256x4096, .bf16⟩
  | .local _ .vmem, ⟨10, _⟩ => ⟨S256x4096, .bf16⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c692_i32 : BitVec 32 := 692#32
  let v1 : BitVec 32 := Scalar.addi c692_i32 v0
  let c16_i32_0 : BitVec 32 := 16#32
  let v2 : BitVec 32 := Scalar.muli v1 c16_i32_0
  let c1_i32 : BitVec 32 := 1#32
  let c0_i32 : BitVec 32 := 0#32
  let c0_i32_1 : BitVec 32 := 0#32
  ![c1_i32.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c756_i32 : BitVec 32 := 756#32
  let v1 : BitVec 32 := Scalar.addi c756_i32 v0
  let c16_i32_0 : BitVec 32 := 16#32
  let v2 : BitVec 32 := Scalar.muli v1 c16_i32_0
  let c1_i32 : BitVec 32 := 1#32
  let c0_i32 : BitVec 32 := 0#32
  let c0_i32_1 : BitVec 32 := 0#32
  ![c1_i32.toNat, v2.toNat, c0_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference17Ideal.lean ====
abbrev S64x4096 : Shape := ⟨2, ![64, 4096]⟩
abbrev S2x4096x13120 : Shape := ⟨3, ![2, 4096, 13120]⟩
abbrev S2x64x1024 : Shape := ⟨3, ![2, 64, 1024]⟩
abbrev S1x4096x13120 : Shape := ⟨3, ![1, 4096, 13120]⟩
abbrev S4096x13120 : Shape := ⟨2, ![4096, 13120]⟩
abbrev S64x13120 : Shape := ⟨2, ![64, 13120]⟩
abbrev S64x1024 : Shape := ⟨2, ![64, 1024]⟩
abbrev S1x64x1024 : Shape := ⟨3, ![1, 64, 1024]⟩

abbrev nBuf : Space → Nat
  | .hbm => 20
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S2x4096x13120, .f32⟩
  | .hbm, ⟨2, _⟩ => ⟨S2x64x1024, .f32⟩
  | .hbm, ⟨3, _⟩ => ⟨S2x64x1024, .f32⟩
  | .hbm, ⟨4, _⟩ => ⟨S64x4096, .f32⟩
  | .hbm, ⟨5, _⟩ => ⟨S1x4096x13120, .f32⟩
  | .hbm, ⟨6, _⟩ => ⟨S4096x13120, .f32⟩
  | .hbm, ⟨7, _⟩ => ⟨S64x13120, .f32⟩
  | .hbm, ⟨8, _⟩ => ⟨S64x1024, .f32⟩
  | .hbm, ⟨9, _⟩ => ⟨S64x1024, .f32⟩
  | .hbm, ⟨10, _⟩ => ⟨S1x64x1024, .f32⟩
  | .hbm, ⟨11, _⟩ => ⟨S64x1024, .f32⟩
  | .hbm, ⟨12, _⟩ => ⟨S1x64x1024, .f32⟩
  | .hbm, ⟨13, _⟩ => ⟨S1x64x1024, .f32⟩
  | .hbm, ⟨14, _⟩ => ⟨S2x64x1024, .f32⟩
  | .hbm, ⟨15, _⟩ => ⟨S1x64x1024, .f32⟩
  | .hbm, ⟨16, _⟩ => ⟨S64x1024, .f32⟩
  | .hbm, ⟨17, _⟩ => ⟨S1x64x1024, .f32⟩
  | .hbm, ⟨18, _⟩ => ⟨S1x64x1024, .f32⟩
  | .hbm, ⟨19, _⟩ => ⟨S2x64x1024, .f32⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel18.lean ====
abbrev S64x4096 : Shape := ⟨2, ![64, 4096]⟩
abbrev S2x4096x13120 : Shape := ⟨3, ![2, 4096, 13120]⟩
abbrev S2x13120x4096 : Shape := ⟨3, ![2, 13120, 4096]⟩
abbrev S2x64x1024 : Shape := ⟨3, ![2, 64, 1024]⟩
abbrev S1x256x4096 : Shape := ⟨3, ![1, 256, 4096]⟩
abbrev S1x64x256 : Shape := ⟨3, ![1, 64, 256]⟩
abbrev S256x4096 : Shape := ⟨2, ![256, 4096]⟩
abbrev S64x256 : Shape := ⟨2, ![64, 256]⟩

abbrev nBuf : Space → Nat
  | .hbm => 5
  | .vmem => 11
  | .smem => 0
  | _ => 0

abbrev bufTy : (tb : Table) → Fin (tcTables nBuf tb) → BufTy
  | .hbm, ⟨0, _⟩ => ⟨S64x4096, .bf16⟩
  | .hbm, ⟨1, _⟩ => ⟨S2x4096x13120, .f32⟩
  | .hbm, ⟨2, _⟩ => ⟨S2x13120x4096, .f32⟩
  | .hbm, ⟨3, _⟩ => ⟨S2x64x1024, .f32⟩
  | .hbm, ⟨4, _⟩ => ⟨S2x64x1024, .f32⟩
  | .local _ .vmem, ⟨0, _⟩ => ⟨S64x4096, .bf16⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .f32⟩
  | .local _ .vmem, ⟨5, _⟩ => ⟨S1x64x256, .f32⟩
  | .local _ .vmem, ⟨6, _⟩ => ⟨S1x64x256, .f32⟩
  | .local _ .vmem, ⟨7, _⟩ => ⟨S1x64x256, .f32⟩
  | .local _ .vmem, ⟨8, _⟩ => ⟨S1x64x256, .f32⟩
  | .local _ .vmem, ⟨9, _⟩ => ⟨S256x4096, .bf16⟩
  | .local _ .vmem, ⟨10, _⟩ => ⟨S256x4096, .bf16⟩
  | _, _ => ⟨S64x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c692_i32 : BitVec 32 := 692#32
  let v1 : BitVec 32 := Scalar.addi c692_i32 v0
  let c16_i32_0 : BitVec 32 := 16#32
  let v2 : BitVec 32 := Scalar.muli v1 c16_i32_0
  let c0_i32 : BitVec 32 := 0#32
  let c0_i32_1 : BitVec 32 := 0#32
  let c0_i32_2 : BitVec 32 := 0#32
  ![c0_i32.toNat, v2.toNat, c0_i32_1.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c756_i32 : BitVec 32 := 756#32
  let v1 : BitVec 32 := Scalar.addi c756_i32 v0
  let c16_i32_0 : BitVec 32 := 16#32
  let v2 : BitVec 32 := Scalar.muli v1 c16_i32_0
  let c0_i32 : BitVec 32 := 0#32
  let c0_i32_1 : BitVec 32 := 0#32
  let c0_i32_2 : BitVec 32 := 0#32
  ![c0_i32.toNat, v2.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 1 → Memref sig .tc .vmem S64x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x64x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference18Ideal.lean ====
abbrev S64x4096 : Shape := ⟨2, ![64, 4096]⟩
abbrev S2x4096x13120 : Shape := ⟨3, ![2, 4096, 13120]⟩
abbrev S1x4096x13120 : Shape := ⟨3, ![1, 4096, 13120]⟩
abbrev S4096x13120 : Shape := ⟨2, ![4096, 13120]⟩
abbrev S64x13120 : Shape := ⟨2, ![64, 13120]⟩
abbrev S64x1024 : Shape := ⟨2, ![64, 1024]⟩
abbrev S_ : Shape := ⟨0, ![]⟩
abbrev S1x64x1024 : Shape := ⟨3, ![1, 64, 1024]⟩
abbrev S2x64x1024 : Shape := ⟨3, ![2, 64, 1024]⟩

abbrev nBuf : Space → Nat
  | .hbm => 18
  | .vmem => 0
  | .smem => 0
  | _ => 0

abbrev bufTy : (tb : Table) → Fin (tcTables nBuf tb) → BufTy
  | .hbm, ⟨0, _⟩ => ⟨S64x4096, .bf16⟩
  | .hbm, ⟨1, _⟩ => ⟨S2x4096x13120, .f32⟩
  | .hbm, ⟨2, _⟩ => ⟨S64x4096, .f32⟩
  | .hbm, ⟨3, _⟩ => ⟨S1x4096x13120, .f32⟩
  | .hbm, ⟨4, _⟩ => ⟨S4096x13120, .f32⟩
  | .hbm, ⟨5, _⟩ => ⟨S64x13120, .f32⟩
  | .hbm, ⟨6, _⟩ => ⟨S64x1024, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S1x64x1024, .f32⟩
  | .hbm, ⟨11, _⟩ => ⟨S1x64x1024, .f32⟩
  | .hbm, ⟨12, _⟩ => ⟨S2x64x1024, .f32⟩
  | .hbm, ⟨13, _⟩ => ⟨S_, .f32⟩
  | .hbm, ⟨14, _⟩ => ⟨S64x1024, .f32⟩
  | .hbm, ⟨15, _⟩ => ⟨S1x64x1024, .f32⟩
  | .hbm, ⟨16, _⟩ => ⟨S1x64x1024, .f32⟩
  | .hbm, ⟨17, _⟩ => ⟨S2x64x1024, .f32⟩
  | _, _ => ⟨S64x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Proof.Norm.Row.lean ====
/-
  THE NORM OF A ROW, over the extended reals: every element times the reciprocal root of the row's mean square plus a small
  constant, times its weight. The mean's divisor is 4096, the constant the float nearest 1e-6.
-/
module

public import Idealize.ShloMosaic.Lib.Tactic
public import Idealize.ShloMosaic.Lib.Pointwise

@[expose] public section

noncomputable section

namespace Cert.Proof.Norm

open Idealize.ShloMosaic

/-- Element `n` of the norm of row `y` with weights `w`. -/
def norm (y w : Fin 4096 → EReal) (n : Fin 4096) : EReal :=
  y n * Ideal.rsqrt (Ideal.div (∑ k, y k * y k) (Ideal.ofBits .f32 0x45800000#32) + Ideal.ofBits .f32 0x358637BD#32) * w n

/-- An index of a matrix is told by its row and its column. -/
theorem at_ix2 {a b : ℕ} (j : (⟨2, ![a, b]⟩ : Shape).Idx) (r : Fin a) (n : Fin b) (h0 : (j 0).val = r.val) (h1 : (j 1).val = n.val) : j = ix2 r n :=
  (eq_ix2 j).trans (congrArg₂ ix2 (Fin.ext h0) (Fin.ext h1))

theorem zero2 : (![0, 0] : Fin 2 → Nat) = fun _ => 0 := funext fun a => by fin_cases a <;> rfl
theorem zero3 : (![0, 0, 0] : Fin 3 → Nat) = fun _ => 0 := funext fun a => by fin_cases a <;> rfl

/-- A row of weights laid as a matrix of one row. -/
theorem cast_row (w : FVec Ideal ⟨1, ![4096]⟩ .f32) (n : Fin 4096) (h) : shapeCast ⟨2, ![1, 4096]⟩ w h (ix2 0 n) = w (ix1 n) := by
  pointwise

/-- Layer 0's row of the weights, laid so. -/
theorem slice_row (w : FVec Ideal ⟨2, ![2, 4096]⟩ .f32) (n : Fin 4096) (h h' h'') :
    shapeCast ⟨2, ![1, 4096]⟩ (shapeCast ⟨1, ![4096]⟩ (extractStridedSlice ⟨2, ![1, 4096]⟩ ![0, 0] w h) h') h'' (ix2 0 n) = w (ix2 0 n) := by
  pointwise

/-- The prompts laid end to end: row `r` is row `r % 2048` of prompt `r / 2048`. -/
theorem cast_rows (x : FVec Ideal ⟨3, ![4, 2048, 4096]⟩ .f32) (r : Fin 8192) (n : Fin 4096) (h) :
    shapeCast ⟨2, ![8192, 4096]⟩ x h (ix2 r n) = x (ix3 ⟨r.val / 2048, by omega⟩ ⟨r.val % 2048, by omega⟩ n) := by
  pointwise

end Cert.Proof.Norm

end
-- ==== Proof.Kv.Body.lean ====
/-
  WHAT ONE GRID POINT OF THE KEY/VALUE PROJECTION LEAVES. At the first point of each column tile the two weight tiles are
  rounded into the two scratch buffers; at every point the two output blocks are the products of the row block with the two
  scratch buffers' contents. Written over any float instance.
-/
module

public import proofs.«01_k».proof.Proof.Gen.KernelIdeal.Value
public import proofs.«01_k».proof.Proof.Norm.Row

@[expose] public section

noncomputable section

namespace Cert.Proof.Kv

open Cert.KernelIdeal Cert.KernelIdeal.Gen Cert.KernelIdeal.Value
open Idealize.ShloMosaic Idealize.ShloMosaic.TcCoe Idealize.SL.Sem
open Idealize.ShloMosaic.Pipeline (Dat)
open Norm (zero2 zero3)

variable {F : FTy → Type} [FloatOps F]
variable (m : (ℓ : Loc nD τ sig) → Buf (Elt F) ℓ)

section Cases

variable (c : Dev nD) (i : grid0.Coords) (a2 : Memref sig .tc .vmem S1024x4096 .bf16) (h2 : a2.IsWhole)
  (a3 : Memref sig .tc .vmem S1x256x4096 .f32) (h3 : a3.IsWhole) (a4 : Memref sig .tc .vmem S1x256x4096 .f32) (h4 : a4.IsWhole)
  (a7 : Memref sig .tc .vmem S1x1024x256 .f32) (h7 : a7.IsWhole) (a8 : Memref sig .tc .vmem S1x1024x256 .f32) (h8 : a8.IsWhole)
  (a9 : Memref sig .tc .vmem S256x4096 .bf16) (h9 : a9.IsWhole) (a10 : Memref sig .tc .vmem S256x4096 .bf16) (h10 : a10.IsWhole)
  (x0 : Vec F S1024x4096 .bf16) (x1 x2 : Vec F S1x256x4096 .f32) (s0 s1 : Vec F S256x4096 .bf16)

/-- At the first point of a column tile the first scratch buffer receives the rounded first weight tile. -/
theorem scratch0_first (hc : cond0_0 i) :
    sout0_A_0 c i a2 h2 a3 h3 a4 h4 a7 h7 a8 h8 a9 h9 a10 h10 hc x0 x1 x2 = k0_pay1 x1 := by
  refine (View.read_writes_eq_canon _ _ _ fun _ => scover0_A_0 ..).trans ?_
  unfold kernelRun0_A
  sl_unfold_words
  rw [View.canon_unit_zero zero2]
  simp only [View.readAt_eq_ld, h3.read_unread, View.ld_unit_zero (S := S1x256x4096) zero3]

/-- … and the second the rounded second weight tile. -/
theorem scratch1_first (hc : cond0_0 i) :
    sout0_A_1 c i a2 h2 a3 h3 a4 h4 a7 h7 a8 h8 a9 h9 a10 h10 hc x0 x1 x2 = k0_pay2 x2 := by
  refine (View.read_writes_eq_canon _ _ _ fun _ => scover0_A_1 ..).trans ?_
  unfold kernelRun0_A
  sl_unfold_words
  rw [View.canon_unit_zero zero2]
  simp only [View.readAt_eq_ld, h4.read_unread, View.ld_unit_zero (S := S1x256x4096) zero3]

/-- At that point the first output block is the product with the tile just rounded. -/
theorem out0_first (hc : cond0_0 i) :
    out0_A_3 c i a2 h2 a3 h3 a4 h4 a7 h7 a8 h8 a9 h9 a10 h10 hc x0 x1 x2 = k0_pay3 x0 (k0_pay1 x1) := by
  refine (View.read_writes_eq_canon _ _ _ fun _ => cover0_A_3 ..).trans ?_
  unfold kernelRun0_A
  sl_unfold_words
  rw [View.canon_unit_zero zero3]
  simp only [View.readCov_unit_zero (S := S256x4096) _ zero2, View.readAt_eq_ld, h2.read_unread, h3.read_unread, View.ld_unit_zero (S := S1x256x4096) zero3, View.ld_unit_zero (S := S1024x4096) zero2]

/-- … and so is the second. -/
theorem out1_first (hc : cond0_0 i) :
    out0_A_4 c i a2 h2 a3 h3 a4 h4 a7 h7 a8 h8 a9 h9 a10 h10 hc x0 x1 x2 = k0_pay4 x0 (k0_pay2 x2) := by
  refine (View.read_writes_eq_canon _ _ _ fun _ => cover0_A_4 ..).trans ?_
  unfold kernelRun0_A
  sl_unfold_words
  rw [View.canon_unit_zero zero3]
  simp only [View.readCov_unit_zero (S := S256x4096) _ zero2, View.readAt_eq_ld, h2.read_unread, h4.read_unread, View.ld_unit_zero (S := S1x256x4096) zero3, View.ld_unit_zero (S := S1024x4096) zero2]

/-- At the other points the first output block is the product with the scratch's contents. -/
theorem out0_later (hc : ¬cond0_0 i) :
    out0_B_3 c i a2 h2 a3 h3 a4 h4 a7 h7 a8 h8 a9 h9 a10 h10 hc x0 x1 x2 s0 s1 = k0_pay3 x0 s0 := by
  refine (View.read_writes_eq_canon _ _ _ fun _ => cover0_B_3 ..).trans ?_
  unfold kernelRun0_B
  rw [View.canon_unit_zero zero3]
  simp only [View.readAt_eq_ld, h2.read_unread, h9.read_unread, View.ld_unit_zero (S := S1024x4096) zero2, View.ld_unit_zero (S := S256x4096) zero2]

/-- … and so is the second. -/
theorem out1_later (hc : ¬cond0_0 i) :
    out0_B_4 c i a2 h2 a3 h3 a4 h4 a7 h7 a8 h8 a9 h9 a10 h10 hc x0 x1 x2 s0 s1 = k0_pay4 x0 s1 := by
  refine (View.read_writes_eq_canon _ _ _ fun _ => cover0_B_4 ..).trans ?_
  unfold kernelRun0_B
  rw [View.canon_unit_zero zero3]
  simp only [View.readAt_eq_ld, h2.read_unread, h10.read_unread, View.ld_unit_zero (S := S1024x4096) zero2, View.ld_unit_zero (S := S256x4096) zero2]

end Cases

end Cert.Proof.Kv

end
-- ==== Proof.Kv.Points.lean ====
/-
  WHAT THE KEY/VALUE PROJECTION'S BUFFERS HOLD AFTER A GRID POINT. Point `t` works on row block `t % 8` and column tile
  `t / 8`. The scratch buffers hold the rounded weight tiles of the current column tile from the tile's first point on, so
  at every point both output blocks are the product of the point's row block with the point's own two weight tiles.
-/
module

public import proofs.«01_k».proof.Proof.Kv.Body

@[expose] public section

noncomputable section

namespace Cert.Proof.Kv

open Cert.KernelIdeal Cert.KernelIdeal.Gen Cert.KernelIdeal.Value
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The row block's place in the activations: block row `t % 8`. -/
theorem index0 : ∀ t : Fin cfg0.N, win0_0.index t 0 = t.val % 8 ∧ win0_0.index t 1 = 0 :=
  (by decide +kernel : ∀ t : Fin grid0.N, _)

/-- The key weights' tile starts at column `11072 + 256 (t / 8)` of layer 1. -/
theorem index1 : ∀ t : Fin cfg0.N, win0_1.index t 0 = 1 ∧ win0_1.index t 1 = 11072 + 256 * (t.val / 8) ∧ win0_1.index t 2 = 0 :=
  (by decide +kernel : ∀ t : Fin grid0.N, _)

/-- The value weights' tile starts at column `12096 + 256 (t / 8)` of layer 1. -/
theorem index2 : ∀ t : Fin cfg0.N, win0_2.index t 0 = 1 ∧ win0_2.index t 1 = 12096 + 256 * (t.val / 8) ∧ win0_2.index t 2 = 0 :=
  (by decide +kernel : ∀ t : Fin grid0.N, _)

/-- The key output's block: layer 1, row block `t % 8`, column tile `t / 8`. -/
theorem index3 : ∀ t : Fin cfg0.N, win0_3.index t 0 = 1 ∧ win0_3.index t 1 = t.val % 8 ∧ win0_3.index t 2 = t.val / 8 :=
  (by decide +kernel : ∀ t : Fin grid0.N, _)

/-- The value output's block is the same one of its own array. -/
theorem index4 : ∀ t : Fin cfg0.N, win0_4.index t 0 = 1 ∧ win0_4.index t 1 = t.val % 8 ∧ win0_4.index t 2 = t.val / 8 :=
  (by decide +kernel : ∀ t : Fin grid0.N, _)

/-- The row block read at point `t`, by coordinates. -/
theorem iblk0_apply (c : Dev nD) (t : Fin cfg0.N) (r : Fin 1024) (k : Fin 4096) :
    (iblk m c 0 t : Vec F S1024x4096 .bf16) (ix2 r k)
      = m ((c : Thread nD τ).loc main_arg0) (ix2 ⟨1024 * (t.val % 8) + r.val, by omega⟩ k) := by
  have hi := index0 t
  unfold iblk
  rw [View.read_apply, ← V_main_arg0 m c]
  refine congrArg (V m c main_arg0) (funext fun a => Fin.ext ?_)
  match a with
  | ⟨0, _⟩ => show win0_0.index t 0 * 1024 + 1 * r.val = 1024 * (t.val % 8) + r.val; rw [hi.1]; omega
  | ⟨1, _⟩ => show win0_0.index t 1 * 4096 + 1 * k.val = k.val; rw [hi.2]; omega

/-- The key weights' tile read at point `t`, by coordinates of the weights stored with the contracted axis last. -/
theorem iblk1_apply (c : Dev nD) (t : Fin cfg0.N) (z : Fin 1) (n : Fin 256) (k : Fin 4096) :
    (iblk m c 1 t : Vec F S1x256x4096 .f32) (ix3 z n k)
      = (V m c main_v0 : Vec F S2x13120x4096 .f32) (ix3 1 ⟨11072 + 256 * (t.val / 8) + n.val, by have := N_0; have : t.val < 32 := lt_of_lt_of_eq t.isLt N_0; omega⟩ k) := by
  have hi := index1 t
  unfold iblk
  rw [View.read_apply]
  refine congrArg (V m c main_v0) (funext fun a => Fin.ext ?_)
  match a with
  | ⟨0, _⟩ => show win0_1.index t 0 + 1 * z.val = 1; rw [hi.1]; omega
  | ⟨1, _⟩ => show win0_1.index t 1 + 1 * n.val = 11072 + 256 * (t.val / 8) + n.val; rw [hi.2.1]; omega
  | ⟨2, _⟩ => show win0_1.index t 2 + 1 * k.val = k.val; rw [hi.2.2]; omega

/-- The value weights' tile read at point `t`. -/
theorem iblk2_apply (c : Dev nD) (t : Fin cfg0.N) (z : Fin 1) (n : Fin 256) (k : Fin 4096) :
    (iblk m c 2 t : Vec F S1x256x4096 .f32) (ix3 z n k)
      = (V m c main_v0 : Vec F S2x13120x4096 .f32) (ix3 1 ⟨12096 + 256 * (t.val / 8) + n.val, by have := N_0; have : t.val < 32 := lt_of_lt_of_eq t.isLt N_0; omega⟩ k) := by
  have hi := index2 t
  unfold iblk
  rw [View.read_apply]
  refine congrArg (V m c main_v0) (funext fun a => Fin.ext ?_)
  match a with
  | ⟨0, _⟩ => show win0_2.index t 0 + 1 * z.val = 1; rw [hi.1]; omega
  | ⟨1, _⟩ => show win0_2.index t 1 + 1 * n.val = 12096 + 256 * (t.val / 8) + n.val; rw [hi.2.1]; omega
  | ⟨2, _⟩ => show win0_2.index t 2 + 1 * k.val = k.val; rw [hi.2.2]; omega

/-- Two points of one column tile read the same key weights' tile … -/
theorem iblk1_congr (c : Dev nD) (t t' : Fin cfg0.N) (h : t.val / 8 = t'.val / 8) :
    (iblk m c 1 t : Vec F S1x256x4096 .f32) = iblk m c 1 t' := by
  funext y
  rw [show y = ix3 (y 0) (y 1) (y 2) from eq_ix3 y]
  refine (iblk1_apply m c t _ _ _).trans (Eq.trans ?_ (iblk1_apply m c t' _ _ _).symm)
  simp only [h]

/-- … and the same value weights' tile. -/
theorem iblk2_congr (c : Dev nD) (t t' : Fin cfg0.N) (h : t.val / 8 = t'.val / 8) :
    (iblk m c 2 t : Vec F S1x256x4096 .f32) = iblk m c 2 t' := by
  funext y
  rw [show y = ix3 (y 0) (y 1) (y 2) from eq_ix3 y]
  refine (iblk2_apply m c t _ _ _).trans (Eq.trans ?_ (iblk2_apply m c t' _ _ _).symm)
  simp only [h]

/-- After any point the two scratch buffers hold that point's rounded weight tiles: stored at the tile's first point,
    kept at the others. -/
theorem scratch_eq (c : Dev nD) : ∀ (n : ℕ) (h : n < cfg0.N),
    (outsAt0 m c n h).2.2.1 = k0_pay1 (iblk m c 1 ⟨n, h⟩) ∧ (outsAt0 m c n h).2.2.2 = k0_pay2 (iblk m c 2 ⟨n, h⟩)
  | 0, h => by
    rw [outsAt0_A m c ⟨0, h⟩ rfl]
    dsimp only
    exact ⟨scratch0_first .., scratch1_first ..⟩
  | n + 1, h => by
    by_cases h0 : (n + 1) % 8 = 0
    · rw [outsAt0_A m c ⟨n + 1, h⟩ h0]
      dsimp only
      exact ⟨scratch0_first .., scratch1_first ..⟩
    · rw [outsAt0_B m c ⟨n + 1, h⟩ h0]
      dsimp only
      have ih := scratch_eq c n (Nat.lt_of_succ_lt h)
      have hd : n / 8 = (n + 1) / 8 := by omega
      exact ⟨ih.1.trans (congrArg k0_pay1 (iblk1_congr m c ⟨n, _⟩ ⟨n + 1, h⟩ hd)),
        ih.2.trans (congrArg k0_pay2 (iblk2_congr m c ⟨n, _⟩ ⟨n + 1, h⟩ hd))⟩

/-- After any point the two output blocks are the products of the point's row block with the point's rounded tiles. -/
theorem outs_eq (c : Dev nD) (t : Fin cfg0.N) :
    (outsAt0 m c t.val t.isLt).1 = k0_pay3 (iblk m c 0 t) (k0_pay1 (iblk m c 1 t))
      ∧ (outsAt0 m c t.val t.isLt).2.1 = k0_pay4 (iblk m c 0 t) (k0_pay2 (iblk m c 2 t)) := by
  by_cases h0 : t.val % 8 = 0
  · rw [outsAt0_A m c t h0]
    dsimp only
    exact ⟨out0_first .., out1_first ..⟩
  · rw [outsAt0_B m c t h0]
    have hs := scratch_eq m c (t.val - 1) (Nat.lt_of_le_of_lt (Nat.sub_le _ _) t.isLt)
    have hd : (t.val - 1) / 8 = t.val / 8 := by omega
    rw [out0_later, out1_later, hs.1, hs.2, iblk1_congr m c ⟨t.val - 1, _⟩ t hd, iblk2_congr m c ⟨t.val - 1, _⟩ t hd]
    exact ⟨rfl, rfl⟩

end Cert.Proof.Kv

end
-- ==== Proof.Kv.Value.lean ====
/-
  WHAT THE KEY/VALUE PROJECTION LEAVES, over the extended reals. Layer 1 of each result is the product of the activations
  with the layer's key (or value) columns of the input projection; layer 0 is as the result's buffer came in.
-/
module

public import proofs.«01_k».proof.Proof.Kv.Points
public import Idealize.ShloMosaic.Lib.StableHlo.Run

@[expose] public section

noncomputable section

namespace Cert.Proof.Kv

open Cert.KernelIdeal Cert.KernelIdeal.Gen Cert.KernelIdeal.Value
open Idealize.ShloMosaic Idealize.ShloMosaic.TcCoe Idealize.SL.Sem
open Idealize.ShloMosaic.Pipeline (Dat)

/-- Layer 1's columns `off …` of the input projection applied to the activations, over what the buffer held in layer 0. -/
def projInto (off : ℕ) (hoff : off + 1024 ≤ 13120) (h : S8192x4096.Idx → EReal) (w : S2x4096x13120.Idx → EReal)
    (buf : S2x8192x1024.Idx → EReal) (i : S2x8192x1024.Idx) : EReal :=
  if (i 0).val = 1 then ∑ k : Fin 4096, h (ix2 (i 1) k) * w (ix3 1 k ⟨off + (i 2).val, by have : (i 2).val < 1024 := (i 2).isLt; omega⟩)
  else buf i

variable (m : (ℓ : Loc nD τ sig) → Buf (Elt Ideal) ℓ) (ρ : Dev nD → PrngReg)

/-- The host transposes the weights before the call: the contracted axis goes last. -/
theorem V_v0 (c : Dev nD) (l : Fin 2) (n : Fin 13120) (k : Fin 4096) :
    (V m c main_v0 : S2x13120x4096.Idx → EReal) (ix3 l n k) = (m ((c : Thread nD τ).loc main_arg1) : S2x4096x13120.Idx → EReal) (ix3 l k n) := by
  have e : V m c main_v0 = transpose S2x13120x4096 [0, 2, 1] (m ((c : Thread nD τ).loc main_arg1)) transposes_S2x4096x13120_S2x13120x4096_0_2_1 := by
    unfold V
    after_results
  rw [e]
  pointwise

theorem V_out0 (c : Dev nD) : V m c main_v1_0 = m ((c : Thread nD τ).loc main_arg2) := by
  unfold V
  after_results
  rfl
theorem V_out1 (c : Dev nD) : V m c main_v1_1 = m ((c : Thread nD τ).loc main_arg3) := by
  unfold V
  after_results
  rfl

/-- One element of a product block: the row of the row block against the row of the rounded tile. -/
theorem pay3_apply (x : Vec Ideal S1024x4096 .bf16) (w : Vec Ideal S1x256x4096 .f32) (z : Fin 1) (r : Fin 1024) (n : Fin 256) :
    (k0_pay3 x (k0_pay1 w)) (ix3 z r n) = ∑ k : Fin 4096, (x (ix2 r k) : EReal) * w (ix3 0 n k) := by
  pointwise [k0_pay3, k0_pay1]

theorem pay4_apply (x : Vec Ideal S1024x4096 .bf16) (w : Vec Ideal S1x256x4096 .f32) (z : Fin 1) (r : Fin 1024) (n : Fin 256) :
    (k0_pay4 x (k0_pay2 w)) (ix3 z r n) = ∑ k : Fin 4096, (x (ix2 r k) : EReal) * w (ix3 0 n k) := by
  pointwise [k0_pay4, k0_pay2]

/-- What the first result array ends holding, by the arguments. -/
abbrev keys (c : Dev nD) : S2x8192x1024.Idx → EReal :=
  projInto 11072 (by decide) (m ((c : Thread nD τ).loc main_arg0)) (m ((c : Thread nD τ).loc main_arg1)) (m ((c : Thread nD τ).loc main_arg2))

/-- What the second result array ends holding. -/
abbrev vals (c : Dev nD) : S2x8192x1024.Idx → EReal :=
  projInto 12096 (by decide) (m ((c : Thread nD τ).loc main_arg0)) (m ((c : Thread nD τ).loc main_arg1)) (m ((c : Thread nD τ).loc main_arg3))

/-- An output block's place in its array, by coordinates. -/
theorem emb3 (t : Fin cfg0.N) (z : Fin 1) (r : Fin 1024) (n : Fin 256) :
    ((cfg0.win 3).blk t).view.emb (ix3 z r n : S1x1024x256.Idx)
      = (ix3 1 ⟨1024 * (t.val % 8) + r.val, by omega⟩ ⟨256 * (t.val / 8) + n.val, by have : t.val < 32 := lt_of_lt_of_eq t.isLt N_0; omega⟩ : S2x8192x1024.Idx) := by
  have hi := index3 t
  funext a
  apply Fin.ext
  match a with
  | ⟨0, _⟩ => show win0_3.index t 0 * 1 + 1 * z.val = 1; rw [hi.1]; omega
  | ⟨1, _⟩ => show win0_3.index t 1 * 1024 + 1 * r.val = 1024 * (t.val % 8) + r.val; rw [hi.2.1]; omega
  | ⟨2, _⟩ => show win0_3.index t 2 * 256 + 1 * n.val = 256 * (t.val / 8) + n.val; rw [hi.2.2]; omega

theorem emb4 (t : Fin cfg0.N) (z : Fin 1) (r : Fin 1024) (n : Fin 256) :
    ((cfg0.win 4).blk t).view.emb (ix3 z r n : S1x1024x256.Idx)
      = (ix3 1 ⟨1024 * (t.val % 8) + r.val, by omega⟩ ⟨256 * (t.val / 8) + n.val, by have : t.val < 32 := lt_of_lt_of_eq t.isLt N_0; omega⟩ : S2x8192x1024.Idx) := by
  have hi := index4 t
  funext a
  apply Fin.ext
  match a with
  | ⟨0, _⟩ => show win0_4.index t 0 * 1 + 1 * z.val = 1; rw [hi.1]; omega
  | ⟨1, _⟩ => show win0_4.index t 1 * 1024 + 1 * r.val = 1024 * (t.val % 8) + r.val; rw [hi.2.1]; omega
  | ⟨2, _⟩ => show win0_4.index t 2 * 256 + 1 * n.val = 256 * (t.val / 8) + n.val; rw [hi.2.2]; omega

/-- Two columns of layer 1 of equal position hold the same weights. -/
theorem weight_congr (w : S2x4096x13120.Idx → EReal) (k : Fin 4096) {a b : Fin 13120} (h : a.val = b.val) :
    w (ix3 1 k a) = w (ix3 1 k b) := by rw [Fin.ext h]

/-- What a point writes back is its block of `keys`. -/
theorem flushed_keys (c : Dev nD) (t : Fin cfg0.N) :
    (dats m 0 c).flushed 3 t = ((cfg0.win 3).blk t).view.read (Elt Ideal) (keys m c) := by
  rw [flushed3, (outs_eq m c t).1]
  funext y
  rw [View.read_apply]
  show (k0_pay3 (iblk m c 0 t) (k0_pay1 (iblk m c 1 t))) y = keys m c _
  obtain ⟨z, r, n, rfl⟩ : ∃ (z : Fin 1) (r : Fin 1024) (n : Fin 256), y = ix3 z r n := ⟨y 0, y 1, y 2, eq_ix3 y⟩
  rw [pay3_apply, emb3]
  unfold keys projInto
  rw [if_pos (show (ix3 (1 : Fin 2) _ _ 0).val = 1 from rfl)]
  refine Finset.sum_congr rfl fun k _ => ?_
  rw [iblk0_apply, iblk1_apply, V_v0]
  exact congrArg₂ (· * ·) rfl (weight_congr _ k (Nat.add_assoc ..))

theorem flushed_vals (c : Dev nD) (t : Fin cfg0.N) :
    (dats m 0 c).flushed 4 t = ((cfg0.win 4).blk t).view.read (Elt Ideal) (vals m c) := by
  rw [flushed4, (outs_eq m c t).2]
  funext y
  rw [View.read_apply]
  show (k0_pay4 (iblk m c 0 t) (k0_pay2 (iblk m c 2 t))) y = vals m c _
  obtain ⟨z, r, n, rfl⟩ : ∃ (z : Fin 1) (r : Fin 1024) (n : Fin 256), y = ix3 z r n := ⟨y 0, y 1, y 2, eq_ix3 y⟩
  rw [pay4_apply, emb4]
  unfold vals projInto
  rw [if_pos (show (ix3 (1 : Fin 2) _ _ 0).val = 1 from rfl)]
  refine Finset.sum_congr rfl fun k _ => ?_
  rw [iblk0_apply, iblk2_apply, V_v0]
  exact congrArg₂ (· * ·) rfl (weight_congr _ k (Nat.add_assoc ..))

/-- Every index of layer 1 lies in some point's block. -/
theorem cover (i : S2x8192x1024.Idx) (h : (i 0).val = 1) :
    (∃ t : Fin cfg0.N, (cfg0.win 3).flush t = true ∧ i ∈ ((cfg0.win 3).blk t).view.set)
      ∧ ∃ t : Fin cfg0.N, (cfg0.win 4).flush t = true ∧ i ∈ ((cfg0.win 4).blk t).view.set := by
  obtain ⟨l, r, n, rfl⟩ : ∃ (l : Fin 2) (r : Fin 8192) (n : Fin 1024), i = ix3 l r n := ⟨i 0, i 1, i 2, eq_ix3 i⟩
  have hl : l = 1 := Fin.ext h
  subst hl
  let t : Fin cfg0.N := ⟨8 * (n.val / 256) + r.val / 1024, by rw [show cfg0.N = 32 from N_0]; omega⟩
  have ht : t.val = 8 * (n.val / 256) + r.val / 1024 := rfl
  have e3 := emb3 t 0 ⟨r.val % 1024, by omega⟩ ⟨n.val % 256, by omega⟩
  have e4 := emb4 t 0 ⟨r.val % 1024, by omega⟩ ⟨n.val % 256, by omega⟩
  have e : (ix3 1 ⟨1024 * (t.val % 8) + r.val % 1024, by omega⟩ ⟨256 * (t.val / 8) + n.val % 256, by rw [ht]; omega⟩ : S2x8192x1024.Idx) = ix3 1 r n := by
    congr 1 <;> apply Fin.ext <;> dsimp only <;> rw [ht] <;> omega
  exact ⟨⟨t, flush0_3 t, (e3.trans e) ▸ ((cfg0.win 3).blk t).view.emb_mem_set _⟩,
    ⟨t, flush0_4 t, (e4.trans e) ▸ ((cfg0.win 4).blk t).view.emb_mem_set _⟩⟩

/-- The first result array after the run. -/
theorem final_keys (c : Dev nD) : (dats m 0 c).arrAt 3 cfg0.N = keys m c := by
  funext i
  rw [(dats m 0 c).arrAt_eq_piecewise 3 (keys m c) (fun t _ => flushed_keys m c t) i]
  split
  · rfl
  · rename_i h
    have h0 : ¬((i : S2x8192x1024.Idx) 0).val = 1 := fun e => h (cover i e).1
    rw [A_eq]
    unfold keys projInto
    rw [if_neg h0]
    exact congrFun (V_out0 m c) i

/-- The second result array after the run. -/
theorem final_vals (c : Dev nD) : (dats m 0 c).arrAt 4 cfg0.N = vals m c := by
  funext i
  rw [(dats m 0 c).arrAt_eq_piecewise 4 (vals m c) (fun t _ => flushed_vals m c t) i]
  split
  · rfl
  · rename_i h
    have h0 : ¬((i : S2x8192x1024.Idx) 0).val = 1 := fun e => h (cover i e).2
    rw [A_eq]
    unfold vals projInto
    rw [if_neg h0]
    exact congrFun (V_out1 m c) i

end Cert.Proof.Kv

end
-- ==== Proof.Kv.Reference.lean ====
/-
  THE REFERENCE OF THE KEY/VALUE PROJECTION, read at an index: slices of the whole input projection of layer 1, stacked under
  the buffer's layer 0, are `projInto`.
-/
module

public import proofs.«01_k».proof.Proof.Kv.Value
public import proofs.«01_k».proof.Proof.Gen.ReferenceIdeal.Run

@[expose] public section

noncomputable section

namespace Cert.Proof.Kv

open Cert.ReferenceIdeal Cert.ReferenceIdeal.Gen
open Idealize.ShloMosaic Idealize.ShloMosaic.TcCoe Idealize.SL.Sem

/-- The whole input projection of layer 1, as the reference forms it. -/
abbrev whole (h : FVec Ideal S8192x4096 .bf16) (w : FVec Ideal S2x4096x13120 .f32) : FVec Ideal S8192x13120 .f32 :=
  Host.dotGeneral dot_S8192x4096_S4096x13120_S8192x13120_1_0_0_1_n_n none (extf .f32 h bitsLt_bf16_f32) (shapeCast _ (extractStridedSlice S1x4096x13120 ![1, 0, 0] w slices_S2x4096x13120_S1x4096x13120_1_0_0) shapeCasts_S1x4096x13120_S4096x13120)

/-- Columns of a projection stacked under the buffer's layer 0. -/
abbrev stacked (buf : FVec Ideal S2x8192x1024 .f32) (p : FVec Ideal S8192x1024 .f32) : FVec Ideal S2x8192x1024 .f32 :=
  concatenate S2x8192x1024 0 [⟨S1x8192x1024, (broadcastInDim S1x8192x1024 ![1, 2] bcast_S8192x1024_S1x8192x1024_1_2 (shapeCast _ (extractStridedSlice S1x8192x1024 ![0, 0, 0] buf slices_S2x8192x1024_S1x8192x1024_0_0_0) shapeCasts_S1x8192x1024_S8192x1024))⟩, ⟨S1x8192x1024, (broadcastInDim S1x8192x1024 ![1, 2] bcast_S8192x1024_S1x8192x1024_1_2 p)⟩] concatenates_S1x8192x1024_S1x8192x1024_S2x8192x1024_d0

/-- The key result. -/
theorem reference_keys (h : FVec Ideal S8192x4096 .bf16) (w : FVec Ideal S2x4096x13120 .f32) (buf : FVec Ideal S2x8192x1024 .f32) :
    stacked buf (extractStridedSlice S8192x1024 ![0, 11072] (whole h w) slices_S8192x13120_S8192x1024_0_11072)
      = projInto 11072 (by decide) h w buf := by
  funext i
  idx_vars i
  unfold projInto stacked whole
  pointwise
  by_cases h1 : i0.val = 1
  · rw [dif_neg (by omega), if_pos h1]
  · have h0 : i0 = 0 := Fin.ext (by show i0.val = 0; omega)
    subst h0
    rfl

/-- The value result. -/
theorem reference_vals (h : FVec Ideal S8192x4096 .bf16) (w : FVec Ideal S2x4096x13120 .f32) (buf : FVec Ideal S2x8192x1024 .f32) :
    stacked buf (extractStridedSlice S8192x1024 ![0, 12096] (whole h w) slices_S8192x13120_S8192x1024_0_12096)
      = projInto 12096 (by decide) h w buf := by
  funext i
  idx_vars i
  unfold projInto stacked whole
  pointwise
  by_cases h1 : i0.val = 1
  · rw [dif_neg (by omega), if_pos h1]
  · have h0 : i0 = 0 := Fin.ext (by show i0.val = 0; omega)
    subst h0
    rfl

end Cert.Proof.Kv

end
-- ==== Proof.Kv.Claim.lean ====
/-
  THE KEY/VALUE PROJECTION'S RUNS, side by side: the kernel and the reference end with the same two results.
-/
module

public import proofs.«01_k».proof.Proof.Kv.Reference
public import proofs.«01_k».proof.Defs
public import Idealize.ShloMosaic.Lib.Quiescent

@[expose] public section

noncomputable section

namespace Cert.Proof.Kv

open Idealize.ShloMosaic Idealize.ShloMosaic.TcCoe Idealize.SL.Sem

/-- The reference leaves its arguments as they were, and it declares no semaphore. -/
theorem frame_reference : Cert.quiescent_ReferenceIdeal := fun m' ρ' _ =>
  (θ_run _ _ _).mono (fun r hr => ⟨fun c => (hr c).2.2, sem_eq_zero_of_no_sems (by decide) r.2⟩) (ReferenceIdeal.Value.run m' ρ')

/-- Both programs end with the same keys and the same values. -/
theorem algebraic : Cert.algebraic_KernelIdeal_ReferenceIdeal := by
  intro m ρ m' ρ' _ h
  refine ⟨keys m, vals m,
    (θ_run _ _ _).mono (fun _ hr c => ⟨(hr c).1.trans (final_keys m c), (hr c).2.1.trans (final_vals m c), (hr c).2.2⟩) (KernelIdeal.Value.run_blocks m ρ),
    (θ_run _ _ _).mono (fun _ hr c => ?_) (ReferenceIdeal.Value.run m' ρ')⟩
  obtain ⟨e0, e1, e2, e3⟩ := h c
  refine ⟨(hr c).1.trans ?_, (hr c).2.1.trans ?_, (hr c).2.2⟩
  · rw [e0, e1, e2]
    exact reference_keys _ _ _
  · rw [e0, e1, e3]
    exact reference_vals _ _ _

end Cert.Proof.Kv

end
-- ==== Proof.Out.Body.lean ====
/-
  WHAT ONE GRID POINT OF THE OUTPUT PROJECTION LEAVES. At the first point of each column tile the weight tile is rounded into
  the scratch buffer; at every point the output block is the sum of four products, one per mixer, each with its quarter of the
  scratch's rows. Written over any float instance.
-/
module

public import proofs.«01_k».proof.Proof.Gen.Kernel2Ideal.Value
public import Idealize.ShloMosaic.Lib.Tactic
public import Idealize.ShloMosaic.Lib.Pointwise

@[expose] public section

noncomputable section

namespace Cert.Proof.Out

open Cert.Kernel2Ideal Cert.Kernel2Ideal.Gen Cert.Kernel2Ideal.Value
open Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords) (a2 : Memref sig .tc .vmem S1024x1024 .bf16) (h2 : a2.IsWhole)
  (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1x4096x512 .f32) (h6 : a6.IsWhole)
  (a7 : Memref sig .tc .vmem S1024x512 .f32) (h7 : a7.IsWhole) (a8 : Memref sig .tc .vmem S4096x512 .bf16) (h8 : a8.IsWhole)
  (x0 x1 x2 x3 : Vec F S1024x1024 .bf16) (x4 : Vec F S1x4096x512 .f32) (s : Vec F S4096x512 .bf16)

/-- At the first point of a column tile the scratch buffer receives the rounded weight tile. -/
theorem scratch_first (hc : cond0_0 i) :
    sout0_A_0 c i a2 h2 a3 h3 a4 h4 a5 h5 a6 h6 a7 h7 a8 h8 hc x0 x1 x2 x3 x4 = k0_pay1 x4 := by
  refine (View.read_writes_eq_canon _ _ _ fun _ => scover0_A_0 ..).trans ?_
  unfold kernelRun0_A
  sl_unfold_words
  rw [View.canon_unit_zero zero2]
  simp only [View.readAt_eq_ld, h6.read_unread, View.ld_unit_zero (S := S1x4096x512) zero3]

/-- The output block from the four row blocks and the scratch buffer: each mixer's rows of the scratch against its block. -/
def fourProducts (x0 x1 x2 x3 : Vec F S1024x1024 .bf16) (s : Vec F S4096x512 .bf16) : Vec F S1024x512 .f32 :=
  k0_pay2 x0 (View.ld s (Rect.unit ![0, 0] ![1024, 512] inb_S4096x512_S1024x512_0_0)) x1
    (View.ld s (Rect.unit ![1024, 0] ![1024, 512] inb_S4096x512_S1024x512_1024_0)) x2
    (View.ld s (Rect.unit ![2048, 0] ![1024, 512] inb_S4096x512_S1024x512_2048_0)) x3
    (View.ld s (Rect.unit ![3072, 0] ![1024, 512] inb_S4096x512_S1024x512_3072_0))

/-- A load of part of what one covering store left reads that part of what was stored. -/
theorem readCov_whole {Val : EltTy → Type} [∀ e, Nonempty (Val e)] {S : Shape} {e : EltTy} {sg : RefSig} {κ : Kind} {sp : Space}
    (v : View sg κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb _⟩), View.canon_unit_zero h]

/-- The output block at the first point of a column tile: the products with the tile just stored. -/
theorem out_first (hc : cond0_0 i) :
    out0_A_5 c i a2 h2 a3 h3 a4 h4 a5 h5 a6 h6 a7 h7 a8 h8 hc x0 x1 x2 x3 x4 = fourProducts x0 x1 x2 x3 (k0_pay1 x4) := by
  refine (View.read_writes_eq_canon _ _ _ fun _ => cover0_A_5 ..).trans ?_
  unfold kernelRun0_A
  sl_unfold_words
  rw [View.canon_unit_zero zero2]
  simp only [View.readAt_eq_ld, h2.read_unread, h3.read_unread, h4.read_unread, h5.read_unread, h6.read_unread, View.ld_unit_zero (S := S1x4096x512) zero3, View.ld_unit_zero (S := S1024x1024) zero2, readCov_whole (S := S4096x512) _ zero2]
  rfl

/-- The output block at a later point: the products with the scratch buffer as it came in. -/
theorem out_later (hc : ¬cond0_0 i) :
    out0_B_5 c i a2 h2 a3 h3 a4 h4 a5 h5 a6 h6 a7 h7 a8 h8 hc x0 x1 x2 x3 x4 s = fourProducts x0 x1 x2 x3 s := by
  refine (View.read_writes_eq_canon _ _ _ fun _ => cover0_B_5 ..).trans ?_
  unfold kernelRun0_B
  rw [View.canon_unit_zero zero2]
  simp only [View.readAt_eq_ld, h2.read_unread, h3.read_unread, h4.read_unread, h5.read_unread, h8.read_unread, View.ld_unit_zero (S := S1024x1024) zero2]
  rfl

/-- … which it leaves as it was. -/
theorem scratch_later (hc : ¬cond0_0 i) :
    sout0_B_0 c i a2 h2 a3 h3 a4 h4 a5 h5 a6 h6 a7 h7 a8 h8 hc x0 x1 x2 x3 x4 s = s := rfl

end Cert.Proof.Out

end
-- ==== Proof.Out.Points.lean ====
/-
  WHAT THE OUTPUT PROJECTION'S BUFFERS HOLD AFTER A GRID POINT. Point `t` works on row block `t % 8` and column tile `t / 8`.
  The scratch buffer holds the rounded weight tile of the current column tile from the tile's first point on.
-/
module

public import proofs.«01_k».proof.Proof.Out.Body

@[expose] public section

noncomputable section

namespace Cert.Proof.Out

open Cert.Kernel2Ideal Cert.Kernel2Ideal.Gen Cert.Kernel2Ideal.Value
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem point_lt (t : Fin cfg0.N) : t.val < 64 := lt_of_lt_of_eq t.isLt N_0

theorem index0 : ∀ t : Fin cfg0.N, win0_0.index t 0 = t.val % 8 ∧ win0_0.index t 1 = 0 :=
  (by decide +kernel : ∀ t : Fin grid0.N, _)
theorem index1 : ∀ t : Fin cfg0.N, win0_1.index t 0 = t.val % 8 ∧ win0_1.index t 1 = 0 :=
  (by decide +kernel : ∀ t : Fin grid0.N, _)
theorem index2 : ∀ t : Fin cfg0.N, win0_2.index t 0 = t.val % 8 ∧ win0_2.index t 1 = 0 :=
  (by decide +kernel : ∀ t : Fin grid0.N, _)
theorem index3 : ∀ t : Fin cfg0.N, win0_3.index t 0 = t.val % 8 ∧ win0_3.index t 1 = 0 :=
  (by decide +kernel : ∀ t : Fin grid0.N, _)
theorem index4 : ∀ t : Fin cfg0.N, win0_4.index t 0 = 0 ∧ win0_4.index t 1 = 0 ∧ win0_4.index t 2 = t.val / 8 :=
  (by decide +kernel : ∀ t : Fin grid0.N, _)
theorem index5 : ∀ t : Fin cfg0.N, win0_5.index t 0 = t.val % 8 ∧ win0_5.index t 1 = t.val / 8 :=
  (by decide +kernel : ∀ t : Fin grid0.N, _)

/-- Mixer 0's row block at a point, by coordinates. -/
theorem iblk0_apply (c : Dev nD) (t : Fin cfg0.N) (r : Fin 1024) (k : Fin 1024) :
    (iblk m c 0 t : Vec F S1024x1024 .bf16) (ix2 r k)
      = m ((c : Thread nD τ).loc main_arg0) (ix2 ⟨1024 * (t.val % 8) + r.val, by omega⟩ k) := by
  have hi := index0 t
  unfold iblk
  rw [View.read_apply, ← V_main_arg0 m c]
  refine congrArg (V m c main_arg0) (funext fun a => Fin.ext ?_)
  match a with
  | ⟨0, _⟩ => show win0_0.index t 0 * 1024 + 1 * r.val = 1024 * (t.val % 8) + r.val; rw [hi.1]; omega
  | ⟨1, _⟩ => show win0_0.index t 1 * 1024 + 1 * k.val = k.val; rw [hi.2]; omega

/-- Mixer 1's row block at a point, by coordinates. -/
theorem iblk1_apply (c : Dev nD) (t : Fin cfg0.N) (r : Fin 1024) (k : Fin 1024) :
    (iblk m c 1 t : Vec F S1024x1024 .bf16) (ix2 r k)
      = m ((c : Thread nD τ).loc main_arg1) (ix2 ⟨1024 * (t.val % 8) + r.val, by omega⟩ k) := by
  have hi := index1 t
  unfold iblk
  rw [View.read_apply, ← V_main_arg1 m c]
  refine congrArg (V m c main_arg1) (funext fun a => Fin.ext ?_)
  match a with
  | ⟨0, _⟩ => show win0_1.index t 0 * 1024 + 1 * r.val = 1024 * (t.val % 8) + r.val; rw [hi.1]; omega
  | ⟨1, _⟩ => show win0_1.index t 1 * 1024 + 1 * k.val = k.val; rw [hi.2]; omega

/-- Mixer 2's row block at a point, by coordinates. -/
theorem iblk2_apply (c : Dev nD) (t : Fin cfg0.N) (r : Fin 1024) (k : Fin 1024) :
    (iblk m c 2 t : Vec F S1024x1024 .bf16) (ix2 r k)
      = m ((c : Thread nD τ).loc main_arg2) (ix2 ⟨1024 * (t.val % 8) + r.val, by omega⟩ k) := by
  have hi := index2 t
  unfold iblk
  rw [View.read_apply, ← V_main_arg2 m c]
  refine congrArg (V m c main_arg2) (funext fun a => Fin.ext ?_)
  match a with
  | ⟨0, _⟩ => show win0_2.index t 0 * 1024 + 1 * r.val = 1024 * (t.val % 8) + r.val; rw [hi.1]; omega
  | ⟨1, _⟩ => show win0_2.index t 1 * 1024 + 1 * k.val = k.val; rw [hi.2]; omega

/-- Mixer 3's row block at a point, by coordinates. -/
theorem iblk3_apply (c : Dev nD) (t : Fin cfg0.N) (r : Fin 1024) (k : Fin 1024) :
    (iblk m c 3 t : Vec F S1024x1024 .bf16) (ix2 r k)
      = m ((c : Thread nD τ).loc main_arg3) (ix2 ⟨1024 * (t.val % 8) + r.val, by omega⟩ k) := by
  have hi := index3 t
  unfold iblk
  rw [View.read_apply, ← V_main_arg3 m c]
  refine congrArg (V m c main_arg3) (funext fun a => Fin.ext ?_)
  match a with
  | ⟨0, _⟩ => show win0_3.index t 0 * 1024 + 1 * r.val = 1024 * (t.val % 8) + r.val; rw [hi.1]; omega
  | ⟨1, _⟩ => show win0_3.index t 1 * 1024 + 1 * k.val = k.val; rw [hi.2]; omega

/-- The weight tile at a point: all rows of column tile `t / 8` of layer 0. -/
theorem iblk4_apply (c : Dev nD) (t : Fin cfg0.N) (z : Fin 1) (k : Fin 4096) (n : Fin 512) :
    (iblk m c 4 t : Vec F S1x4096x512 .f32) (ix3 z k n)
      = m ((c : Thread nD τ).loc main_arg4) (ix3 0 k ⟨512 * (t.val / 8) + n.val, by have := point_lt t; omega⟩) := by
  have hi := index4 t
  unfold iblk
  rw [View.read_apply, ← V_main_arg4 m c]
  refine congrArg (V m c main_arg4) (funext fun a => Fin.ext ?_)
  match a with
  | ⟨0, _⟩ => show win0_4.index t 0 * 1 + 1 * z.val = 0; rw [hi.1]; omega
  | ⟨1, _⟩ => show win0_4.index t 1 * 4096 + 1 * k.val = k.val; rw [hi.2.1]; omega
  | ⟨2, _⟩ => show win0_4.index t 2 * 512 + 1 * n.val = 512 * (t.val / 8) + n.val; rw [hi.2.2]; omega

/-- Two points of one column tile read the same weight tile. -/
theorem iblk4_congr (c : Dev nD) (t t' : Fin cfg0.N) (h : t.val / 8 = t'.val / 8) :
    (iblk m c 4 t : Vec F S1x4096x512 .f32) = iblk m c 4 t' := by
  funext y
  rw [show y = ix3 (y 0) (y 1) (y 2) from eq_ix3 y]
  refine (iblk4_apply m c t _ _ _).trans (Eq.trans ?_ (iblk4_apply m c t' _ _ _).symm)
  simp only [h]

/-- After any point the scratch buffer holds that point's rounded weight tile. -/
theorem scratch_eq (c : Dev nD) : ∀ (n : ℕ) (h : n < cfg0.N), (outsAt0 m c n h).2 = k0_pay1 (iblk m c 4 ⟨n, h⟩)
  | 0, h => by
    rw [outsAt0_A m c ⟨0, h⟩ rfl]
    dsimp only
    exact scratch_first ..
  | n + 1, h => by
    by_cases h0 : (n + 1) % 8 = 0
    · rw [outsAt0_A m c ⟨n + 1, h⟩ h0]
      dsimp only
      exact scratch_first ..
    · rw [outsAt0_B m c ⟨n + 1, h⟩ h0]
      dsimp only
      rw [scratch_later]
      refine (scratch_eq c n (Nat.lt_of_succ_lt h)).trans (congrArg _ (iblk4_congr m c _ _ ?_))
      show n / 8 = (n + 1) / 8
      omega

/-- What the output block holds after a point, by the point's own blocks. -/
theorem outs_eq (c : Dev nD) (t : Fin cfg0.N) :
    (outsAt0 m c t.val t.isLt).1 = fourProducts (iblk m c 0 t) (iblk m c 1 t) (iblk m c 2 t) (iblk m c 3 t) (k0_pay1 (iblk m c 4 t)) := by
  by_cases h0 : t.val % 8 = 0
  · rw [outsAt0_A m c t h0]
    dsimp only
    exact out_first ..
  · rw [outsAt0_B m c t h0]
    dsimp only
    rw [out_later]
    refine congrArg _ ((scratch_eq m c (t.val - 1) _).trans (congrArg _ (iblk4_congr m c _ _ ?_)))
    show (t.val - 1) / 8 = t.val / 8
    omega

end Cert.Proof.Out

end
-- ==== Proof.Out.Value.lean ====
/-
  WHAT THE OUTPUT PROJECTION LEAVES, over the extended reals: the four mixers' outputs, side by side, against layer 0's weights.
-/
module

public import proofs.«01_k».proof.Proof.Out.Points

@[expose] public section

noncomputable section

namespace Cert.Proof.Out

open Cert.Kernel2Ideal Cert.Kernel2Ideal.Gen Cert.Kernel2Ideal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- One mixer's part of the product: its output against its quarter of the weights' rows. -/
def part (o : ℕ) (ho : o + 1024 ≤ 4096) (a : S8192x1024.Idx → EReal) (w : S2x4096x4096.Idx → EReal) (i : S8192x4096.Idx) : EReal :=
  ∑ k : Fin 1024, a (ix2 (i 0) k) * w (ix3 0 ⟨o + k.val, by omega⟩ (i 1))

/-- The whole product. -/
def product (a0 a1 a2 a3 : S8192x1024.Idx → EReal) (w : S2x4096x4096.Idx → EReal) (i : S8192x4096.Idx) : EReal :=
  part 0 (by decide) a0 w i + part 1024 (by decide) a1 w i + part 2048 (by decide) a2 w i + part 3072 (by decide) a3 w i

/-- One element of an output block: the four sums, added in the mixers' order. -/
theorem fourProducts_apply (x0 x1 x2 x3 : Vec Ideal S1024x1024 .bf16) (w : Vec Ideal S1x4096x512 .f32) (r : Fin 1024) (n : Fin 512) :
    fourProducts x0 x1 x2 x3 (k0_pay1 w) (ix2 r n)
      = (∑ k : Fin 1024, (x0 (ix2 r k) : EReal) * w (ix3 0 ⟨0 + k.val, by omega⟩ n))
        + (∑ k : Fin 1024, (x1 (ix2 r k) : EReal) * w (ix3 0 ⟨1024 + k.val, by omega⟩ n))
        + (∑ k : Fin 1024, (x2 (ix2 r k) : EReal) * w (ix3 0 ⟨2048 + k.val, by omega⟩ n))
        + (∑ k : Fin 1024, (x3 (ix2 r k) : EReal) * w (ix3 0 ⟨3072 + k.val, by omega⟩ n)) := by
  unfold fourProducts
  rw [View.ld_unit, View.ld_unit, View.ld_unit, View.ld_unit]
  pointwise [k0_pay2, k0_pay1]

/-- The output block's place in the result. -/
theorem emb5 (t : Fin cfg0.N) (r : Fin 1024) (n : Fin 512) :
    ((cfg0.win 5).blk t).view.emb (ix2 r n : S1024x512.Idx)
      = (ix2 ⟨1024 * (t.val % 8) + r.val, by omega⟩ ⟨512 * (t.val / 8) + n.val, by have := point_lt t; omega⟩ : S8192x4096.Idx) := by
  have hi := index5 t
  funext a
  apply Fin.ext
  match a with
  | ⟨0, _⟩ => show win0_5.index t 0 * 1024 + 1 * r.val = 1024 * (t.val % 8) + r.val; rw [hi.1]; omega
  | ⟨1, _⟩ => show win0_5.index t 1 * 512 + 1 * n.val = 512 * (t.val / 8) + n.val; rw [hi.2]; omega

/-- What the result array ends holding. -/
abbrev result (c : Dev nD) : S8192x4096.Idx → EReal :=
  product (m ((c : Thread nD τ).loc main_arg0)) (m ((c : Thread nD τ).loc main_arg1)) (m ((c : Thread nD τ).loc main_arg2)) (m ((c : Thread nD τ).loc main_arg3)) (m ((c : Thread nD τ).loc main_arg4))

/-- What a point writes back is its block of the product. -/
theorem flushed_result (c : Dev nD) (t : Fin cfg0.N) :
    (dats m 0 c).flushed 5 t = ((cfg0.win 5).blk t).view.read (Elt Ideal) (result m c) := by
  rw [flushed5, outs_eq m c t]
  generalize hX : fourProducts (iblk m c 0 t) (iblk m c 1 t) (iblk m c 2 t) (iblk m c 3 t) (k0_pay1 (iblk m c 4 t)) = X
  generalize hG : result m c = G
  funext y
  rw [View.read_apply]
  show X y = G _
  subst hX hG
  obtain ⟨r, n, rfl⟩ : ∃ (r : Fin 1024) (n : Fin 512), y = ix2 r n := ⟨y 0, y 1, eq_ix2 y⟩
  rw [fourProducts_apply, emb5]
  unfold result product part
  refine congrArg₂ (· + ·) (congrArg₂ (· + ·) (congrArg₂ (· + ·) ?_ ?_) ?_) ?_
  · exact Finset.sum_congr rfl fun k _ => congrArg₂ (· * ·) (iblk0_apply m c t r k) (iblk4_apply m c t 0 _ n)
  · exact Finset.sum_congr rfl fun k _ => congrArg₂ (· * ·) (iblk1_apply m c t r k) (iblk4_apply m c t 0 _ n)
  · exact Finset.sum_congr rfl fun k _ => congrArg₂ (· * ·) (iblk2_apply m c t r k) (iblk4_apply m c t 0 _ n)
  · exact Finset.sum_congr rfl fun k _ => congrArg₂ (· * ·) (iblk3_apply m c t r k) (iblk4_apply m c t 0 _ n)

/-- Every index lies in some point's block. -/
theorem cover (i : S8192x4096.Idx) : ∃ t : Fin cfg0.N, (cfg0.win 5).flush t = true ∧ i ∈ ((cfg0.win 5).blk t).view.set := by
  obtain ⟨r, n, rfl⟩ : ∃ (r : Fin 8192) (n : Fin 4096), i = ix2 r n := ⟨i 0, i 1, eq_ix2 i⟩
  let t : Fin cfg0.N := ⟨8 * (n.val / 512) + r.val / 1024, by rw [show cfg0.N = 64 from N_0]; omega⟩
  have ht : t.val = 8 * (n.val / 512) + r.val / 1024 := rfl
  have e := emb5 t ⟨r.val % 1024, by omega⟩ ⟨n.val % 512, by omega⟩
  have e' : (ix2 ⟨1024 * (t.val % 8) + r.val % 1024, by omega⟩ ⟨512 * (t.val / 8) + n.val % 512, by rw [ht]; omega⟩ : S8192x4096.Idx) = ix2 r n := by
    congr 1 <;> apply Fin.ext <;> dsimp only <;> rw [ht] <;> omega
  exact ⟨t, flush0_5 t, (e.trans e') ▸ ((cfg0.win 5).blk t).view.emb_mem_set _⟩

/-- The result array after the run. -/
theorem final_result (c : Dev nD) : (dats m 0 c).arrAt 5 cfg0.N = result m c := by
  funext i
  rw [(dats m 0 c).arrAt_eq_piecewise 5 (result m c) (fun t _ => flushed_result m c t) i]
  exact if_pos (cover i)

end Cert.Proof.Out

end
-- ==== Proof.Out.Reference.lean ====
/-
  THE REFERENCE OF THE OUTPUT PROJECTION, read at an index: the product of the concatenated mixers' outputs with the weights is
  the sum of the four parts.
-/
module

public import proofs.«01_k».proof.Proof.Out.Value
public import proofs.«01_k».proof.Proof.Gen.Reference2Ideal.Run

@[expose] public section

noncomputable section

namespace Cert.Proof.Out

open Cert.Reference2Ideal Cert.Reference2Ideal.Gen
open Idealize.ShloMosaic Idealize.ShloMosaic.TcCoe Idealize.SL.Sem

/-- A sum over the concatenated axis is the sum over the four mixers' quarters. -/
theorem sum_quarters (f : Fin 4096 → EReal) :
    ∑ k : Fin 4096, f k = (∑ k : Fin 1024, f ⟨0 + k.val, by omega⟩) + (∑ k : Fin 1024, f ⟨1024 + k.val, by omega⟩)
      + (∑ k : Fin 1024, f ⟨2048 + k.val, by omega⟩) + ∑ k : Fin 1024, f ⟨3072 + k.val, by omega⟩ := by
  have e3 := Fin.sum_univ_add (a := 3072) (b := 1024) f
  have e2 := Fin.sum_univ_add (a := 2048) (b := 1024) fun k : Fin 3072 => f ⟨k.val, by omega⟩
  have e1 := Fin.sum_univ_add (a := 1024) (b := 1024) fun k : Fin 2048 => f ⟨k.val, by omega⟩
  refine e3.trans (congrArg₂ (· + ·) (e2.trans (congrArg₂ (· + ·) (e1.trans (congrArg₂ (· + ·) ?_ rfl)) rfl)) rfl)
  exact Finset.sum_congr rfl fun k _ => congrArg f (Fin.ext (Nat.zero_add _).symm)

/-- The reference's result. -/
theorem reference_result (a0 a1 a2 a3 : FVec Ideal S8192x1024 .bf16) (w : FVec Ideal S2x4096x4096 .f32) :
    Host.dotGeneral dot_S8192x4096_S4096x4096_S8192x4096_1_0_0_1_n_n none (extf .f32 (concatenate S8192x4096 1 [⟨S8192x1024, a0⟩, ⟨S8192x1024, a1⟩, ⟨S8192x1024, a2⟩, ⟨S8192x1024, a3⟩] concatenates_S8192x1024_S8192x1024_S8192x1024_S8192x1024_S8192x4096_d1) bitsLt_bf16_f32) (shapeCast _ (extractStridedSlice S1x4096x4096 ![0, 0, 0] w slices_S2x4096x4096_S1x4096x4096_0_0_0) shapeCasts_S1x4096x4096_S4096x4096)
      = product a0 a1 a2 a3 w := by
  funext i
  idx_vars i
  unfold product part
  pointwise
  rw [sum_quarters]
  refine congrArg₂ (· + ·) (congrArg₂ (· + ·) (congrArg₂ (· + ·) ?_ ?_) ?_) ?_
  · refine Finset.sum_congr rfl fun k _ => congrArg₂ (· * ·) ?_ (congrArg (fun z => w (ix3 0 z i1)) (Fin.ext (by dsimp only; omega)))
    rw [dif_pos (by dsimp only; omega)]
    exact congrArg (fun z => a0 (ix2 i0 z)) (Fin.ext (by dsimp only; omega))
  · refine Finset.sum_congr rfl fun k _ => congrArg₂ (· * ·) ?_ rfl
    rw [dif_neg (by dsimp only; omega), dif_pos (by dsimp only; omega)]
    exact congrArg (fun z => a1 (ix2 i0 z)) (Fin.ext (by dsimp only; omega))
  · refine Finset.sum_congr rfl fun k _ => congrArg₂ (· * ·) ?_ rfl
    rw [dif_neg (by dsimp only; omega), dif_neg (by dsimp only; omega), dif_pos (by dsimp only; omega)]
    exact congrArg (fun z => a2 (ix2 i0 z)) (Fin.ext (by dsimp only; omega))
  · refine Finset.sum_congr rfl fun k _ => congrArg₂ (· * ·) ?_ rfl
    rw [dif_neg (by dsimp only; omega), dif_neg (by dsimp only; omega), dif_neg (by dsimp only; omega)]
    exact congrArg (fun z => a3 (ix2 i0 z)) (Fin.ext (by dsimp only; omega))

end Cert.Proof.Out

end
-- ==== Proof.Out.Claim.lean ====
/-
  THE OUTPUT PROJECTION'S CLAIM: both runs leave the same product, and both leave their arguments as they were.
-/
module

public import proofs.«01_k».proof.Proof.Out.Reference
public import proofs.«01_k».proof.Defs
public import Idealize.ShloMosaic.Lib.Quiescent

@[expose] public section

noncomputable section

namespace Cert.Proof.Out

open Idealize.ShloMosaic Idealize.ShloMosaic.TcCoe Idealize.SL.Sem

/-- The reference leaves its arguments as they were, and it declares no semaphore. -/
theorem frame_reference : Cert.quiescent_Reference2Ideal := fun m' ρ' _ =>
  (θ_run _ _ _).mono (fun r hr => ⟨fun c => (hr c).2, sem_eq_zero_of_no_sems (by decide) r.2⟩) (Reference2Ideal.Value.run m' ρ')

/-- Both programs end with the same projection. -/
theorem algebraic : Cert.algebraic_Kernel2Ideal_Reference2Ideal := by
  intro m ρ m' ρ' _ h
  refine ⟨result m, (θ_run _ _ _).mono (fun _ hr c => ⟨(hr c).1.trans (final_result m c), (hr c).2⟩) (Kernel2Ideal.Value.run_blocks m ρ),
    (θ_run _ _ _).mono (fun _ hr c => ⟨(hr c).1.trans ?_, (hr c).2⟩) (Reference2Ideal.Value.run m' ρ')⟩
  obtain ⟨e0, e1, e2, e3, e4⟩ := h c
  rw [e0, e1, e2, e3, e4]
  exact reference_result _ _ _ _ _

end Cert.Proof.Out

end
-- ==== Proof.Down.Body.lean ====
/-
  WHAT ONE GRID POINT OF THE DOWN PROJECTION LEAVES in its output block, by case: at the first half of the contracted axis the
  product itself, at the second half the product added to what the block held. Written over any float instance.
-/
module

public import proofs.«01_k».proof.Proof.Gen.Kernel3Ideal.Value
public import Idealize.ShloMosaic.Lib.Tactic
public import Idealize.ShloMosaic.Lib.Pointwise

@[expose] public section

noncomputable section

namespace Cert.Proof.Down

open Cert.Kernel3Ideal Cert.Kernel3Ideal.Gen Cert.Kernel3Ideal.Value
open Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords) (a3 : Memref sig .tc .vmem S1024x5504 .bf16) (h3 : a3.IsWhole)
  (a4 : Memref sig .tc .vmem S1x5504x512 .bf16) (h4 : a4.IsWhole) (a5 : Memref sig .tc .vmem S1024x512 .f32) (h5 : a5.IsWhole)
  (x0 : Vec F S1024x5504 .bf16) (x1 : Vec F S1x5504x512 .bf16) (acc : Vec F S1024x512 .f32)

/-- The first half: the block is the product. -/
theorem out_first (hc0 : cond0_0 i) (hc1 : ¬cond0_1 i) :
    out0_A_2 c i a3 h3 a4 h4 a5 h5 hc0 hc1 x0 x1 = k0_pay1 x0 x1 := by
  refine (View.read_writes_eq_canon _ _ _ fun _ => cover0_A_2 ..).trans ?_
  unfold kernelRun0_A
  sl_unfold_words
  rw [View.canon_unit_zero zero2]
  simp only [View.readAt_eq_ld, h3.read_unread, h4.read_unread, View.ld_unit_zero (S := S1024x5504) zero2, View.ld_unit_zero (S := S1x5504x512) zero3]

/-- The second half: the product is added to what the block held. -/
theorem out_second (hc0 : ¬cond0_0 i) (hc1 : cond0_1 i) :
    out0_B_2 c i a3 h3 a4 h4 a5 h5 hc0 hc1 x0 x1 acc = k0_pay2 x0 x1 acc := by
  refine (View.read_writes_eq_canon _ _ _ fun _ => cover0_B_2 ..).trans ?_
  unfold kernelRun0_B
  sl_unfold_words
  rw [View.canon_unit_zero zero2]
  simp only [View.readAt_eq_ld, h3.read_unread, h4.read_unread, h5.read_unread, View.ld_unit_zero (S := S1024x5504) zero2, View.ld_unit_zero (S := S1x5504x512) zero3, View.ld_unit_zero (S := S1024x512) zero2]

end Cert.Proof.Down

end
-- ==== Proof.Down.Value.lean ====
/-
  WHAT THE DOWN PROJECTION LEAVES, over the extended reals: the whole product of the activations with layer 0's weights. Point
  `t` works on row block `t / 16`, column tile `t / 2 % 8` and half `t % 2` of the contracted axis, and the block is written
  back after its second half.
-/
module

public import proofs.«01_k».proof.Proof.Down.Body
public import Idealize.ShloMosaic.Lib.StableHlo.Run

@[expose] public section

noncomputable section

namespace Cert.Proof.Down

open Cert.Kernel3Ideal Cert.Kernel3Ideal.Gen Cert.Kernel3Ideal.Value
open Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem index0 : ∀ t : Fin cfg0.N, win0_0.index t 0 = t.val / 16 ∧ win0_0.index t 1 = t.val % 2 :=
  (by decide +kernel : ∀ t : Fin grid0.N, _)
theorem index1 : ∀ t : Fin cfg0.N, win0_1.index t 0 = 0 ∧ win0_1.index t 1 = t.val % 2 ∧ win0_1.index t 2 = t.val / 2 % 8 :=
  (by decide +kernel : ∀ t : Fin grid0.N, _)
theorem index2 : ∀ t : Fin cfg0.N, win0_2.index t 0 = t.val / 16 ∧ win0_2.index t 1 = t.val / 2 % 8 :=
  (by decide +kernel : ∀ t : Fin grid0.N, _)

theorem point_lt (t : Fin cfg0.N) : t.val < 128 := lt_of_lt_of_eq t.isLt N_0

/-- The activations' block at a point, by coordinates. -/
theorem iblk0_apply (c : Dev nD) (t : Fin cfg0.N) (r : Fin 1024) (k : Fin 5504) :
    (iblk m c 0 t : Vec F S1024x5504 .bf16) (ix2 r k)
      = m ((c : Thread nD τ).loc main_arg0) (ix2 ⟨1024 * (t.val / 16) + r.val, by have := point_lt t; omega⟩ ⟨5504 * (t.val % 2) + k.val, by omega⟩) := by
  have hi := index0 t
  unfold iblk
  rw [View.read_apply, ← V_main_arg0 m c]
  refine congrArg (V m c main_arg0) (funext fun a => Fin.ext ?_)
  match a with
  | ⟨0, _⟩ => show win0_0.index t 0 * 1024 + 1 * r.val = 1024 * (t.val / 16) + r.val; rw [hi.1]; omega
  | ⟨1, _⟩ => show win0_0.index t 1 * 5504 + 1 * k.val = 5504 * (t.val % 2) + k.val; rw [hi.2]; omega

/-- The weights' block at a point. -/
theorem iblk1_apply (c : Dev nD) (t : Fin cfg0.N) (z : Fin 1) (k : Fin 5504) (n : Fin 512) :
    (iblk m c 1 t : Vec F S1x5504x512 .bf16) (ix3 z k n)
      = (V m c main_v0 : Vec F S2x11008x4096 .bf16) (ix3 0 ⟨5504 * (t.val % 2) + k.val, by omega⟩ ⟨512 * (t.val / 2 % 8) + n.val, by omega⟩) := by
  have hi := index1 t
  unfold iblk
  rw [View.read_apply]
  refine congrArg (V m c main_v0) (funext fun a => Fin.ext ?_)
  match a with
  | ⟨0, _⟩ => show win0_1.index t 0 * 1 + 1 * z.val = 0; rw [hi.1]; omega
  | ⟨1, _⟩ => show win0_1.index t 1 * 5504 + 1 * k.val = 5504 * (t.val % 2) + k.val; rw [hi.2.1]; omega
  | ⟨2, _⟩ => show win0_1.index t 2 * 512 + 1 * n.val = 512 * (t.val / 2 % 8) + n.val; rw [hi.2.2]; omega

/-- The output block's place in the result. -/
theorem emb2 (t : Fin cfg0.N) (r : Fin 1024) (n : Fin 512) :
    ((cfg0.win 2).blk t).view.emb (ix2 r n : S1024x512.Idx)
      = (ix2 ⟨1024 * (t.val / 16) + r.val, by have := point_lt t; omega⟩ ⟨512 * (t.val / 2 % 8) + n.val, by omega⟩ : S8192x4096.Idx) := by
  have hi := index2 t
  funext a
  apply Fin.ext
  match a with
  | ⟨0, _⟩ => show win0_2.index t 0 * 1024 + 1 * r.val = 1024 * (t.val / 16) + r.val; rw [hi.1]; omega
  | ⟨1, _⟩ => show win0_2.index t 1 * 512 + 1 * n.val = 512 * (t.val / 2 % 8) + n.val; rw [hi.2]; omega

/-- What the output block holds after its second half: both halves' products, added. -/
theorem outs_eq (c : Dev nD) (t t' : Fin cfg0.N) (h1 : t.val % 2 = 1) (hp : t'.val = t.val - 1) :
    outsAt0 m c t.val t.isLt = k0_pay2 (iblk m c 0 t) (iblk m c 1 t) (k0_pay1 (iblk m c 0 t') (iblk m c 1 t')) := by
  have e : outsAt0 m c (t.val - 1) (Nat.lt_of_le_of_lt (Nat.sub_le _ _) t.isLt) = k0_pay1 (iblk m c 0 t') (iblk m c 1 t') := by
    obtain ⟨n, hn⟩ := t'
    dsimp only at hp
    subst hp
    rw [outsAt0_A m c ⟨t.val - 1, hn⟩ (by dsimp only; omega) (by dsimp only; omega), out_first]
  rw [outsAt0_B m c t (by omega) h1, out_second, e]

end Blocks

variable (m : (ℓ : Loc nD τ sig) → Buf (Elt Ideal) ℓ) (ρ : Dev nD → PrngReg)

/-- The product of the activations with layer 0's weights. -/
def product (a : S8192x11008.Idx → EReal) (w : S2x11008x4096.Idx → EReal) (i : S8192x4096.Idx) : EReal :=
  ∑ k : Fin 11008, a (ix2 (i 0) k) * w (ix3 0 k (i 1))

/-- Casting the weights before the call changes no value. -/
theorem V_v0 (c : Dev nD) (i : S2x11008x4096.Idx) :
    (V m c main_v0 : S2x11008x4096.Idx → EReal) i = (m ((c : Thread nD τ).loc main_arg1) : S2x11008x4096.Idx → EReal) i := by
  have e : V m c main_v0 = truncf (F := Ideal) .bf16 (m ((c : Thread nD τ).loc main_arg1)) bitsLt_bf16_f32 := by
    unfold V
    after_results
  rw [e]
  rfl

theorem pay1_apply (x : Vec Ideal S1024x5504 .bf16) (w : Vec Ideal S1x5504x512 .bf16) (r : Fin 1024) (n : Fin 512) :
    (k0_pay1 x w) (ix2 r n) = ∑ k : Fin 5504, (x (ix2 r k) : EReal) * w (ix3 0 k n) := by
  pointwise [k0_pay1]

theorem pay2_apply (x : Vec Ideal S1024x5504 .bf16) (w : Vec Ideal S1x5504x512 .bf16) (acc : Vec Ideal S1024x512 .f32) (r : Fin 1024) (n : Fin 512) :
    (k0_pay2 x w acc) (ix2 r n) = (acc (ix2 r n) : EReal) + ∑ k : Fin 5504, (x (ix2 r k) : EReal) * w (ix3 0 k n) := by
  pointwise [k0_pay2, k0_pay1]

/-- A sum over the contracted axis is the sum over its two halves. -/
theorem sum_halves (f : Fin 11008 → EReal) :
    ∑ k : Fin 11008, f k = (∑ k : Fin 5504, f ⟨k.val, by omega⟩) + ∑ k : Fin 5504, f ⟨5504 + k.val, by omega⟩ :=
  Fin.sum_univ_add (a := 5504) (b := 5504) f

/-- What the result array ends holding. -/
abbrev result (c : Dev nD) : S8192x4096.Idx → EReal :=
  product (m ((c : Thread nD τ).loc main_arg0)) (m ((c : Thread nD τ).loc main_arg1))

/-- What a point of the second half writes back is its block of the product. -/
theorem flushed_result (c : Dev nD) (t : Fin cfg0.N) (hf : (cfg0.win 2).flush t = true) :
    (dats m 0 c).flushed 2 t = ((cfg0.win 2).blk t).view.read (Elt Ideal) (result m c) := by
  have h1 : t.val % 2 = 1 := (flush0_2 t).mp hf
  let t' : Fin cfg0.N := ⟨t.val - 1, Nat.lt_of_le_of_lt (Nat.sub_le _ _) t.isLt⟩
  have ht' : t'.val = t.val - 1 := rfl
  rw [flushed2, outs_eq m c t t' h1 ht']
  generalize hX : k0_pay2 (iblk m c 0 t) (iblk m c 1 t) (k0_pay1 (iblk m c 0 t') (iblk m c 1 t')) = X
  generalize hG : result m c = G
  funext y
  rw [View.read_apply]
  show X y = G _
  subst hX hG
  obtain ⟨r, n, rfl⟩ : ∃ (r : Fin 1024) (n : Fin 512), y = ix2 r n := ⟨y 0, y 1, eq_ix2 y⟩
  rw [pay2_apply, pay1_apply, emb2]
  unfold result product
  rw [sum_halves]
  refine congrArg₂ (· + ·) (Finset.sum_congr rfl fun k _ => ?_) (Finset.sum_congr rfl fun k _ => ?_)
  · rw [iblk0_apply, iblk1_apply, V_v0]
    refine congrArg₂ (· * ·) (congrArg _ ?_) (congrArg _ ?_)
    · exact congrArg₂ ix2 (Fin.ext (by show 1024 * (t'.val / 16) + _ = 1024 * (t.val / 16) + _; omega)) (Fin.ext (by show 5504 * (t'.val % 2) + k.val = k.val; omega))
    · exact congrArg₂ (ix3 0) (Fin.ext (by show 5504 * (t'.val % 2) + k.val = k.val; omega)) (Fin.ext (by show 512 * (t'.val / 2 % 8) + _ = 512 * (t.val / 2 % 8) + _; omega))
  · rw [iblk0_apply, iblk1_apply, V_v0]
    refine congrArg₂ (· * ·) (congrArg _ ?_) (congrArg _ ?_)
    · exact congrArg (ix2 _) (Fin.ext (by show 5504 * (t.val % 2) + k.val = 5504 + k.val; omega))
    · exact congrArg₂ (ix3 0) (Fin.ext (by show 5504 * (t.val % 2) + k.val = 5504 + k.val; omega)) rfl

/-- Every index lies in the block of a point that writes back. -/
theorem cover (i : S8192x4096.Idx) : ∃ t : Fin cfg0.N, (cfg0.win 2).flush t = true ∧ i ∈ ((cfg0.win 2).blk t).view.set := by
  obtain ⟨r, n, rfl⟩ : ∃ (r : Fin 8192) (n : Fin 4096), i = ix2 r n := ⟨i 0, i 1, eq_ix2 i⟩
  let t : Fin cfg0.N := ⟨16 * (r.val / 1024) + 2 * (n.val / 512) + 1, by rw [show cfg0.N = 128 from N_0]; omega⟩
  have ht : t.val = 16 * (r.val / 1024) + 2 * (n.val / 512) + 1 := rfl
  have e := emb2 t ⟨r.val % 1024, by omega⟩ ⟨n.val % 512, by omega⟩
  have e' : (ix2 ⟨1024 * (t.val / 16) + r.val % 1024, by omega⟩ ⟨512 * (t.val / 2 % 8) + n.val % 512, by omega⟩ : S8192x4096.Idx) = ix2 r n := by
    congr 1 <;> apply Fin.ext <;> dsimp only <;> rw [ht] <;> omega
  exact ⟨t, (flush0_2 t).mpr (by rw [ht]; omega), (e.trans e') ▸ ((cfg0.win 2).blk t).view.emb_mem_set _⟩

/-- The result array after the run. -/
theorem final_result (c : Dev nD) : (dats m 0 c).arrAt 2 cfg0.N = result m c := by
  funext i
  rw [(dats m 0 c).arrAt_eq_piecewise 2 (result m c) (fun t hf => flushed_result m c t hf) i]
  exact if_pos (cover i)

end Cert.Proof.Down

end
-- ==== Proof.Down.Reference.lean ====
/-
  THE REFERENCE OF THE DOWN PROJECTION, read at an index: one product over the whole contracted axis.
-/
module

public import proofs.«01_k».proof.Proof.Down.Value
public import proofs.«01_k».proof.Proof.Gen.Reference3Ideal.Run

@[expose] public section

noncomputable section

namespace Cert.Proof.Down

open Cert.Reference3Ideal Cert.Reference3Ideal.Gen
open Idealize.ShloMosaic Idealize.ShloMosaic.TcCoe Idealize.SL.Sem

theorem reference_result (a : FVec Ideal S8192x11008 .bf16) (w : FVec Ideal S2x11008x4096 .f32) :
    Host.dotGeneral dot_S8192x11008_S11008x4096_S8192x4096_1_0_0_1_n_n none (extf .f32 a bitsLt_bf16_f32) (shapeCast S11008x4096 (extractStridedSlice S1x11008x4096 ![0, 0, 0] w slices_S2x11008x4096_S1x11008x4096_0_0_0) shapeCasts_S1x11008x4096_S11008x4096)
      = product a w := by
  funext i
  idx_vars i
  unfold product
  pointwise

end Cert.Proof.Down

end
-- ==== Proof.Down.Claim.lean ====
/-
  THE DOWN PROJECTION'S RUNS, side by side: the kernel and the reference end with the same result.
-/
module

public import proofs.«01_k».proof.Proof.Down.Reference
public import proofs.«01_k».proof.Defs
public import Idealize.ShloMosaic.Lib.Quiescent

@[expose] public section

noncomputable section

namespace Cert.Proof.Down

open Idealize.ShloMosaic Idealize.ShloMosaic.TcCoe Idealize.SL.Sem

/-- The reference leaves its arguments as they were, and it declares no semaphore. -/
theorem frame_reference : Cert.quiescent_Reference3Ideal := fun m' ρ' _ =>
  (θ_run _ _ _).mono (fun r hr => ⟨fun c => (hr c).2, sem_eq_zero_of_no_sems (by decide) r.2⟩) (Reference3Ideal.Value.run m' ρ')

/-- Both programs end with the same projection. -/
theorem algebraic : Cert.algebraic_Kernel3Ideal_Reference3Ideal := by
  intro m ρ m' ρ' _ h
  refine ⟨result m, (θ_run _ _ _).mono (fun _ hr c => ⟨(hr c).1.trans (final_result m c), (hr c).2⟩) (Kernel3Ideal.Value.run_blocks m ρ),
    (θ_run _ _ _).mono (fun _ hr c => ⟨(hr c).1.trans ?_, (hr c).2⟩) (Reference3Ideal.Value.run m' ρ')⟩
  obtain ⟨e0, e1⟩ := h c
  rw [e0, e1]
  exact reference_result _ _

end Cert.Proof.Down

end
-- ==== Proof.Ffn.Body.lean ====
/-
  WHAT ONE GRID POINT OF THE FFN'S UP PROJECTION LEAVES, over any float instance. At a column tile's first point the two weight
  tiles are rounded into scratch; at a sequence's first point the tail is the state, elsewhere what the point before left.
-/
module

public import proofs.«01_k».proof.Proof.Gen.Kernel4Ideal.Value
public import Idealize.ShloMosaic.Lib.Tactic

@[expose] public section

noncomputable section

namespace Cert.Proof.Ffn

open Cert.Kernel4Ideal Cert.Kernel4Ideal.Gen Cert.Kernel4Ideal.Value
open Idealize.ShloMosaic Idealize.ShloMosaic.TcCoe Idealize.SL.Sem
open Idealize.ShloMosaic.Pipeline (Dat)

variable {F : FTy → Type} [FloatOps F]

theorem zero2 : (![0, 0] : Fin 2 → Nat) = fun _ => 0 := funext fun a => by fin_cases a <;> rfl
theorem zero3 : (![0, 0, 0] : Fin 3 → Nat) = fun _ => 0 := funext fun a => by fin_cases a <;> rfl

variable (c : Dev nD) (i : grid0.Coords) (a2 : Memref sig .tc .vmem S1024x4096 .bf16) (h2 : a2.IsWhole)
  (a3 : Memref sig .tc .vmem S1x4096x256 .f32) (h3 : a3.IsWhole) (a4 : Memref sig .tc .vmem S1x4096x256 .f32) (h4 : a4.IsWhole)
  (a5 : Memref sig .tc .vmem S1x8x256 .f32) (h5 : a5.IsWhole) (a6 : Memref sig .tc .vmem S3x256 .f32) (h6 : a6.IsWhole)
  (a7 : Memref sig .tc .vmem S1x256 .f32) (h7 : a7.IsWhole) (a8 : Memref sig .tc .vmem S1024x256 .bf16) (h8 : a8.IsWhole)
  (a9 : Memref sig .tc .vmem S1x8x256 .f32) (h9 : a9.IsWhole) (a10 : Memref sig .tc .vmem S4096x256 .bf16) (h10 : a10.IsWhole)
  (a11 : Memref sig .tc .vmem S4096x256 .bf16) (h11 : a11.IsWhole) (a12 : Memref sig .tc .vmem S8x256 .f32) (h12 : a12.IsWhole)
  (x0 : Vec F S1024x4096 .bf16) (x1 x2 : Vec F S1x4096x256 .f32) (x3 : Vec F S1x8x256 .f32) (x4 : Vec F S3x256 .f32) (x5 : Vec F S1x256 .f32)
  (s0 s1 : Vec F S4096x256 .bf16) (s2 : Vec F S8x256 .f32)

/-- The four row sub-tiles of a block. -/
abbrev rows0 (x : Vec F S1024x4096 .bf16) : Vec F S256x4096 .bf16 := View.ld x (Rect.unit ![0, 0] ![256, 4096] inb_S1024x4096_S256x4096_0_0)
abbrev rows1 (x : Vec F S1024x4096 .bf16) : Vec F S256x4096 .bf16 := View.ld x (Rect.unit ![256, 0] ![256, 4096] inb_S1024x4096_S256x4096_256_0)
abbrev rows2 (x : Vec F S1024x4096 .bf16) : Vec F S256x4096 .bf16 := View.ld x (Rect.unit ![512, 0] ![256, 4096] inb_S1024x4096_S256x4096_512_0)
abbrev rows3 (x : Vec F S1024x4096 .bf16) : Vec F S256x4096 .bf16 := View.ld x (Rect.unit ![768, 0] ![256, 4096] inb_S1024x4096_S256x4096_768_0)

/-- The activations' block: the four sub-tiles' stored values, each with the weight tiles as the scratch buffers hold them. -/
def act (x : Vec F S1024x4096 .bf16) (wg wv : Vec F S4096x256 .bf16) (cw : Vec F S3x256 .f32) (cb : Vec F S1x256 .f32) (tail : Vec F S8x256 .f32) : Vec F S1024x256 .bf16 :=
  View.canon (Val := Elt F) (s := S1024x256) (e := .bf16)
    [⟨Rect.unit ![768, 0] ![256, 256] inb_S1024x256_S256x256_768_0,
        k0_pay1 cw (k0_pay8 cb) (k0_pay18 wg (rows3 x)) (k0_pay19 wv (rows3 x)) (k0_pay22 wg (k0_pay14 wg (rows2 x)) (rows3 x)) (k0_pay23 wg (k0_pay14 wg (rows2 x)) (rows3 x))⟩,
      ⟨Rect.unit ![512, 0] ![256, 256] inb_S1024x256_S256x256_512_0,
        k0_pay20 cw (k0_pay8 cb) (k0_pay11 wg (rows1 x)) (k0_pay14 wg (rows2 x)) (k0_pay15 wv (rows2 x))⟩,
      ⟨Rect.unit ![256, 0] ![256, 256] inb_S1024x256_S256x256_256_0,
        k0_pay17 (k0_pay12 wv (rows1 x)) (k0_pay16 cw (k0_pay8 cb) (k0_pay9 wg (rows0 x)) (k0_pay11 wg (rows1 x)))⟩,
      ⟨Rect.unit ![0, 0] ![256, 256] inb_S1024x256_S256x256_0_0,
        k0_pay13 cw (k0_pay8 cb) tail (k0_pay9 wg (rows0 x)) (k0_pay10 wv (rows0 x))⟩]

/-- The activations' block at a column tile's first point. -/
theorem out_first (hc : cond0_0 i) (hd : cond0_1 i) :
    out0_A_6 c i a2 h2 a3 h3 a4 h4 a5 h5 a6 h6 a7 h7 a8 h8 a9 h9 a10 h10 a11 h11 a12 h12 hc hd x0 x1 x2 x3 x4 x5 = act x0 (k0_pay5 x1) (k0_pay6 x2) x4 x5 (k0_pay7 x3) := by
  refine (View.read_writes_eq_canon _ _ _ fun _ => cover0_A_6 ..).trans ?_
  unfold kernelRun0_A
  sl_unfold_words
  simp only [View.readAt_eq_ld, h2.read_unread, h3.read_unread, h4.read_unread, h5.read_unread, h6.read_unread, h7.read_unread, View.ld_unit_zero (S := S1x4096x256) zero3, View.ld_unit_zero (S := S1x8x256) zero3, View.ld_unit_zero (S := S3x256) zero2, View.ld_unit_zero (S := S1x256) zero2, View.readCov_unit_zero (S := S4096x256) _ zero2, View.readCov_unit_zero (S := S8x256) _ zero2]
  rfl

/-- The block of last rows at a column tile's first point. -/
theorem rows_first (hc : cond0_0 i) (hd : cond0_1 i) :
    out0_A_7 c i a2 h2 a3 h3 a4 h4 a5 h5 a6 h6 a7 h7 a8 h8 a9 h9 a10 h10 a11 h11 a12 h12 hc hd x0 x1 x2 x3 x4 x5 = k0_pay4 (k0_pay18 (k0_pay5 x1) (rows3 x0)) := by
  refine (View.read_writes_eq_canon _ _ _ fun _ => cover0_A_7 ..).trans ?_
  unfold kernelRun0_A
  sl_unfold_words
  rw [View.canon_unit_zero zero3]
  simp only [View.readAt_eq_ld, h2.read_unread, h3.read_unread, View.ld_unit_zero (S := S1x4096x256) zero3, View.readCov_unit_zero (S := S4096x256) _ zero2]

/-- The tail left at a column tile's first point. -/
theorem tail_first (hc : cond0_0 i) (hd : cond0_1 i) :
    sout0_A_2 c i a2 h2 a3 h3 a4 h4 a5 h5 a6 h6 a7 h7 a8 h8 a9 h9 a10 h10 a11 h11 a12 h12 hc hd x0 x1 x2 x3 x4 x5 = k0_pay3 (k0_pay18 (k0_pay5 x1) (rows3 x0)) := by
  refine (View.read_writes_eq_canon _ _ _ fun _ => scover0_A_2 ..).trans ?_
  unfold kernelRun0_A
  sl_unfold_words
  rw [View.canon_cons_unit_zero (S := S8x256) zero2]
  simp only [View.readAt_eq_ld, h2.read_unread, h3.read_unread, View.ld_unit_zero (S := S1x4096x256) zero3, View.readCov_unit_zero (S := S4096x256) _ zero2]

/-- The activations' block inside a sequence. -/
theorem out_inside (hc : ¬cond0_0 i) (hd : ¬cond0_1 i) :
    out0_B_6 c i a2 h2 a3 h3 a4 h4 a5 h5 a6 h6 a7 h7 a8 h8 a9 h9 a10 h10 a11 h11 a12 h12 hc hd x0 x1 x2 x3 x4 x5 s0 s1 s2 = act x0 s0 s1 x4 x5 s2 := by
  refine (View.read_writes_eq_canon _ _ _ fun _ => cover0_B_6 ..).trans ?_
  unfold kernelRun0_B
  sl_unfold_words
  simp only [View.readAt_eq_ld, h2.read_unread, h6.read_unread, h7.read_unread, h10.read_unread, h11.read_unread, h12.read_unread, View.ld_unit_zero (S := S3x256) zero2, View.ld_unit_zero (S := S1x256) zero2, View.ld_unit_zero (S := S4096x256) zero2, View.ld_unit_zero (S := S8x256) zero2]
  rfl

/-- The block of last rows inside a sequence. -/
theorem rows_inside (hc : ¬cond0_0 i) (hd : ¬cond0_1 i) :
    out0_B_7 c i a2 h2 a3 h3 a4 h4 a5 h5 a6 h6 a7 h7 a8 h8 a9 h9 a10 h10 a11 h11 a12 h12 hc hd x0 x1 x2 x3 x4 x5 s0 s1 s2 = k0_pay4 (k0_pay18 s0 (rows3 x0)) := by
  refine (View.read_writes_eq_canon _ _ _ fun _ => cover0_B_7 ..).trans ?_
  unfold kernelRun0_B
  sl_unfold_words
  rw [View.canon_unit_zero zero3]
  simp only [View.readAt_eq_ld, h2.read_unread, h10.read_unread, View.ld_unit_zero (S := S4096x256) zero2]

/-- The tail left inside a sequence. -/
theorem tail_inside (hc : ¬cond0_0 i) (hd : ¬cond0_1 i) :
    sout0_B_2 c i a2 h2 a3 h3 a4 h4 a5 h5 a6 h6 a7 h7 a8 h8 a9 h9 a10 h10 a11 h11 a12 h12 hc hd x0 x1 x2 x3 x4 x5 s0 s1 s2 = k0_pay3 (k0_pay18 s0 (rows3 x0)) := by
  refine (View.read_writes_eq_canon _ _ _ fun _ => scover0_B_2 ..).trans ?_
  unfold kernelRun0_B
  sl_unfold_words
  rw [View.canon_cons_unit_zero (S := S8x256) zero2]
  simp only [View.readAt_eq_ld, h2.read_unread, h10.read_unread, View.ld_unit_zero (S := S4096x256) zero2]

/-- The activations' block at a later sequence's first point. -/
theorem out_between (hc : ¬cond0_0 i) (hd : cond0_1 i) :
    out0_C_6 c i a2 h2 a3 h3 a4 h4 a5 h5 a6 h6 a7 h7 a8 h8 a9 h9 a10 h10 a11 h11 a12 h12 hc hd x0 x1 x2 x3 x4 x5 s0 s1 = act x0 s0 s1 x4 x5 (k0_pay7 x3) := by
  refine (View.read_writes_eq_canon _ _ _ fun _ => cover0_C_6 ..).trans ?_
  unfold kernelRun0_C
  sl_unfold_words
  simp only [View.readAt_eq_ld, h2.read_unread, h5.read_unread, h6.read_unread, h7.read_unread, h10.read_unread, h11.read_unread, View.ld_unit_zero (S := S1x8x256) zero3, View.ld_unit_zero (S := S3x256) zero2, View.ld_unit_zero (S := S1x256) zero2, View.ld_unit_zero (S := S4096x256) zero2, View.readCov_unit_zero (S := S8x256) _ zero2]
  rfl

/-- The block of last rows at a later sequence's first point. -/
theorem rows_between (hc : ¬cond0_0 i) (hd : cond0_1 i) :
    out0_C_7 c i a2 h2 a3 h3 a4 h4 a5 h5 a6 h6 a7 h7 a8 h8 a9 h9 a10 h10 a11 h11 a12 h12 hc hd x0 x1 x2 x3 x4 x5 s0 s1 = k0_pay4 (k0_pay18 s0 (rows3 x0)) := by
  refine (View.read_writes_eq_canon _ _ _ fun _ => cover0_C_7 ..).trans ?_
  unfold kernelRun0_C
  sl_unfold_words
  rw [View.canon_unit_zero zero3]
  simp only [View.readAt_eq_ld, h2.read_unread, h10.read_unread, View.ld_unit_zero (S := S4096x256) zero2]

/-- The tail left at a later sequence's first point. -/
theorem tail_between (hc : ¬cond0_0 i) (hd : cond0_1 i) :
    sout0_C_2 c i a2 h2 a3 h3 a4 h4 a5 h5 a6 h6 a7 h7 a8 h8 a9 h9 a10 h10 a11 h11 a12 h12 hc hd x0 x1 x2 x3 x4 x5 s0 s1 = k0_pay3 (k0_pay18 s0 (rows3 x0)) := by
  refine (View.read_writes_eq_canon _ _ _ fun _ => scover0_C_2 ..).trans ?_
  unfold kernelRun0_C
  sl_unfold_words
  rw [View.canon_cons_unit_zero (S := S8x256) zero2]
  simp only [View.readAt_eq_ld, h2.read_unread, h10.read_unread, View.ld_unit_zero (S := S4096x256) zero2]

/-- The gate's rounded weight tile, stored at a column tile's first point. -/
theorem gate_first (hc : cond0_0 i) (hd : cond0_1 i) :
    sout0_A_0 c i a2 h2 a3 h3 a4 h4 a5 h5 a6 h6 a7 h7 a8 h8 a9 h9 a10 h10 a11 h11 a12 h12 hc hd x0 x1 x2 x3 x4 x5 = k0_pay5 x1 := by
  refine (View.read_writes_eq_canon _ _ _ fun _ => scover0_A_0 ..).trans ?_
  unfold kernelRun0_A
  sl_unfold_words
  rw [View.canon_unit_zero zero2]
  simp only [View.readAt_eq_ld, h3.read_unread, View.ld_unit_zero (S := S1x4096x256) zero3]

/-- The value's rounded weight tile, stored at a column tile's first point. -/
theorem val_first (hc : cond0_0 i) (hd : cond0_1 i) :
    sout0_A_1 c i a2 h2 a3 h3 a4 h4 a5 h5 a6 h6 a7 h7 a8 h8 a9 h9 a10 h10 a11 h11 a12 h12 hc hd x0 x1 x2 x3 x4 x5 = k0_pay6 x2 := by
  refine (View.read_writes_eq_canon _ _ _ fun _ => scover0_A_1 ..).trans ?_
  unfold kernelRun0_A
  sl_unfold_words
  rw [View.canon_unit_zero zero2]
  simp only [View.readAt_eq_ld, h4.read_unread, View.ld_unit_zero (S := S1x4096x256) zero3]

end Cert.Proof.Ffn

end
-- ==== Proof.Ffn.Points.lean ====
/-
  WHAT THE UP PROJECTION'S BUFFERS HOLD AFTER A GRID POINT. Point `t` works on row block `t % 8` and column tile `t / 8`. The weight
  scratch holds the current column tile from its first point on; the tail scratch holds the last eight gate rows of the block just
  done, which the next block of the same sequence convolves over.
-/
module

public import proofs.«01_k».proof.Proof.Ffn.Body
public import Idealize.ShloMosaic.Lib.Pointwise

@[expose] public section

noncomputable section

namespace Cert.Proof.Ffn

open Cert.Kernel4Ideal Cert.Kernel4Ideal.Gen Cert.Kernel4Ideal.Value
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem point_lt (t : Fin cfg0.N) : t.val < 344 := lt_of_lt_of_eq t.isLt N_0

theorem index0 : ∀ t : Fin cfg0.N, win0_0.index t 0 = t.val % 8 ∧ win0_0.index t 1 = 0 :=
  (by decide +kernel : ∀ t : Fin grid0.N, _)
theorem index1 : ∀ t : Fin cfg0.N, win0_1.index t 0 = 0 ∧ win0_1.index t 1 = 0 ∧ win0_1.index t 2 = t.val / 8 :=
  (by decide +kernel : ∀ t : Fin grid0.N, _)
theorem index2 : ∀ t : Fin cfg0.N, win0_2.index t 0 = 0 ∧ win0_2.index t 1 = 0 ∧ win0_2.index t 2 = t.val / 8 + 43 :=
  (by decide +kernel : ∀ t : Fin grid0.N, _)
theorem index3 : ∀ t : Fin cfg0.N, win0_3.index t 0 = t.val % 8 / 2 ∧ win0_3.index t 1 = 0 ∧ win0_3.index t 2 = t.val / 8 :=
  (by decide +kernel : ∀ t : Fin grid0.N, _)
theorem index4 : ∀ t : Fin cfg0.N, win0_4.index t 0 = 0 ∧ win0_4.index t 1 = t.val / 8 :=
  (by decide +kernel : ∀ t : Fin grid0.N, _)
theorem index5 : ∀ t : Fin cfg0.N, win0_5.index t 0 = 0 ∧ win0_5.index t 1 = t.val / 8 :=
  (by decide +kernel : ∀ t : Fin grid0.N, _)
theorem index6 : ∀ t : Fin cfg0.N, win0_6.index t 0 = t.val % 8 ∧ win0_6.index t 1 = t.val / 8 :=
  (by decide +kernel : ∀ t : Fin grid0.N, _)
theorem index7 : ∀ t : Fin cfg0.N, win0_7.index t 0 = t.val % 8 ∧ win0_7.index t 1 = 0 ∧ win0_7.index t 2 = t.val / 8 :=
  (by decide +kernel : ∀ t : Fin grid0.N, _)

/-- The row block at a point, by coordinates. -/
theorem iblk0_apply (c : Dev nD) (t : Fin cfg0.N) (r : Fin 1024) (k : Fin 4096) :
    (iblk m c 0 t : Vec F S1024x4096 .bf16) (ix2 r k)
      = m ((c : Thread nD τ).loc main_arg0) (ix2 ⟨1024 * (t.val % 8) + r.val, by omega⟩ k) := by
  have hi := index0 t
  unfold iblk
  rw [View.read_apply, ← V_main_arg0 m c]
  refine congrArg (V m c main_arg0) (funext fun a => Fin.ext ?_)
  match a with
  | ⟨0,_⟩ => show win0_0.index t 0 * 1024 + 1 * r.val = 1024 * (t.val % 8) + r.val; rw [hi.1]; omega
  | ⟨1,_⟩ => show win0_0.index t 1 * 4096 + 1 * k.val = k.val; rw [hi.2]; omega

/-- The gate's weight tile. -/
theorem iblk1_apply (c : Dev nD) (t : Fin cfg0.N) (z : Fin 1) (k : Fin 4096) (n : Fin 256) :
    (iblk m c 1 t : Vec F S1x4096x256 .f32) (ix3 z k n)
      = m ((c : Thread nD τ).loc main_arg1) (ix3 0 k ⟨256 * (t.val / 8) + n.val, by have := point_lt t; omega⟩) := by
  have hi := index1 t
  unfold iblk
  rw [View.read_apply, ← V_main_arg1 m c]
  refine congrArg (V m c main_arg1) (funext fun a => Fin.ext ?_)
  match a with
  | ⟨0,_⟩ => show win0_1.index t 0 * 1 + 1 * z.val = 0; rw [hi.1]; omega
  | ⟨1,_⟩ => show win0_1.index t 1 * 4096 + 1 * k.val = k.val; rw [hi.2.1]; omega
  | ⟨2,_⟩ => show win0_1.index t 2 * 256 + 1 * n.val = 256 * (t.val / 8) + n.val; rw [hi.2.2]; omega

/-- The value's weight tile: 43 column tiles further. -/
theorem iblk2_apply (c : Dev nD) (t : Fin cfg0.N) (z : Fin 1) (k : Fin 4096) (n : Fin 256) :
    (iblk m c 2 t : Vec F S1x4096x256 .f32) (ix3 z k n)
      = m ((c : Thread nD τ).loc main_arg1) (ix3 0 k ⟨11008 + (256 * (t.val / 8) + n.val), by have := point_lt t; omega⟩) := by
  have hi := index2 t
  unfold iblk
  rw [View.read_apply, ← V_main_arg1 m c]
  refine congrArg (V m c main_arg1) (funext fun a => Fin.ext ?_)
  match a with
  | ⟨0,_⟩ => show win0_2.index t 0 * 1 + 1 * z.val = 0; rw [hi.1]; omega
  | ⟨1,_⟩ => show win0_2.index t 1 * 4096 + 1 * k.val = k.val; rw [hi.2.1]; omega
  | ⟨2,_⟩ => show win0_2.index t 2 * 256 + 1 * n.val = 11008 + (256 * (t.val / 8) + n.val); rw [hi.2.2]; omega

/-- The padded state's rows for the block's sequence. -/
theorem iblk3_apply (c : Dev nD) (t : Fin cfg0.N) (z : Fin 1) (q : Fin 8) (n : Fin 256) :
    (iblk m c 3 t : Vec F S1x8x256 .f32) (ix3 z q n)
      = V m c main_v0 (ix3 ⟨t.val % 8 / 2, by omega⟩ q ⟨256 * (t.val / 8) + n.val, by have := point_lt t; omega⟩) := by
  have hi := index3 t
  unfold iblk
  rw [View.read_apply]
  refine congrArg (V m c main_v0) (funext fun a => Fin.ext ?_)
  match a with
  | ⟨0,_⟩ => show win0_3.index t 0 * 1 + 1 * z.val = t.val % 8 / 2; rw [hi.1]; omega
  | ⟨1,_⟩ => show win0_3.index t 1 * 8 + 1 * q.val = q.val; rw [hi.2.1]; omega
  | ⟨2,_⟩ => show win0_3.index t 2 * 256 + 1 * n.val = 256 * (t.val / 8) + n.val; rw [hi.2.2]; omega

/-- The taps' tile. -/
theorem iblk4_apply (c : Dev nD) (t : Fin cfg0.N) (q : Fin 3) (n : Fin 256) :
    (iblk m c 4 t : Vec F S3x256 .f32) (ix2 q n)
      = m ((c : Thread nD τ).loc main_arg3) (ix2 q ⟨256 * (t.val / 8) + n.val, by have := point_lt t; omega⟩) := by
  have hi := index4 t
  unfold iblk
  rw [View.read_apply, ← V_main_arg3 m c]
  refine congrArg (V m c main_arg3) (funext fun a => Fin.ext ?_)
  match a with
  | ⟨0,_⟩ => show win0_4.index t 0 * 3 + 1 * q.val = q.val; rw [hi.1]; omega
  | ⟨1,_⟩ => show win0_4.index t 1 * 256 + 1 * n.val = 256 * (t.val / 8) + n.val; rw [hi.2]; omega

/-- The bias's tile. -/
theorem iblk5_apply (c : Dev nD) (t : Fin cfg0.N) (q : Fin 1) (n : Fin 256) :
    (iblk m c 5 t : Vec F S1x256 .f32) (ix2 q n)
      = V m c main_v1 (ix2 0 ⟨256 * (t.val / 8) + n.val, by have := point_lt t; omega⟩) := by
  have hi := index5 t
  unfold iblk
  rw [View.read_apply]
  refine congrArg (V m c main_v1) (funext fun a => Fin.ext ?_)
  match a with
  | ⟨0,_⟩ => show win0_5.index t 0 * 1 + 1 * q.val = 0; rw [hi.1]; omega
  | ⟨1,_⟩ => show win0_5.index t 1 * 256 + 1 * n.val = 256 * (t.val / 8) + n.val; rw [hi.2]; omega

/-- Two points of one column tile read the same tile. -/
theorem iblk1_congr (c : Dev nD) (t t' : Fin cfg0.N) (h : t.val / 8 = t'.val / 8) :
    (iblk m c 1 t : Vec F S1x4096x256 .f32) = iblk m c 1 t' := by
  funext y
  rw [show y = ix3 (y 0) (y 1) (y 2) from eq_ix3 y]
  refine (iblk1_apply m c t _ _ _).trans (Eq.trans ?_ (iblk1_apply m c t' _ _ _).symm)
  simp only [h]

/-- Two points of one column tile read the same tile. -/
theorem iblk2_congr (c : Dev nD) (t t' : Fin cfg0.N) (h : t.val / 8 = t'.val / 8) :
    (iblk m c 2 t : Vec F S1x4096x256 .f32) = iblk m c 2 t' := by
  funext y
  rw [show y = ix3 (y 0) (y 1) (y 2) from eq_ix3 y]
  refine (iblk2_apply m c t _ _ _).trans (Eq.trans ?_ (iblk2_apply m c t' _ _ _).symm)
  simp only [h]

/-- The last eight gate rows of the block at a point. -/
abbrev tailLeft (c : Dev nD) (t : Fin cfg0.N) : Vec F S8x256 .f32 := k0_pay3 (k0_pay18 (k0_pay5 (iblk m c 1 t)) (rows3 (iblk m c 0 t)))

/-- After any point the weight scratch holds the point's own tiles. -/
theorem scratch_eq (c : Dev nD) : ∀ (n : ℕ) (h : n < cfg0.N),
    (outsAt0 m c n h).2.2.1 = k0_pay5 (iblk m c 1 ⟨n, h⟩) ∧ (outsAt0 m c n h).2.2.2.1 = k0_pay6 (iblk m c 2 ⟨n, h⟩)
  | 0, h => by
    rw [outsAt0_A m c ⟨0, h⟩ rfl rfl]
    dsimp only
    exact ⟨gate_first .., val_first ..⟩
  | n + 1, h => by
    by_cases h0 : (n + 1) % 8 = 0
    · rw [outsAt0_A m c ⟨n + 1, h⟩ h0 (by dsimp only; omega)]
      dsimp only
      exact ⟨gate_first .., val_first ..⟩
    · have e1 : k0_pay5 (iblk m c 1 ⟨n, Nat.lt_of_succ_lt h⟩) = k0_pay5 (iblk m c 1 ⟨n + 1, h⟩) :=
        congrArg _ (iblk1_congr m c _ _ (by show n / 8 = (n + 1) / 8; omega))
      have e2 : k0_pay6 (iblk m c 2 ⟨n, Nat.lt_of_succ_lt h⟩) = k0_pay6 (iblk m c 2 ⟨n + 1, h⟩) :=
        congrArg _ (iblk2_congr m c _ _ (by show n / 8 = (n + 1) / 8; omega))
      have ih := scratch_eq c n (Nat.lt_of_succ_lt h)
      by_cases h1 : (n + 1) % 2 = 0
      · rw [outsAt0_C m c ⟨n + 1, h⟩ h0 h1]
        exact ⟨ih.1.trans e1, ih.2.trans e2⟩
      · rw [outsAt0_B m c ⟨n + 1, h⟩ h0 h1]
        exact ⟨ih.1.trans e1, ih.2.trans e2⟩

/-- What the point before left in the weight scratch, at a point that is not its column tile's first. -/
theorem before_eq (c : Dev nD) (t : Fin cfg0.N) (h0 : ¬t.val % 8 = 0) (h : t.val - 1 < cfg0.N) :
    (outsAt0 m c (t.val - 1) h).2.2.1 = k0_pay5 (iblk m c 1 t) ∧ (outsAt0 m c (t.val - 1) h).2.2.2.1 = k0_pay6 (iblk m c 2 t) := by
  have ih := scratch_eq m c (t.val - 1) h
  exact ⟨ih.1.trans (congrArg _ (iblk1_congr m c _ _ (by show (t.val - 1) / 8 = t.val / 8; omega))),
    ih.2.trans (congrArg _ (iblk2_congr m c _ _ (by show (t.val - 1) / 8 = t.val / 8; omega)))⟩

/-- After any point the tail scratch and the block of last rows hold the last eight gate rows of the point's block. -/
theorem rows_eq (c : Dev nD) (t : Fin cfg0.N) :
    (outsAt0 m c t.val t.isLt).2.1 = k0_pay4 (k0_pay18 (k0_pay5 (iblk m c 1 t)) (rows3 (iblk m c 0 t)))
      ∧ (outsAt0 m c t.val t.isLt).2.2.2.2 = tailLeft m c t := by
  by_cases h0 : t.val % 8 = 0
  · rw [outsAt0_A m c t h0 (by omega)]
    dsimp only
    exact ⟨rows_first .., tail_first ..⟩
  · have e := (before_eq m c t h0 (Nat.lt_of_le_of_lt (Nat.sub_le _ _) t.isLt)).1
    by_cases h1 : t.val % 2 = 0
    · rw [outsAt0_C m c t h0 h1]
      dsimp only
      rw [rows_between, tail_between, e]
      exact ⟨rfl, rfl⟩
    · rw [outsAt0_B m c t h0 h1]
      dsimp only
      rw [rows_inside, tail_inside, e]
      exact ⟨rfl, rfl⟩

/-- The activations' block at a sequence's first block: the tail is the state. -/
theorem outs_even (c : Dev nD) (t : Fin cfg0.N) (h1 : t.val % 2 = 0) :
    (outsAt0 m c t.val t.isLt).1
      = act (iblk m c 0 t) (k0_pay5 (iblk m c 1 t)) (k0_pay6 (iblk m c 2 t)) (iblk m c 4 t) (iblk m c 5 t) (k0_pay7 (iblk m c 3 t)) := by
  by_cases h0 : t.val % 8 = 0
  · rw [outsAt0_A m c t h0 h1]
    dsimp only
    exact out_first ..
  · have e := before_eq m c t h0 (Nat.lt_of_le_of_lt (Nat.sub_le _ _) t.isLt)
    rw [outsAt0_C m c t h0 h1]
    dsimp only
    rw [out_between, e.1, e.2]

/-- The activations' block at a later block of a sequence: the tail is what the block before left. -/
theorem outs_odd (c : Dev nD) (t t' : Fin cfg0.N) (h1 : ¬t.val % 2 = 0) (ht : t'.val = t.val - 1) :
    (outsAt0 m c t.val t.isLt).1
      = act (iblk m c 0 t) (k0_pay5 (iblk m c 1 t)) (k0_pay6 (iblk m c 2 t)) (iblk m c 4 t) (iblk m c 5 t) (tailLeft m c t') := by
  have h0 : ¬t.val % 8 = 0 := by omega
  have e := before_eq m c t h0 (Nat.lt_of_le_of_lt (Nat.sub_le _ _) t.isLt)
  have e2 : (outsAt0 m c (t.val - 1) (Nat.lt_of_le_of_lt (Nat.sub_le _ _) t.isLt)).2.2.2.2 = tailLeft m c t' := by
    obtain ⟨n, hn⟩ := t'
    dsimp only at ht
    subst ht
    exact (rows_eq m c ⟨t.val - 1, hn⟩).2
  rw [outsAt0_B m c t h0 h1]
  dsimp only
  rw [out_inside, e.1, e.2, e2]

end Cert.Proof.Ffn

end
-- ==== Proof.Ffn.Act.lean ====
/-
  ONE SUB-TILE OF THE FFN'S UP PROJECTION. The kernel works its 1024 rows in four sub-tiles of 256. Each sub-tile's gate is
  convolved down the rows with three taps, the two rows before it taken from a tail of eight rows, and gated:
  `(h y + h y · tanh (h y)) · v`, `h` a half. Here each sub-tile's stored value is read at a row and a column.
-/
module

public import proofs.«01_k».proof.Proof.Gen.Kernel4Ideal.Skeleton
public import Idealize.ShloMosaic.Lib.Pointwise

@[expose] public section

noncomputable section

namespace Cert.Proof.Ffn

open Cert.Kernel4Ideal Cert.Kernel4Ideal.Gen
open Idealize.ShloMosaic Idealize.ShloMosaic.TcCoe Idealize.SL.Sem

/-- The constant one half, as the program spells it. -/
abbrev half : EReal := Ideal.ofBits .f32 0x3F000000#32

/-- The gating of a value by a convolved gate, through `tanh` of a half, as the kernel writes it. -/
def gated (y v : EReal) : EReal := (half * y + half * y * Ideal.tanh (half * y)) * v

/-- Row `r` of a sub-tile `s` rows earlier: out of the sub-tile, or of the eight rows before it. -/
def earlier (tail : Vec Ideal S8x256 .f32) (g : FVec Ideal S256x256 .f32) (s : ℕ) (hs : s ≤ 8) (r n : Fin 256) : EReal :=
  if h : r.val < s then tail (ix2 ⟨8 + r.val - s, by omega⟩ n) else g (ix2 ⟨r.val - s, by omega⟩ n)

/-- The convolution at row `r`: taps on the rows two earlier, one earlier and itself, and the bias. -/
def conv (cw : Vec Ideal S3x256 .f32) (cb : Vec Ideal S1x256 .f32) (tail : Vec Ideal S8x256 .f32) (g : FVec Ideal S256x256 .f32) (r n : Fin 256) : EReal :=
  earlier tail g 2 (by decide) r n * cw (ix2 0 n) + earlier tail g 1 (by decide) r n * cw (ix2 1 n) + g (ix2 r n) * cw (ix2 2 n) + cb (ix2 0 n)

/-- The last eight rows of a sub-tile. -/
def lastRows (g : FVec Ideal S256x256 .f32) : Vec Ideal S8x256 .f32 := fun i => g (ix2 ⟨248 + (i 0).val, by have : (i 0).val < 8 := (i 0).isLt; omega⟩ (i 1))

/-- Slicing them out is that. -/
theorem slice_last (g : FVec Ideal S256x256 .f32) :
    (extractStridedSlice S8x256 ![248, 0] g slices_S256x256_o248_0_S8x256 : FVec Ideal S8x256 .f32) = lastRows g := by
  funext i
  idx_vars i
  unfold lastRows
  pointwise

/-- Rolling the tail and the sub-tile down by `s` rows and dropping the tail's rows reads `s` rows earlier. -/
theorem rolled (tail : Vec Ideal S8x256 .f32) (g : FVec Ideal S256x256 .f32) (s : ℕ) (h0 : 0 < s) (hs : s ≤ 8) (r n : Fin 256)
    (p : ¬(8 + r.val + 264 - s) % 264 < 8 → (8 + r.val + 264 - s) % 264 - 8 < 256) :
    (if h : (8 + r.val + 264 - s) % 264 < 8 then (tail (ix2 ⟨(8 + r.val + 264 - s) % 264, h⟩ n) : EReal) else g (ix2 ⟨(8 + r.val + 264 - s) % 264 - 8, p h⟩ n))
      = earlier tail g s hs r n := by
  have e : (8 + r.val + 264 - s) % 264 = 8 + r.val - s := by omega
  unfold earlier
  by_cases h : r.val < s
  · rw [dif_pos (by omega), dif_pos h]
    exact congrArg (fun z => tail (ix2 z n)) (Fin.ext e)
  · rw [dif_neg (by omega), dif_neg h]
    exact congrArg (fun z => g (ix2 z n)) (Fin.ext (by dsimp only; omega))

variable (cw : Vec Ideal S3x256 .f32) (cb : Vec Ideal S1x256 .f32) (tail : Vec Ideal S8x256 .f32)

/-- The gated convolution, from its two earlier rows however spelt. -/
theorem gated_of (g : FVec Ideal S256x256 .f32) (v : EReal) (r n : Fin 256) (a b : EReal) (ha : a = earlier tail g 2 (by decide) r n)
    (hb : b = earlier tail g 1 (by decide) r n) :
    (half * (a * cw (ix2 0 n) + b * cw (ix2 1 n) + g (ix2 r n) * cw (ix2 2 n) + cb (ix2 0 n))
      + half * (a * cw (ix2 0 n) + b * cw (ix2 1 n) + g (ix2 r n) * cw (ix2 2 n) + cb (ix2 0 n))
        * Ideal.tanh (half * (a * cw (ix2 0 n) + b * cw (ix2 1 n) + g (ix2 r n) * cw (ix2 2 n) + cb (ix2 0 n)))) * v
      = gated (conv cw cb tail g r n) v := by
  subst ha hb
  rfl

/-- The first sub-tile's stored value. -/
theorem sub0_apply (g v : FVec Ideal S256x256 .f32) (r n : Fin 256) :
    k0_pay13 cw (k0_pay8 cb) tail g v (ix2 r n) = gated (conv cw cb tail g r n) (v (ix2 r n)) := by
  pointwise [k0_pay13, k0_pay8]
  exact gated_of cw cb tail g (v (ix2 r n)) r n _ _ (rolled tail g 2 (by decide) (by decide) r n _) (rolled tail g 1 (by decide) (by decide) r n _)

/-- The second's. -/
theorem sub1_apply (g' g v : FVec Ideal S256x256 .f32) (r n : Fin 256) :
    k0_pay17 v (k0_pay16 cw (k0_pay8 cb) g' g) (ix2 r n) = gated (conv cw cb (lastRows g') g r n) (v (ix2 r n)) := by
  unfold k0_pay16
  dsimp only
  rw [slice_last]
  generalize lastRows g' = tail
  pointwise [k0_pay17, k0_pay8]
  exact gated_of cw cb tail g (v (ix2 r n)) r n _ _ (rolled tail g 2 (by decide) (by decide) r n _) (rolled tail g 1 (by decide) (by decide) r n _)

/-- The third's. -/
theorem sub2_apply (g' g v : FVec Ideal S256x256 .f32) (r n : Fin 256) :
    k0_pay20 cw (k0_pay8 cb) g' g v (ix2 r n) = gated (conv cw cb (lastRows g') g r n) (v (ix2 r n)) := by
  unfold k0_pay20
  dsimp only
  rw [slice_last]
  generalize lastRows g' = tail
  pointwise [k0_pay8]
  exact gated_of cw cb tail g (v (ix2 r n)) r n _ _ (rolled tail g 2 (by decide) (by decide) r n _) (rolled tail g 1 (by decide) (by decide) r n _)

/-- The fourth's, whose rolls are named apart. -/
theorem sub3_apply (w : Vec Ideal S4096x256 .bf16) (g' v : FVec Ideal S256x256 .f32) (x : Vec Ideal S256x4096 .bf16) (r n : Fin 256) :
    k0_pay1 cw (k0_pay8 cb) (k0_pay18 w x) v (k0_pay22 w g' x) (k0_pay23 w g' x) (ix2 r n)
      = gated (conv cw cb (lastRows g') (k0_pay18 w x) r n) (v (ix2 r n)) := by
  unfold k0_pay22 k0_pay23 k0_pay21
  dsimp only
  rw [slice_last]
  generalize lastRows g' = tail
  generalize k0_pay18 w x = g
  pointwise [k0_pay1, k0_pay8]
  exact gated_of cw cb tail g (v (ix2 r n)) r n _ _ (rolled tail g 2 (by decide) (by decide) r n _) (rolled tail g 1 (by decide) (by decide) r n _)

/-- A sub-tile's product with a weight tile, at a row and a column: each of the eight products is this. -/
theorem prod_apply (w : Vec Ideal S4096x256 .bf16) (x : Vec Ideal S256x4096 .bf16) (r n : Fin 256) :
    k0_pay9 w x (ix2 r n) = ∑ k : Fin 4096, (x (ix2 r k) : EReal) * w (ix2 k n) := by
  pointwise [k0_pay9]

end Cert.Proof.Ffn

end
-- ==== Proof.Ffn.Block.lean ====
/-
  THE ACTIVATIONS' BLOCK READ AT A ROW AND A COLUMN, over the extended reals: the four sub-tiles join to one convolution down
  the block's 1024 rows, which reads the tail for the rows before the block.
-/
module

public import proofs.«01_k».proof.Proof.Ffn.Act
public import proofs.«01_k».proof.Proof.Ffn.Body

@[expose] public section

noncomputable section

namespace Cert.Proof.Ffn

open Cert.Kernel4Ideal Cert.Kernel4Ideal.Gen
open Idealize.ShloMosaic Idealize.ShloMosaic.TcCoe Idealize.SL.Sem

variable (x : Vec Ideal S1024x4096 .bf16) (wg wv : Vec Ideal S4096x256 .bf16) (cw : Vec Ideal S3x256 .f32) (cb : Vec Ideal S1x256 .f32)
  (tail : Vec Ideal S8x256 .f32)

/-- The block's product with a weight tile. -/
def blockProd (w : Vec Ideal S4096x256 .bf16) (r : Fin 1024) (n : Fin 256) : EReal := ∑ k : Fin 4096, (x (ix2 r k) : EReal) * w (ix2 k n)

/-- The gate `s` rows before row `r` of the block, out of the tail where that lies before the block. -/
def blockEarlier (s : ℕ) (hs : s ≤ 8) (r : Fin 1024) (n : Fin 256) : EReal :=
  if h : r.val < s then tail (ix2 ⟨8 + r.val - s, by omega⟩ n) else blockProd x wg ⟨r.val - s, by omega⟩ n

/-- The convolution of the block's gate. -/
def blockConv (r : Fin 1024) (n : Fin 256) : EReal :=
  blockEarlier x wg tail 2 (by decide) r n * cw (ix2 0 n) + blockEarlier x wg tail 1 (by decide) r n * cw (ix2 1 n) + blockProd x wg r n * cw (ix2 2 n) + cb (ix2 0 n)

theorem rows0_apply (r : Fin 256) (k : Fin 4096) : rows0 x (ix2 r k) = x (ix2 ⟨0 + r.val, by omega⟩ k) := by
  unfold rows0
  rw [View.ld_unit]
  pointwise
theorem rows1_apply (r : Fin 256) (k : Fin 4096) : rows1 x (ix2 r k) = x (ix2 ⟨256 + r.val, by omega⟩ k) := by
  unfold rows1
  rw [View.ld_unit]
  pointwise
theorem rows2_apply (r : Fin 256) (k : Fin 4096) : rows2 x (ix2 r k) = x (ix2 ⟨512 + r.val, by omega⟩ k) := by
  unfold rows2
  rw [View.ld_unit]
  pointwise
theorem rows3_apply (r : Fin 256) (k : Fin 4096) : rows3 x (ix2 r k) = x (ix2 ⟨768 + r.val, by omega⟩ k) := by
  unfold rows3
  rw [View.ld_unit]
  pointwise

/-- Each sub-tile's product is the block's, further down. -/
theorem prod0 (w : Vec Ideal S4096x256 .bf16) (r n : Fin 256) : k0_pay9 w (rows0 x) (ix2 r n) = blockProd x w ⟨0 + r.val, by omega⟩ n :=
  (prod_apply w (rows0 x) r n).trans (Finset.sum_congr rfl fun k _ => congrArg (· * (w (ix2 k n) : EReal)) (rows0_apply x r k))
theorem prod1 (w : Vec Ideal S4096x256 .bf16) (r n : Fin 256) : k0_pay9 w (rows1 x) (ix2 r n) = blockProd x w ⟨256 + r.val, by omega⟩ n :=
  (prod_apply w (rows1 x) r n).trans (Finset.sum_congr rfl fun k _ => congrArg (· * (w (ix2 k n) : EReal)) (rows1_apply x r k))
theorem prod2 (w : Vec Ideal S4096x256 .bf16) (r n : Fin 256) : k0_pay9 w (rows2 x) (ix2 r n) = blockProd x w ⟨512 + r.val, by omega⟩ n :=
  (prod_apply w (rows2 x) r n).trans (Finset.sum_congr rfl fun k _ => congrArg (· * (w (ix2 k n) : EReal)) (rows2_apply x r k))
theorem prod3 (w : Vec Ideal S4096x256 .bf16) (r n : Fin 256) : k0_pay9 w (rows3 x) (ix2 r n) = blockProd x w ⟨768 + r.val, by omega⟩ n :=
  (prod_apply w (rows3 x) r n).trans (Finset.sum_congr rfl fun k _ => congrArg (· * (w (ix2 k n) : EReal)) (rows3_apply x r k))

/-- The first sub-tile's convolution is the block's. -/
theorem conv_first (g : FVec Ideal S256x256 .f32) (hg : ∀ r n : Fin 256, g (ix2 r n) = blockProd x wg ⟨0 + r.val, by omega⟩ n) (r n : Fin 256) :
    conv cw cb tail g r n = blockConv x wg cw cb tail ⟨0 + r.val, by omega⟩ n := by
  have e (s : ℕ) (hs : s ≤ 8) : earlier tail g s hs r n = blockEarlier x wg tail s hs ⟨0 + r.val, by omega⟩ n := by
    unfold earlier blockEarlier
    by_cases h : r.val < s
    · rw [dif_pos h, dif_pos (by dsimp only; omega)]
      exact congrArg (fun z => tail (ix2 z n)) (Fin.ext (by dsimp only; omega))
    · rw [dif_neg h, dif_neg (by dsimp only; omega), hg]
      exact congrArg (fun z => blockProd x wg z n) (Fin.ext (by dsimp only; omega))
  unfold conv blockConv
  rw [e, e, hg]

/-- A later sub-tile's convolution, its tail the last rows of the sub-tile before, is the block's. -/
theorem conv_next (o : ℕ) (ho : 256 + o + 256 ≤ 1024) (g' g : FVec Ideal S256x256 .f32)
    (hg' : ∀ r n : Fin 256, g' (ix2 r n) = blockProd x wg ⟨o + r.val, by omega⟩ n)
    (hg : ∀ r n : Fin 256, g (ix2 r n) = blockProd x wg ⟨256 + o + r.val, by omega⟩ n) (r n : Fin 256) :
    conv cw cb (lastRows g') g r n = blockConv x wg cw cb tail ⟨256 + o + r.val, by omega⟩ n := by
  have e (s : ℕ) (hs : s ≤ 8) : earlier (lastRows g') g s hs r n = blockEarlier x wg tail s hs ⟨256 + o + r.val, by omega⟩ n := by
    unfold earlier blockEarlier
    by_cases h : r.val < s
    · rw [dif_pos h, dif_neg (by dsimp only; omega)]
      refine (hg' _ n).trans (congrArg (fun z => blockProd x wg z n) (Fin.ext ?_))
      show o + (248 + (8 + r.val - s)) = 256 + o + r.val - s
      omega
    · rw [dif_neg h, dif_neg (by dsimp only; omega), hg]
      exact congrArg (fun z => blockProd x wg z n) (Fin.ext (by dsimp only; omega))
  unfold conv blockConv
  rw [e, e, hg]

/-- What the block of activations holds at each index. -/
abbrev actAt (i : S1024x256.Idx) : EReal := gated (blockConv x wg cw cb tail (i 0) (i 1)) (blockProd x wv (i 0) (i 1))

/-- The block of activations, read at an index. -/
theorem act_apply (i : S1024x256.Idx) : act x wg wv cw cb tail i = actAt x wg wv cw cb tail i := by
  unfold act
  have em (o : ℕ) (inb) (r n : Fin 256) (h : o + 256 ≤ 1024) :
      (Rect.unit (s := S1024x256) ![o, 0] ![256, 256] inb).emb (ix2 r n) = (ix2 ⟨o + r.val, by omega⟩ n : S1024x256.Idx) := by
    funext a
    apply Fin.ext
    match a with
    | ⟨0, _⟩ => show o + 1 * r.val = o + r.val; omega
    | ⟨1, _⟩ => show 0 + 1 * n.val = n.val; omega
  refine View.canon_apply_of_pieces (Val := Elt Ideal) (S := S1024x256) (e := .bf16) (actAt x wg wv cw cb tail) _ ?_ i ?_
  · refine List.forall_mem_cons.mpr ⟨fun y => ?_, List.forall_mem_cons.mpr ⟨fun y => ?_, List.forall_mem_cons.mpr ⟨fun y => ?_, List.forall_mem_cons.mpr ⟨fun y => ?_, fun _ h => absurd h List.not_mem_nil⟩⟩⟩⟩
    · obtain ⟨r, n, rfl⟩ : ∃ r n : Fin 256, y = ix2 r n := ⟨y 0, y 1, eq_ix2 y⟩
      rw [em 768 _ r n (by decide)]
      refine (sub3_apply cw cb wg _ _ _ r n).trans (congrArg₂ gated ?_ (prod3 x wv r n))
      exact conv_next x wg cw cb tail 512 (by decide) _ _ (prod2 x wg) (prod3 x wg) r n
    · obtain ⟨r, n, rfl⟩ : ∃ r n : Fin 256, y = ix2 r n := ⟨y 0, y 1, eq_ix2 y⟩
      rw [em 512 _ r n (by decide)]
      refine (sub2_apply cw cb _ _ _ r n).trans (congrArg₂ gated ?_ (prod2 x wv r n))
      exact conv_next x wg cw cb tail 256 (by decide) _ _ (prod1 x wg) (prod2 x wg) r n
    · obtain ⟨r, n, rfl⟩ : ∃ r n : Fin 256, y = ix2 r n := ⟨y 0, y 1, eq_ix2 y⟩
      rw [em 256 _ r n (by decide)]
      refine (sub1_apply cw cb _ _ _ r n).trans (congrArg₂ gated ?_ (prod1 x wv r n))
      exact conv_next x wg cw cb tail 0 (by decide) _ _ (prod0 x wg) (prod1 x wg) r n
    · obtain ⟨r, n, rfl⟩ : ∃ r n : Fin 256, y = ix2 r n := ⟨y 0, y 1, eq_ix2 y⟩
      rw [em 0 _ r n (by decide)]
      refine (sub0_apply cw cb tail _ _ r n).trans (congrArg₂ gated ?_ (prod0 x wv r n))
      exact conv_first x wg cw cb tail _ (prod0 x wg) r n
  · obtain ⟨R, n, rfl⟩ : ∃ (R : Fin 1024) (n : Fin 256), i = ix2 R n := ⟨i 0, i 1, eq_ix2 i⟩
    have mem (o : ℕ) (inb) (h : o + 256 ≤ 1024) (h1 : o ≤ R.val) (h2 : R.val < o + 256) :
        (ix2 R n : S1024x256.Idx) ∈ (Rect.unit (s := S1024x256) ![o, 0] ![256, 256] inb).set := by
      have e := em o inb ⟨R.val - o, by omega⟩ n h
      rw [show (ix2 ⟨o + (⟨R.val - o, by omega⟩ : Fin 256).val, by dsimp only; omega⟩ n : S1024x256.Idx) = ix2 R n from congrArg (fun z => (ix2 z n : S1024x256.Idx)) (Fin.ext (by dsimp only; omega))] at e
      rw [← e, ← Rect.map_emb_univ]
      exact Finset.mem_map_of_mem _ (Finset.mem_univ _)
    by_cases c3 : 768 ≤ R.val
    · exact ⟨_, List.mem_cons_self, mem 768 inb_S1024x256_S256x256_768_0 (by decide) c3 (by omega)⟩
    by_cases c2 : 512 ≤ R.val
    · exact ⟨_, List.mem_cons_of_mem _ List.mem_cons_self, mem 512 inb_S1024x256_S256x256_512_0 (by decide) c2 (by omega)⟩
    by_cases c1 : 256 ≤ R.val
    · exact ⟨_, List.mem_cons_of_mem _ (List.mem_cons_of_mem _ List.mem_cons_self), mem 256 inb_S1024x256_S256x256_256_0 (by decide) c1 (by omega)⟩
    · exact ⟨_, List.mem_cons_of_mem _ (List.mem_cons_of_mem _ (List.mem_cons_of_mem _ List.mem_cons_self)), mem 0 inb_S1024x256_S256x256_0_0 (by decide) (by omega) (by omega)⟩

end Cert.Proof.Ffn

end
-- ==== Proof.Ffn.Value.lean ====
/-
  WHAT THE UP PROJECTION LEAVES, over the extended reals: in each row and feature the gate, convolved down its own sequence with the
  state before its first row, gates the value; and of every 1024 rows the last eight gate rows.
-/
module

public import proofs.«01_k».proof.Proof.Ffn.Points
public import proofs.«01_k».proof.Proof.Ffn.Block
public import Idealize.ShloMosaic.Lib.StableHlo.Run
public import Idealize.ShloMosaic.Lib.ValueLayout

@[expose] public section

noncomputable section

namespace Cert.Proof.Ffn

open Cert.Kernel4Ideal Cert.Kernel4Ideal.Gen Cert.Kernel4Ideal.Value
open Idealize.ShloMosaic Idealize.ShloMosaic.TcCoe Idealize.SL.Sem
open Idealize.ShloMosaic.Pipeline (Dat)

section Spec

variable (h : S8192x4096.Idx → EReal) (w : S2x4096x22016.Idx → EReal) (st : S4x2x11008.Idx → EReal) (cw : S3x11008.Idx → EReal) (cb : S11008.Idx → EReal)

/-- Layer 0's up projection at a row and a column. -/
def upAt (R : Fin 8192) (n : Fin 22016) : EReal := ∑ k : Fin 4096, h (ix2 R k) * w (ix3 0 k n)

/-- Its first half of columns is the gate … -/
def gateAt (R : Fin 8192) (n : Fin 11008) : EReal := upAt h w R ⟨n.val, by omega⟩

/-- … and its second half the value. -/
def valAt (R : Fin 8192) (n : Fin 11008) : EReal := upAt h w R ⟨11008 + n.val, by omega⟩

/-- The gate `s` rows before a row of its sequence of 2048, out of the state where that lies before the sequence. -/
def histAt (s : ℕ) (hs : s ≤ 2) (R : Fin 8192) (n : Fin 11008) : EReal :=
  if p : R.val % 2048 < s then st (ix3 ⟨R.val / 2048, by omega⟩ ⟨R.val % 2048 + 2 - s, by omega⟩ n) else gateAt h w ⟨R.val - s, by omega⟩ n

/-- The convolved gate and the bias. -/
def convAt (R : Fin 8192) (n : Fin 11008) : EReal :=
  histAt h w st 2 (by decide) R n * cw (ix2 0 n) + histAt h w st 1 (by decide) R n * cw (ix2 1 n) + gateAt h w R n * cw (ix2 2 n) + cb (ix1 n)

/-- The activations. -/
def actSpec (i : S8192x11008.Idx) : EReal := gated (convAt h w st cw cb (i 0) (i 1)) (valAt h w (i 0) (i 1))

/-- The last eight gate rows of every 1024. -/
def rowsSpec (i : S8x8x11008.Idx) : EReal :=
  gateAt h w ⟨1024 * (i 0).val + (1016 + (i 1).val), by have : (i 0).val < 8 := (i 0).isLt; have : (i 1).val < 8 := (i 1).isLt; omega⟩ (i 2)

end Spec

variable (m : (ℓ : Loc nD τ sig) → Buf (Elt Ideal) ℓ) (ρ : Dev nD → PrngReg)

/-- The host pads the state with six zero rows in front before the call. -/
theorem V_v0 (c : Dev nD) (b : Fin 4) (q : Fin 8) (n : Fin 11008) (hq : 6 ≤ q.val) :
    (V m c main_v0 : S4x8x11008.Idx → EReal) (ix3 b q n) = (m ((c : Thread nD τ).loc main_arg2) : S4x2x11008.Idx → EReal) (ix3 b ⟨q.val - 6, by omega⟩ n) := by
  have e : V m c main_v0 = pad S4x8x11008 ![0, 6, 0] ![0, 0, 0] ![0, 0, 0] (m ((c : Thread nD τ).loc main_arg2)) (sitofp (F := Ideal) .f32 (constantI S_ 32 0#32)) pads_S4x2x11008_S4x8x11008_000_600_000 h_S_ := by
    unfold V
    simp only [hostOps0, hostOps0_1, hostOps0_2, List.flatten_cons, List.flatten_nil, List.cons_append, List.nil_append, List.append_nil]
    after_results
    rfl
  rw [e]
  pointwise
  refine dif_pos fun a => ?_
  match a with
  | ⟨0, _⟩ => show 0 ≤ b.val ∧ (b.val - 0) % 1 = 0 ∧ (b.val - 0) / 1 < 4; omega
  | ⟨1, _⟩ => show 6 ≤ q.val ∧ (q.val - 6) % 1 = 0 ∧ (q.val - 6) / 1 < 2; omega
  | ⟨2, _⟩ => show 0 ≤ n.val ∧ (n.val - 0) % 1 = 0 ∧ (n.val - 0) / 1 < 11008; omega

/-- The host makes the bias a row. -/
theorem V_v1 (c : Dev nD) (z : Fin 1) (n : Fin 11008) :
    (V m c main_v1 : S1x11008.Idx → EReal) (ix2 z n) = (m ((c : Thread nD τ).loc main_arg4) : S11008.Idx → EReal) (ix1 n) := by
  have e : V m c main_v1 = shapeCast S1x11008 (m ((c : Thread nD τ).loc main_arg4)) shapeCasts_S11008_S1x11008 := by
    unfold V
    simp only [hostOps0, hostOps0_1, hostOps0_2, List.flatten_cons, List.flatten_nil, List.cons_append, List.nil_append, List.append_nil]
    after_results
    rfl
  rw [e]
  exact Idealize.ShloMosaic.ValueIdx.shapeCast_a_1a_apply ..

theorem pay5_apply (w : Vec Ideal S1x4096x256 .f32) (k : Fin 4096) (n : Fin 256) : k0_pay5 w (ix2 k n) = (w (ix3 0 k n) : EReal) := by
  pointwise [k0_pay5]
theorem pay6_apply (w : Vec Ideal S1x4096x256 .f32) (k : Fin 4096) (n : Fin 256) : k0_pay6 w (ix2 k n) = (w (ix3 0 k n) : EReal) := by
  pointwise [k0_pay6]
theorem pay7_apply (w : Vec Ideal S1x8x256 .f32) (q : Fin 8) (n : Fin 256) : k0_pay7 w (ix2 q n) = (w (ix3 0 q n) : EReal) := by
  pointwise [k0_pay7]
theorem pay3_apply (g : FVec Ideal S256x256 .f32) (q : Fin 8) (n : Fin 256) : k0_pay3 g (ix2 q n) = (g (ix2 ⟨248 + q.val, by omega⟩ n) : EReal) := by
  pointwise [k0_pay3, k0_pay2]
theorem pay4_apply (g : FVec Ideal S256x256 .f32) (z : Fin 1) (q : Fin 8) (n : Fin 256) : k0_pay4 g (ix3 z q n) = (g (ix2 ⟨248 + q.val, by omega⟩ n) : EReal) := by
  pointwise [k0_pay4, k0_pay2]

section Result

/-- The arrays as the launch finds them. -/
abbrev arrH (c : Dev nD) : S8192x4096.Idx → EReal := m ((c : Thread nD τ).loc main_arg0)
abbrev arrW (c : Dev nD) : S2x4096x22016.Idx → EReal := m ((c : Thread nD τ).loc main_arg1)
abbrev arrS (c : Dev nD) : S4x2x11008.Idx → EReal := m ((c : Thread nD τ).loc main_arg2)
abbrev arrC (c : Dev nD) : S3x11008.Idx → EReal := m ((c : Thread nD τ).loc main_arg3)
abbrev arrB (c : Dev nD) : S11008.Idx → EReal := m ((c : Thread nD τ).loc main_arg4)

/-- What the activations' array ends holding. -/
abbrev actResult (c : Dev nD) : S8192x11008.Idx → EReal := actSpec (arrH m c) (arrW m c) (arrS m c) (arrC m c) (arrB m c)

/-- What the array of last rows ends holding. -/
abbrev rowsResult (c : Dev nD) : S8x8x11008.Idx → EReal := rowsSpec (arrH m c) (arrW m c)

/-- A point's product with its gate tile is the gate at the block's place. -/
theorem gate_block (c : Dev nD) (t : Fin cfg0.N) (r : Fin 1024) (n : Fin 256) :
    blockProd (iblk m c 0 t) (k0_pay5 (iblk m c 1 t)) r n
      = gateAt (arrH m c) (arrW m c) ⟨1024 * (t.val % 8) + r.val, by omega⟩ ⟨256 * (t.val / 8) + n.val, by have := point_lt t; omega⟩ := by
  unfold blockProd gateAt upAt
  refine Finset.sum_congr rfl fun k _ => ?_
  rw [iblk0_apply, pay5_apply, iblk1_apply]

/-- A point's product with its value tile is the value at the block's place. -/
theorem val_block (c : Dev nD) (t : Fin cfg0.N) (r : Fin 1024) (n : Fin 256) :
    blockProd (iblk m c 0 t) (k0_pay6 (iblk m c 2 t)) r n
      = valAt (arrH m c) (arrW m c) ⟨1024 * (t.val % 8) + r.val, by omega⟩ ⟨256 * (t.val / 8) + n.val, by have := point_lt t; omega⟩ := by
  unfold blockProd valAt upAt
  refine Finset.sum_congr rfl fun k _ => ?_
  rw [iblk0_apply, pay6_apply, iblk2_apply]

/-- At a sequence's first block what lies before it is the state. -/
theorem hist_even (c : Dev nD) (t : Fin cfg0.N) (h1 : t.val % 2 = 0) (s : ℕ) (hs : s ≤ 2) (r : Fin 1024) (n : Fin 256) :
    blockEarlier (iblk m c 0 t) (k0_pay5 (iblk m c 1 t)) (k0_pay7 (iblk m c 3 t)) s (by omega) r n
      = histAt (arrH m c) (arrW m c) (arrS m c) s hs ⟨1024 * (t.val % 8) + r.val, by omega⟩ ⟨256 * (t.val / 8) + n.val, by have := point_lt t; omega⟩ := by
  unfold blockEarlier histAt
  by_cases h : r.val < s
  · rw [dif_pos h, dif_pos (by dsimp only; omega), pay7_apply, iblk3_apply, V_v0 m c _ _ _ (by dsimp only; omega)]
    refine congrArg (arrS m c) (congr (congrArg₂ ix3 (Fin.ext ?_) (Fin.ext ?_)) rfl)
    · show t.val % 8 / 2 = (1024 * (t.val % 8) + r.val) / 2048
      omega
    · show 8 + r.val - s - 6 = (1024 * (t.val % 8) + r.val) % 2048 + 2 - s
      omega
  · rw [dif_neg h, dif_neg (by dsimp only; omega), gate_block]
    exact congrArg (fun z => gateAt (arrH m c) (arrW m c) z _) (Fin.ext (by show 1024 * (t.val % 8) + (r.val - s) = 1024 * (t.val % 8) + r.val - s; omega))

/-- The last rows a point leaves are the gate's. -/
theorem tailLeft_apply (c : Dev nD) (t : Fin cfg0.N) (q : Fin 8) (n : Fin 256) :
    (tailLeft m c t (ix2 q n) : EReal)
      = gateAt (arrH m c) (arrW m c) ⟨1024 * (t.val % 8) + (1016 + q.val), by omega⟩ ⟨256 * (t.val / 8) + n.val, by have := point_lt t; omega⟩ := by
  refine (pay3_apply _ q n).trans ((prod3 (iblk m c 0 t) (k0_pay5 (iblk m c 1 t)) _ n).trans ((gate_block m c t _ n).trans ?_))
  exact congrArg (fun z => gateAt (arrH m c) (arrW m c) z _) (Fin.ext (by show 1024 * (t.val % 8) + (768 + (248 + q.val)) = 1024 * (t.val % 8) + (1016 + q.val); omega))

/-- At a later block of a sequence it is what the block before left. -/
theorem hist_odd (c : Dev nD) (t t' : Fin cfg0.N) (h1 : ¬t.val % 2 = 0) (ht : t'.val = t.val - 1) (s : ℕ) (hs : s ≤ 2) (r : Fin 1024) (n : Fin 256) :
    blockEarlier (iblk m c 0 t) (k0_pay5 (iblk m c 1 t)) (tailLeft m c t') s (by omega) r n
      = histAt (arrH m c) (arrW m c) (arrS m c) s hs ⟨1024 * (t.val % 8) + r.val, by omega⟩ ⟨256 * (t.val / 8) + n.val, by have := point_lt t; omega⟩ := by
  unfold blockEarlier histAt
  have hn : ¬(1024 * (t.val % 8) + r.val) % 2048 < s := by omega
  refine Eq.trans ?_ (dif_neg hn).symm
  by_cases h : r.val < s
  · rw [dif_pos h, tailLeft_apply]
    refine congrArg₂ (gateAt (arrH m c) (arrW m c)) (Fin.ext ?_) (Fin.ext ?_)
    · show 1024 * (t'.val % 8) + (1016 + (8 + r.val - s)) = 1024 * (t.val % 8) + r.val - s
      omega
    · show 256 * (t'.val / 8) + n.val = 256 * (t.val / 8) + n.val
      omega
  · rw [dif_neg h, gate_block]
    exact congrArg (fun z => gateAt (arrH m c) (arrW m c) z _) (Fin.ext (by show 1024 * (t.val % 8) + (r.val - s) = 1024 * (t.val % 8) + r.val - s; omega))

/-- So, with either tail, the block's activations are the specification's. -/
theorem act_block (c : Dev nD) (t : Fin cfg0.N) (tail : Vec Ideal S8x256 .f32)
    (ht : ∀ (s : ℕ) (hs : s ≤ 2) (r : Fin 1024) (n : Fin 256), blockEarlier (iblk m c 0 t) (k0_pay5 (iblk m c 1 t)) tail s (by omega) r n
      = histAt (arrH m c) (arrW m c) (arrS m c) s hs ⟨1024 * (t.val % 8) + r.val, by omega⟩ ⟨256 * (t.val / 8) + n.val, by have := point_lt t; omega⟩)
    (r : Fin 1024) (n : Fin 256) :
    act (iblk m c 0 t) (k0_pay5 (iblk m c 1 t)) (k0_pay6 (iblk m c 2 t)) (iblk m c 4 t) (iblk m c 5 t) tail (ix2 r n)
      = actResult m c (ix2 ⟨1024 * (t.val % 8) + r.val, by omega⟩ ⟨256 * (t.val / 8) + n.val, by have := point_lt t; omega⟩) := by
  rw [act_apply]
  unfold actResult actSpec actAt
  refine congrArg₂ gated ?_ (val_block m c t r n)
  show blockConv (iblk m c 0 t) (k0_pay5 (iblk m c 1 t)) (iblk m c 4 t) (iblk m c 5 t) tail r n
    = convAt (arrH m c) (arrW m c) (arrS m c) (arrC m c) (arrB m c) ⟨1024 * (t.val % 8) + r.val, by omega⟩ ⟨256 * (t.val / 8) + n.val, by have := point_lt t; omega⟩
  unfold blockConv convAt
  rw [ht, ht, gate_block, iblk4_apply, iblk4_apply, iblk4_apply, iblk5_apply, V_v1]

/-- Where the outputs' blocks lie. -/
theorem emb6 (t : Fin cfg0.N) (r : Fin 1024) (n : Fin 256) :
    ((cfg0.win 6).blk t).view.emb (ix2 r n : S1024x256.Idx)
      = (ix2 ⟨1024 * (t.val % 8) + r.val, by omega⟩ ⟨256 * (t.val / 8) + n.val, by have := point_lt t; omega⟩ : S8192x11008.Idx) := by
  have hi := index6 t
  funext a
  apply Fin.ext
  match a with
  | ⟨0, _⟩ => show win0_6.index t 0 * 1024 + 1 * r.val = 1024 * (t.val % 8) + r.val; rw [hi.1]; omega
  | ⟨1, _⟩ => show win0_6.index t 1 * 256 + 1 * n.val = 256 * (t.val / 8) + n.val; rw [hi.2]; omega
theorem emb7 (t : Fin cfg0.N) (z : Fin 1) (q : Fin 8) (n : Fin 256) :
    ((cfg0.win 7).blk t).view.emb (ix3 z q n : S1x8x256.Idx)
      = (ix3 ⟨t.val % 8, by omega⟩ q ⟨256 * (t.val / 8) + n.val, by have := point_lt t; omega⟩ : S8x8x11008.Idx) := by
  have hi := index7 t
  funext a
  apply Fin.ext
  match a with
  | ⟨0, _⟩ => show win0_7.index t 0 * 1 + 1 * z.val = t.val % 8; rw [hi.1]; omega
  | ⟨1, _⟩ => show win0_7.index t 1 * 8 + 1 * q.val = q.val; rw [hi.2.1]; omega
  | ⟨2, _⟩ => show win0_7.index t 2 * 256 + 1 * n.val = 256 * (t.val / 8) + n.val; rw [hi.2.2]; omega

/-- The activations' block after a point, at an index. -/
theorem outs_apply (c : Dev nD) (t : Fin cfg0.N) (r : Fin 1024) (n : Fin 256) :
    ((outsAt0 m c t.val t.isLt).1 (ix2 r n) : EReal)
      = actResult m c (ix2 ⟨1024 * (t.val % 8) + r.val, by omega⟩ ⟨256 * (t.val / 8) + n.val, by have := point_lt t; omega⟩) := by
  by_cases h1 : t.val % 2 = 0
  · rw [outs_even m c t h1]
    exact act_block m c t _ (hist_even m c t h1) r n
  · rw [outs_odd m c t ⟨t.val - 1, Nat.lt_of_le_of_lt (Nat.sub_le _ _) t.isLt⟩ h1 rfl]
    exact act_block m c t _ (hist_odd m c t _ h1 rfl) r n

/-- The block of last rows after a point, at an index. -/
theorem rows_apply (c : Dev nD) (t : Fin cfg0.N) (z : Fin 1) (q : Fin 8) (n : Fin 256) :
    ((outsAt0 m c t.val t.isLt).2.1 (ix3 z q n) : EReal)
      = rowsResult m c (ix3 ⟨t.val % 8, by omega⟩ q ⟨256 * (t.val / 8) + n.val, by have := point_lt t; omega⟩) := by
  rw [(rows_eq m c t).1]
  refine (pay4_apply _ z q n).trans ((pay3_apply _ q n).symm.trans ((tailLeft_apply m c t q n).trans ?_))
  rfl

/-- What a point writes back is its block of the activations. -/
theorem flushed_act (c : Dev nD) (t : Fin cfg0.N) :
    (dats m 0 c).flushed 6 t = ((cfg0.win 6).blk t).view.read (Elt Ideal) (actResult m c) := by
  rw [flushed6]
  have hp := outs_apply m c t
  revert hp
  generalize (outsAt0 m c t.val t.isLt).1 = X
  generalize actResult m c = G
  intro hp
  funext y
  rw [View.read_apply]
  show X y = G _
  obtain ⟨r, n, rfl⟩ : ∃ (r : Fin 1024) (n : Fin 256), y = ix2 r n := ⟨y 0, y 1, eq_ix2 y⟩
  rw [emb6]
  exact hp r n

/-- And its block of the last rows. -/
theorem flushed_rows (c : Dev nD) (t : Fin cfg0.N) :
    (dats m 0 c).flushed 7 t = ((cfg0.win 7).blk t).view.read (Elt Ideal) (rowsResult m c) := by
  rw [flushed7]
  have hp := rows_apply m c t
  revert hp
  generalize (outsAt0 m c t.val t.isLt).2.1 = X
  generalize rowsResult m c = G
  intro hp
  funext y
  rw [View.read_apply]
  show X y = G _
  obtain ⟨z, q, n, rfl⟩ : ∃ (z : Fin 1) (q : Fin 8) (n : Fin 256), y = ix3 z q n := ⟨y 0, y 1, y 2, eq_ix3 y⟩
  rw [emb7]
  exact hp z q n

/-- Every index of the activations lies in a block written back. -/
theorem cover_act (i : S8192x11008.Idx) : ∃ t : Fin cfg0.N, (cfg0.win 6).flush t = true ∧ i ∈ ((cfg0.win 6).blk t).view.set := by
  obtain ⟨r, n, rfl⟩ : ∃ (r : Fin 8192) (n : Fin 11008), i = ix2 r n := ⟨i 0, i 1, eq_ix2 i⟩
  let t : Fin cfg0.N := ⟨8 * (n.val / 256) + r.val / 1024, by rw [show cfg0.N = 344 from N_0]; omega⟩
  have ht : t.val = 8 * (n.val / 256) + r.val / 1024 := rfl
  have e := emb6 t ⟨r.val % 1024, by omega⟩ ⟨n.val % 256, by omega⟩
  have e' : (ix2 ⟨1024 * (t.val % 8) + r.val % 1024, by omega⟩ ⟨256 * (t.val / 8) + n.val % 256, by have := point_lt t; omega⟩ : S8192x11008.Idx) = ix2 r n := by
    congr 1 <;> apply Fin.ext <;> dsimp only <;> rw [ht] <;> omega
  exact ⟨t, flush0_6 t, (e.trans e') ▸ ((cfg0.win 6).blk t).view.emb_mem_set _⟩

/-- And every index of the last rows. -/
theorem cover_rows (i : S8x8x11008.Idx) : ∃ t : Fin cfg0.N, (cfg0.win 7).flush t = true ∧ i ∈ ((cfg0.win 7).blk t).view.set := by
  obtain ⟨b, q, n, rfl⟩ : ∃ (b : Fin 8) (q : Fin 8) (n : Fin 11008), i = ix3 b q n := ⟨i 0, i 1, i 2, eq_ix3 i⟩
  let t : Fin cfg0.N := ⟨8 * (n.val / 256) + b.val, by rw [show cfg0.N = 344 from N_0]; omega⟩
  have ht : t.val = 8 * (n.val / 256) + b.val := rfl
  have e := emb7 t 0 q ⟨n.val % 256, by omega⟩
  have e' : (ix3 ⟨t.val % 8, by omega⟩ q ⟨256 * (t.val / 8) + n.val % 256, by have := point_lt t; omega⟩ : S8x8x11008.Idx) = ix3 b q n := by
    congr 1 <;> apply Fin.ext <;> dsimp only <;> rw [ht] <;> omega
  exact ⟨t, flush0_7 t, (e.trans e') ▸ ((cfg0.win 7).blk t).view.emb_mem_set _⟩

/-- The two arrays after the run. -/
theorem final_act (c : Dev nD) : (dats m 0 c).arrAt 6 cfg0.N = actResult m c := by
  funext i
  rw [(dats m 0 c).arrAt_eq_piecewise 6 (actResult m c) (fun t _ => flushed_act m c t) i]
  exact if_pos (cover_act i)
theorem final_rows (c : Dev nD) : (dats m 0 c).arrAt 7 cfg0.N = rowsResult m c := by
  funext i
  rw [(dats m 0 c).arrAt_eq_piecewise 7 (rowsResult m c) (fun t _ => flushed_rows m c t) i]
  exact if_pos (cover_rows i)

end Result

end Cert.Proof.Ffn

end
-- ==== Proof.Ffn.Finite.lean ====
/-
  FINITE ARGUMENTS. Where every argument is a real number, so are the gates and their convolutions, and at a real number the kernel's
  gating through `tanh` of a half is the reference's through the logistic function. (At minus infinity the two differ: `y + y · (-1)`
  is minus infinity there, and `y · 0` is zero.)
-/
module

public import proofs.«01_k».proof.Proof.Ffn.Value
public import proofs.«01_k».proof.Proof.Gen.Pre_finite
public import Idealize.ShloMosaic.Lib.ReduceAll
public import Idealize.ShloMosaic.Lib.IdealHost

@[expose] public section

noncomputable section

namespace Cert.Proof.Ffn

open Cert.Kernel4Ideal Cert.Kernel4Ideal.Gen Cert.Kernel4Ideal.Value
open Idealize.ShloMosaic Idealize.ShloMosaic.TcCoe Idealize.SL.Sem
open Idealize.ShloMosaic.Pipeline (Dat)

/-- Being a real number. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

/-- A number whose magnitude compares below infinity is real. -/
theorem isReal_of_cmp (x : EReal) (b : EReal) (h : Ideal.cmp .olt (max x (-x)) b = 1#1) : IsReal x := by
  have hlt : max x (-x) < b := by
    by_contra hn
    revert h
    simp [Ideal.cmp, hn]
  have h1 : x ≠ ⊤ := fun e => by
    subst e
    exact absurd (lt_of_le_of_lt (le_max_left _ _) hlt) not_top_lt
  have h2 : x ≠ ⊥ := fun e => by
    subst e
    exact absurd (lt_of_le_of_lt (le_max_right _ _) hlt) (by simp)
  exact ⟨x.toReal, (EReal.coe_toReal h1 h2).symm⟩

/-- What the precondition gives: every argument's elements are real. -/
theorem real_of_finite (a0 : FVec Ideal S8192x4096 .bf16) (a1 : FVec Ideal S2x4096x22016 .f32) (a2 : FVec Ideal S4x2x11008 .f32) (a3 : FVec Ideal S3x11008 .f32) (a4 : FVec Ideal S11008 .f32)
    (h : Cert.Pre_finite.fn (F := Ideal) a0 a1 a2 a3 a4 = fun _ => 1#1) :
    (∀ i, IsReal (a0 i)) ∧ (∀ i, IsReal (a1 i)) ∧ (∀ i, IsReal (a2 i)) ∧ (∀ i, IsReal (a3 i)) ∧ ∀ i, IsReal (a4 i) := by
  have h' := congrFun h ix0
  dsimp only [Cert.Pre_finite.fn, Cert.Pre_finite.fn_part1] at h'
  obtain ⟨h', e4⟩ := IntOp.andi_eq_one.mp h'
  obtain ⟨h', e3⟩ := IntOp.andi_eq_one.mp h'
  obtain ⟨h', e2⟩ := IntOp.andi_eq_one.mp h'
  obtain ⟨e0, e1⟩ := IntOp.andi_eq_one.mp h'
  haveI : Subsingleton Cert.Pre_finite.S_.Idx := ⟨fun a b => funext fun i => Fin.elim0 i⟩
  exact ⟨fun i => isReal_of_cmp _ _ (Host.reduce_andi_all _ _ _ _ _ e0 i), fun i => isReal_of_cmp _ _ (Host.reduce_andi_all _ _ _ _ _ e1 i),
    fun i => isReal_of_cmp _ _ (Host.reduce_andi_all _ _ _ _ _ e2 i), fun i => isReal_of_cmp _ _ (Host.reduce_andi_all _ _ _ _ _ e3 i),
    fun i => isReal_of_cmp _ _ (Host.reduce_andi_all _ _ _ _ _ e4 i)⟩

theorem half_eq : half = ((1 / 2 : ℝ) : EReal) := by
  simp [half, Ideal.ofBits, Ideal.ieee, -EReal.coe_mul]; norm_num

/-- The identity on the reals: `t + t tanh t` is `y` times the logistic function of `y`, `t` half of `y`. -/
theorem real_gate (y : ℝ) : 1 / 2 * y + 1 / 2 * y * Real.tanh (1 / 2 * y) = y * (1 + Real.exp (-y))⁻¹ := by
  have e1 : Real.exp (-y) = Real.exp (-(1 / 2 * y)) * Real.exp (-(1 / 2 * y)) := by rw [← Real.exp_add]; congr 1; ring
  have e2 : Real.exp (1 / 2 * y) * Real.exp (-(1 / 2 * y)) = 1 := by rw [← Real.exp_add]; simp
  have p1 : 0 < Real.exp (1 / 2 * y) := Real.exp_pos _
  have p2 : 0 < Real.exp (-(1 / 2 * y)) := Real.exp_pos _
  rw [Real.tanh_eq_sinh_div_cosh, Real.sinh_eq, Real.cosh_eq, e1]
  generalize Real.exp (1 / 2 * y) = a at *
  generalize Real.exp (-(1 / 2 * y)) = b at *
  have ha : a = b⁻¹ := eq_inv_of_mul_eq_one_left e2
  subst ha
  field_simp
  ring

/-- At a real number the two gatings agree. -/
theorem gated_real (y v : EReal) (hy : IsReal y) : gated y v = y * Ideal.logistic y * v := by
  obtain ⟨r, rfl⟩ := hy
  unfold gated
  rw [half_eq, ← EReal.coe_mul, Ideal.tanh_coe, Ideal.logistic_coe, ← EReal.coe_mul, ← EReal.coe_add, ← EReal.coe_mul, real_gate]

section Closure

variable (h : S8192x4096.Idx → EReal) (w : S2x4096x22016.Idx → EReal) (st : S4x2x11008.Idx → EReal) (cw : S3x11008.Idx → EReal) (cb : S11008.Idx → EReal)
  (hh : ∀ i, IsReal (h i)) (hw : ∀ i, IsReal (w i)) (hs : ∀ i, IsReal (st i)) (hc : ∀ i, IsReal (cw i)) (hb : ∀ i, IsReal (cb i))

include hh hw in
theorem gateAt_real (R : Fin 8192) (n : Fin 11008) : IsReal (gateAt h w R n) := by
  unfold gateAt upAt
  exact IsReal.sum _ _ fun k => (hh _).mul (hw _)

include hh hw hs in
theorem histAt_real (s : ℕ) (hs2 : s ≤ 2) (R : Fin 8192) (n : Fin 11008) : IsReal (histAt h w st s hs2 R n) := by
  unfold histAt
  split
  · exact hs _
  · exact gateAt_real h w hh hw _ _

include hh hw hs hc hb in
/-- The convolved gate is real. -/
theorem convAt_real (R : Fin 8192) (n : Fin 11008) : IsReal (convAt h w st cw cb R n) :=
  ((((histAt_real h w st hh hw hs _ _ _ _).mul (hc _)).add ((histAt_real h w st hh hw hs _ _ _ _).mul (hc _))).add ((gateAt_real h w hh hw _ _).mul (hc _))).add (hb _)

end Closure

end Cert.Proof.Ffn

end
-- ==== Proof.Ffn.Reference.lean ====
/-
  THE REFERENCE'S UP PROJECTION AND ACTIVATION, read at an index. Row `R` of the flat arrays is row `R % 2048` of sequence `R / 2048`.
-/
module

public import proofs.«01_k».proof.Proof.Ffn.Finite
public import proofs.«01_k».proof.Proof.Gen.Reference4Ideal.Run

@[expose] public section

noncomputable section

namespace Cert.Proof.Ffn

open Cert.Reference4Ideal Cert.Reference4Ideal.Gen
open Idealize.ShloMosaic Idealize.ShloMosaic.TcCoe Idealize.SL.Sem
open Idealize.ShloMosaic.Pipeline (Dat)

section Reference

variable (a0 : FVec Ideal S8192x4096 .bf16) (a1 : FVec Ideal S2x4096x22016 .f32) (a2 : FVec Ideal S4x2x11008 .f32) (a3 : FVec Ideal S3x11008 .f32) (a4 : FVec Ideal S11008 .f32)

/-- The reference's gate, by sequence, row and feature. -/
abbrev refGate : FVec Ideal S4x2048x11008 .f32 :=
  extractStridedSlice S4x2048x11008 ![0, 0, 0] (shapeCast _ (Host.dotGeneral dot_S8192x4096_S4096x22016_S8192x22016_1_0_0_1_n_n none (extf .f32 a0 bitsLt_bf16_f32) (shapeCast _ (extractStridedSlice S1x4096x22016 ![0, 0, 0] a1 slices_S2x4096x22016_S1x4096x22016_0_0_0) shapeCasts_S1x4096x22016_S4096x22016)) shapeCasts_S8192x22016_S4x2048x22016) slices_S4x2048x22016_S4x2048x11008_0_0_0

theorem refGate_apply (b : Fin 4) (s : Fin 2048) (n : Fin 11008) :
    refGate a0 a1 (ix3 b s n) = gateAt a0 a1 ⟨2048 * b.val + s.val, by omega⟩ n := by
  unfold gateAt upAt
  pointwise
  exact Finset.sum_congr rfl fun k _ => congrArg (fun z => (a0 (ix2 z k) : EReal) * a1 (ix3 0 k _)) (Fin.ext (by dsimp only; omega))

theorem reference_rows :
    (extractStridedSlice S8x8x11008 ![0, 1016, 0] (shapeCast _ (refGate a0 a1) shapeCasts_S4x2048x11008_S8x1024x11008) slices_S8x1024x11008_S8x8x11008_0_1016_0 : FVec Ideal S8x8x11008 .f32)
      = rowsSpec a0 a1 := by
  funext i
  idx_vars i
  unfold rowsSpec gateAt upAt
  pointwise
  exact Finset.sum_congr rfl fun k _ => congrArg (fun z => (a0 (ix2 z k) : EReal) * a1 (ix3 0 k _)) (Fin.ext (by dsimp only; omega))

/-- The reference's value. -/
abbrev refVal : FVec Ideal S4x2048x11008 .f32 :=
  extractStridedSlice S4x2048x11008 ![0, 0, 11008] (shapeCast _ (Host.dotGeneral dot_S8192x4096_S4096x22016_S8192x22016_1_0_0_1_n_n none (extf .f32 a0 bitsLt_bf16_f32) (shapeCast _ (extractStridedSlice S1x4096x22016 ![0, 0, 0] a1 slices_S2x4096x22016_S1x4096x22016_0_0_0) shapeCasts_S1x4096x22016_S4096x22016)) shapeCasts_S8192x22016_S4x2048x22016) slices_S4x2048x22016_S4x2048x11008_0_0_11008

theorem refVal_apply (b : Fin 4) (s : Fin 2048) (n : Fin 11008) :
    refVal a0 a1 (ix3 b s n) = valAt a0 a1 ⟨2048 * b.val + s.val, by omega⟩ n := by
  unfold valAt upAt
  pointwise
  exact Finset.sum_congr rfl fun k _ => congrArg (fun z => (a0 (ix2 z k) : EReal) * a1 (ix3 0 k _)) (Fin.ext (by dsimp only; omega))

/-- The state's two rows ahead of the gate's. -/
abbrev refPadded (g : FVec Ideal S4x2048x11008 .f32) : FVec Ideal S4x2050x11008 .f32 :=
  concatenate S4x2050x11008 1 [⟨S4x2x11008, a2⟩, ⟨S4x2048x11008, g⟩] concatenates_S4x2x11008_S4x2048x11008_S4x2050x11008_d1

theorem refPadded_apply (g : FVec Ideal S4x2048x11008 .f32) (b : Fin 4) (q : Fin 2050) (n : Fin 11008) :
    refPadded a2 g (ix3 b q n) = if p : q.val < 2 then (a2 (ix3 b ⟨q.val, p⟩ n) : EReal) else g (ix3 b ⟨q.val - 2, by omega⟩ n) := by
  pointwise

/-- A row of it is the gate `s` rows before, or the state. -/
theorem refPadded_hist (k : ℕ) (hk : k ≤ 2) (b : Fin 4) (s : Fin 2048) (n : Fin 11008) :
    refPadded a2 (refGate a0 a1) (ix3 b ⟨(2 - k) + s.val, by omega⟩ n) = histAt a0 a1 a2 k hk ⟨2048 * b.val + s.val, by omega⟩ n := by
  rw [refPadded_apply]
  unfold histAt
  by_cases h : s.val < k
  · rw [dif_pos (by dsimp only; omega), dif_pos (by dsimp only; omega)]
    refine congrArg a2 (congr (congrArg₂ ix3 (Fin.ext ?_) (Fin.ext ?_)) rfl)
    · show b.val = (2048 * b.val + s.val) / 2048
      omega
    · show 2 - k + s.val = (2048 * b.val + s.val) % 2048 + 2 - k
      omega
  · rw [dif_neg (by dsimp only; omega), dif_neg (by dsimp only; omega), refGate_apply]
    exact congrArg (fun z => gateAt a0 a1 z n) (Fin.ext (by show 2048 * b.val + (2 - k + s.val - 2) = 2048 * b.val + s.val - k; omega))

/-- The reference's convolution of it, with the bias. -/
abbrev refConv (xp : FVec Ideal S4x2050x11008 .f32) : FVec Ideal S4x2048x11008 .f32 :=
  addf (addf (addf (mulf (extractStridedSlice S4x2048x11008 ![0, 0, 0] xp slices_S4x2050x11008_S4x2048x11008_0_0_0) (broadcastInDim S4x2048x11008 ![0, 1, 2] bcast_S1x1x11008_S4x2048x11008_0_1_2 (broadcastInDim S1x1x11008 ![2] bcast_S11008_S1x1x11008_2 (shapeCast _ (extractStridedSlice S1x11008 ![0, 0] a3 slices_S3x11008_S1x11008_0_0) shapeCasts_S1x11008_S11008)))) (mulf (extractStridedSlice S4x2048x11008 ![0, 1, 0] xp slices_S4x2050x11008_S4x2048x11008_0_1_0) (broadcastInDim S4x2048x11008 ![0, 1, 2] bcast_S1x1x11008_S4x2048x11008_0_1_2 (broadcastInDim S1x1x11008 ![2] bcast_S11008_S1x1x11008_2 (shapeCast _ (extractStridedSlice S1x11008 ![1, 0] a3 slices_S3x11008_S1x11008_1_0) shapeCasts_S1x11008_S11008))))) (mulf (extractStridedSlice S4x2048x11008 ![0, 2, 0] xp slices_S4x2050x11008_S4x2048x11008_0_2_0) (broadcastInDim S4x2048x11008 ![0, 1, 2] bcast_S1x1x11008_S4x2048x11008_0_1_2 (broadcastInDim S1x1x11008 ![2] bcast_S11008_S1x1x11008_2 (shapeCast _ (extractStridedSlice S1x11008 ![2, 0] a3 slices_S3x11008_S1x11008_2_0) shapeCasts_S1x11008_S11008))))) (broadcastInDim S4x2048x11008 ![0, 1, 2] bcast_S1x1x11008_S4x2048x11008_0_1_2 (broadcastInDim S1x1x11008 ![2] bcast_S11008_S1x1x11008_2 a4))

theorem refConv_apply (xp : FVec Ideal S4x2050x11008 .f32) (b : Fin 4) (s : Fin 2048) (n : Fin 11008) :
    refConv a3 a4 xp (ix3 b s n)
      = (xp (ix3 b ⟨0 + s.val, by omega⟩ n) : EReal) * a3 (ix2 0 n) + (xp (ix3 b ⟨1 + s.val, by omega⟩ n) : EReal) * a3 (ix2 1 n)
        + (xp (ix3 b ⟨2 + s.val, by omega⟩ n) : EReal) * a3 (ix2 2 n) + a4 (ix1 n) := by
  pointwise

theorem refConv_eq (b : Fin 4) (s : Fin 2048) (n : Fin 11008) :
    refConv a3 a4 (refPadded a2 (refGate a0 a1)) (ix3 b s n) = convAt a0 a1 a2 a3 a4 ⟨2048 * b.val + s.val, by omega⟩ n := by
  have e0 : gateAt a0 a1 ⟨2048 * b.val + s.val, by omega⟩ n = histAt a0 a1 a2 0 (by decide) ⟨2048 * b.val + s.val, by omega⟩ n := by
    unfold histAt
    rw [dif_neg (by omega)]
    rfl
  unfold convAt
  rw [e0, refConv_apply]
  exact congrArg₂ (· + ·) (congrArg₂ (· + ·) (congrArg₂ (· + ·) (congrArg (· * (a3 (ix2 0 n) : EReal)) (refPadded_hist a0 a1 a2 2 (by decide) b s n))
    (congrArg (· * (a3 (ix2 1 n) : EReal)) (refPadded_hist a0 a1 a2 1 (by decide) b s n))) (congrArg (· * (a3 (ix2 2 n) : EReal)) (refPadded_hist a0 a1 a2 0 (by decide) b s n))) rfl

/-- The reference's gating, flattened. -/
abbrev refAct (y v : FVec Ideal S4x2048x11008 .f32) : FVec Ideal S8192x11008 .bf16 :=
  shapeCast _ (truncf .bf16 (mulf (mulf y (Host.divf (broadcastInDim S4x2048x11008 ![] bcast_S_S4x2048x11008 (constant S_ .f32 0x3F800000#32)) (addf (broadcastInDim S4x2048x11008 ![] bcast_S_S4x2048x11008 (constant S_ .f32 0x3F800000#32)) (Host.exp (Host.negf y))))) v) bitsLt_bf16_f32) shapeCasts_S4x2048x11008_S8192x11008

theorem refAct_apply (y v : FVec Ideal S4x2048x11008 .f32) (R : Fin 8192) (n : Fin 11008) :
    (refAct y v (ix2 R n) : EReal) = y (ix3 ⟨R.val / 2048, by omega⟩ ⟨R.val % 2048, by omega⟩ n) * Ideal.logistic (y (ix3 ⟨R.val / 2048, by omega⟩ ⟨R.val % 2048, by omega⟩ n)) * v (ix3 ⟨R.val / 2048, by omega⟩ ⟨R.val % 2048, by omega⟩ n) := by
  unfold Ideal.logistic
  pointwise

/-- The reference's activations are the specification's, where every argument is real. -/
theorem reference_act (r0 : ∀ i, IsReal (a0 i)) (r1 : ∀ i, IsReal (a1 i)) (r2 : ∀ i, IsReal (a2 i)) (r3 : ∀ i, IsReal (a3 i)) (r4 : ∀ i, IsReal (a4 i)) :
    refAct (refConv a3 a4 (refPadded a2 (refGate a0 a1))) (refVal a0 a1) = actSpec a0 a1 a2 a3 a4 := by
  funext i
  obtain ⟨R, n, rfl⟩ : ∃ (R : Fin 8192) (n : Fin 11008), i = ix2 R n := ⟨i 0, i 1, eq_ix2 i⟩
  have e : (⟨2048 * (R.val / 2048) + R.val % 2048, by omega⟩ : Fin 8192) = R := Fin.ext (by dsimp only; omega)
  rw [refAct_apply, refConv_eq, refVal_apply]
  dsimp only
  rw [e]
  unfold actSpec
  exact (gated_real _ _ (convAt_real a0 a1 a2 a3 a4 r0 r1 r2 r3 r4 R n)).symm

/-- The reference's first result, by its name. -/
theorem reference_result (m' : (ℓ : Loc nD τ sig) → Buf (Elt Ideal) ℓ) (c : Dev nD)
    (h : Cert.Pre_finite.fn (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) = fun _ => 1#1) :
    Value.res_main_v34 m' c
      = actSpec (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) :=
  have ⟨r0, r1, r2, r3, r4⟩ := real_of_finite _ _ _ _ _ h
  Eq.trans (by unfold Value.res_main_v34; rfl) (reference_act _ _ _ _ _ r0 r1 r2 r3 r4)

end Reference

end Cert.Proof.Ffn

end
-- ==== Proof.Ffn.Claim.lean ====
/-
  THE UP PROJECTION'S RUNS, side by side: the kernel and the reference end with the same activations and the same last rows.
-/
module

public import proofs.«01_k».proof.Proof.Ffn.Reference
public import proofs.«01_k».proof.Proof.Gen.Kernel4Ideal.Value
public import proofs.«01_k».proof.Defs
public import Idealize.ShloMosaic.Lib.Quiescent

@[expose] public section

noncomputable section

namespace Cert.Proof.Ffn

open Idealize.ShloMosaic Idealize.ShloMosaic.TcCoe Idealize.SL.Sem

/-- The reference leaves its arguments as they were, and it declares no semaphore. -/
theorem frame_reference : Cert.quiescent_Reference4Ideal := fun m' ρ' _ =>
  (θ_run _ _ _).mono (fun r hr => ⟨fun c => (hr c).2.2, sem_eq_zero_of_no_sems (by decide) r.2⟩) (Reference4Ideal.Value.run m' ρ')

/-- Both programs end with the gated activations and the last gate rows. -/
theorem algebraic : Cert.algebraic_Kernel4Ideal_Reference4Ideal_pre_finite := by
  intro m ρ m' ρ' hp h
  refine ⟨actResult m, rowsResult m,
    (θ_run _ _ _).mono (fun _ hr c => ⟨(hr c).1.trans (final_act m c), (hr c).2.1.trans (final_rows m c), (hr c).2.2⟩) (Kernel4Ideal.Value.run_blocks m ρ),
    (θ_run _ _ _).mono (fun _ hr c => ?_) (Reference4Ideal.Value.run m' ρ')⟩
  obtain ⟨e0, e1, e2, e3, e4⟩ := h c
  have hp : Cert.Pre_finite.fn (F := Ideal) _ _ _ _ _ = fun _ => 1#1 := hp c
  refine ⟨(hr c).1.trans ?_, (hr c).2.1.trans ?_, (hr c).2.2⟩
  · rw [← e0, ← e1, ← e2, ← e3, ← e4] at hp
    refine (reference_result m' c hp).trans ?_
    rw [e0, e1, e2, e3, e4]
  · rw [e0, e1]
    exact reference_rows _ _

end Cert.Proof.Ffn

end
-- ==== Proof.In.Table.lean ====
/-
  THE PREFETCHED TABLE of the input projection: the row at which each column tile of the projection begins, as @main
  writes it, and the side condition the program puts on it. Everything below it is stated at these contents.
-/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.StableHlo.Run
public import Idealize.ShloMosaic.Lib.Ring
public import Idealize.ShloMosaic.Lib.Tactic
public import Idealize.ShloMosaic.Lib.WordCmp

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

/-- The table as @main writes it, in units of sixteen rows. -/
abbrev tabRow : (⟨S22, .i32⟩ : BufTy).Contents (Elt F) := fun x => lit0 (S22.rowMajor x)

/-- The one table's contents. -/
def tabs : pre0.Contents (Elt F) := fun | ⟨0, _⟩ => tabRow | ⟨_ + 1, h⟩ => absurd h (Nat.not_lt.2 (Nat.le_add_left _ _))

/-- The row at which column tile `j` begins. -/
def rowOf (j : ℕ) : ℕ := (if h : j < 22 then lit0 ⟨j, h⟩ else 0#32).toNat * 16

theorem coord_word (i : grid0.Coords) : (Scalar.indexCast (BitVec.ofNat 32 (i 0).val) : Index).toNat = (i 0).val := by
  have h : (i 0).val < 22 := (i 0).isLt
  show (BitVec.ofNat 32 (i 0).val).toNat = _
  rw [BitVec.toNat_ofNat]; omega

/-- A one-element rectangle of the table at `off` is entry `off 0`. -/
theorem rowMajor22 (off : Fin 1 → ℕ) (h : ∀ a, off a + S1.size a ≤ S22.size a) (x : (Rect.unit (s := S22) off S1.size h).shape.Idx) :
    (S22.rowMajor ((Rect.unit (s := S22) off S1.size h).emb x)).val = off 0 := by
  have hx : (x 0).val = 0 := by have := (x 0).isLt; change (x 0).val < 1 at this; omega
  have e : (S22.rowMajor ((Rect.unit (s := S22) off S1.size h).emb x)).val = ((Rect.unit (s := S22) off S1.size h).emb x 0 : ℕ) := by
    rw [Shape.rowMajor_val_succ]
    refine (congrArg₂ (· + ·) (Nat.mul_one _) (Nat.lt_one_iff.mp (Fin.isLt _))).trans (Nat.add_zero _)
  rw [e, Rect.emb_apply]
  show off 0 + 1 * (x 0).val = _
  omega

theorem at_eq (i : grid0.Coords) : (tabs (F := F)).at 0 (Rect.unit (s := S22) (k0_off1 i) S1.size (k0_off1_inb i)) numel1_S1 = lit0 (i 0) :=
  congrArg lit0 (Fin.ext ((rowMajor22 (k0_off1 i) (k0_off1_inb i) _).trans (coord_word i)))

theorem rowMajor22_one (y : S22.Idx) : (S22.rowMajor y).val = (y 0).val := by
  rw [Shape.rowMajor_val_succ]
  exact (congrArg₂ (· + ·) (Nat.mul_one _) (Nat.lt_one_iff.mp (Fin.isLt _))).trans (Nat.add_zero _)

theorem atD_eq (i : grid0.Coords) : (tabs (F := F)).atD 0 (k0_off1 i) = lit0 (i 0) := by
  unfold Pipeline.Prefetch.Contents.atD
  split
  · exact congrArg lit0 (Fin.ext ((rowMajor22_one _).trans (coord_word i)))
  · next hn => exact absurd (fun a => by fin_cases a; exact k0_off1_inb i 0) hn

theorem mult_eq (i : grid0.Coords) : k0_mult1 (tabs (F := F)) i = lit0 (i 0) * 16#32 :=
  congrArg (fun v : BitVec 32 => v * 16#32) (atD_eq i)

theorem lit_facts : ∀ j : Fin 22, (16 : Int) ∣ (lit0 j * 16#32).toInt ∧ (lit0 j * 16#32).toNat = rowOf j ∧ rowOf j + 512 ≤ 13120 := by
  decide +kernel

/-- The block of the weights that column tile `j` is read from: the first layer's, at the table's row. -/
theorem transform_1 (i : grid0.Coords) :
    cc0_transform_1 k0_off1_inb numel1_S1 (tabs (F := F)) i = ![0, rowOf (i 0).val, 0] := by
  have h : cc0_transform_1 k0_off1_inb numel1_S1 (tabs (F := F)) i = ![0, (lit0 (i 0) * 16#32).toNat, 0] :=
    congrArg (fun v : BitVec 32 => (![0, (v * 16#32).toNat, 0] : Fin 3 → ℕ)) (at_eq i)
  rw [h, (lit_facts (i 0)).2.1]

/-- The program's side condition holds of the table. -/
theorem ok_tabs : ok0 (tabs (F := F)) := by
  unfold ok0
  refine ⟨fun i => ?_, fun i => ⟨fun a => ?_, Or.inl rfl⟩⟩
  · rw [mult_eq]; exact (lit_facts (i 0)).1
  · rw [transform_1]
    have := (lit_facts (i 0)).2.2
    match a with
    | ⟨0, _⟩ => show 0 + 1 ≤ 2; omega
    | ⟨1, _⟩ => exact this
    | ⟨2, _⟩ => show 0 + 4096 ≤ 4096; omega

/-- The admissible contents the proof is written at. -/
def adm : (pcfg0 (F := F)).Adm := ⟨tabs, ok_tabs⟩

/-- The pipeline there. -/
abbrev cfgA : Pipeline.Cfg sig Λ₀ := cfg0 (adm (F := F))

/-- It as @main's one pipeline. -/
abbrev pcs : Fin 1 → Pipeline.Cfg sig Λ₀ := Pipeline.pin (pcfgs (F := F)) fun | 0 => adm | ⟨_ + 1, h⟩ => absurd h (Nat.not_lt.2 (Nat.le_add_left _ _))

end Cert.Kernel5Ideal.In
end
-- ==== Proof.In.Points.lean ====
/-
  THE INPUT PROJECTION UP TO ITS BODY: the arrays as the region finds them, each window's block, the body's branch
  conditions over the grid's points, and the staging buffers the body is called with.
-/
module

public import proofs.«01_k».proof.Proof.In.Table

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the table written, the weights transposed. -/
def V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl⟩

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

theorem V_main_arg0 (c : Dev nD) : V m c main_arg0 = m ((c : Thread nD τ).loc main_arg0) := by unfold V; after_results
theorem V_main_arg1 (c : Dev nD) : V m c main_arg1 = m ((c : Thread nD τ).loc main_arg1) := by unfold V; after_results
theorem V_main_arg2 (c : Dev nD) : V m c main_arg2 = m ((c : Thread nD τ).loc main_arg2) := by unfold V; after_results
/-- The table holds its literal. -/
theorem V_main_c (c : Dev nD) : V m c main_c = tabRow (F := F) := by unfold V; after_results; rfl
/-- The windows on the weights read them transposed. -/
theorem V_main_v0 (c : Dev nD) : V m c main_v0 = transpose S2x13120x4096 [0, 2, 1] (m ((c : Thread nD τ).loc main_arg2)) transposes_S2x4096x13120_S2x13120x4096_0_2_1 := by
  unfold V; after_results

/-! ## The windows' blocks -/

/-- Window `w`'s block at point `t`, read off its array as the region finds it. -/
def iblk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-! ## The body's branch conditions -/

/-- The point opens its column tile. -/
abbrev cond1 (i : grid0.Coords) : Prop := (Scalar.cmpi .ne (Scalar.extui (Scalar.cmpi .eq (BitVec.ofNat 32 (i 1).val) 0#32)) 0#32) = 1#1
/-- The column tile is read whole from the weights. -/
abbrev cond2 (i : grid0.Coords) : Prop := (Scalar.cmpi .ne (Scalar.extui (Scalar.cmpi .slt (BitVec.ofNat 32 (i 0).val) 21#32)) 0#32) = 1#1
/-- The column tile is put together from three pieces. -/
abbrev cond3 (i : grid0.Coords) : Prop := (Scalar.cmpi .ne (Scalar.extui (Scalar.cmpi .eq (BitVec.ofNat 32 (i 0).val) 21#32)) 0#32) = 1#1

theorem coords0 (t : Fin grid0.N) : (grid0.coords t 0).val = t.val / 8 % 22 := Pipeline.Grid.coords_val t 0 (by decide) rfl
theorem coords1 (t : Fin grid0.N) : (grid0.coords t 1).val = t.val % 8 := by
  have e : (grid0.coords t 1).val = t.val / 1 % 8 := Pipeline.Grid.coords_val t 1 (by decide) rfl
  rwa [Nat.div_one] at e

theorem hcond1 (t : Fin grid0.N) : cond1 (grid0.coords t) ↔ t.val % 8 = 0 := by
  have ht : t.val < 176 := Nat.lt_of_lt_of_eq t.isLt N_0
  simp only [cond1, coords1]
  word_cmp

theorem hcond2 (t : Fin grid0.N) : cond2 (grid0.coords t) ↔ t.val / 8 < 21 := by
  have ht : t.val < 176 := Nat.lt_of_lt_of_eq t.isLt N_0
  simp only [cond2, coords0]
  word_cmp

theorem hcond3 (t : Fin grid0.N) : cond3 (grid0.coords t) ↔ t.val / 8 = 21 := by
  have ht : t.val < 176 := Nat.lt_of_lt_of_eq t.isLt N_0
  simp only [cond3, coords0]
  word_cmp

theorem hcond4 (t : Fin grid0.N) : k0_cond4 (grid0.coords t) = 1#1 ↔ t.val % 8 = 0 := hcond1 t

/-! ## The staging buffers -/

abbrev ms0 (t : Fin (cfgA (F := F)).N) : Memref sig .tc .vmem S1024x4096 .bf16 := spec0_0.stage ((cfgA (F := F)).slots t 0)
abbrev hs0 (t : Fin (cfgA (F := F)).N) : (ms0 t).IsWhole := hstage0_0 (((cfgA (F := F)).slots t 0).cast nbuf0_0)
abbrev ms1 (t : Fin (cfgA (F := F)).N) : Memref sig .tc .vmem S1x512x4096 .f32 := spec0_1.stage ((cfgA (F := F)).slots t 1)
abbrev hs1 (t : Fin (cfgA (F := F)).N) : (ms1 t).IsWhole := hstage0_1 (((cfgA (F := F)).slots t 1).cast nbuf0_1)
abbrev ms2 (t : Fin (cfgA (F := F)).N) : Memref sig .tc .vmem S1x288x4096 .f32 := spec0_2.stage ((cfgA (F := F)).slots t 2)
abbrev hs2 (t : Fin (cfgA (F := F)).N) : (ms2 t).IsWhole := hstage0_2 (((cfgA (F := F)).slots t 2).cast nbuf0_2)
abbrev ms3 (t : Fin (cfgA (F := F)).N) : Memref sig .tc .vmem S1x16x4096 .f32 := spec0_3.stage ((cfgA (F := F)).slots t 3)
abbrev hs3 (t : Fin (cfgA (F := F)).N) : (ms3 t).IsWhole := hstage0_3 (((cfgA (F := F)).slots t 3).cast nbuf0_3)
abbrev ms4 (t : Fin (cfgA (F := F)).N) : Memref sig .tc .vmem S1x16x4096 .f32 := spec0_4.stage ((cfgA (F := F)).slots t 4)
abbrev hs4 (t : Fin (cfgA (F := F)).N) : (ms4 t).IsWhole := hstage0_4 (((cfgA (F := F)).slots t 4).cast nbuf0_4)
abbrev ms5 (t : Fin (cfgA (F := F)).N) : Memref sig .tc .vmem S64x4096 .bf16 := spec0_5.stage ((cfgA (F := F)).slots t 5)
abbrev hs5 (t : Fin (cfgA (F := F)).N) : (ms5 t).IsWhole := hstage0_5 (((cfgA (F := F)).slots t 5).cast nbuf0_5)
abbrev ms6 (t : Fin (cfgA (F := F)).N) : Memref sig .tc .vmem S1024x512 .f32 := spec0_6.stage ((cfgA (F := F)).slots t 6)
abbrev hs6 (t : Fin (cfgA (F := F)).N) : (ms6 t).IsWhole := hstage0_6 (((cfgA (F := F)).slots t 6).cast nbuf0_6)
abbrev ms7 (t : Fin (cfgA (F := F)).N) : Memref sig .tc .vmem S64x512 .f32 := spec0_7.stage ((cfgA (F := F)).slots t 7)
abbrev hs7 (t : Fin (cfgA (F := F)).N) : (ms7 t).IsWhole := hstage0_7 (((cfgA (F := F)).slots t 7).cast nbuf0_7)
/-- The scratch: the column tile of the weights, rounded. -/
abbrev scM : Memref sig .tc .vmem S512x4096 .bf16 := Memref.whole cc0_scratch0

/-- The body at point `t`. -/
abbrev bodyAt (t : Fin (cfgA (F := F)).N) : Prog (TpuEff nD τ sig (Elt F) Λ₀ .tc) PUnit :=
  cc0_mm_in (grid0.coords t) (Memref.whole main_c) (Memref.isWhole_whole _) (ms0 t) (hs0 t) (ms1 t) (hs1 t) (ms2 t) (hs2 t) (ms3 t) (hs3 t)
    (ms4 t) (hs4 t) (ms5 t) (hs5 t) (ms6 t) (hs6 t) (ms7 t) (hs7 t) scM (Memref.isWhole_whole _)

/-- The body table's row at point `t` is that. -/
theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]

/-- The launch's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel5Ideal.In
end
-- ==== Proof.In.RunA.lean ====
/-
  THE BODY'S RUN at the first point of a column tile read whole.
-/
module

public import proofs.«01_k».proof.Proof.In.Points

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point of a column tile read whole from the weights: the pieces each buffer ends with, found by the run. -/
def runA (c : Dev nD) (i : grid0.Coords) (a2 : Memref sig .tc .smem S22 .i32) (h2 : a2.IsWhole) (a3 : Memref sig .tc .vmem S1024x4096 .bf16) (h3 : a3.IsWhole)
    (a4 : Memref sig .tc .vmem S1x512x4096 .f32) (h4 : a4.IsWhole) (a5 : Memref sig .tc .vmem S1x288x4096 .f32) (h5 : a5.IsWhole)
    (a6 : Memref sig .tc .vmem S1x16x4096 .f32) (h6 : a6.IsWhole) (a7 : Memref sig .tc .vmem S1x16x4096 .f32) (h7 : a7.IsWhole)
    (a8 : Memref sig .tc .vmem S64x4096 .bf16) (h8 : a8.IsWhole) (a9 : Memref sig .tc .vmem S1024x512 .f32) (h9 : a9.IsWhole)
    (a10 : Memref sig .tc .vmem S64x512 .f32) (h10 : a10.IsWhole) (a11 : Memref sig .tc .vmem S512x4096 .bf16) (h11 : a11.IsWhole)
    (hc1 : cond1 i) (hc2 : cond2 i) (hc3 : ¬cond3 i) (hc4 : k0_cond4 i = 1#1)
    (x0 : Vec F S1024x4096 .bf16) (x1 : Vec F S1x512x4096 .f32) (x2 : Vec F S1x288x4096 .f32) (x3 x4 : Vec F S1x16x4096 .f32) (x5 : Vec F S64x4096 .bf16) :
    Σ' (L6 : List (View.Piece (Elt F) S1024x512 .f32)) (L7 : List (View.Piece (Elt F) S64x512 .f32)), { LS : List (View.Piece (Elt F) S512x4096 .bf16) //
      ∀ (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ d, owns (c : Thread nD τ) a9 fullShare d) ∗ (∃ d, owns (c : Thread nD τ) a10 fullShare d) ∗ (∃ d, owns (c : Thread nD τ) a11 fullShare d)
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ f, a9.view.loc (c : Thread nD τ) ↦[a9.view.set]{fullShare} a9.view.writes (Elt F) f L6) ∗ (∃ f, a10.view.loc (c : Thread nD τ) ↦[a10.view.set]{fullShare} a10.view.writes (Elt F) f L7) ∗ (∃ f, a11.view.loc (c : Thread nD τ) ↦[a11.view.set]{fullShare} a11.view.writes (Elt F) f LS)) -∗ K ⟨⟩))
          ⊢ wp frame (wpE (defs₀ (F := F)) Variants.none c none) E (cc0_mm_in i a2 h2 a3 h3 a4 h4 a5 h5 a6 h6 a7 h7 a8 h8 a9 h9 a10 h10 a11 h11) K } := by
  refine ⟨?_, ?_, ?_, fun E K => ?run⟩
  case run =>
    simp only [cc0_mm_in_eq_skeleton]; unfold cc0_mm_in_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    sl_exec (disch := first | sl_exact hc1 | sl_exact hc2 | sl_exact hc3 | sl_exact hc4)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]; · iexists _; iexact H6
    isplitl [H7]; · iexists _; iexact H7
    iexists _; iexact HS

end Cert.Kernel5Ideal.In
end
-- ==== Proof.In.RunT.lean ====
/-
  THE BODY'S RUN at the first point of the last column tile, put together from three pieces.
-/
module

public import proofs.«01_k».proof.Proof.In.RunA

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point of the column tile put together from three pieces of the weights: the pieces each buffer ends with. -/
def runT (c : Dev nD) (i : grid0.Coords) (a2 : Memref sig .tc .smem S22 .i32) (h2 : a2.IsWhole) (a3 : Memref sig .tc .vmem S1024x4096 .bf16) (h3 : a3.IsWhole)
    (a4 : Memref sig .tc .vmem S1x512x4096 .f32) (h4 : a4.IsWhole) (a5 : Memref sig .tc .vmem S1x288x4096 .f32) (h5 : a5.IsWhole)
    (a6 : Memref sig .tc .vmem S1x16x4096 .f32) (h6 : a6.IsWhole) (a7 : Memref sig .tc .vmem S1x16x4096 .f32) (h7 : a7.IsWhole)
    (a8 : Memref sig .tc .vmem S64x4096 .bf16) (h8 : a8.IsWhole) (a9 : Memref sig .tc .vmem S1024x512 .f32) (h9 : a9.IsWhole)
    (a10 : Memref sig .tc .vmem S64x512 .f32) (h10 : a10.IsWhole) (a11 : Memref sig .tc .vmem S512x4096 .bf16) (h11 : a11.IsWhole)
    (hc1 : cond1 i) (hc2 : ¬cond2 i) (hc3 : cond3 i) (hc4 : k0_cond4 i = 1#1)
    (x0 : Vec F S1024x4096 .bf16) (x1 : Vec F S1x512x4096 .f32) (x2 : Vec F S1x288x4096 .f32) (x3 x4 : Vec F S1x16x4096 .f32) (x5 : Vec F S64x4096 .bf16) :
    Σ' (L6 : List (View.Piece (Elt F) S1024x512 .f32)) (L7 : List (View.Piece (Elt F) S64x512 .f32)), { LS : List (View.Piece (Elt F) S512x4096 .bf16) //
      ∀ (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ d, owns (c : Thread nD τ) a9 fullShare d) ∗ (∃ d, owns (c : Thread nD τ) a10 fullShare d) ∗ (∃ d, owns (c : Thread nD τ) a11 fullShare d)
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ f, a9.view.loc (c : Thread nD τ) ↦[a9.view.set]{fullShare} a9.view.writes (Elt F) f L6) ∗ (∃ f, a10.view.loc (c : Thread nD τ) ↦[a10.view.set]{fullShare} a10.view.writes (Elt F) f L7) ∗ (∃ f, a11.view.loc (c : Thread nD τ) ↦[a11.view.set]{fullShare} a11.view.writes (Elt F) f LS)) -∗ K ⟨⟩))
          ⊢ wp frame (wpE (defs₀ (F := F)) Variants.none c none) E (cc0_mm_in i a2 h2 a3 h3 a4 h4 a5 h5 a6 h6 a7 h7 a8 h8 a9 h9 a10 h10 a11 h11) K } := by
  refine ⟨?_, ?_, ?_, fun E K => ?run⟩
  case run =>
    simp only [cc0_mm_in_eq_skeleton]; unfold cc0_mm_in_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    sl_exec (disch := first | sl_exact hc1 | sl_exact hc2 | sl_exact hc3 | sl_exact hc4)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]; · iexists _; iexact H6
    isplitl [H7]; · iexists _; iexact H7
    iexists _; iexact HS

end Cert.Kernel5Ideal.In
end
-- ==== Proof.In.RunH.lean ====
/-
  THE BODY'S RUN at a later point of a column tile.
-/
module

public import proofs.«01_k».proof.Proof.In.RunT

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at any later point of a column tile: the scratch is read and the second output not touched. -/
def runH (c : Dev nD) (i : grid0.Coords) (a2 : Memref sig .tc .smem S22 .i32) (h2 : a2.IsWhole) (a3 : Memref sig .tc .vmem S1024x4096 .bf16) (h3 : a3.IsWhole)
    (a4 : Memref sig .tc .vmem S1x512x4096 .f32) (h4 : a4.IsWhole) (a5 : Memref sig .tc .vmem S1x288x4096 .f32) (h5 : a5.IsWhole)
    (a6 : Memref sig .tc .vmem S1x16x4096 .f32) (h6 : a6.IsWhole) (a7 : Memref sig .tc .vmem S1x16x4096 .f32) (h7 : a7.IsWhole)
    (a8 : Memref sig .tc .vmem S64x4096 .bf16) (h8 : a8.IsWhole) (a9 : Memref sig .tc .vmem S1024x512 .f32) (h9 : a9.IsWhole)
    (a10 : Memref sig .tc .vmem S64x512 .f32) (h10 : a10.IsWhole) (a11 : Memref sig .tc .vmem S512x4096 .bf16) (h11 : a11.IsWhole)
    (hc1 : ¬cond1 i) (hc4 : ¬k0_cond4 i = 1#1)
    (x0 : Vec F S1024x4096 .bf16) (xs : Vec F S512x4096 .bf16) :
    { L6 : List (View.Piece (Elt F) S1024x512 .f32) //
      ∀ (E : Set ℕ) (K : PUnit → sProp 𝕄),
        iprop(owns (c : Thread nD τ) a3 fullShare x0 ∗ (∃ d, owns (c : Thread nD τ) a9 fullShare d) ∗ owns (c : Thread nD τ) a11 fullShare xs
            ∗ (iprop(owns (c : Thread nD τ) a3 fullShare x0 ∗ (∃ f, a9.view.loc (c : Thread nD τ) ↦[a9.view.set]{fullShare} a9.view.writes (Elt F) f L6) ∗ owns (c : Thread nD τ) a11 fullShare xs) -∗ K ⟨⟩))
          ⊢ wp frame (wpE (defs₀ (F := F)) Variants.none c none) E (cc0_mm_in i a2 h2 a3 h3 a4 h4 a5 h5 a6 h6 a7 h7 a8 h8 a9 h9 a10 h10 a11 h11) K } := by
  refine ⟨?_, fun E K => ?run⟩
  case run =>
    simp only [cc0_mm_in_eq_skeleton]; unfold cc0_mm_in_skel
    unfold owns
    iintro ⟨⟨%f0, %hf0, H0⟩, ⟨%d6, %f6, -, H6⟩, ⟨%fs, %hfs, HS⟩, Hk⟩
    obtain rfl := h3.eq_unread hf0; obtain rfl := h11.eq_unread hfs
    sl_exec (disch := first | sl_exact hc1 | sl_exact hc4)
    sl_step
    iapply Hk
    isplitl [H0]
    · iexists _; isplitr; · ipureintro; exact h3.read_unread _
      iexact H0
    isplitl [H6]; · iexists _; iexact H6
    iexists _; isplitr; · ipureintro; exact h11.read_unread _
    iexact HS

end Cert.Kernel5Ideal.In
end
-- ==== Proof.In.Body.lean ====
/-
  WHAT ONE POINT OF THE INPUT PROJECTION LEAVES, over any float instance: a column tile of the weights rounded into scratch
  at its first point, and there the guest rows' product with it; at every point the product of a block of the rows with it.
-/
module

public import proofs.«01_k».proof.Proof.In.RunH
public import Idealize.ShloMosaic.Lib.Pipeline.ValueKit.Basic

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- The last column tile: zeros, with the three pieces rounded over its rows 0 to 287, 384 to 399 and 400 to 415. -/
def tail (x2 : Vec F S1x288x4096 .f32) (x3 x4 : Vec F S1x16x4096 .f32) : Vec F S512x4096 .bf16 :=
  View.canon (Val := Elt F) (s := S512x4096) (e := .bf16)
    [⟨Rect.unit ![400, 0] ![16, 4096] inb_S512x4096_S16x4096_400_0, k0_pay5 x4⟩,
      ⟨Rect.unit ![384, 0] ![16, 4096] inb_S512x4096_S16x4096_384_0, k0_pay4 x3⟩,
      ⟨Rect.unit ![0, 0] ![288, 4096] inb_S512x4096_S288x4096_0_0, k0_pay3 x2⟩,
      ⟨Rect.unit ![0, 0] ![512, 4096] inb_S512x4096_S512x4096_0_0, k0_pay2⟩]

theorem tail_cover (w5 : (Rect.unit (s := S512x4096) ![400, 0] ![16, 4096] inb_S512x4096_S16x4096_400_0).shape.Idx → Elt F .bf16)
    (w4 : (Rect.unit (s := S512x4096) ![384, 0] ![16, 4096] inb_S512x4096_S16x4096_384_0).shape.Idx → Elt F .bf16)
    (w3 : (Rect.unit (s := S512x4096) ![0, 0] ![288, 4096] inb_S512x4096_S288x4096_0_0).shape.Idx → Elt F .bf16)
    (w2 : (Rect.unit (s := S512x4096) ![0, 0] ![512, 4096] inb_S512x4096_S512x4096_0_0).shape.Idx → Elt F .bf16) (y : S512x4096.Idx) :
    ∃ p ∈ ([⟨Rect.unit ![400, 0] ![16, 4096] inb_S512x4096_S16x4096_400_0, w5⟩, ⟨Rect.unit ![384, 0] ![16, 4096] inb_S512x4096_S16x4096_384_0, w4⟩,
      ⟨Rect.unit ![0, 0] ![288, 4096] inb_S512x4096_S288x4096_0_0, w3⟩, ⟨Rect.unit ![0, 0] ![512, 4096] inb_S512x4096_S512x4096_0_0, w2⟩] : List (View.Piece (Elt F) S512x4096 .bf16)), y ∈ p.1.set :=
  View.cover_of_wholeMem _ ⟨_, List.mem_cons_of_mem _ (List.mem_cons_of_mem _ (List.mem_cons_of_mem _ List.mem_cons_self)), decide_eq_true ⟨fun a => congrFun zero2 a, fun _ => rfl, fun _ => rfl⟩⟩ y

variable (c : Dev nD) (i : grid0.Coords) (a2 : Memref sig .tc .smem S22 .i32) (h2 : a2.IsWhole) (a3 : Memref sig .tc .vmem S1024x4096 .bf16) (h3 : a3.IsWhole)
    (a4 : Memref sig .tc .vmem S1x512x4096 .f32) (h4 : a4.IsWhole) (a5 : Memref sig .tc .vmem S1x288x4096 .f32) (h5 : a5.IsWhole)
    (a6 : Memref sig .tc .vmem S1x16x4096 .f32) (h6 : a6.IsWhole) (a7 : Memref sig .tc .vmem S1x16x4096 .f32) (h7 : a7.IsWhole)
    (a8 : Memref sig .tc .vmem S64x4096 .bf16) (h8 : a8.IsWhole) (a9 : Memref sig .tc .vmem S1024x512 .f32) (h9 : a9.IsWhole)
    (a10 : Memref sig .tc .vmem S64x512 .f32) (h10 : a10.IsWhole) (a11 : Memref sig .tc .vmem S512x4096 .bf16) (h11 : a11.IsWhole)
    (x0 : Vec F S1024x4096 .bf16) (x1 : Vec F S1x512x4096 .f32) (x2 : Vec F S1x288x4096 .f32) (x3 x4 : Vec F S1x16x4096 .f32) (x5 : Vec F S64x4096 .bf16) (xs : Vec F S512x4096 .bf16)

/-! ## The pieces, read back -/

theorem valueA_rows (hc1 : cond1 i) (hc2 : cond2 i) (hc3 : ¬cond3 i) (hc4 : k0_cond4 i = 1#1) (f : a9.view.ty.Contents (Elt F)) :
    a9.view.read (Elt F) (a9.view.writes (Elt F) f (runA c i a2 h2 a3 h3 a4 h4 a5 h5 a6 h6 a7 h7 a8 h8 a9 h9 a10 h10 a11 h11 hc1 hc2 hc3 hc4 x0 x1 x2 x3 x4 x5).1) = k0_pay7 x0 (k0_pay1 x1) := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  simp only [View.readAt_eq_ld, h3.read_unread, h4.read_unread, View.ld_unit_zero (S := S1024x4096) zero2, View.ld_unit_zero (S := S1x512x4096) zero3, View.readCov_unit_zero (S := S512x4096) _ zero2]

theorem valueA_guest (hc1 : cond1 i) (hc2 : cond2 i) (hc3 : ¬cond3 i) (hc4 : k0_cond4 i = 1#1) (f : a10.view.ty.Contents (Elt F)) :
    a10.view.read (Elt F) (a10.view.writes (Elt F) f (runA c i a2 h2 a3 h3 a4 h4 a5 h5 a6 h6 a7 h7 a8 h8 a9 h9 a10 h10 a11 h11 hc1 hc2 hc3 hc4 x0 x1 x2 x3 x4 x5).2.1) = k0_pay6 x5 (k0_pay1 x1) := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  simp only [View.readAt_eq_ld, h8.read_unread, h4.read_unread, View.ld_unit_zero (S := S64x4096) zero2, View.ld_unit_zero (S := S1x512x4096) zero3, View.readCov_unit_zero (S := S512x4096) _ zero2]

theorem valueA_scratch (hc1 : cond1 i) (hc2 : cond2 i) (hc3 : ¬cond3 i) (hc4 : k0_cond4 i = 1#1) (f : a11.view.ty.Contents (Elt F)) :
    a11.view.read (Elt F) (a11.view.writes (Elt F) f (runA c i a2 h2 a3 h3 a4 h4 a5 h5 a6 h6 a7 h7 a8 h8 a9 h9 a10 h10 a11 h11 hc1 hc2 hc3 hc4 x0 x1 x2 x3 x4 x5).2.2.1) = k0_pay1 x1 := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  simp only [View.readAt_eq_ld, h4.read_unread, View.ld_unit_zero (S := S1x512x4096) zero3]

theorem valueT_rows (hc1 : cond1 i) (hc2 : ¬cond2 i) (hc3 : cond3 i) (hc4 : k0_cond4 i = 1#1) (f : a9.view.ty.Contents (Elt F)) :
    a9.view.read (Elt F) (a9.view.writes (Elt F) f (runT c i a2 h2 a3 h3 a4 h4 a5 h5 a6 h6 a7 h7 a8 h8 a9 h9 a10 h10 a11 h11 hc1 hc2 hc3 hc4 x0 x1 x2 x3 x4 x5).1) = k0_pay7 x0 (tail x2 x3 x4) := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  rw [View.readCov_eq_canon_ld _ _ _ (tail_cover _ _ _ _)]
  simp only [View.readAt_eq_ld, h3.read_unread, h5.read_unread, h6.read_unread, h7.read_unread, View.ld_unit_zero (S := S1024x4096) zero2, View.ld_unit_zero (S := S512x4096) zero2, View.ld_unit_zero (S := S1x288x4096) zero3, View.ld_unit_zero (S := S1x16x4096) zero3]
  rfl

theorem valueT_guest (hc1 : cond1 i) (hc2 : ¬cond2 i) (hc3 : cond3 i) (hc4 : k0_cond4 i = 1#1) (f : a10.view.ty.Contents (Elt F)) :
    a10.view.read (Elt F) (a10.view.writes (Elt F) f (runT c i a2 h2 a3 h3 a4 h4 a5 h5 a6 h6 a7 h7 a8 h8 a9 h9 a10 h10 a11 h11 hc1 hc2 hc3 hc4 x0 x1 x2 x3 x4 x5).2.1) = k0_pay6 x5 (tail x2 x3 x4) := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  rw [View.readCov_eq_canon_ld _ _ _ (tail_cover _ _ _ _)]
  simp only [View.readAt_eq_ld, h8.read_unread, h5.read_unread, h6.read_unread, h7.read_unread, View.ld_unit_zero (S := S64x4096) zero2, View.ld_unit_zero (S := S512x4096) zero2, View.ld_unit_zero (S := S1x288x4096) zero3, View.ld_unit_zero (S := S1x16x4096) zero3]
  rfl

theorem valueT_scratch (hc1 : cond1 i) (hc2 : ¬cond2 i) (hc3 : cond3 i) (hc4 : k0_cond4 i = 1#1) (f : a11.view.ty.Contents (Elt F)) :
    a11.view.read (Elt F) (a11.view.writes (Elt F) f (runT c i a2 h2 a3 h3 a4 h4 a5 h5 a6 h6 a7 h7 a8 h8 a9 h9 a10 h10 a11 h11 hc1 hc2 hc3 hc4 x0 x1 x2 x3 x4 x5).2.2.1) = tail x2 x3 x4 := by
  refine (View.read_writes_eq_canon _ _ _ (View.cover_of_wholeMem _ ⟨_, List.mem_cons_of_mem _ (List.mem_cons_of_mem _ (List.mem_cons_of_mem _ List.mem_cons_self)), decide_eq_true ⟨fun a => congrFun zero2 a, fun _ => rfl, fun _ => rfl⟩⟩)).trans ?_
  sl_unfold_words
  simp only [View.readAt_eq_ld, h5.read_unread, h6.read_unread, h7.read_unread, View.ld_unit_zero (S := S1x288x4096) zero3, View.ld_unit_zero (S := S1x16x4096) zero3]
  rfl

theorem valueH_rows (hc1 : ¬cond1 i) (hc4 : ¬k0_cond4 i = 1#1) (f : a9.view.ty.Contents (Elt F)) :
    a9.view.read (Elt F) (a9.view.writes (Elt F) f (runH c i a2 h2 a3 h3 a4 h4 a5 h5 a6 h6 a7 h7 a8 h8 a9 h9 a10 h10 a11 h11 hc1 hc4 x0 xs).1) = k0_pay7 x0 xs := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  simp only [View.readAt_eq_ld, h3.read_unread, h11.read_unread, View.ld_unit_zero (S := S1024x4096) zero2, View.ld_unit_zero (S := S512x4096) zero2]

end Cert.Kernel5Ideal.In
end
-- ==== Proof.In.Data.lean ====
/-
  THE INPUT PROJECTION'S PROOF DATA: what each staging buffer and the scratch hold after each point, the body's triple at a
  generic point, and the launch.
-/
module

public import proofs.«01_k».proof.Proof.In.Body
public import Idealize.ShloMosaic.Lib.Claim
public import Idealize.ShloMosaic.Lib.Pipeline.TableIdle

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of `t`'s column tile. -/
def open_ (t : Fin (cfgA (F := F)).N) : Fin (cfgA (F := F)).N := ⟨t.val - t.val % 8, Nat.lt_of_le_of_lt (Nat.sub_le _ _) t.isLt⟩

theorem open_self (t : Fin (cfgA (F := F)).N) (h : t.val % 8 = 0) : open_ t = t := Fin.ext (by show t.val - t.val % 8 = t.val; omega)

theorem open_prev (t : Fin (cfgA (F := F)).N) (h : ¬t.val % 8 = 0) :
    open_ (F := F) ⟨t.val - 1, Nat.lt_of_le_of_lt (Nat.sub_le _ _) t.isLt⟩ = open_ t :=
  Fin.ext (by show t.val - 1 - (t.val - 1) % 8 = t.val - t.val % 8; omega)

/-- The column tile put in scratch at its first point `t`. -/
def tile (c : Dev nD) (t : Fin (cfgA (F := F)).N) : Vec F S512x4096 .bf16 :=
  if t.val / 8 < 21 then k0_pay1 (iblk m c 1 t) else tail (iblk m c 2 t) (iblk m c 3 t) (iblk m c 4 t)

/-- The scratch after point `t`. -/
def scr (c : Dev nD) (t : Fin (cfgA (F := F)).N) : Vec F S512x4096 .bf16 := tile m c (open_ t)
/-- The rows' block after point `t`. -/
def rows (c : Dev nD) (t : Fin (cfgA (F := F)).N) : Vec F S1024x512 .f32 := k0_pay7 (iblk m c 0 t) (scr m c t)
/-- The guest rows' block after point `t`: as its column tile's first point left it. -/
def guest (c : Dev nD) (t : Fin (cfgA (F := F)).N) : Vec F S64x512 .f32 := k0_pay6 (iblk m c 5 (open_ t)) (scr m c t)

theorem scr_prev (c : Dev nD) (t : Fin (cfgA (F := F)).N) (h : ¬t.val % 8 = 0) :
    scr m c ⟨t.val - 1, Nat.lt_of_le_of_lt (Nat.sub_le _ _) t.isLt⟩ = scr m c t := by
  unfold scr; rw [open_prev t h]

theorem guest_prev (c : Dev nD) (t : Fin (cfgA (F := F)).N) (h : ¬t.val % 8 = 0) :
    guest m c ⟨t.val - 1, Nat.lt_of_le_of_lt (Nat.sub_le _ _) t.isLt⟩ = guest m c t := by
  unfold guest; rw [open_prev t h, scr_prev m c t h]

/-- The invariant before position `n`: the scratch at anything before the first point, afterwards at what the point before left. -/
def PhiS (c : Dev nD) : (n : ℕ) → n ≤ (cfgA (F := F)).N → sProp 𝕄
  | 0, _ => Pipeline.ΦA spec0 c
  | n + 1, hn => iprop(iprop(owns (c : Thread nD τ) scM fullShare (scr m c ⟨n, hn⟩)) ∗ (∃ r, prngReg c r))

theorem PhiS_zero (c : Dev nD) (n : ℕ) (h : n ≤ (cfgA (F := F)).N) (hz : n = 0) : PhiS m c n h = Pipeline.ΦA spec0 c := by
  subst hz; rfl

theorem PhiS_succ (c : Dev nD) (n : ℕ) (hn : n < (cfgA (F := F)).N) :
    PhiS m c (n + 1) hn = iprop(iprop(owns (c : Thread nD τ) scM fullShare (scr m c ⟨n, hn⟩)) ∗ (∃ r, prngReg c r)) := rfl

theorem PhiS_pos (c : Dev nD) (n : ℕ) (h : n ≤ (cfgA (F := F)).N) (hz : n ≠ 0) :
    PhiS m c n h = iprop(iprop(owns (c : Thread nD τ) scM fullShare (scr m c ⟨n - 1, by omega⟩)) ∗ (∃ r, prngReg c r)) := by
  cases n with
  | zero => exact absurd rfl hz
  | succ n => rfl

/-- The proof data of the pipeline on core `c`. Four input windows are on one array: each holds its share of it. -/
def dat (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rows m c t
    | ⟨7, _⟩ => guest m c t
  Φ t := PhiS m c t.val (Nat.le_of_lt_succ t.isLt)
  q w := Pipeline.shareOf spec0 w
  owed _ := 0

theorem A_eq (c : Dev nD) (w : Fin (cfgA (F := F)).W) : (dat m c).A w = V m c (Pipeline.arrRef spec0 w) := by
  dsimp only [dat]

theorem PhiS_castSucc (c : Dev nD) (t : Fin (cfgA (F := F)).N) : (dat m c).Φ t.castSucc = PhiS m c t.val (Nat.le_of_lt t.isLt) := by
  dsimp only [dat]; exact Pipeline.Dat.Φ_castSucc (PhiS m c) t

theorem after0 (c : Dev nD) (t : Fin (cfgA (F := F)).N) : (dat m c).after 0 t = iblk m c 0 t := rfl
theorem after1 (c : Dev nD) (t : Fin (cfgA (F := F)).N) : (dat m c).after 1 t = iblk m c 1 t := rfl
theorem after2 (c : Dev nD) (t : Fin (cfgA (F := F)).N) : (dat m c).after 2 t = iblk m c 2 t := rfl
theorem after3 (c : Dev nD) (t : Fin (cfgA (F := F)).N) : (dat m c).after 3 t = iblk m c 3 t := rfl
theorem after4 (c : Dev nD) (t : Fin (cfgA (F := F)).N) : (dat m c).after 4 t = iblk m c 4 t := rfl
theorem after5 (c : Dev nD) (t : Fin (cfgA (F := F)).N) : (dat m c).after 5 t = iblk m c 5 t := rfl
theorem after6 (c : Dev nD) (t : Fin (cfgA (F := F)).N) : (dat m c).after 6 t = rows m c t := rfl
theorem after7 (c : Dev nD) (t : Fin (cfgA (F := F)).N) : (dat m c).after 7 t = guest m c t := rfl

/-! An input window's staging buffer holds its block at every point, fetched there or not. -/

theorem before_in (c : Dev nD) (t : Fin (cfgA (F := F)).N) :
    (∀ d, (dat m c).before 0 t d = iblk m c 0 t)
      ∧ (∀ d, (dat m c).before 1 t d = iblk m c 1 t)
      ∧ (∀ d, (dat m c).before 2 t d = iblk m c 2 t)
      ∧ (∀ d, (dat m c).before 3 t d = iblk m c 3 t)
      ∧ (∀ d, (dat m c).before 4 t d = iblk m c 4 t)
      ∧ (∀ d, (dat m c).before 5 t d = iblk m c 5 t) := by
  refine ⟨fun d => ?_, fun d => ?_, fun d => ?_, fun d => ?_, fun d => ?_, fun d => ?_⟩ <;>
    exact ((dat m c).before_in_eq_fetched _ rfl (fun _ => rfl) (fun _ _ _ => rfl) (fun t => rfl) t d).trans rfl

/-! ## The second output, which only a column tile's first point stores -/

theorem idle7 (t : Fin (cfgA (F := F)).N) : (cfgA (F := F)).idle 7 ((cfgA (F := F)).grid.coords t) = !(k0_cond4 (grid0.coords t) == 1#1) := rfl

/-- It is written back at a column tile's last point, -/
theorem flush7 : ∀ t : Fin grid0.N, ((cfgA (F := F)).win 7).flush t = decide (t.val % 8 = 7) := fun t =>
  Bool.eq_iff_iff.mpr (((Pipeline.Window.flush_reads ((cfgA (F := F)).win 7) rfl 0 (show 1 < grid0.bound 0 by decide) (show grid0.fixedAfter reads0_7 0 = true by decide) (Pipeline.Window.sep_of_coord cc0_transform_7 0 1 (fun _ => rfl) (by decide)) (P := 8) (m := 7) (show grid0.stride 0 = 8 by decide) rfl t)).trans (decide_eq_true_iff).symm)

/-- so it holds nothing yet exactly at a column tile's first point. -/
theorem fresh7 (n : ℕ) (h : n ≤ (cfgA (F := F)).N) : (cfgA (F := F)).fresh 7 n = decide (n % 8 = 0) := by
  refine (cfgA (F := F)).fresh_tab 7 (fun n => decide (n % 8 = 0)) rfl (fun t => ?_) n h
  rw [flush7, idle7, show (k0_cond4 (grid0.coords t) == 1#1) = decide (t.val % 8 = 0) from Bool.eq_iff_iff.mpr (beq_iff_eq.trans ((hcond4 t).trans decide_eq_true_iff.symm))]
  rw [Bool.eq_iff_iff]
  simp only [decide_eq_true_eq, Bool.or_eq_true, Bool.and_eq_true, Bool.not_eq_true', decide_eq_false_iff_not]
  omega

theorem before7 (c : Dev nD) (t : Fin (cfgA (F := F)).N) (h : ¬t.val % 8 = 0) (d) : (dat m c).before 7 t d = guest m c t := by
  refine ((dat m c).before_out_traj 7 rfl (fun _ _ => rfl) (fun t hz hi hf => ?_) t.val t rfl d).trans ?_
  · rw [fresh7 _ (Nat.le_of_lt t.isLt)] at hf
    rw [after7, after7, guest_prev m c t (by simpa using hf)]
  · rw [fresh7 _ (Nat.le_of_lt t.isLt), if_neg (by simpa using h), after7]
    exact guest_prev m c t h

/-- What the body owes of the second output, from the buffer at `guest`. -/
theorem leaves7 (c : Dev nD) (t : Fin (cfgA (F := F)).N) :
    owns (c : Thread nD τ) (ms7 t) fullShare (guest m c t) ⊢ ((dat m c).leavesExact 7 t : sProp 𝕄) := by
  by_cases h : t.val % 8 = 0
  · have hi : (cfgA (F := F)).idle 7 ((cfgA (F := F)).grid.coords t) = false := by rw [idle7, (hcond4 t).mpr h]; rfl
    unfold Dat.leavesExact; rw [hi]; exact .rfl
  · unfold Dat.leavesExact
    cases (cfgA (F := F)).idle 7 ((cfgA (F := F)).grid.coords t)
    · exact .rfl
    · cases ((cfgA (F := F)).win 7).flush t
      · have e : owns (c : Thread nD τ) (ms7 t) fullShare (guest m c t) ⊢ (owns (c : Thread nD τ) (((cfgA (F := F)).win 7).stage ((cfgA (F := F)).slots t 7)) fullShare ((dat m c).before 7 t (guest m c t)) : sProp 𝕄) :=
          Entails.of_eq (congrArg (fun X => owns (c : Thread nD τ) (ms7 t) fullShare X) (before7 m c t h (guest m c t)).symm)
        iintro H; iexists (guest m c t); iapply e; iexact H
      · exact .rfl

end Cert.Kernel5Ideal.In
end
-- ==== Proof.In.Blocks.lean ====
/-
  THE INPUT PROJECTION'S BLOCKS, BY COORDINATES: which elements of the argument arrays each input window's block holds, and
  where each output block lies in its array.
-/
module

public import proofs.«01_k».proof.Proof.In.Data
public import Idealize.ShloMosaic.Lib.Pointwise
public import Idealize.ShloMosaic.Lib.ValueLayout

@[expose] public section

set_option maxRecDepth 16384

noncomputable section

namespace Cert.Kernel5Ideal.In

open Cert.Kernel5Ideal Cert.Kernel5Ideal.Gen
open Idealize.ShloMosaic Idealize.ShloMosaic.TcCoe Idealize.SL.Sem
open Idealize.ShloMosaic.Pipeline (Dat)

variable (m : (ℓ : Loc nD τ sig) → Buf (Elt Ideal) ℓ)

theorem point_lt (t : Fin (cfgA (F := Ideal)).N) : t.val < 176 := lt_of_lt_of_eq t.isLt N_0

theorem index0 : ∀ t : Fin grid0.N, cc0_transform_0 (grid0.coords t) = ![t.val % 8, 0] := by decide +kernel
theorem index2 : ∀ t : Fin grid0.N, cc0_transform_2 (grid0.coords t) = ![0, 7184, 0] := by decide +kernel
theorem index3 : ∀ t : Fin grid0.N, cc0_transform_3 (grid0.coords t) = ![0, 4096, 0] := by decide +kernel
theorem index4 : ∀ t : Fin grid0.N, cc0_transform_4 (grid0.coords t) = ![0, 10032, 0] := by decide +kernel
theorem index5 : ∀ t : Fin grid0.N, cc0_transform_5 (grid0.coords t) = ![0, 0] := by decide +kernel
theorem index6 : ∀ t : Fin grid0.N, cc0_transform_6 (grid0.coords t) = ![t.val % 8, t.val / 8] := by decide +kernel
theorem index7 : ∀ t : Fin grid0.N, cc0_transform_7 (grid0.coords t) = ![0, t.val / 8] := by decide +kernel
/-- The first row of the weights' tile, by the point: the table's entry of the column tile. -/
theorem row_le : ∀ t : Fin grid0.N, rowOf ((grid0.coords t) 0) + 512 ≤ 13120 := by decide +kernel

/-- The transposed weights, by coordinates. -/
theorem weights_apply (c : Dev nD) (l : Fin 2) (n : Fin 13120) (k : Fin 4096) :
    (V m c main_v0 : S2x13120x4096.Idx → EReal) (ix3 l n k) = (m ((c : Thread nD τ).loc main_arg2) : S2x4096x13120.Idx → EReal) (ix3 l k n) := by
  rw [V_main_v0]
  pointwise

/-- A row of the row block. -/
theorem iblk0_apply (c : Dev nD) (t : Fin (cfgA (F := Ideal)).N) (r : Fin 1024) (k : Fin 4096) :
    (iblk m c 0 t : Vec Ideal S1024x4096 .bf16) (ix2 r k)
      = m ((c : Thread nD τ).loc main_arg0) (ix2 ⟨1024 * (t.val % 8) + r.val, by omega⟩ k) := by
  have hi := index0 t
  unfold iblk
  rw [View.read_apply, ← V_main_arg0 m c]
  refine congrArg (V m c main_arg0) (funext fun a => Fin.ext ?_)
  match a with
  | ⟨0, _⟩ => show cc0_transform_0 (grid0.coords t) 0 * 1024 + 1 * r.val = _; rw [hi]; show (t.val % 8) * 1024 + 1 * r.val = 1024 * (t.val % 8) + r.val; omega
  | ⟨1, _⟩ => show cc0_transform_0 (grid0.coords t) 1 * 4096 + 1 * k.val = _; rw [hi]; show 0 * 4096 + 1 * k.val = k.val; omega

/-- The guest rows' block is its whole array. -/
theorem iblk5_apply (c : Dev nD) (t : Fin (cfgA (F := Ideal)).N) (r : Fin 64) (k : Fin 4096) :
    (iblk m c 5 t : Vec Ideal S64x4096 .bf16) (ix2 r k) = m ((c : Thread nD τ).loc main_arg1) (ix2 r k) := by
  have hi := index5 t
  unfold iblk
  rw [View.read_apply, ← V_main_arg1 m c]
  refine congrArg (V m c main_arg1) (funext fun a => Fin.ext ?_)
  match a with
  | ⟨0, _⟩ => show cc0_transform_5 (grid0.coords t) 0 * 64 + 1 * r.val = _; rw [hi]; show 0 * 64 + 1 * r.val = r.val; omega
  | ⟨1, _⟩ => show cc0_transform_5 (grid0.coords t) 1 * 4096 + 1 * k.val = _; rw [hi]; show 0 * 4096 + 1 * k.val = k.val; omega

/-- The tile the table leads to: layer 0's columns from the table's row on. -/
theorem iblk1_apply (c : Dev nD) (t : Fin (cfgA (F := Ideal)).N) (z : Fin 1) (r : Fin 512) (k : Fin 4096) :
    (iblk m c 1 t : Vec Ideal S1x512x4096 .f32) (ix3 z r k)
      = (m ((c : Thread nD τ).loc main_arg2) : S2x4096x13120.Idx → EReal) (ix3 0 k ⟨rowOf ((grid0.coords t) 0) + r.val, by have := row_le t; omega⟩) := by
  have hi := transform_1 (F := Ideal) (grid0.coords t)
  rw [← weights_apply m c]
  unfold iblk
  rw [View.read_apply]
  refine congrArg (V m c main_v0) (funext fun a => Fin.ext ?_)
  match a with
  | ⟨0, _⟩ => show cc0_transform_1 k0_off1_inb numel1_S1 (tabs (F := Ideal)) (grid0.coords t) 0 + 1 * z.val = _; rw [hi]; show 0 + 1 * z.val = 0; omega
  | ⟨1, _⟩ => show cc0_transform_1 k0_off1_inb numel1_S1 (tabs (F := Ideal)) (grid0.coords t) 1 + 1 * r.val = _; rw [hi]; show rowOf _ + 1 * r.val = rowOf _ + r.val; omega
  | ⟨2, _⟩ => show cc0_transform_1 k0_off1_inb numel1_S1 (tabs (F := Ideal)) (grid0.coords t) 2 + 1 * k.val = _; rw [hi]; show 0 + 1 * k.val = k.val; omega

/-- The last tile's first piece: columns 7184 on. -/
theorem iblk2_apply (c : Dev nD) (t : Fin (cfgA (F := Ideal)).N) (z : Fin 1) (r : Fin 288) (k : Fin 4096) :
    (iblk m c 2 t : Vec Ideal S1x288x4096 .f32) (ix3 z r k)
      = (m ((c : Thread nD τ).loc main_arg2) : S2x4096x13120.Idx → EReal) (ix3 0 k ⟨7184 + r.val, by omega⟩) := by
  have hi := index2 t
  rw [← weights_apply m c]
  unfold iblk
  rw [View.read_apply]
  refine congrArg (V m c main_v0) (funext fun a => Fin.ext ?_)
  match a with
  | ⟨0, _⟩ => show cc0_transform_2 (grid0.coords t) 0 + 1 * z.val = _; rw [hi]; show 0 + 1 * z.val = 0; omega
  | ⟨1, _⟩ => show cc0_transform_2 (grid0.coords t) 1 + 1 * r.val = _; rw [hi]; show 7184 + 1 * r.val = 7184 + r.val; omega
  | ⟨2, _⟩ => show cc0_transform_2 (grid0.coords t) 2 + 1 * k.val = _; rw [hi]; show 0 + 1 * k.val = k.val; omega

/-- Its second piece: columns 4096 on. -/
theorem iblk3_apply (c : Dev nD) (t : Fin (cfgA (F := Ideal)).N) (z : Fin 1) (r : Fin 16) (k : Fin 4096) :
    (iblk m c 3 t : Vec Ideal S1x16x4096 .f32) (ix3 z r k)
      = (m ((c : Thread nD τ).loc main_arg2) : S2x4096x13120.Idx → EReal) (ix3 0 k ⟨4096 + r.val, by omega⟩) := by
  have hi := index3 t
  rw [← weights_apply m c]
  unfold iblk
  rw [View.read_apply]
  refine congrArg (V m c main_v0) (funext fun a => Fin.ext ?_)
  match a with
  | ⟨0, _⟩ => show cc0_transform_3 (grid0.coords t) 0 + 1 * z.val = _; rw [hi]; show 0 + 1 * z.val = 0; omega
  | ⟨1, _⟩ => show cc0_transform_3 (grid0.coords t) 1 + 1 * r.val = _; rw [hi]; show 4096 + 1 * r.val = 4096 + r.val; omega
  | ⟨2, _⟩ => show cc0_transform_3 (grid0.coords t) 2 + 1 * k.val = _; rw [hi]; show 0 + 1 * k.val = k.val; omega

/-- Its third piece: columns 10032 on. -/
theorem iblk4_apply (c : Dev nD) (t : Fin (cfgA (F := Ideal)).N) (z : Fin 1) (r : Fin 16) (k : Fin 4096) :
    (iblk m c 4 t : Vec Ideal S1x16x4096 .f32) (ix3 z r k)
      = (m ((c : Thread nD τ).loc main_arg2) : S2x4096x13120.Idx → EReal) (ix3 0 k ⟨10032 + r.val, by omega⟩) := by
  have hi := index4 t
  rw [← weights_apply m c]
  unfold iblk
  rw [View.read_apply]
  refine congrArg (V m c main_v0) (funext fun a => Fin.ext ?_)
  match a with
  | ⟨0, _⟩ => show cc0_transform_4 (grid0.coords t) 0 + 1 * z.val = _; rw [hi]; show 0 + 1 * z.val = 0; omega
  | ⟨1, _⟩ => show cc0_transform_4 (grid0.coords t) 1 + 1 * r.val = _; rw [hi]; show 10032 + 1 * r.val = 10032 + r.val; omega
  | ⟨2, _⟩ => show cc0_transform_4 (grid0.coords t) 2 + 1 * k.val = _; rw [hi]; show 0 + 1 * k.val = k.val; omega

/-- The rows' output block: row block `t % 8`, column tile `t / 8`. -/
theorem emb6 (t : Fin (cfgA (F := Ideal)).N) (r : Fin 1024) (n : Fin 512) :
    (((cfgA (F := Ideal)).win 6).blk t).view.emb (ix2 r n : S1024x512.Idx)
      = (ix2 ⟨1024 * (t.val % 8) + r.val, by omega⟩ ⟨512 * (t.val / 8) + n.val, by have := point_lt t; omega⟩ : S8192x11264.Idx) := by
  have hi := index6 t
  funext a
  apply Fin.ext
  match a with
  | ⟨0, _⟩ => show cc0_transform_6 (grid0.coords t) 0 * 1024 + 1 * r.val = _; rw [hi]; show (t.val % 8) * 1024 + 1 * r.val = 1024 * (t.val % 8) + r.val; omega
  | ⟨1, _⟩ => show cc0_transform_6 (grid0.coords t) 1 * 512 + 1 * n.val = _; rw [hi]; show (t.val / 8) * 512 + 1 * n.val = 512 * (t.val / 8) + n.val; omega

/-- The guest rows' output block: column tile `t / 8`. -/
theorem emb7 (t : Fin (cfgA (F := Ideal)).N) (r : Fin 64) (n : Fin 512) :
    (((cfgA (F := Ideal)).win 7).blk t).view.emb (ix2 r n : S64x512.Idx)
      = (ix2 r ⟨512 * (t.val / 8) + n.val, by have := point_lt t; omega⟩ : S64x11264.Idx) := by
  have hi := index7 t
  funext a
  apply Fin.ext
  match a with
  | ⟨0, _⟩ => show cc0_transform_7 (grid0.coords t) 0 * 64 + 1 * r.val = _; rw [hi]; show 0 * 64 + 1 * r.val = r.val; omega
  | ⟨1, _⟩ => show cc0_transform_7 (grid0.coords t) 1 * 512 + 1 * n.val = _; rw [hi]; show (t.val / 8) * 512 + 1 * n.val = 512 * (t.val / 8) + n.val; omega

/-- Every point writes its rows back. -/
theorem flush6 : ∀ t : Fin grid0.N, ((cfgA (F := Ideal)).win 6).flush t = true := by decide +kernel

end Cert.Kernel5Ideal.In

end
-- ==== Proof.In.Columns.lean ====
/-
  THE ORDER OF THE INPUT PROJECTION'S COLUMNS: which column of the weights each column of the result is formed with, and the
  column tile the kernel has in scratch at a point.
-/
module

public import proofs.«01_k».proof.Proof.In.Blocks

@[expose] public section

set_option maxRecDepth 16384

noncomputable section

namespace Cert.Kernel5Ideal.In

open Cert.Kernel5Ideal Cert.Kernel5Ideal.Gen
open Idealize.ShloMosaic Idealize.ShloMosaic.TcCoe Idealize.SL.Sem
open Idealize.ShloMosaic.Pipeline (Dat)

/-- The column of the weights that column `n` of the result is formed with; 13120, which is no column, where the result's
    column is padding. -/
def source (n : ℕ) : ℕ :=
  if n < 3072 then n
  else if n < 6144 then n + 1040
  else if n < 7168 then n + 3904
  else if n < 8192 then n - 4096
  else if n < 10752 then n - 720
  else if n < 11040 then n - 3568
  else if n < 11136 then 13120
  else if n < 11152 then n - 7040
  else if n < 11168 then n - 1120
  else 13120

/-- That column of layer 0's weights, zero where there is none. -/
def column (w : S2x4096x13120.Idx → EReal) (n : ℕ) (k : Fin 4096) : EReal :=
  if h : source n < 13120 then w (ix3 0 k ⟨source n, h⟩) else 0

theorem column_of (w : S2x4096x13120.Idx → EReal) (n : ℕ) (k : Fin 4096) (s : Fin 13120) (h : source n = s.val) :
    column w n k = w (ix3 0 k s) := by
  unfold column
  have hs : source n < 13120 := h ▸ s.isLt
  rw [dif_pos hs, show (⟨source n, hs⟩ : Fin 13120) = s from Fin.ext h]

theorem column_none (w : S2x4096x13120.Idx → EReal) (n : ℕ) (k : Fin 4096) (h : source n = 13120) : column w n k = 0 := by
  unfold column
  rw [dif_neg (by omega)]

theorem source_0 (n : ℕ) (h' : n < 3072) : source n = n := by
  unfold source
  rw [if_pos h']
theorem source_1 (n : ℕ) (h : 3072 ≤ n) (h' : n < 6144) : source n = n + 1040 := by
  unfold source
  rw [if_neg (by omega), if_pos h']
theorem source_2 (n : ℕ) (h : 6144 ≤ n) (h' : n < 7168) : source n = n + 3904 := by
  unfold source
  rw [if_neg (by omega), if_neg (by omega), if_pos h']
theorem source_3 (n : ℕ) (h : 7168 ≤ n) (h' : n < 8192) : source n = n - 4096 := by
  unfold source
  rw [if_neg (by omega), if_neg (by omega), if_neg (by omega), if_pos h']
theorem source_4 (n : ℕ) (h : 8192 ≤ n) (h' : n < 10752) : source n = n - 720 := by
  unfold source
  rw [if_neg (by omega), if_neg (by omega), if_neg (by omega), if_neg (by omega), if_pos h']
theorem source_5 (n : ℕ) (h : 10752 ≤ n) (h' : n < 11040) : source n = n - 3568 := by
  unfold source
  rw [if_neg (by omega), if_neg (by omega), if_neg (by omega), if_neg (by omega), if_neg (by omega), if_pos h']
theorem source_6 (n : ℕ) (h : 11040 ≤ n) (h' : n < 11136) : source n = 13120 := by
  unfold source
  rw [if_neg (by omega), if_neg (by omega), if_neg (by omega), if_neg (by omega), if_neg (by omega), if_neg (by omega), if_pos h']
theorem source_7 (n : ℕ) (h : 11136 ≤ n) (h' : n < 11152) : source n = n - 7040 := by
  unfold source
  rw [if_neg (by omega), if_neg (by omega), if_neg (by omega), if_neg (by omega), if_neg (by omega), if_neg (by omega), if_neg (by omega), if_pos h']
theorem source_8 (n : ℕ) (h : 11152 ≤ n) (h' : n < 11168) : source n = n - 1120 := by
  unfold source
  rw [if_neg (by omega), if_neg (by omega), if_neg (by omega), if_neg (by omega), if_neg (by omega), if_neg (by omega), if_neg (by omega), if_neg (by omega), if_pos h']
theorem source_9 (n : ℕ) (h : 11168 ≤ n) : source n = 13120 := by
  unfold source
  rw [if_neg (by omega), if_neg (by omega), if_neg (by omega), if_neg (by omega), if_neg (by omega), if_neg (by omega), if_neg (by omega), if_neg (by omega), if_neg (by omega)]

/-- A column tile's columns follow one another in the weights, up to the last tile. -/
theorem source_tile (j r : ℕ) (hj : j < 21) (hr : r < 512) : source (512 * j + r) = source (512 * j) + r := by
  by_cases h0 : j < 6
  · rw [source_0 _ (by omega), source_0 _ (by omega)]
  by_cases h1 : j < 12
  · rw [source_1 _ (by omega) (by omega), source_1 _ (by omega) (by omega)]; omega
  by_cases h2 : j < 14
  · rw [source_2 _ (by omega) (by omega), source_2 _ (by omega) (by omega)]; omega
  by_cases h3 : j < 16
  · rw [source_3 _ (by omega) (by omega), source_3 _ (by omega) (by omega)]; omega
  · rw [source_4 _ (by omega) (by omega), source_4 _ (by omega) (by omega)]; omega

/-- The table holds where each tile's columns start. -/
theorem row_source : ∀ j : Fin 21, rowOf j.val = source (512 * j.val) := by decide +kernel

variable (m : (ℓ : Loc nD τ sig) → Buf (Elt Ideal) ℓ)

theorem source_row (t : Fin (cfgA (F := Ideal)).N) (h : t.val / 8 < 21) (r : ℕ) (hr : r < 512) :
    source (512 * (t.val / 8) + r) = rowOf ((grid0.coords t) 0) + r := by
  have e : ((grid0.coords t) 0).val = t.val / 8 := (coords0 t).trans (Nat.mod_eq_of_lt (by omega))
  rw [source_tile _ _ h hr, e]
  exact congrArg (· + r) (row_source ⟨t.val / 8, h⟩).symm

theorem pay1_apply (w : Vec Ideal S1x512x4096 .f32) (r : Fin 512) (k : Fin 4096) : (k0_pay1 w) (ix2 r k) = (w (ix3 0 r k) : EReal) := by
  pointwise [k0_pay1]
theorem pay2_apply (r : Fin 512) (k : Fin 4096) : (k0_pay2 (F := Ideal)) (ix2 r k) = (0 : EReal) := by
  pointwise [k0_pay2]
theorem pay3_apply (w : Vec Ideal S1x288x4096 .f32) (r : Fin 288) (k : Fin 4096) : (k0_pay3 w) (ix2 r k) = (w (ix3 0 r k) : EReal) := by
  pointwise [k0_pay3]
theorem pay4_apply (w : Vec Ideal S1x16x4096 .f32) (r : Fin 16) (k : Fin 4096) : (k0_pay4 w) (ix2 r k) = (w (ix3 0 r k) : EReal) := by
  pointwise [k0_pay4]
theorem pay5_apply (w : Vec Ideal S1x16x4096 .f32) (r : Fin 16) (k : Fin 4096) : (k0_pay5 w) (ix2 r k) = (w (ix3 0 r k) : EReal) := by
  pointwise [k0_pay5]

/-- An index lies in a block of whole rows exactly when its row is one of them. -/
theorem mem_rows {off n : ℕ} (inb) (r : Fin 512) (k : Fin 4096) :
    (ix2 r k : S512x4096.Idx) ∈ (Rect.unit (s := S512x4096) ![off, 0] ![n, 4096] inb).set ↔ off ≤ r.val ∧ r.val < off + n := by
  rw [Rect.mem_set_unit]
  constructor
  · intro h; exact h 0
  · intro h a
    match a with
    | ⟨0, _⟩ => exact h
    | ⟨1, _⟩ => exact ⟨Nat.zero_le _, by show k.val < 0 + 4096; omega⟩

/-- Row `r` of a block of whole rows is row `off + r` of the array. -/
theorem emb_rows {off n : ℕ} (inb) (r' : Fin n) (r : Fin 512) (k : Fin 4096) (h : r.val = off + r'.val) :
    (Rect.unit (s := S512x4096) ![off, 0] ![n, 4096] inb).emb (ix2 r' k : (⟨2, ![n, 4096]⟩ : Shape).Idx) = (ix2 r k : S512x4096.Idx) := by
  funext a
  apply Fin.ext
  match a with
  | ⟨0, _⟩ => show off + 1 * r'.val = r.val; omega
  | ⟨1, _⟩ => show 0 + 1 * k.val = k.val; omega

/-- The last tile, by coordinates. -/
theorem tail_apply (x2 : Vec Ideal S1x288x4096 .f32) (x3 x4 : Vec Ideal S1x16x4096 .f32) (r : Fin 512) (k : Fin 4096) :
    (tail x2 x3 x4) (ix2 r k) = (if h : r.val < 288 then x2 (ix3 0 ⟨r.val, h⟩ k)
      else if h : 384 ≤ r.val ∧ r.val < 400 then x3 (ix3 0 ⟨r.val - 384, by omega⟩ k)
      else if h : 400 ≤ r.val ∧ r.val < 416 then x4 (ix3 0 ⟨r.val - 400, by omega⟩ k)
      else 0 : EReal) := by
  by_cases h5 : 400 ≤ r.val ∧ r.val < 416
  · rw [dif_neg (by omega), dif_neg (by omega), dif_pos h5]
    exact ((congrArg (tail x2 x3 x4) (emb_rows inb_S512x4096_S16x4096_400_0 ⟨r.val - 400, by omega⟩ r k (by show r.val = 400 + (r.val - 400); omega)).symm).trans
      (View.canon_cons_emb _ _ _ _)).trans (pay5_apply x4 _ k)
  have e5 : tail x2 x3 x4 (ix2 r k) = _ := View.canon_cons_of_not_mem _ _ (fun h => h5 ((mem_rows inb_S512x4096_S16x4096_400_0 r k).mp h))
  by_cases h4 : 384 ≤ r.val ∧ r.val < 400
  · rw [dif_neg (by omega), dif_pos h4]
    exact (e5.trans ((congrArg (View.canon _) (emb_rows inb_S512x4096_S16x4096_384_0 ⟨r.val - 384, by omega⟩ r k (by show r.val = 384 + (r.val - 384); omega)).symm).trans
      (View.canon_cons_emb _ _ _ _))).trans (pay4_apply x3 _ k)
  have e4 := e5.trans (View.canon_cons_of_not_mem _ _ (fun h => h4 ((mem_rows inb_S512x4096_S16x4096_384_0 r k).mp h)))
  by_cases h3 : r.val < 288
  · rw [dif_pos h3]
    exact (e4.trans ((congrArg (View.canon _) (emb_rows inb_S512x4096_S288x4096_0_0 ⟨r.val, h3⟩ r k (by show r.val = 0 + r.val; omega)).symm).trans
      (View.canon_cons_emb _ _ _ _))).trans (pay3_apply x2 _ k)
  have e3 := e4.trans (View.canon_cons_of_not_mem _ _ (fun h => h3 (by have := ((mem_rows inb_S512x4096_S288x4096_0_0 r k).mp h).2; omega)))
  rw [dif_neg h3, dif_neg h4, dif_neg h5]
  exact (e3.trans ((congrArg (View.canon _) (emb_rows inb_S512x4096_S512x4096_0_0 r r k (by omega)).symm).trans
    (View.canon_cons_emb _ _ _ _))).trans (pay2_apply r k)

/-- THE SCRATCH: at a point of column tile `j` it holds the columns of the weights that the tile's columns are formed with. -/
theorem scr_apply (c : Dev nD) (t : Fin (cfgA (F := Ideal)).N) (r : Fin 512) (k : Fin 4096) :
    (scr m c t) (ix2 r k) = column (m ((c : Thread nD τ).loc main_arg2)) (512 * (t.val / 8) + r.val) k := by
  have ht := point_lt t
  have ho : (open_ t).val / 8 = t.val / 8 := by show (t.val - t.val % 8) / 8 = _; omega
  unfold scr tile
  rw [← ho]
  generalize open_ t = s at ho
  by_cases h : s.val / 8 < 21
  · rw [if_pos h, pay1_apply, iblk1_apply]
    exact (column_of _ _ _ _ (source_row s h r.val r.isLt)).symm
  · rw [if_neg h, tail_apply]
    have e : s.val / 8 = 21 := by omega
    rw [e]
    have hr := r.isLt
    by_cases h2 : r.val < 288
    · rw [dif_pos h2, iblk2_apply]
      exact (column_of _ _ _ _ ((source_5 _ (by omega) (by omega)).trans (by show _ = 7184 + r.val; omega))).symm
    by_cases h3 : 384 ≤ r.val ∧ r.val < 400
    · rw [dif_neg h2, dif_pos h3, iblk3_apply]
      exact (column_of _ _ _ _ ((source_7 _ (by omega) (by omega)).trans (by show _ = 4096 + (r.val - 384); omega))).symm
    by_cases h4 : 400 ≤ r.val ∧ r.val < 416
    · rw [dif_neg h2, dif_neg h3, dif_pos h4, iblk4_apply]
      exact (column_of _ _ _ _ ((source_8 _ (by omega) (by omega)).trans (by show _ = 10032 + (r.val - 400); omega))).symm
    rw [dif_neg h2, dif_neg h3, dif_neg h4]
    refine (column_none _ _ _ ?_).symm
    by_cases h5 : r.val < 384
    · exact source_6 _ (by omega) (by omega)
    · exact source_9 _ (by omega)

end Cert.Kernel5Ideal.In

end
-- ==== Proof.In.Frame.lean ====
/-
  THE INPUT PROJECTION'S RUN: the body's triple at a generic point, the launch, and the frame.
-/
module

public import proofs.«01_k».proof.Proof.In.Data

@[expose] public section

set_option maxRecDepth 16384

noncomputable section

namespace Cert.Kernel5Ideal.In

open Cert.Kernel5Ideal Cert.Kernel5Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin (cfgA (F := F)).N) : sProp 𝕄 :=
  iprop((dat m c).Φ t.castSucc ∗ (dat m c).owesAt () t.castSucc
    ∗ (∃ d, owns (c : Thread nD τ) (ms0 t) fullShare ((dat m c).before 0 t d)) ∗ (∃ d, owns (c : Thread nD τ) (ms1 t) fullShare ((dat m c).before 1 t d)) ∗ (∃ d, owns (c : Thread nD τ) (ms2 t) fullShare ((dat m c).before 2 t d)) ∗ (∃ d, owns (c : Thread nD τ) (ms3 t) fullShare ((dat m c).before 3 t d)) ∗ (∃ d, owns (c : Thread nD τ) (ms4 t) fullShare ((dat m c).before 4 t d)) ∗ (∃ d, owns (c : Thread nD τ) (ms5 t) fullShare ((dat m c).before 5 t d)) ∗ (∃ d, owns (c : Thread nD τ) (ms6 t) fullShare ((dat m c).before 6 t d)) ∗ (∃ d, owns (c : Thread nD τ) (ms7 t) fullShare ((dat m c).before 7 t d)))

/-- and what it returns. -/
def bodyPost (c : Dev nD) (t : Fin (cfgA (F := F)).N) : sProp 𝕄 :=
  iprop((dat m c).Φ t.succ ∗ (dat m c).owesAt () t.succ
    ∗ owns (c : Thread nD τ) (ms0 t) fullShare ((dat m c).after 0 t) ∗ owns (c : Thread nD τ) (ms1 t) fullShare ((dat m c).after 1 t) ∗ owns (c : Thread nD τ) (ms2 t) fullShare ((dat m c).after 2 t) ∗ owns (c : Thread nD τ) (ms3 t) fullShare ((dat m c).after 3 t) ∗ owns (c : Thread nD τ) (ms4 t) fullShare ((dat m c).after 4 t) ∗ owns (c : Thread nD τ) (ms5 t) fullShare ((dat m c).after 5 t) ∗ owns (c : Thread nD τ) (ms6 t) fullShare ((dat m c).after 6 t) ∗ (dat m c).leavesExact 7 t)

/-- The invariant gives the scratch at some contents. -/
theorem Phi_out (c : Dev nD) (t : Fin ((cfgA (F := F)).N + 1)) : (dat m c).Φ t ⊢ Pipeline.ΦA spec0 c := by
  rw [show (dat m c).Φ t = PhiS m c t.val (Nat.le_of_lt_succ t.isLt) from rfl]
  by_cases hz : t.val = 0
  · rw [PhiS_zero m c _ _ hz]
  · rw [PhiS_pos m c _ _ hz, PhiA_eq]
    iintro ⟨HS, Hg⟩
    isplitl [HS]
    · iexists _; iexact HS
    iexact Hg

set_option maxHeartbeats 3200000 in
/-- The body at any point. -/
theorem sound_body (c : Dev nD) (t : Fin (cfgA (F := F)).N) :
    bodyPre m c t ⊢ wp frame (wpE (defs₀ (F := F)) Variants.none c none) Set.univ (bodyAt t) (fun _ => bodyPost m c t) := by
  unfold bodyPre bodyPost bodyAt
  obtain ⟨b0, b1, b2, b3, b4, b5⟩ := before_in m c t
  simp only [b0, b1, b2, b3, b4, b5]
  rw [show (dat m c).owesAt () t.succ = (dat m c).owesAt () t.castSucc from rfl,
    after0, after1, after2, after3, after4, after5, after6]
  rw [show (dat m c).Φ t.succ = PhiS m c (t.val + 1) t.isLt from rfl, PhiS_succ]
  have hN : t.val < 176 := lt_of_lt_of_eq t.isLt (show (cfgA (F := F)).N = 176 from N_0)
  by_cases h0 : t.val % 8 = 0
  · have hc1 : cond1 (grid0.coords t) := (hcond1 t).mpr h0
    have hc4 : k0_cond4 (grid0.coords t) = 1#1 := (hcond4 t).mpr h0
    by_cases h1 : t.val / 8 < 21
    · have hc2 : cond2 (grid0.coords t) := (hcond2 t).mpr h1
      have hc3 : ¬cond3 (grid0.coords t) := fun h => absurd ((hcond3 t).mp h) (by omega)
      have escr : scr m c t = k0_pay1 (iblk m c 1 t) := by unfold scr tile; rw [open_self t h0, if_pos h1]
      have erows : rows m c t = k0_pay7 (iblk m c 0 t) (k0_pay1 (iblk m c 1 t)) := by unfold rows; rw [escr]
      have eguest : guest m c t = k0_pay6 (iblk m c 5 t) (k0_pay1 (iblk m c 1 t)) := by unfold guest; rw [escr, open_self t h0]
      refine (sep_mono_left (Phi_out m c _)).trans ?_
      rw [PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) _ _ _ _ _ _ _ _ _ _ _ _ _ _ _ _ _ _ _ _ hc1 hc2 hc3 hc4 (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact (valueA_scratch c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 es).trans escr.symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (valueA_rows c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 e6).trans erows.symm
      iapply (leaves7 m c t)
      unfold owns; iexists _; isplitr
      swap; · iexact H7
      ipureintro; exact (valueA_guest c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 e7).trans eguest.symm
    · have h3 : t.val / 8 = 21 := by omega
      have hc2 : ¬cond2 (grid0.coords t) := fun h => h1 ((hcond2 t).mp h)
      have hc3 : cond3 (grid0.coords t) := (hcond3 t).mpr h3
      have escr : scr m c t = tail (iblk m c 2 t) (iblk m c 3 t) (iblk m c 4 t) := by unfold scr tile; rw [open_self t h0, if_neg h1]
      have erows : rows m c t = k0_pay7 (iblk m c 0 t) (tail (iblk m c 2 t) (iblk m c 3 t) (iblk m c 4 t)) := by unfold rows; rw [escr]
      have eguest : guest m c t = k0_pay6 (iblk m c 5 t) (tail (iblk m c 2 t) (iblk m c 3 t) (iblk m c 4 t)) := by unfold guest; rw [escr, open_self t h0]
      refine (sep_mono_left (Phi_out m c _)).trans ?_
      rw [PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runT c (grid0.coords t) _ _ _ _ _ _ _ _ _ _ _ _ _ _ _ _ _ _ _ _ hc1 hc2 hc3 hc4 (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact (valueT_scratch c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 es).trans escr.symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (valueT_rows c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 e6).trans erows.symm
      iapply (leaves7 m c t)
      unfold owns; iexists _; isplitr
      swap; · iexact H7
      ipureintro; exact (valueT_guest c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 e7).trans eguest.symm
  · have hc1 : ¬cond1 (grid0.coords t) := fun h => h0 ((hcond1 t).mp h)
    have hc4 : ¬k0_cond4 (grid0.coords t) = 1#1 := fun h => h0 ((hcond4 t).mp h)
    have hz : t.val ≠ 0 := fun h => h0 (by rw [h])
    have e7 : ∀ d, (dat m c).before 7 t d = guest m c t := before7 m c t h0
    simp only [e7]
    rw [PhiS_castSucc m c t, PhiS_pos m c _ _ hz, scr_prev m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runH c (grid0.coords t) _ _ _ _ _ _ _ _ _ _ _ _ _ _ _ _ _ _ _ _ hc1 hc4 (iblk m c 0 t) (scr m c t)).2 Set.univ _)
    isplitl [H0]; · iexact H0
    isplitl [H6]; · iexists _; iexact H6
    isplitl [HS]; · iexact HS
    iintro ⟨H0, ⟨%e6, H6⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact valueH_rows c (grid0.coords t) _ _ _ _ _ _ _ _ _ _ _ _ _ _ _ _ _ _ _ _ (iblk m c 0 t) (scr m c t) hc1 hc4 e6
    iapply (leaves7 m c t)
    iexact H7

/-- The library's body obligation. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-- What the launch hands the region is the invariant before the first point; the table is not needed any more. -/
theorem hin (c : Dev nD) : iprop(Pipeline.ΦA spec0 c ∗ Pipeline.ΦT pre0 (tabs (F := F)) c) ⊢ (dat m c).Φ 0 := by
  rw [show (dat m c).Φ 0 = PhiS m c 0 (Nat.zero_le _) from rfl, PhiS_zero m c 0 _ rfl]
  iintro ⟨H, -⟩; iexact H

theorem hout (c : Dev nD) : (dat m c).Φ (Fin.last (cfgA (F := F)).N) ⊢ Pipeline.ΦA spec0 c :=
  Phi_out m c _

/-- The admissible contents of the one pipeline's table, and the proof data there. -/
def adms : (p : Fin 1) → (pcfgs (F := F) p).Adm := fun | 0 => adm | ⟨_ + 1, h⟩ => absurd h (Nat.not_lt.2 (Nat.le_add_left _ _))
def dats : (p : Fin 1) → (c : Dev nD) → Dat τ (Elt F) Unit ℕ (UR sig nD τ) ℕ (Pipeline.pin (pcfgs (F := F)) adms p) c :=
  fun | 0 => dat m | ⟨_ + 1, h⟩ => absurd h (Nat.not_lt.2 (Nat.le_add_left _ _))

/-- The region finds the table at those contents. -/
theorem hpf (c : Dev nD) : ∀ k, V m c (pre0.ref k) = tabs (F := F) k := fun | ⟨0, _⟩ => V_main_c m c | ⟨_ + 1, h⟩ => absurd h (Nat.not_lt.2 (Nat.le_add_left _ _))

set_option backward.isDefEq.respectTransparency.types false in
/-- THE LAUNCH, every counter at zero at the end. -/
theorem run_main_quiescent : θ_run defs (onTc (τ := τ) (main (F := F))) (s₀ m ρ) (fun r => (Pipeline.FramePost (Pipeline.pin (pcfgs (F := F)) adms) (dats m) 0 (V m)) r ∧ r.2.sem = fun _ => 0) :=
  Pipeline.θ_run_frameP_track_shared (Q' := _) (pcfgs (F := F)) adms (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hpf := hpf m) (hin := hin m) (hout := hout m)

theorem run_main : θ_run defs (onTc (τ := τ) (main (F := F))) (s₀ m ρ) (Pipeline.FramePost (Pipeline.pin (pcfgs (F := F)) adms) (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dat m c).arrAt_in 0 rfl _).trans ((A_eq m c 0).trans (V_main_arg0 m c))),
      ((h c).1 5).trans (((dat m c).arrAt_in 5 rfl _).trans ((A_eq m c 5).trans (V_main_arg1 m c))),
      ((h c).2 main_arg2 (show main_arg2 ∈ Pipeline.restRefs sig spec0 by decide)).trans (V_main_arg2 m c)⟩) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel5Ideal.In
end
-- ==== Proof.In.Value.lean ====
/-
  WHAT THE INPUT PROJECTION LEAVES, over the extended reals: each result is its rows applied to layer 0's weights, the columns
  taken in the order `source` says and zero where it names none.
-/
module

public import proofs.«01_k».proof.Proof.In.Columns
public import proofs.«01_k».proof.Proof.In.Frame

@[expose] public section

set_option maxRecDepth 16384

noncomputable section

namespace Cert.Kernel5Ideal.In

open Cert.Kernel5Ideal Cert.Kernel5Ideal.Gen
open Idealize.ShloMosaic Idealize.ShloMosaic.TcCoe Idealize.SL.Sem
open Idealize.ShloMosaic.Pipeline (Dat)

/-- The rows `h` applied to layer 0's columns in the kernel's order. -/
def projected {R : ℕ} (h : (⟨2, ![R, 4096]⟩ : Shape).Idx → EReal) (w : S2x4096x13120.Idx → EReal) (r : Fin R) (n : ℕ) : EReal :=
  ∑ k : Fin 4096, h (ix2 r k) * column w n k

variable (m : (ℓ : Loc nD τ sig) → Buf (Elt Ideal) ℓ) (ρ : Dev nD → PrngReg)

theorem pay7_apply (x : Vec Ideal S1024x4096 .bf16) (s : Vec Ideal S512x4096 .bf16) (r : Fin 1024) (n : Fin 512) :
    (k0_pay7 x s) (ix2 r n) = ∑ k : Fin 4096, (x (ix2 r k) : EReal) * s (ix2 n k) := by
  pointwise [k0_pay7]
theorem pay6_apply (x : Vec Ideal S64x4096 .bf16) (s : Vec Ideal S512x4096 .bf16) (r : Fin 64) (n : Fin 512) :
    (k0_pay6 x s) (ix2 r n) = ∑ k : Fin 4096, (x (ix2 r k) : EReal) * s (ix2 n k) := by
  pointwise [k0_pay6]

/-- The rows' block a point leaves, by coordinates. -/
theorem rows_apply (c : Dev nD) (t : Fin (cfgA (F := Ideal)).N) (r : Fin 1024) (n : Fin 512) :
    (rows m c t) (ix2 r n) = projected (m ((c : Thread nD τ).loc main_arg0)) (m ((c : Thread nD τ).loc main_arg2)) (⟨1024 * (t.val % 8) + r.val, by omega⟩ : Fin 8192) (512 * (t.val / 8) + n.val) := by
  unfold rows projected
  rw [pay7_apply]
  exact Finset.sum_congr rfl fun k _ => congrArg₂ (· * ·) (iblk0_apply m c t r k) (scr_apply m c t n k)

/-- The guest rows' block a point leaves, by coordinates. -/
theorem guest_apply (c : Dev nD) (t : Fin (cfgA (F := Ideal)).N) (r : Fin 64) (n : Fin 512) :
    (guest m c t) (ix2 r n) = projected (m ((c : Thread nD τ).loc main_arg1)) (m ((c : Thread nD τ).loc main_arg2)) r (512 * (t.val / 8) + n.val) := by
  unfold guest projected
  rw [pay6_apply]
  exact Finset.sum_congr rfl fun k _ => congrArg₂ (· * ·) (iblk5_apply m c (open_ t) r k) (scr_apply m c t n k)

/-- What the rows' result ends holding. -/
def main_rows (c : Dev nD) (i : S8192x11264.Idx) : EReal :=
  projected (m ((c : Thread nD τ).loc main_arg0)) (m ((c : Thread nD τ).loc main_arg2)) (i 0 : Fin 8192) (i 1).val

/-- What the guest rows' result ends holding. -/
def guest_rows (c : Dev nD) (i : S64x11264.Idx) : EReal :=
  projected (m ((c : Thread nD τ).loc main_arg1)) (m ((c : Thread nD τ).loc main_arg2)) (i 0 : Fin 64) (i 1).val

theorem main_rows_apply (c : Dev nD) (r : Fin 8192) (n : Fin 11264) :
    main_rows m c (ix2 r n) = projected (m ((c : Thread nD τ).loc main_arg0)) (m ((c : Thread nD τ).loc main_arg2)) r n.val := rfl
theorem guest_rows_apply (c : Dev nD) (r : Fin 64) (n : Fin 11264) :
    guest_rows m c (ix2 r n) = projected (m ((c : Thread nD τ).loc main_arg1)) (m ((c : Thread nD τ).loc main_arg2)) r n.val := rfl

theorem flushed_rows (c : Dev nD) (t : Fin (cfgA (F := Ideal)).N) :
    (dat m c).flushed 6 t = (((cfgA (F := Ideal)).win 6).blk t).view.read (Elt Ideal) (main_rows m c) := by
  have hp : ∀ (r : Fin 1024) (n : Fin 512), (rows m c t) (ix2 r n) = main_rows m c (ix2 ⟨1024 * (t.val % 8) + r.val, by omega⟩ ⟨512 * (t.val / 8) + n.val, by have := point_lt t; omega⟩) :=
    fun r n => rows_apply m c t r n
  show (rows m c t : S1024x512.Idx → EReal) = _
  revert hp
  generalize rows m c t = X
  generalize main_rows m c = G
  intro hp
  funext y
  rw [View.read_apply]
  show X y = G _
  obtain ⟨r, n, rfl⟩ : ∃ (r : Fin 1024) (n : Fin 512), y = ix2 r n := ⟨y 0, y 1, eq_ix2 y⟩
  rw [emb6]
  exact hp r n

theorem flushed_guest (c : Dev nD) (t : Fin (cfgA (F := Ideal)).N) :
    (dat m c).flushed 7 t = (((cfgA (F := Ideal)).win 7).blk t).view.read (Elt Ideal) (guest_rows m c) := by
  have hp : ∀ (r : Fin 64) (n : Fin 512), (guest m c t) (ix2 r n) = guest_rows m c (ix2 r ⟨512 * (t.val / 8) + n.val, by have := point_lt t; omega⟩) :=
    fun r n => guest_apply m c t r n
  show (guest m c t : S64x512.Idx → EReal) = _
  revert hp
  generalize guest m c t = X
  generalize guest_rows m c = G
  intro hp
  funext y
  rw [View.read_apply]
  show X y = G _
  obtain ⟨r, n, rfl⟩ : ∃ (r : Fin 64) (n : Fin 512), y = ix2 r n := ⟨y 0, y 1, eq_ix2 y⟩
  rw [emb7]
  exact hp r n

/-- Every index of the rows' result lies in some point's block. -/
theorem cover6 (i : S8192x11264.Idx) : ∃ t : Fin (cfgA (F := Ideal)).N, ((cfgA (F := Ideal)).win 6).flush t = true ∧ i ∈ (((cfgA (F := Ideal)).win 6).blk t).view.set := by
  obtain ⟨r, n, rfl⟩ : ∃ (r : Fin 8192) (n : Fin 11264), i = ix2 r n := ⟨i 0, i 1, eq_ix2 i⟩
  let t : Fin (cfgA (F := Ideal)).N := ⟨8 * (n.val / 512) + r.val / 1024, by rw [show (cfgA (F := Ideal)).N = 176 from N_0]; omega⟩
  have ht : t.val = 8 * (n.val / 512) + r.val / 1024 := rfl
  have e := emb6 t ⟨r.val % 1024, by omega⟩ ⟨n.val % 512, by omega⟩
  have e' : (ix2 ⟨1024 * (t.val % 8) + r.val % 1024, by omega⟩ ⟨512 * (t.val / 8) + n.val % 512, by rw [ht]; omega⟩ : S8192x11264.Idx) = ix2 r n := by
    congr 1 <;> apply Fin.ext <;> dsimp only <;> rw [ht] <;> omega
  exact ⟨t, flush6 t, (e.trans e') ▸ (((cfgA (F := Ideal)).win 6).blk t).view.emb_mem_set _⟩

/-- Every index of the guest rows' result lies in the block of a column tile's last point. -/
theorem cover7 (i : S64x11264.Idx) : ∃ t : Fin (cfgA (F := Ideal)).N, ((cfgA (F := Ideal)).win 7).flush t = true ∧ i ∈ (((cfgA (F := Ideal)).win 7).blk t).view.set := by
  obtain ⟨r, n, rfl⟩ : ∃ (r : Fin 64) (n : Fin 11264), i = ix2 r n := ⟨i 0, i 1, eq_ix2 i⟩
  let t : Fin (cfgA (F := Ideal)).N := ⟨8 * (n.val / 512) + 7, by rw [show (cfgA (F := Ideal)).N = 176 from N_0]; omega⟩
  have ht : t.val = 8 * (n.val / 512) + 7 := rfl
  have e := emb7 t r ⟨n.val % 512, by omega⟩
  have e' : (ix2 r ⟨512 * (t.val / 8) + n.val % 512, by rw [ht]; omega⟩ : S64x11264.Idx) = ix2 r n := by
    congr 1; apply Fin.ext; dsimp only; rw [ht]; omega
  exact ⟨t, (flush7 t).trans (decide_eq_true (by rw [ht]; omega)), (e.trans e') ▸ (((cfgA (F := Ideal)).win 7).blk t).view.emb_mem_set _⟩

/-- The result arrays after the run. -/
theorem final_rows (c : Dev nD) : (dat m c).arrAt 6 (cfgA (F := Ideal)).N = main_rows m c := by
  funext i
  rw [(dat m c).arrAt_eq_piecewise 6 (main_rows m c) (fun t _ => flushed_rows m c t) i]
  exact if_pos (cover6 i)

theorem final_guest (c : Dev nD) : (dat m c).arrAt 7 (cfgA (F := Ideal)).N = guest_rows m c := by
  funext i
  rw [(dat m c).arrAt_eq_piecewise 7 (guest_rows m c) (fun t _ => flushed_guest m c t) i]
  exact if_pos (cover7 i)

/-- THE RUN: both results, and the arguments as they were. -/
theorem run : θ_run defs (onTc (τ := τ) (main (F := Ideal))) ⟨m, fun _ => 0, ρ⟩ (fun r => ∀ c : Dev nD,
      r.2.mem ((c.tc : Thread nD τ).loc main_v1_0) = main_rows m c
      ∧ r.2.mem ((c.tc : Thread nD τ).loc main_v1_1) = guest_rows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 6).trans (final_rows m c), ((h.1 c).1 7).trans (final_guest m c), h.2 c⟩)
    (θ_run_and (run_main m ρ) (unchanged m ρ))

end Cert.Kernel5Ideal.In

end
-- ==== Proof.In.Reference.lean ====
/-
  THE REFERENCE OF THE INPUT PROJECTION at an index: layer 0's whole projection, its columns sliced and put side by side in
  the kernel's order, zeros where the order pads.
-/
module

public import proofs.«01_k».proof.Proof.In.Value
public import proofs.«01_k».proof.Proof.Gen.Reference5Ideal.Run

@[expose] public section

noncomputable section

namespace Cert.Proof.In

open Cert.Reference5Ideal Cert.Reference5Ideal.Gen
open Idealize.ShloMosaic Idealize.ShloMosaic.TcCoe Idealize.SL.Sem
open Cert.Kernel5Ideal.In (projected column source source_0 source_1 source_2 source_3 source_4 source_5 source_6 source_7 source_8 source_9)

/-- A choice by `source` where it names a column … -/
theorem chosen {R : ℕ} (P : (⟨2, ![R, 13120]⟩ : Shape).Idx → EReal) (r : Fin R) (n : ℕ) (s : Fin 13120) (e : source n = s.val) :
    P (ix2 r s) = (if h : source n < 13120 then P (ix2 r ⟨source n, h⟩) else 0) := by
  have hs : source n < 13120 := e ▸ s.isLt
  rw [dif_pos hs, show (⟨source n, hs⟩ : Fin 13120) = s from Fin.ext e]

/-- … and where it names none. -/
theorem chosen_none {R : ℕ} (P : (⟨2, ![R, 13120]⟩ : Shape).Idx → EReal) (r : Fin R) (n : ℕ) (e : source n = 13120) :
    (0 : EReal) = (if h : source n < 13120 then P (ix2 r ⟨source n, h⟩) else 0) := by
  rw [dif_neg (by omega)]

/-- Such a choice of a product's columns is the product with the chosen columns. -/
theorem product_chosen {R : ℕ} (h : (⟨2, ![R, 4096]⟩ : Shape).Idx → EReal) (w : S2x4096x13120.Idx → EReal) (P : (⟨2, ![R, 13120]⟩ : Shape).Idx → EReal)
    (hP : ∀ (r : Fin R) (s : Fin 13120), P (ix2 r s) = ∑ k : Fin 4096, h (ix2 r k) * w (ix3 0 k s)) (r : Fin R) (n : ℕ) :
    (if h : source n < 13120 then P (ix2 r ⟨source n, h⟩) else 0) = projected h w r n := by
  unfold projected column
  by_cases e : source n < 13120
  · simp only [dif_pos e, hP]
  · simp only [dif_neg e, mul_zero, Finset.sum_const_zero]

/-- Layer 0's whole projection of the rows. -/
abbrev whole_rows (h : FVec Ideal S8192x4096 .bf16) (w : FVec Ideal S2x4096x13120 .f32) : FVec Ideal S8192x13120 .f32 :=
  Host.dotGeneral dot_S8192x4096_S4096x13120_S8192x13120_1_0_0_1_n_n none (extf .f32 h bitsLt_bf16_f32) (shapeCast _ (extractStridedSlice S1x4096x13120 ![0, 0, 0] w slices_S2x4096x13120_S1x4096x13120_0_0_0) shapeCasts_S1x4096x13120_S4096x13120)

theorem whole_rows_apply (h : FVec Ideal S8192x4096 .bf16) (w : FVec Ideal S2x4096x13120 .f32) (r : Fin 8192) (n : Fin 13120) :
    (whole_rows h w) (ix2 r n) = (∑ k : Fin 4096, h (ix2 r k) * w (ix3 0 k n) : EReal) := by
  unfold whole_rows
  pointwise

/-- A projection's columns, in the kernel's order. -/
abbrev ordered_rows (P : FVec Ideal S8192x13120 .f32) : FVec Ideal S8192x11264 .f32 :=
  (concatenate S8192x11264 1 [⟨S8192x3072, ((extractStridedSlice S8192x3072 ![0, 0] P slices_S8192x13120_S8192x3072_0_0) : (⟨S8192x3072, .f32⟩ : BufTy).Contents (Elt Ideal))⟩, ⟨S8192x3072, ((extractStridedSlice S8192x3072 ![0, 0] (extractStridedSlice S8192x3360 ![0, 4112] P slices_S8192x13120_S8192x3360_0_4112) slices_S8192x3360_S8192x3072_0_0) : (⟨S8192x3072, .f32⟩ : BufTy).Contents (Elt Ideal))⟩, ⟨S8192x1024, ((extractStridedSlice S8192x1024 ![0, 0] (extractStridedSlice S8192x3072 ![0, 10048] P slices_S8192x13120_S8192x3072_0_10048) slices_S8192x3072_S8192x1024_0_0) : (⟨S8192x1024, .f32⟩ : BufTy).Contents (Elt Ideal))⟩, ⟨S8192x1024, ((extractStridedSlice S8192x1024 ![0, 3072] P slices_S8192x13120_S8192x1024_0_3072) : (⟨S8192x1024, .f32⟩ : BufTy).Contents (Elt Ideal))⟩, ⟨S8192x1024, ((extractStridedSlice S8192x1024 ![0, 7472] P slices_S8192x13120_S8192x1024_0_7472) : (⟨S8192x1024, .f32⟩ : BufTy).Contents (Elt Ideal))⟩, ⟨S8192x1536, ((extractStridedSlice S8192x1536 ![0, 8496] P slices_S8192x13120_S8192x1536_0_8496) : (⟨S8192x1536, .f32⟩ : BufTy).Contents (Elt Ideal))⟩, ⟨S8192x288, ((extractStridedSlice S8192x288 ![0, 3072] (extractStridedSlice S8192x3360 ![0, 4112] P slices_S8192x13120_S8192x3360_0_4112) slices_S8192x3360_S8192x288_0_3072) : (⟨S8192x288, .f32⟩ : BufTy).Contents (Elt Ideal))⟩, ⟨S8192x96, ((broadcastInDim S8192x96 ![] bcast_S_S8192x96 (constant (F := Ideal) S_ .f32 0x00000000#32)) : (⟨S8192x96, .f32⟩ : BufTy).Contents (Elt Ideal))⟩, ⟨S8192x8, ((extractStridedSlice S8192x8 ![0, 4096] P slices_S8192x13120_S8192x8_0_4096) : (⟨S8192x8, .f32⟩ : BufTy).Contents (Elt Ideal))⟩, ⟨S8192x8, ((extractStridedSlice S8192x8 ![0, 4104] P slices_S8192x13120_S8192x8_0_4104) : (⟨S8192x8, .f32⟩ : BufTy).Contents (Elt Ideal))⟩, ⟨S8192x16, ((extractStridedSlice S8192x16 ![0, 10032] P slices_S8192x13120_S8192x16_0_10032) : (⟨S8192x16, .f32⟩ : BufTy).Contents (Elt Ideal))⟩, ⟨S8192x96, ((broadcastInDim S8192x96 ![] bcast_S_S8192x96 (constant (F := Ideal) S_ .f32 0x00000000#32)) : (⟨S8192x96, .f32⟩ : BufTy).Contents (Elt Ideal))⟩] concatenates_S8192x3072_S8192x3072_S8192x1024_S8192x1024_S8192x1024_S8192x1536_S8192x288_S8192x96_S8192x8_S8192x8_S8192x16_S8192x96_S8192x11264_d1 : (⟨S8192x11264, .f32⟩ : BufTy).Contents (Elt Ideal))

theorem ordered_rows_apply (P : FVec Ideal S8192x13120 .f32) (r : Fin 8192) (n : Fin 11264) :
    (ordered_rows P) (ix2 r n) = (if h : source n.val < 13120 then P (ix2 r ⟨source n.val, h⟩) else 0 : EReal) := by
  unfold ordered_rows
  pointwise
  by_cases c0 : n.val < 3072
  · rw [dif_pos c0]
    exact chosen P r n.val _ (source_0 _ (by omega))
  rw [dif_neg c0]
  by_cases c1 : n.val - 3072 < 3072
  · rw [dif_pos c1]
    exact chosen P r n.val _ ((source_1 _ (by omega) (by omega)).trans (by dsimp only; omega))
  rw [dif_neg c1]
  by_cases c2 : n.val - 3072 - 3072 < 1024
  · rw [dif_pos c2]
    exact chosen P r n.val _ ((source_2 _ (by omega) (by omega)).trans (by dsimp only; omega))
  rw [dif_neg c2]
  by_cases c3 : n.val - 3072 - 3072 - 1024 < 1024
  · rw [dif_pos c3]
    exact chosen P r n.val _ ((source_3 _ (by omega) (by omega)).trans (by dsimp only; omega))
  rw [dif_neg c3]
  by_cases c4 : n.val - 3072 - 3072 - 1024 - 1024 < 1024
  · rw [dif_pos c4]
    exact chosen P r n.val _ ((source_4 _ (by omega) (by omega)).trans (by dsimp only; omega))
  rw [dif_neg c4]
  by_cases c5 : n.val - 3072 - 3072 - 1024 - 1024 - 1024 < 1536
  · rw [dif_pos c5]
    exact chosen P r n.val _ ((source_4 _ (by omega) (by omega)).trans (by dsimp only; omega))
  rw [dif_neg c5]
  by_cases c6 : n.val - 3072 - 3072 - 1024 - 1024 - 1024 - 1536 < 288
  · rw [dif_pos c6]
    exact chosen P r n.val _ ((source_5 _ (by omega) (by omega)).trans (by dsimp only; omega))
  rw [dif_neg c6]
  by_cases c7 : n.val - 3072 - 3072 - 1024 - 1024 - 1024 - 1536 - 288 < 96
  · rw [dif_pos c7]
    exact chosen_none P r n.val (source_6 _ (by omega) (by omega))
  rw [dif_neg c7]
  by_cases c8 : n.val - 3072 - 3072 - 1024 - 1024 - 1024 - 1536 - 288 - 96 < 8
  · rw [dif_pos c8]
    exact chosen P r n.val _ ((source_7 _ (by omega) (by omega)).trans (by dsimp only; omega))
  rw [dif_neg c8]
  by_cases c9 : n.val - 3072 - 3072 - 1024 - 1024 - 1024 - 1536 - 288 - 96 - 8 < 8
  · rw [dif_pos c9]
    exact chosen P r n.val _ ((source_7 _ (by omega) (by omega)).trans (by dsimp only; omega))
  rw [dif_neg c9]
  by_cases c10 : n.val - 3072 - 3072 - 1024 - 1024 - 1024 - 1536 - 288 - 96 - 8 - 8 < 16
  · rw [dif_pos c10]
    exact chosen P r n.val _ ((source_8 _ (by omega) (by omega)).trans (by dsimp only; omega))
  rw [dif_neg c10]
  exact chosen_none P r n.val (source_9 _ (by omega))

/-- Layer 0's whole projection of the guest rows. -/
abbrev whole_guest (h : FVec Ideal S64x4096 .bf16) (w : FVec Ideal S2x4096x13120 .f32) : FVec Ideal S64x13120 .f32 :=
  Host.dotGeneral dot_S64x4096_S4096x13120_S64x13120_1_0_0_1_n_n none (extf .f32 h bitsLt_bf16_f32) (shapeCast _ (extractStridedSlice S1x4096x13120 ![0, 0, 0] w slices_S2x4096x13120_S1x4096x13120_0_0_0) shapeCasts_S1x4096x13120_S4096x13120)

theorem whole_guest_apply (h : FVec Ideal S64x4096 .bf16) (w : FVec Ideal S2x4096x13120 .f32) (r : Fin 64) (n : Fin 13120) :
    (whole_guest h w) (ix2 r n) = (∑ k : Fin 4096, h (ix2 r k) * w (ix3 0 k n) : EReal) := by
  unfold whole_guest
  pointwise

/-- A projection's columns, in the kernel's order. -/
abbrev ordered_guest (P : FVec Ideal S64x13120 .f32) : FVec Ideal S64x11264 .f32 :=
  (concatenate S64x11264 1 [⟨S64x3072, ((extractStridedSlice S64x3072 ![0, 0] P slices_S64x13120_S64x3072_0_0) : (⟨S64x3072, .f32⟩ : BufTy).Contents (Elt Ideal))⟩, ⟨S64x3072, ((extractStridedSlice S64x3072 ![0, 0] (extractStridedSlice S64x3360 ![0, 4112] P slices_S64x13120_S64x3360_0_4112) slices_S64x3360_S64x3072_0_0) : (⟨S64x3072, .f32⟩ : BufTy).Contents (Elt Ideal))⟩, ⟨S64x1024, ((extractStridedSlice S64x1024 ![0, 0] (extractStridedSlice S64x3072 ![0, 10048] P slices_S64x13120_S64x3072_0_10048) slices_S64x3072_S64x1024_0_0) : (⟨S64x1024, .f32⟩ : BufTy).Contents (Elt Ideal))⟩, ⟨S64x1024, ((extractStridedSlice S64x1024 ![0, 3072] P slices_S64x13120_S64x1024_0_3072) : (⟨S64x1024, .f32⟩ : BufTy).Contents (Elt Ideal))⟩, ⟨S64x1024, ((extractStridedSlice S64x1024 ![0, 7472] P slices_S64x13120_S64x1024_0_7472) : (⟨S64x1024, .f32⟩ : BufTy).Contents (Elt Ideal))⟩, ⟨S64x1536, ((extractStridedSlice S64x1536 ![0, 8496] P slices_S64x13120_S64x1536_0_8496) : (⟨S64x1536, .f32⟩ : BufTy).Contents (Elt Ideal))⟩, ⟨S64x288, ((extractStridedSlice S64x288 ![0, 3072] (extractStridedSlice S64x3360 ![0, 4112] P slices_S64x13120_S64x3360_0_4112) slices_S64x3360_S64x288_0_3072) : (⟨S64x288, .f32⟩ : BufTy).Contents (Elt Ideal))⟩, ⟨S64x96, ((broadcastInDim S64x96 ![] bcast_S_S64x96 (constant (F := Ideal) S_ .f32 0x00000000#32)) : (⟨S64x96, .f32⟩ : BufTy).Contents (Elt Ideal))⟩, ⟨S64x8, ((extractStridedSlice S64x8 ![0, 4096] P slices_S64x13120_S64x8_0_4096) : (⟨S64x8, .f32⟩ : BufTy).Contents (Elt Ideal))⟩, ⟨S64x8, ((extractStridedSlice S64x8 ![0, 4104] P slices_S64x13120_S64x8_0_4104) : (⟨S64x8, .f32⟩ : BufTy).Contents (Elt Ideal))⟩, ⟨S64x16, ((extractStridedSlice S64x16 ![0, 10032] P slices_S64x13120_S64x16_0_10032) : (⟨S64x16, .f32⟩ : BufTy).Contents (Elt Ideal))⟩, ⟨S64x96, ((broadcastInDim S64x96 ![] bcast_S_S64x96 (constant (F := Ideal) S_ .f32 0x00000000#32)) : (⟨S64x96, .f32⟩ : BufTy).Contents (Elt Ideal))⟩] concatenates_S64x3072_S64x3072_S64x1024_S64x1024_S64x1024_S64x1536_S64x288_S64x96_S64x8_S64x8_S64x16_S64x96_S64x11264_d1 : (⟨S64x11264, .f32⟩ : BufTy).Contents (Elt Ideal))

theorem ordered_guest_apply (P : FVec Ideal S64x13120 .f32) (r : Fin 64) (n : Fin 11264) :
    (ordered_guest P) (ix2 r n) = (if h : source n.val < 13120 then P (ix2 r ⟨source n.val, h⟩) else 0 : EReal) := by
  unfold ordered_guest
  pointwise
  by_cases c0 : n.val < 3072
  · rw [dif_pos c0]
    exact chosen P r n.val _ (source_0 _ (by omega))
  rw [dif_neg c0]
  by_cases c1 : n.val - 3072 < 3072
  · rw [dif_pos c1]
    exact chosen P r n.val _ ((source_1 _ (by omega) (by omega)).trans (by dsimp only; omega))
  rw [dif_neg c1]
  by_cases c2 : n.val - 3072 - 3072 < 1024
  · rw [dif_pos c2]
    exact chosen P r n.val _ ((source_2 _ (by omega) (by omega)).trans (by dsimp only; omega))
  rw [dif_neg c2]
  by_cases c3 : n.val - 3072 - 3072 - 1024 < 1024
  · rw [dif_pos c3]
    exact chosen P r n.val _ ((source_3 _ (by omega) (by omega)).trans (by dsimp only; omega))
  rw [dif_neg c3]
  by_cases c4 : n.val - 3072 - 3072 - 1024 - 1024 < 1024
  · rw [dif_pos c4]
    exact chosen P r n.val _ ((source_4 _ (by omega) (by omega)).trans (by dsimp only; omega))
  rw [dif_neg c4]
  by_cases c5 : n.val - 3072 - 3072 - 1024 - 1024 - 1024 < 1536
  · rw [dif_pos c5]
    exact chosen P r n.val _ ((source_4 _ (by omega) (by omega)).trans (by dsimp only; omega))
  rw [dif_neg c5]
  by_cases c6 : n.val - 3072 - 3072 - 1024 - 1024 - 1024 - 1536 < 288
  · rw [dif_pos c6]
    exact chosen P r n.val _ ((source_5 _ (by omega) (by omega)).trans (by dsimp only; omega))
  rw [dif_neg c6]
  by_cases c7 : n.val - 3072 - 3072 - 1024 - 1024 - 1024 - 1536 - 288 < 96
  · rw [dif_pos c7]
    exact chosen_none P r n.val (source_6 _ (by omega) (by omega))
  rw [dif_neg c7]
  by_cases c8 : n.val - 3072 - 3072 - 1024 - 1024 - 1024 - 1536 - 288 - 96 < 8
  · rw [dif_pos c8]
    exact chosen P r n.val _ ((source_7 _ (by omega) (by omega)).trans (by dsimp only; omega))
  rw [dif_neg c8]
  by_cases c9 : n.val - 3072 - 3072 - 1024 - 1024 - 1024 - 1536 - 288 - 96 - 8 < 8
  · rw [dif_pos c9]
    exact chosen P r n.val _ ((source_7 _ (by omega) (by omega)).trans (by dsimp only; omega))
  rw [dif_neg c9]
  by_cases c10 : n.val - 3072 - 3072 - 1024 - 1024 - 1024 - 1536 - 288 - 96 - 8 - 8 < 16
  · rw [dif_pos c10]
    exact chosen P r n.val _ ((source_8 _ (by omega) (by omega)).trans (by dsimp only; omega))
  rw [dif_neg c10]
  exact chosen_none P r n.val (source_9 _ (by omega))

/-- The reference's first result. -/
theorem reference_rows (h : FVec Ideal S8192x4096 .bf16) (w : FVec Ideal S2x4096x13120 .f32) :
    ordered_rows (whole_rows h w) = (fun i => projected h w (i 0 : Fin 8192) (i 1).val : S8192x11264.Idx → EReal) := by
  funext i
  obtain ⟨r, n, rfl⟩ : ∃ (r : Fin 8192) (n : Fin 11264), i = ix2 r n := ⟨i 0, i 1, eq_ix2 i⟩
  exact (ordered_rows_apply _ r n).trans (product_chosen h w _ (whole_rows_apply h w) r n.val)

/-- The reference's second result. -/
theorem reference_guest (h : FVec Ideal S64x4096 .bf16) (w : FVec Ideal S2x4096x13120 .f32) :
    ordered_guest (whole_guest h w) = (fun i => projected h w (i 0 : Fin 64) (i 1).val : S64x11264.Idx → EReal) := by
  funext i
  obtain ⟨r, n, rfl⟩ : ∃ (r : Fin 64) (n : Fin 11264), i = ix2 r n := ⟨i 0, i 1, eq_ix2 i⟩
  exact (ordered_guest_apply _ r n).trans (product_chosen h w _ (whole_guest_apply h w) r n.val)

end Cert.Proof.In

end
-- ==== Proof.In.Claim.lean ====
/-
  THE INPUT PROJECTION'S RUNS, side by side: the kernel and the reference end with the same two results.
-/
module

public import proofs.«01_k».proof.Proof.In.Reference
public import proofs.«01_k».proof.Defs
public import Idealize.ShloMosaic.Lib.Quiescent

@[expose] public section

noncomputable section

namespace Cert.Proof.In

open Cert.Kernel5Ideal.In (main_rows guest_rows)
open Idealize.ShloMosaic Idealize.ShloMosaic.TcCoe Idealize.SL.Sem

/-- The reference leaves its arguments as they were, and it declares no semaphore. -/
theorem frame_reference : Cert.quiescent_Reference5Ideal := fun m' ρ' _ =>
  (θ_run _ _ _).mono (fun r hr => ⟨fun c => (hr c).2.2, sem_eq_zero_of_no_sems (by decide) r.2⟩) (Reference5Ideal.Value.run m' ρ')

/-- Both programs end with the projection's rows and its guest rows. -/
theorem algebraic : Cert.algebraic_Kernel5Ideal_Reference5Ideal := by
  intro m ρ m' ρ' _ h
  refine ⟨main_rows m, guest_rows m, Kernel5Ideal.In.run m ρ, (θ_run _ _ _).mono (fun _ hr c => ?_) (Reference5Ideal.Value.run m' ρ')⟩
  obtain ⟨e0, e1, e2⟩ := h c
  refine ⟨(hr c).1.trans ?_, (hr c).2.1.trans ?_, (hr c).2.2⟩
  · unfold Reference5Ideal.Value.res_main_v18
    rw [e0, e2]
    exact reference_rows _ _
  · unfold Reference5Ideal.Value.res_main_v37
    rw [e1, e2]
    exact reference_guest _ _

end Cert.Proof.In

end
-- ==== Proof.Out1.Body.lean ====
/-
  WHAT ONE GRID POINT OF THE OUTPUT PROJECTION LEAVES. At the first point of each column tile the weight tile is rounded into
  the scratch buffer; at every point the output block is the sum of four products, one per mixer, each with its quarter of the
  scratch's rows. Written over any float instance.
-/
module

public import proofs.«01_k».proof.Proof.Gen.Kernel6Ideal.Value
public import proofs.«01_k».proof.Proof.Out.Body
public import Idealize.ShloMosaic.Lib.Tactic
public import Idealize.ShloMosaic.Lib.Pointwise

@[expose] public section

noncomputable section

namespace Cert.Proof.Out1

open Cert.Kernel6Ideal Cert.Kernel6Ideal.Gen Cert.Kernel6Ideal.Value
open Idealize.ShloMosaic Idealize.ShloMosaic.TcCoe Idealize.SL.Sem
open Idealize.ShloMosaic.Pipeline (Dat)

open Cert.Proof.Out (zero2 zero3 fourProducts readCov_whole)

variable {F : FTy → Type} [FloatOps F]

variable (c : Dev nD) (i : grid0.Coords) (a2 : Memref sig .tc .vmem S1024x1024 .bf16) (h2 : a2.IsWhole)
  (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1x4096x512 .f32) (h6 : a6.IsWhole)
  (a7 : Memref sig .tc .vmem S1024x512 .f32) (h7 : a7.IsWhole) (a8 : Memref sig .tc .vmem S4096x512 .bf16) (h8 : a8.IsWhole)
  (x0 x1 x2 x3 : Vec F S1024x1024 .bf16) (x4 : Vec F S1x4096x512 .f32) (s : Vec F S4096x512 .bf16)

/-- At the first point of a column tile the scratch buffer receives the rounded weight tile. -/
theorem scratch_first (hc : cond0_0 i) :
    sout0_A_0 c i a2 h2 a3 h3 a4 h4 a5 h5 a6 h6 a7 h7 a8 h8 hc x0 x1 x2 x3 x4 = k0_pay1 x4 := by
  refine (View.read_writes_eq_canon _ _ _ fun _ => scover0_A_0 ..).trans ?_
  unfold kernelRun0_A
  sl_unfold_words
  rw [View.canon_unit_zero zero2]
  simp only [View.readAt_eq_ld, h6.read_unread, View.ld_unit_zero (S := S1x4096x512) zero3]

/-- The output block at the first point of a column tile: the products with the tile just stored. -/
theorem out_first (hc : cond0_0 i) :
    out0_A_5 c i a2 h2 a3 h3 a4 h4 a5 h5 a6 h6 a7 h7 a8 h8 hc x0 x1 x2 x3 x4 = fourProducts x0 x1 x2 x3 (k0_pay1 x4) := by
  refine (View.read_writes_eq_canon _ _ _ fun _ => cover0_A_5 ..).trans ?_
  unfold kernelRun0_A
  sl_unfold_words
  rw [View.canon_unit_zero zero2]
  simp only [View.readAt_eq_ld, h2.read_unread, h3.read_unread, h4.read_unread, h5.read_unread, h6.read_unread, View.ld_unit_zero (S := S1x4096x512) zero3, View.ld_unit_zero (S := S1024x1024) zero2, readCov_whole (S := S4096x512) _ zero2]
  rfl

/-- The output block at a later point: the products with the scratch buffer as it came in. -/
theorem out_later (hc : ¬cond0_0 i) :
    out0_B_5 c i a2 h2 a3 h3 a4 h4 a5 h5 a6 h6 a7 h7 a8 h8 hc x0 x1 x2 x3 x4 s = fourProducts x0 x1 x2 x3 s := by
  refine (View.read_writes_eq_canon _ _ _ fun _ => cover0_B_5 ..).trans ?_
  unfold kernelRun0_B
  rw [View.canon_unit_zero zero2]
  simp only [View.readAt_eq_ld, h2.read_unread, h3.read_unread, h4.read_unread, h5.read_unread, h8.read_unread, View.ld_unit_zero (S := S1024x1024) zero2]
  rfl

/-- … which it leaves as it was. -/
theorem scratch_later (hc : ¬cond0_0 i) :
    sout0_B_0 c i a2 h2 a3 h3 a4 h4 a5 h5 a6 h6 a7 h7 a8 h8 hc x0 x1 x2 x3 x4 s = s := rfl

end Cert.Proof.Out1

end
-- ==== Proof.Out1.Points.lean ====
/-
  WHAT THE OUTPUT PROJECTION'S BUFFERS HOLD AFTER A GRID POINT. Point `t` works on row block `t % 8` and column tile `t / 8`.
  The scratch buffer holds the rounded weight tile of the current column tile from the tile's first point on.
-/
module

public import proofs.«01_k».proof.Proof.Out1.Body

@[expose] public section

noncomputable section

namespace Cert.Proof.Out1

open Cert.Kernel6Ideal Cert.Kernel6Ideal.Gen Cert.Kernel6Ideal.Value
open Idealize.ShloMosaic Idealize.ShloMosaic.TcCoe Idealize.SL.Sem
open Idealize.ShloMosaic.Pipeline (Dat)
open Cert.Proof.Out (fourProducts)

variable {F : FTy → Type} [FloatOps F]
variable (m : (ℓ : Loc nD τ sig) → Buf (Elt F) ℓ)

theorem point_lt (t : Fin cfg0.N) : t.val < 64 := lt_of_lt_of_eq t.isLt N_0

theorem index0 : ∀ t : Fin cfg0.N, win0_0.index t 0 = t.val % 8 ∧ win0_0.index t 1 = 0 :=
  (by decide +kernel : ∀ t : Fin grid0.N, _)
theorem index1 : ∀ t : Fin cfg0.N, win0_1.index t 0 = t.val % 8 ∧ win0_1.index t 1 = 0 :=
  (by decide +kernel : ∀ t : Fin grid0.N, _)
theorem index2 : ∀ t : Fin cfg0.N, win0_2.index t 0 = t.val % 8 ∧ win0_2.index t 1 = 0 :=
  (by decide +kernel : ∀ t : Fin grid0.N, _)
theorem index3 : ∀ t : Fin cfg0.N, win0_3.index t 0 = t.val % 8 ∧ win0_3.index t 1 = 0 :=
  (by decide +kernel : ∀ t : Fin grid0.N, _)
theorem index4 : ∀ t : Fin cfg0.N, win0_4.index t 0 = 1 ∧ win0_4.index t 1 = 0 ∧ win0_4.index t 2 = t.val / 8 :=
  (by decide +kernel : ∀ t : Fin grid0.N, _)
theorem index5 : ∀ t : Fin cfg0.N, win0_5.index t 0 = t.val % 8 ∧ win0_5.index t 1 = t.val / 8 :=
  (by decide +kernel : ∀ t : Fin grid0.N, _)

/-- Mixer 0's row block at a point, by coordinates. -/
theorem iblk0_apply (c : Dev nD) (t : Fin cfg0.N) (r : Fin 1024) (k : Fin 1024) :
    (iblk m c 0 t : Vec F S1024x1024 .bf16) (ix2 r k)
      = m ((c : Thread nD τ).loc main_arg0) (ix2 ⟨1024 * (t.val % 8) + r.val, by omega⟩ k) := by
  have hi := index0 t
  unfold iblk
  rw [View.read_apply, ← V_main_arg0 m c]
  refine congrArg (V m c main_arg0) (funext fun a => Fin.ext ?_)
  match a with
  | ⟨0, _⟩ => show win0_0.index t 0 * 1024 + 1 * r.val = 1024 * (t.val % 8) + r.val; rw [hi.1]; omega
  | ⟨1, _⟩ => show win0_0.index t 1 * 1024 + 1 * k.val = k.val; rw [hi.2]; omega

/-- Mixer 1's row block at a point, by coordinates. -/
theorem iblk1_apply (c : Dev nD) (t : Fin cfg0.N) (r : Fin 1024) (k : Fin 1024) :
    (iblk m c 1 t : Vec F S1024x1024 .bf16) (ix2 r k)
      = m ((c : Thread nD τ).loc main_arg1) (ix2 ⟨1024 * (t.val % 8) + r.val, by omega⟩ k) := by
  have hi := index1 t
  unfold iblk
  rw [View.read_apply, ← V_main_arg1 m c]
  refine congrArg (V m c main_arg1) (funext fun a => Fin.ext ?_)
  match a with
  | ⟨0, _⟩ => show win0_1.index t 0 * 1024 + 1 * r.val = 1024 * (t.val % 8) + r.val; rw [hi.1]; omega
  | ⟨1, _⟩ => show win0_1.index t 1 * 1024 + 1 * k.val = k.val; rw [hi.2]; omega

/-- Mixer 2's row block at a point, by coordinates. -/
theorem iblk2_apply (c : Dev nD) (t : Fin cfg0.N) (r : Fin 1024) (k : Fin 1024) :
    (iblk m c 2 t : Vec F S1024x1024 .bf16) (ix2 r k)
      = m ((c : Thread nD τ).loc main_arg2) (ix2 ⟨1024 * (t.val % 8) + r.val, by omega⟩ k) := by
  have hi := index2 t
  unfold iblk
  rw [View.read_apply, ← V_main_arg2 m c]
  refine congrArg (V m c main_arg2) (funext fun a => Fin.ext ?_)
  match a with
  | ⟨0, _⟩ => show win0_2.index t 0 * 1024 + 1 * r.val = 1024 * (t.val % 8) + r.val; rw [hi.1]; omega
  | ⟨1, _⟩ => show win0_2.index t 1 * 1024 + 1 * k.val = k.val; rw [hi.2]; omega

/-- Mixer 3's row block at a point, by coordinates. -/
theorem iblk3_apply (c : Dev nD) (t : Fin cfg0.N) (r : Fin 1024) (k : Fin 1024) :
    (iblk m c 3 t : Vec F S1024x1024 .bf16) (ix2 r k)
      = m ((c : Thread nD τ).loc main_arg3) (ix2 ⟨1024 * (t.val % 8) + r.val, by omega⟩ k) := by
  have hi := index3 t
  unfold iblk
  rw [View.read_apply, ← V_main_arg3 m c]
  refine congrArg (V m c main_arg3) (funext fun a => Fin.ext ?_)
  match a with
  | ⟨0, _⟩ => show win0_3.index t 0 * 1024 + 1 * r.val = 1024 * (t.val % 8) + r.val; rw [hi.1]; omega
  | ⟨1, _⟩ => show win0_3.index t 1 * 1024 + 1 * k.val = k.val; rw [hi.2]; omega

/-- The weight tile at a point: all rows of column tile `t / 8` of layer 1. -/
theorem iblk4_apply (c : Dev nD) (t : Fin cfg0.N) (z : Fin 1) (k : Fin 4096) (n : Fin 512) :
    (iblk m c 4 t : Vec F S1x4096x512 .f32) (ix3 z k n)
      = m ((c : Thread nD τ).loc main_arg4) (ix3 1 k ⟨512 * (t.val / 8) + n.val, by have := point_lt t; omega⟩) := by
  have hi := index4 t
  unfold iblk
  rw [View.read_apply, ← V_main_arg4 m c]
  refine congrArg (V m c main_arg4) (funext fun a => Fin.ext ?_)
  match a with
  | ⟨0, _⟩ => show win0_4.index t 0 * 1 + 1 * z.val = 1; rw [hi.1]; omega
  | ⟨1, _⟩ => show win0_4.index t 1 * 4096 + 1 * k.val = k.val; rw [hi.2.1]; omega
  | ⟨2, _⟩ => show win0_4.index t 2 * 512 + 1 * n.val = 512 * (t.val / 8) + n.val; rw [hi.2.2]; omega

/-- Two points of one column tile read the same weight tile. -/
theorem iblk4_congr (c : Dev nD) (t t' : Fin cfg0.N) (h : t.val / 8 = t'.val / 8) :
    (iblk m c 4 t : Vec F S1x4096x512 .f32) = iblk m c 4 t' := by
  funext y
  rw [show y = ix3 (y 0) (y 1) (y 2) from eq_ix3 y]
  refine (iblk4_apply m c t _ _ _).trans (Eq.trans ?_ (iblk4_apply m c t' _ _ _).symm)
  simp only [h]

/-- After any point the scratch buffer holds that point's rounded weight tile. -/
theorem scratch_eq (c : Dev nD) : ∀ (n : ℕ) (h : n < cfg0.N), (outsAt0 m c n h).2 = k0_pay1 (iblk m c 4 ⟨n, h⟩)
  | 0, h => by
    rw [outsAt0_A m c ⟨0, h⟩ rfl]
    dsimp only
    exact scratch_first ..
  | n + 1, h => by
    by_cases h0 : (n + 1) % 8 = 0
    · rw [outsAt0_A m c ⟨n + 1, h⟩ h0]
      dsimp only
      exact scratch_first ..
    · rw [outsAt0_B m c ⟨n + 1, h⟩ h0]
      dsimp only
      rw [scratch_later]
      refine (scratch_eq c n (Nat.lt_of_succ_lt h)).trans (congrArg _ (iblk4_congr m c _ _ ?_))
      show n / 8 = (n + 1) / 8
      omega

/-- What the output block holds after a point, by the point's own blocks. -/
theorem outs_eq (c : Dev nD) (t : Fin cfg0.N) :
    (outsAt0 m c t.val t.isLt).1 = fourProducts (iblk m c 0 t) (iblk m c 1 t) (iblk m c 2 t) (iblk m c 3 t) (k0_pay1 (iblk m c 4 t)) := by
  by_cases h0 : t.val % 8 = 0
  · rw [outsAt0_A m c t h0]
    dsimp only
    exact out_first ..
  · rw [outsAt0_B m c t h0]
    dsimp only
    rw [out_later]
    refine congrArg _ ((scratch_eq m c (t.val - 1) _).trans (congrArg _ (iblk4_congr m c _ _ ?_)))
    show (t.val - 1) / 8 = t.val / 8
    omega

end Cert.Proof.Out1

end
-- ==== Proof.Out1.Value.lean ====
/-
  WHAT THE OUTPUT PROJECTION LEAVES, over the extended reals: the four mixers' outputs, side by side, against layer 1's weights.
-/
module

public import proofs.«01_k».proof.Proof.Out1.Points
public import proofs.«01_k».proof.Proof.Out.Value

@[expose] public section

noncomputable section

namespace Cert.Proof.Out1

open Cert.Kernel6Ideal Cert.Kernel6Ideal.Gen Cert.Kernel6Ideal.Value
open Idealize.ShloMosaic Idealize.ShloMosaic.TcCoe Idealize.SL.Sem
open Idealize.ShloMosaic.Pipeline (Dat)
open Cert.Proof.Out (fourProducts)

variable (m : (ℓ : Loc nD τ sig) → Buf (Elt Ideal) ℓ) (ρ : Dev nD → PrngReg)

/-- One mixer's part of the product: its output against its quarter of the weights' rows. -/
def part (o : ℕ) (ho : o + 1024 ≤ 4096) (a : S8192x1024.Idx → EReal) (w : S2x4096x4096.Idx → EReal) (i : S8192x4096.Idx) : EReal :=
  ∑ k : Fin 1024, a (ix2 (i 0) k) * w (ix3 1 ⟨o + k.val, by omega⟩ (i 1))

/-- The whole product. -/
def product (a0 a1 a2 a3 : S8192x1024.Idx → EReal) (w : S2x4096x4096.Idx → EReal) (i : S8192x4096.Idx) : EReal :=
  part 0 (by decide) a0 w i + part 1024 (by decide) a1 w i + part 2048 (by decide) a2 w i + part 3072 (by decide) a3 w i

/-- One element of an output block: the four sums, added in the mixers' order. -/
theorem fourProducts_apply (x0 x1 x2 x3 : Vec Ideal S1024x1024 .bf16) (w : Vec Ideal S1x4096x512 .f32) (r : Fin 1024) (n : Fin 512) :
    fourProducts x0 x1 x2 x3 (k0_pay1 w) (ix2 r n)
      = (∑ k : Fin 1024, (x0 (ix2 r k) : EReal) * w (ix3 0 ⟨0 + k.val, by omega⟩ n))
        + (∑ k : Fin 1024, (x1 (ix2 r k) : EReal) * w (ix3 0 ⟨1024 + k.val, by omega⟩ n))
        + (∑ k : Fin 1024, (x2 (ix2 r k) : EReal) * w (ix3 0 ⟨2048 + k.val, by omega⟩ n))
        + (∑ k : Fin 1024, (x3 (ix2 r k) : EReal) * w (ix3 0 ⟨3072 + k.val, by omega⟩ n)) :=
  Out.fourProducts_apply x0 x1 x2 x3 w r n

/-- The output block's place in the result. -/
theorem emb5 (t : Fin cfg0.N) (r : Fin 1024) (n : Fin 512) :
    ((cfg0.win 5).blk t).view.emb (ix2 r n : S1024x512.Idx)
      = (ix2 ⟨1024 * (t.val % 8) + r.val, by omega⟩ ⟨512 * (t.val / 8) + n.val, by have := point_lt t; omega⟩ : S8192x4096.Idx) := by
  have hi := index5 t
  funext a
  apply Fin.ext
  match a with
  | ⟨0, _⟩ => show win0_5.index t 0 * 1024 + 1 * r.val = 1024 * (t.val % 8) + r.val; rw [hi.1]; omega
  | ⟨1, _⟩ => show win0_5.index t 1 * 512 + 1 * n.val = 512 * (t.val / 8) + n.val; rw [hi.2]; omega

/-- What the result array ends holding. -/
abbrev result (c : Dev nD) : S8192x4096.Idx → EReal :=
  product (m ((c : Thread nD τ).loc main_arg0)) (m ((c : Thread nD τ).loc main_arg1)) (m ((c : Thread nD τ).loc main_arg2)) (m ((c : Thread nD τ).loc main_arg3)) (m ((c : Thread nD τ).loc main_arg4))

/-- What a point writes back is its block of the product. -/
theorem flushed_result (c : Dev nD) (t : Fin cfg0.N) :
    (dats m 0 c).flushed 5 t = ((cfg0.win 5).blk t).view.read (Elt Ideal) (result m c) := by
  rw [flushed5, outs_eq m c t]
  generalize hX : fourProducts (iblk m c 0 t) (iblk m c 1 t) (iblk m c 2 t) (iblk m c 3 t) (k0_pay1 (iblk m c 4 t)) = X
  generalize hG : result m c = G
  funext y
  rw [View.read_apply]
  show X y = G _
  subst hX hG
  obtain ⟨r, n, rfl⟩ : ∃ (r : Fin 1024) (n : Fin 512), y = ix2 r n := ⟨y 0, y 1, eq_ix2 y⟩
  rw [fourProducts_apply, emb5]
  unfold result product part
  refine congrArg₂ (· + ·) (congrArg₂ (· + ·) (congrArg₂ (· + ·) ?_ ?_) ?_) ?_
  · exact Finset.sum_congr rfl fun k _ => congrArg₂ (· * ·) (iblk0_apply m c t r k) (iblk4_apply m c t 0 _ n)
  · exact Finset.sum_congr rfl fun k _ => congrArg₂ (· * ·) (iblk1_apply m c t r k) (iblk4_apply m c t 0 _ n)
  · exact Finset.sum_congr rfl fun k _ => congrArg₂ (· * ·) (iblk2_apply m c t r k) (iblk4_apply m c t 0 _ n)
  · exact Finset.sum_congr rfl fun k _ => congrArg₂ (· * ·) (iblk3_apply m c t r k) (iblk4_apply m c t 0 _ n)

/-- Every index lies in some point's block. -/
theorem cover (i : S8192x4096.Idx) : ∃ t : Fin cfg0.N, (cfg0.win 5).flush t = true ∧ i ∈ ((cfg0.win 5).blk t).view.set := by
  obtain ⟨r, n, rfl⟩ : ∃ (r : Fin 8192) (n : Fin 4096), i = ix2 r n := ⟨i 0, i 1, eq_ix2 i⟩
  let t : Fin cfg0.N := ⟨8 * (n.val / 512) + r.val / 1024, by rw [show cfg0.N = 64 from N_0]; omega⟩
  have ht : t.val = 8 * (n.val / 512) + r.val / 1024 := rfl
  have e := emb5 t ⟨r.val % 1024, by omega⟩ ⟨n.val % 512, by omega⟩
  have e' : (ix2 ⟨1024 * (t.val % 8) + r.val % 1024, by omega⟩ ⟨512 * (t.val / 8) + n.val % 512, by rw [ht]; omega⟩ : S8192x4096.Idx) = ix2 r n := by
    congr 1 <;> apply Fin.ext <;> dsimp only <;> rw [ht] <;> omega
  exact ⟨t, flush0_5 t, (e.trans e') ▸ ((cfg0.win 5).blk t).view.emb_mem_set _⟩

/-- The result array after the run. -/
theorem final_result (c : Dev nD) : (dats m 0 c).arrAt 5 cfg0.N = result m c := by
  funext i
  rw [(dats m 0 c).arrAt_eq_piecewise 5 (result m c) (fun t _ => flushed_result m c t) i]
  exact if_pos (cover i)

end Cert.Proof.Out1

end
-- ==== Proof.Out1.Reference.lean ====
/-
  THE REFERENCE OF THE OUTPUT PROJECTION, read at an index: the product of the concatenated mixers' outputs with the weights is
  the sum of the four parts.
-/
module

public import proofs.«01_k».proof.Proof.Out1.Value
public import proofs.«01_k».proof.Proof.Out.Reference
public import proofs.«01_k».proof.Proof.Gen.Reference6Ideal.Run

@[expose] public section

noncomputable section

namespace Cert.Proof.Out1

open Cert.Reference6Ideal Cert.Reference6Ideal.Gen
open Idealize.ShloMosaic Idealize.ShloMosaic.TcCoe Idealize.SL.Sem

/-- The reference's result. -/
theorem reference_result (a0 a1 a2 a3 : FVec Ideal S8192x1024 .bf16) (w : FVec Ideal S2x4096x4096 .f32) :
    Host.dotGeneral dot_S8192x4096_S4096x4096_S8192x4096_1_0_0_1_n_n none (extf .f32 (concatenate S8192x4096 1 [⟨S8192x1024, a0⟩, ⟨S8192x1024, a1⟩, ⟨S8192x1024, a2⟩, ⟨S8192x1024, a3⟩] concatenates_S8192x1024_S8192x1024_S8192x1024_S8192x1024_S8192x4096_d1) bitsLt_bf16_f32) (shapeCast _ (extractStridedSlice S1x4096x4096 ![1, 0, 0] w slices_S2x4096x4096_S1x4096x4096_1_0_0) shapeCasts_S1x4096x4096_S4096x4096)
      = product a0 a1 a2 a3 w := by
  funext i
  idx_vars i
  unfold product part
  pointwise
  rw [Out.sum_quarters]
  refine congrArg₂ (· + ·) (congrArg₂ (· + ·) (congrArg₂ (· + ·) ?_ ?_) ?_) ?_
  · refine Finset.sum_congr rfl fun k _ => congrArg₂ (· * ·) ?_ (congrArg (fun z => w (ix3 1 z i1)) (Fin.ext (by dsimp only; omega)))
    rw [dif_pos (by dsimp only; omega)]
    exact congrArg (fun z => a0 (ix2 i0 z)) (Fin.ext (by dsimp only; omega))
  · refine Finset.sum_congr rfl fun k _ => congrArg₂ (· * ·) ?_ rfl
    rw [dif_neg (by dsimp only; omega), dif_pos (by dsimp only; omega)]
    exact congrArg (fun z => a1 (ix2 i0 z)) (Fin.ext (by dsimp only; omega))
  · refine Finset.sum_congr rfl fun k _ => congrArg₂ (· * ·) ?_ rfl
    rw [dif_neg (by dsimp only; omega), dif_neg (by dsimp only; omega), dif_pos (by dsimp only; omega)]
    exact congrArg (fun z => a2 (ix2 i0 z)) (Fin.ext (by dsimp only; omega))
  · refine Finset.sum_congr rfl fun k _ => congrArg₂ (· * ·) ?_ rfl
    rw [dif_neg (by dsimp only; omega), dif_neg (by dsimp only; omega), dif_neg (by dsimp only; omega)]
    exact congrArg (fun z => a3 (ix2 i0 z)) (Fin.ext (by dsimp only; omega))

end Cert.Proof.Out1

end
-- ==== Proof.Out1.Claim.lean ====
/-
  THE OUTPUT PROJECTION'S CLAIM: both runs leave the same product, and both leave their arguments as they were.
-/
module

public import proofs.«01_k».proof.Proof.Out1.Reference
public import proofs.«01_k».proof.Defs
public import Idealize.ShloMosaic.Lib.Quiescent

@[expose] public section

noncomputable section

namespace Cert.Proof.Out1

open Idealize.ShloMosaic Idealize.ShloMosaic.TcCoe Idealize.SL.Sem

/-- The reference leaves its arguments as they were, and it declares no semaphore. -/
theorem frame_reference : Cert.quiescent_Reference6Ideal := fun m' ρ' _ =>
  (θ_run _ _ _).mono (fun r hr => ⟨fun c => (hr c).2, sem_eq_zero_of_no_sems (by decide) r.2⟩) (Reference6Ideal.Value.run m' ρ')

/-- Both programs end with the same projection. -/
theorem algebraic : Cert.algebraic_Kernel6Ideal_Reference6Ideal := by
  intro m ρ m' ρ' _ h
  refine ⟨result m, (θ_run _ _ _).mono (fun _ hr c => ⟨(hr c).1.trans (final_result m c), (hr c).2⟩) (Kernel6Ideal.Value.run_blocks m ρ),
    (θ_run _ _ _).mono (fun _ hr c => ⟨(hr c).1.trans ?_, (hr c).2⟩) (Reference6Ideal.Value.run m' ρ')⟩
  obtain ⟨e0, e1, e2, e3, e4⟩ := h c
  rw [e0, e1, e2, e3, e4]
  exact reference_result _ _ _ _ _

end Cert.Proof.Out1

end
-- ==== Proof.Down1.Body.lean ====
/-
  WHAT ONE GRID POINT OF THE DOWN PROJECTION LEAVES in its output block, by case: at the first half of the contracted axis the
  product itself, at the second half the product added to what the block held. Written over any float instance.
-/
module

public import proofs.«01_k».proof.Proof.Gen.Kernel7Ideal.Value
public import proofs.«01_k».proof.Proof.Down.Value
public import Idealize.ShloMosaic.Lib.Tactic
public import Idealize.ShloMosaic.Lib.Pointwise

@[expose] public section

noncomputable section

namespace Cert.Proof.Down1

open Cert.Kernel7Ideal Cert.Kernel7Ideal.Gen Cert.Kernel7Ideal.Value
open Idealize.ShloMosaic Idealize.ShloMosaic.TcCoe Idealize.SL.Sem
open Idealize.ShloMosaic.Pipeline (Dat)

open Cert.Proof.Down (zero2 zero3)

variable {F : FTy → Type} [FloatOps F]

variable (c : Dev nD) (i : grid0.Coords) (a3 : Memref sig .tc .vmem S1024x5504 .bf16) (h3 : a3.IsWhole)
  (a4 : Memref sig .tc .vmem S1x5504x512 .bf16) (h4 : a4.IsWhole) (a5 : Memref sig .tc .vmem S1024x512 .f32) (h5 : a5.IsWhole)
  (x0 : Vec F S1024x5504 .bf16) (x1 : Vec F S1x5504x512 .bf16) (acc : Vec F S1024x512 .f32)

/-- The first half: the block is the product. -/
theorem out_first (hc0 : cond0_0 i) (hc1 : ¬cond0_1 i) :
    out0_A_2 c i a3 h3 a4 h4 a5 h5 hc0 hc1 x0 x1 = k0_pay1 x0 x1 := by
  refine (View.read_writes_eq_canon _ _ _ fun _ => cover0_A_2 ..).trans ?_
  unfold kernelRun0_A
  sl_unfold_words
  rw [View.canon_unit_zero zero2]
  simp only [View.readAt_eq_ld, h3.read_unread, h4.read_unread, View.ld_unit_zero (S := S1024x5504) zero2, View.ld_unit_zero (S := S1x5504x512) zero3]

/-- The second half: the product is added to what the block held. -/
theorem out_second (hc0 : ¬cond0_0 i) (hc1 : cond0_1 i) :
    out0_B_2 c i a3 h3 a4 h4 a5 h5 hc0 hc1 x0 x1 acc = k0_pay2 x0 x1 acc := by
  refine (View.read_writes_eq_canon _ _ _ fun _ => cover0_B_2 ..).trans ?_
  unfold kernelRun0_B
  sl_unfold_words
  rw [View.canon_unit_zero zero2]
  simp only [View.readAt_eq_ld, h3.read_unread, h4.read_unread, h5.read_unread, View.ld_unit_zero (S := S1024x5504) zero2, View.ld_unit_zero (S := S1x5504x512) zero3, View.ld_unit_zero (S := S1024x512) zero2]

end Cert.Proof.Down1

end
-- ==== Proof.Down1.Value.lean ====
/-
  WHAT THE DOWN PROJECTION LEAVES, over the extended reals: the whole product of the activations with layer 1's weights. Point
  `t` works on row block `t / 16`, column tile `t / 2 % 8` and half `t % 2` of the contracted axis, and the block is written
  back after its second half.
-/
module

public import proofs.«01_k».proof.Proof.Down1.Body
public import Idealize.ShloMosaic.Lib.StableHlo.Run

@[expose] public section

noncomputable section

namespace Cert.Proof.Down1

open Cert.Kernel7Ideal Cert.Kernel7Ideal.Gen Cert.Kernel7Ideal.Value
open Idealize.ShloMosaic Idealize.ShloMosaic.TcCoe Idealize.SL.Sem
open Idealize.ShloMosaic.Pipeline (Dat)

section Blocks

variable {F : FTy → Type} [FloatOps F]
variable (m : (ℓ : Loc nD τ sig) → Buf (Elt F) ℓ)

theorem index0 : ∀ t : Fin cfg0.N, win0_0.index t 0 = t.val / 16 ∧ win0_0.index t 1 = t.val % 2 :=
  (by decide +kernel : ∀ t : Fin grid0.N, _)
theorem index1 : ∀ t : Fin cfg0.N, win0_1.index t 0 = 1 ∧ win0_1.index t 1 = t.val % 2 ∧ win0_1.index t 2 = t.val / 2 % 8 :=
  (by decide +kernel : ∀ t : Fin grid0.N, _)
theorem index2 : ∀ t : Fin cfg0.N, win0_2.index t 0 = t.val / 16 ∧ win0_2.index t 1 = t.val / 2 % 8 :=
  (by decide +kernel : ∀ t : Fin grid0.N, _)

theorem point_lt (t : Fin cfg0.N) : t.val < 128 := lt_of_lt_of_eq t.isLt N_0

/-- The activations' block at a point, by coordinates. -/
theorem iblk0_apply (c : Dev nD) (t : Fin cfg0.N) (r : Fin 1024) (k : Fin 5504) :
    (iblk m c 0 t : Vec F S1024x5504 .bf16) (ix2 r k)
      = m ((c : Thread nD τ).loc main_arg0) (ix2 ⟨1024 * (t.val / 16) + r.val, by have := point_lt t; omega⟩ ⟨5504 * (t.val % 2) + k.val, by omega⟩) := by
  have hi := index0 t
  unfold iblk
  rw [View.read_apply, ← V_main_arg0 m c]
  refine congrArg (V m c main_arg0) (funext fun a => Fin.ext ?_)
  match a with
  | ⟨0, _⟩ => show win0_0.index t 0 * 1024 + 1 * r.val = 1024 * (t.val / 16) + r.val; rw [hi.1]; omega
  | ⟨1, _⟩ => show win0_0.index t 1 * 5504 + 1 * k.val = 5504 * (t.val % 2) + k.val; rw [hi.2]; omega

/-- The weights' block at a point. -/
theorem iblk1_apply (c : Dev nD) (t : Fin cfg0.N) (z : Fin 1) (k : Fin 5504) (n : Fin 512) :
    (iblk m c 1 t : Vec F S1x5504x512 .bf16) (ix3 z k n)
      = (V m c main_v0 : Vec F S2x11008x4096 .bf16) (ix3 1 ⟨5504 * (t.val % 2) + k.val, by omega⟩ ⟨512 * (t.val / 2 % 8) + n.val, by omega⟩) := by
  have hi := index1 t
  unfold iblk
  rw [View.read_apply]
  refine congrArg (V m c main_v0) (funext fun a => Fin.ext ?_)
  match a with
  | ⟨0, _⟩ => show win0_1.index t 0 * 1 + 1 * z.val = 1; rw [hi.1]; omega
  | ⟨1, _⟩ => show win0_1.index t 1 * 5504 + 1 * k.val = 5504 * (t.val % 2) + k.val; rw [hi.2.1]; omega
  | ⟨2, _⟩ => show win0_1.index t 2 * 512 + 1 * n.val = 512 * (t.val / 2 % 8) + n.val; rw [hi.2.2]; omega

/-- The output block's place in the result. -/
theorem emb2 (t : Fin cfg0.N) (r : Fin 1024) (n : Fin 512) :
    ((cfg0.win 2).blk t).view.emb (ix2 r n : S1024x512.Idx)
      = (ix2 ⟨1024 * (t.val / 16) + r.val, by have := point_lt t; omega⟩ ⟨512 * (t.val / 2 % 8) + n.val, by omega⟩ : S8192x4096.Idx) := by
  have hi := index2 t
  funext a
  apply Fin.ext
  match a with
  | ⟨0, _⟩ => show win0_2.index t 0 * 1024 + 1 * r.val = 1024 * (t.val / 16) + r.val; rw [hi.1]; omega
  | ⟨1, _⟩ => show win0_2.index t 1 * 512 + 1 * n.val = 512 * (t.val / 2 % 8) + n.val; rw [hi.2]; omega

/-- What the output block holds after its second half: both halves' products, added. -/
theorem outs_eq (c : Dev nD) (t t' : Fin cfg0.N) (h1 : t.val % 2 = 1) (hp : t'.val = t.val - 1) :
    outsAt0 m c t.val t.isLt = k0_pay2 (iblk m c 0 t) (iblk m c 1 t) (k0_pay1 (iblk m c 0 t') (iblk m c 1 t')) := by
  have e : outsAt0 m c (t.val - 1) (Nat.lt_of_le_of_lt (Nat.sub_le _ _) t.isLt) = k0_pay1 (iblk m c 0 t') (iblk m c 1 t') := by
    obtain ⟨n, hn⟩ := t'
    dsimp only at hp
    subst hp
    rw [outsAt0_A m c ⟨t.val - 1, hn⟩ (by dsimp only; omega) (by dsimp only; omega), out_first]
  rw [outsAt0_B m c t (by omega) h1, out_second, e]

end Blocks

variable (m : (ℓ : Loc nD τ sig) → Buf (Elt Ideal) ℓ) (ρ : Dev nD → PrngReg)

/-- The product of the activations with layer 1's weights. -/
def product (a : S8192x11008.Idx → EReal) (w : S2x11008x4096.Idx → EReal) (i : S8192x4096.Idx) : EReal :=
  ∑ k : Fin 11008, a (ix2 (i 0) k) * w (ix3 1 k (i 1))

/-- Casting the weights before the call changes no value. -/
theorem V_v0 (c : Dev nD) (i : S2x11008x4096.Idx) :
    (V m c main_v0 : S2x11008x4096.Idx → EReal) i = (m ((c : Thread nD τ).loc main_arg1) : S2x11008x4096.Idx → EReal) i := by
  have e : V m c main_v0 = truncf (F := Ideal) .bf16 (m ((c : Thread nD τ).loc main_arg1)) bitsLt_bf16_f32 := by
    unfold V
    after_results
  rw [e]
  rfl

theorem pay1_apply (x : Vec Ideal S1024x5504 .bf16) (w : Vec Ideal S1x5504x512 .bf16) (r : Fin 1024) (n : Fin 512) :
    (k0_pay1 x w) (ix2 r n) = ∑ k : Fin 5504, (x (ix2 r k) : EReal) * w (ix3 0 k n) := by
  pointwise [k0_pay1]

theorem pay2_apply (x : Vec Ideal S1024x5504 .bf16) (w : Vec Ideal S1x5504x512 .bf16) (acc : Vec Ideal S1024x512 .f32) (r : Fin 1024) (n : Fin 512) :
    (k0_pay2 x w acc) (ix2 r n) = (acc (ix2 r n) : EReal) + ∑ k : Fin 5504, (x (ix2 r k) : EReal) * w (ix3 0 k n) := by
  pointwise [k0_pay2, k0_pay1]

/-- What the result array ends holding. -/
abbrev result (c : Dev nD) : S8192x4096.Idx → EReal :=
  product (m ((c : Thread nD τ).loc main_arg0)) (m ((c : Thread nD τ).loc main_arg1))

/-- What a point of the second half writes back is its block of the product. -/
theorem flushed_result (c : Dev nD) (t : Fin cfg0.N) (hf : (cfg0.win 2).flush t = true) :
    (dats m 0 c).flushed 2 t = ((cfg0.win 2).blk t).view.read (Elt Ideal) (result m c) := by
  have h1 : t.val % 2 = 1 := (flush0_2 t).mp hf
  let t' : Fin cfg0.N := ⟨t.val - 1, Nat.lt_of_le_of_lt (Nat.sub_le _ _) t.isLt⟩
  have ht' : t'.val = t.val - 1 := rfl
  rw [flushed2, outs_eq m c t t' h1 ht']
  generalize hX : k0_pay2 (iblk m c 0 t) (iblk m c 1 t) (k0_pay1 (iblk m c 0 t') (iblk m c 1 t')) = X
  generalize hG : result m c = G
  funext y
  rw [View.read_apply]
  show X y = G _
  subst hX hG
  obtain ⟨r, n, rfl⟩ : ∃ (r : Fin 1024) (n : Fin 512), y = ix2 r n := ⟨y 0, y 1, eq_ix2 y⟩
  rw [pay2_apply, pay1_apply, emb2]
  unfold result product
  rw [Down.sum_halves]
  refine congrArg₂ (· + ·) (Finset.sum_congr rfl fun k _ => ?_) (Finset.sum_congr rfl fun k _ => ?_)
  · rw [iblk0_apply, iblk1_apply, V_v0]
    refine congrArg₂ (· * ·) (congrArg _ ?_) (congrArg _ ?_)
    · exact congrArg₂ ix2 (Fin.ext (by show 1024 * (t'.val / 16) + _ = 1024 * (t.val / 16) + _; omega)) (Fin.ext (by show 5504 * (t'.val % 2) + k.val = k.val; omega))
    · exact congrArg₂ (ix3 1) (Fin.ext (by show 5504 * (t'.val % 2) + k.val = k.val; omega)) (Fin.ext (by show 512 * (t'.val / 2 % 8) + _ = 512 * (t.val / 2 % 8) + _; omega))
  · rw [iblk0_apply, iblk1_apply, V_v0]
    refine congrArg₂ (· * ·) (congrArg _ ?_) (congrArg _ ?_)
    · exact congrArg (ix2 _) (Fin.ext (by show 5504 * (t.val % 2) + k.val = 5504 + k.val; omega))
    · exact congrArg₂ (ix3 1) (Fin.ext (by show 5504 * (t.val % 2) + k.val = 5504 + k.val; omega)) rfl

/-- Every index lies in the block of a point that writes back. -/
theorem cover (i : S8192x4096.Idx) : ∃ t : Fin cfg0.N, (cfg0.win 2).flush t = true ∧ i ∈ ((cfg0.win 2).blk t).view.set := by
  obtain ⟨r, n, rfl⟩ : ∃ (r : Fin 8192) (n : Fin 4096), i = ix2 r n := ⟨i 0, i 1, eq_ix2 i⟩
  let t : Fin cfg0.N := ⟨16 * (r.val / 1024) + 2 * (n.val / 512) + 1, by rw [show cfg0.N = 128 from N_0]; omega⟩
  have ht : t.val = 16 * (r.val / 1024) + 2 * (n.val / 512) + 1 := rfl
  have e := emb2 t ⟨r.val % 1024, by omega⟩ ⟨n.val % 512, by omega⟩
  have e' : (ix2 ⟨1024 * (t.val / 16) + r.val % 1024, by omega⟩ ⟨512 * (t.val / 2 % 8) + n.val % 512, by omega⟩ : S8192x4096.Idx) = ix2 r n := by
    congr 1 <;> apply Fin.ext <;> dsimp only <;> rw [ht] <;> omega
  exact ⟨t, (flush0_2 t).mpr (by rw [ht]; omega), (e.trans e') ▸ ((cfg0.win 2).blk t).view.emb_mem_set _⟩

/-- The result array after the run. -/
theorem final_result (c : Dev nD) : (dats m 0 c).arrAt 2 cfg0.N = result m c := by
  funext i
  rw [(dats m 0 c).arrAt_eq_piecewise 2 (result m c) (fun t hf => flushed_result m c t hf) i]
  exact if_pos (cover i)

end Cert.Proof.Down1

end
-- ==== Proof.Down1.Reference.lean ====
/-
  THE REFERENCE OF THE DOWN PROJECTION, read at an index: one product over the whole contracted axis.
-/
module

public import proofs.«01_k».proof.Proof.Down1.Value
public import proofs.«01_k».proof.Proof.Gen.Reference7Ideal.Run

@[expose] public section

noncomputable section

namespace Cert.Proof.Down1

open Cert.Reference7Ideal Cert.Reference7Ideal.Gen
open Idealize.ShloMosaic Idealize.ShloMosaic.TcCoe Idealize.SL.Sem

theorem reference_result (a : FVec Ideal S8192x11008 .bf16) (w : FVec Ideal S2x11008x4096 .f32) :
    Host.dotGeneral dot_S8192x11008_S11008x4096_S8192x4096_1_0_0_1_n_n none (extf .f32 a bitsLt_bf16_f32) (shapeCast S11008x4096 (extractStridedSlice S1x11008x4096 ![1, 0, 0] w slices_S2x11008x4096_S1x11008x4096_1_0_0) shapeCasts_S1x11008x4096_S11008x4096)
      = product a w := by
  funext i
  idx_vars i
  unfold product
  pointwise

end Cert.Proof.Down1

end
-- ==== Proof.Down1.Claim.lean ====
/-
  THE DOWN PROJECTION'S RUNS, side by side: the kernel and the reference end with the same result.
-/
module

public import proofs.«01_k».proof.Proof.Down1.Reference
public import proofs.«01_k».proof.Defs
public import Idealize.ShloMosaic.Lib.Quiescent

@[expose] public section

noncomputable section

namespace Cert.Proof.Down1

open Idealize.ShloMosaic Idealize.ShloMosaic.TcCoe Idealize.SL.Sem

/-- The reference leaves its arguments as they were, and it declares no semaphore. -/
theorem frame_reference : Cert.quiescent_Reference7Ideal := fun m' ρ' _ =>
  (θ_run _ _ _).mono (fun r hr => ⟨fun c => (hr c).2, sem_eq_zero_of_no_sems (by decide) r.2⟩) (Reference7Ideal.Value.run m' ρ')

/-- Both programs end with the same projection. -/
theorem algebraic : Cert.algebraic_Kernel7Ideal_Reference7Ideal := by
  intro m ρ m' ρ' _ h
  refine ⟨result m, (θ_run _ _ _).mono (fun _ hr c => ⟨(hr c).1.trans (final_result m c), (hr c).2⟩) (Kernel7Ideal.Value.run_blocks m ρ),
    (θ_run _ _ _).mono (fun _ hr c => ⟨(hr c).1.trans ?_, (hr c).2⟩) (Reference7Ideal.Value.run m' ρ')⟩
  obtain ⟨e0, e1⟩ := h c
  rw [e0, e1]
  exact reference_result _ _

end Cert.Proof.Down1

end
-- ==== Proof.Ffn1.Body.lean ====
/-
  WHAT ONE GRID POINT OF THE FFN'S UP PROJECTION LEAVES, over any float instance. At a column tile's first point the two weight
  tiles are rounded into scratch; at a sequence's first point the tail is the state, elsewhere what the point before left.
-/
module

public import proofs.«01_k».proof.Proof.Gen.Kernel8Ideal.Value
public import proofs.«01_k».proof.Proof.Ffn.Body
public import Idealize.ShloMosaic.Lib.Tactic

@[expose] public section

noncomputable section

namespace Cert.Proof.Ffn1

open Cert.Kernel8Ideal Cert.Kernel8Ideal.Gen Cert.Kernel8Ideal.Value
open Idealize.ShloMosaic Idealize.ShloMosaic.TcCoe Idealize.SL.Sem
open Idealize.ShloMosaic.Pipeline (Dat)

open Cert.Proof.Ffn (zero2 zero3 rows0 rows1 rows2 rows3 act)

variable {F : FTy → Type} [FloatOps F]

variable (c : Dev nD) (i : grid0.Coords) (a2 : Memref sig .tc .vmem S1024x4096 .bf16) (h2 : a2.IsWhole)
  (a3 : Memref sig .tc .vmem S1x4096x256 .f32) (h3 : a3.IsWhole) (a4 : Memref sig .tc .vmem S1x4096x256 .f32) (h4 : a4.IsWhole)
  (a5 : Memref sig .tc .vmem S1x8x256 .f32) (h5 : a5.IsWhole) (a6 : Memref sig .tc .vmem S3x256 .f32) (h6 : a6.IsWhole)
  (a7 : Memref sig .tc .vmem S1x256 .f32) (h7 : a7.IsWhole) (a8 : Memref sig .tc .vmem S1024x256 .bf16) (h8 : a8.IsWhole)
  (a9 : Memref sig .tc .vmem S1x8x256 .f32) (h9 : a9.IsWhole) (a10 : Memref sig .tc .vmem S4096x256 .bf16) (h10 : a10.IsWhole)
  (a11 : Memref sig .tc .vmem S4096x256 .bf16) (h11 : a11.IsWhole) (a12 : Memref sig .tc .vmem S8x256 .f32) (h12 : a12.IsWhole)
  (x0 : Vec F S1024x4096 .bf16) (x1 x2 : Vec F S1x4096x256 .f32) (x3 : Vec F S1x8x256 .f32) (x4 : Vec F S3x256 .f32) (x5 : Vec F S1x256 .f32)
  (s0 s1 : Vec F S4096x256 .bf16) (s2 : Vec F S8x256 .f32)

/-- The activations' block at a column tile's first point. -/
theorem out_first (hc : cond0_0 i) (hd : cond0_1 i) :
    out0_A_6 c i a2 h2 a3 h3 a4 h4 a5 h5 a6 h6 a7 h7 a8 h8 a9 h9 a10 h10 a11 h11 a12 h12 hc hd x0 x1 x2 x3 x4 x5 = act x0 (k0_pay5 x1) (k0_pay6 x2) x4 x5 (k0_pay7 x3) := by
  refine (View.read_writes_eq_canon _ _ _ fun _ => cover0_A_6 ..).trans ?_
  unfold kernelRun0_A
  sl_unfold_words
  simp only [View.readAt_eq_ld, h2.read_unread, h3.read_unread, h4.read_unread, h5.read_unread, h6.read_unread, h7.read_unread, View.ld_unit_zero (S := S1x4096x256) zero3, View.ld_unit_zero (S := S1x8x256) zero3, View.ld_unit_zero (S := S3x256) zero2, View.ld_unit_zero (S := S1x256) zero2, View.readCov_unit_zero (S := S4096x256) _ zero2, View.readCov_unit_zero (S := S8x256) _ zero2]
  rfl

/-- The block of last rows at a column tile's first point. -/
theorem rows_first (hc : cond0_0 i) (hd : cond0_1 i) :
    out0_A_7 c i a2 h2 a3 h3 a4 h4 a5 h5 a6 h6 a7 h7 a8 h8 a9 h9 a10 h10 a11 h11 a12 h12 hc hd x0 x1 x2 x3 x4 x5 = k0_pay4 (k0_pay18 (k0_pay5 x1) (rows3 x0)) := by
  refine (View.read_writes_eq_canon _ _ _ fun _ => cover0_A_7 ..).trans ?_
  unfold kernelRun0_A
  sl_unfold_words
  rw [View.canon_unit_zero zero3]
  simp only [View.readAt_eq_ld, h2.read_unread, h3.read_unread, View.ld_unit_zero (S := S1x4096x256) zero3, View.readCov_unit_zero (S := S4096x256) _ zero2]

/-- The tail left at a column tile's first point. -/
theorem tail_first (hc : cond0_0 i) (hd : cond0_1 i) :
    sout0_A_2 c i a2 h2 a3 h3 a4 h4 a5 h5 a6 h6 a7 h7 a8 h8 a9 h9 a10 h10 a11 h11 a12 h12 hc hd x0 x1 x2 x3 x4 x5 = k0_pay3 (k0_pay18 (k0_pay5 x1) (rows3 x0)) := by
  refine (View.read_writes_eq_canon _ _ _ fun _ => scover0_A_2 ..).trans ?_
  unfold kernelRun0_A
  sl_unfold_words
  rw [View.canon_cons_unit_zero (S := S8x256) zero2]
  simp only [View.readAt_eq_ld, h2.read_unread, h3.read_unread, View.ld_unit_zero (S := S1x4096x256) zero3, View.readCov_unit_zero (S := S4096x256) _ zero2]

/-- The activations' block inside a sequence. -/
theorem out_inside (hc : ¬cond0_0 i) (hd : ¬cond0_1 i) :
    out0_B_6 c i a2 h2 a3 h3 a4 h4 a5 h5 a6 h6 a7 h7 a8 h8 a9 h9 a10 h10 a11 h11 a12 h12 hc hd x0 x1 x2 x3 x4 x5 s0 s1 s2 = act x0 s0 s1 x4 x5 s2 := by
  refine (View.read_writes_eq_canon _ _ _ fun _ => cover0_B_6 ..).trans ?_
  unfold kernelRun0_B
  sl_unfold_words
  simp only [View.readAt_eq_ld, h2.read_unread, h6.read_unread, h7.read_unread, h10.read_unread, h11.read_unread, h12.read_unread, View.ld_unit_zero (S := S3x256) zero2, View.ld_unit_zero (S := S1x256) zero2, View.ld_unit_zero (S := S4096x256) zero2, View.ld_unit_zero (S := S8x256) zero2]
  rfl

/-- The block of last rows inside a sequence. -/
theorem rows_inside (hc : ¬cond0_0 i) (hd : ¬cond0_1 i) :
    out0_B_7 c i a2 h2 a3 h3 a4 h4 a5 h5 a6 h6 a7 h7 a8 h8 a9 h9 a10 h10 a11 h11 a12 h12 hc hd x0 x1 x2 x3 x4 x5 s0 s1 s2 = k0_pay4 (k0_pay18 s0 (rows3 x0)) := by
  refine (View.read_writes_eq_canon _ _ _ fun _ => cover0_B_7 ..).trans ?_
  unfold kernelRun0_B
  sl_unfold_words
  rw [View.canon_unit_zero zero3]
  simp only [View.readAt_eq_ld, h2.read_unread, h10.read_unread, View.ld_unit_zero (S := S4096x256) zero2]

/-- The tail left inside a sequence. -/
theorem tail_inside (hc : ¬cond0_0 i) (hd : ¬cond0_1 i) :
    sout0_B_2 c i a2 h2 a3 h3 a4 h4 a5 h5 a6 h6 a7 h7 a8 h8 a9 h9 a10 h10 a11 h11 a12 h12 hc hd x0 x1 x2 x3 x4 x5 s0 s1 s2 = k0_pay3 (k0_pay18 s0 (rows3 x0)) := by
  refine (View.read_writes_eq_canon _ _ _ fun _ => scover0_B_2 ..).trans ?_
  unfold kernelRun0_B
  sl_unfold_words
  rw [View.canon_cons_unit_zero (S := S8x256) zero2]
  simp only [View.readAt_eq_ld, h2.read_unread, h10.read_unread, View.ld_unit_zero (S := S4096x256) zero2]

/-- The activations' block at a later sequence's first point. -/
theorem out_between (hc : ¬cond0_0 i) (hd : cond0_1 i) :
    out0_C_6 c i a2 h2 a3 h3 a4 h4 a5 h5 a6 h6 a7 h7 a8 h8 a9 h9 a10 h10 a11 h11 a12 h12 hc hd x0 x1 x2 x3 x4 x5 s0 s1 = act x0 s0 s1 x4 x5 (k0_pay7 x3) := by
  refine (View.read_writes_eq_canon _ _ _ fun _ => cover0_C_6 ..).trans ?_
  unfold kernelRun0_C
  sl_unfold_words
  simp only [View.readAt_eq_ld, h2.read_unread, h5.read_unread, h6.read_unread, h7.read_unread, h10.read_unread, h11.read_unread, View.ld_unit_zero (S := S1x8x256) zero3, View.ld_unit_zero (S := S3x256) zero2, View.ld_unit_zero (S := S1x256) zero2, View.ld_unit_zero (S := S4096x256) zero2, View.readCov_unit_zero (S := S8x256) _ zero2]
  rfl

/-- The block of last rows at a later sequence's first point. -/
theorem rows_between (hc : ¬cond0_0 i) (hd : cond0_1 i) :
    out0_C_7 c i a2 h2 a3 h3 a4 h4 a5 h5 a6 h6 a7 h7 a8 h8 a9 h9 a10 h10 a11 h11 a12 h12 hc hd x0 x1 x2 x3 x4 x5 s0 s1 = k0_pay4 (k0_pay18 s0 (rows3 x0)) := by
  refine (View.read_writes_eq_canon _ _ _ fun _ => cover0_C_7 ..).trans ?_
  unfold kernelRun0_C
  sl_unfold_words
  rw [View.canon_unit_zero zero3]
  simp only [View.readAt_eq_ld, h2.read_unread, h10.read_unread, View.ld_unit_zero (S := S4096x256) zero2]

/-- The tail left at a later sequence's first point. -/
theorem tail_between (hc : ¬cond0_0 i) (hd : cond0_1 i) :
    sout0_C_2 c i a2 h2 a3 h3 a4 h4 a5 h5 a6 h6 a7 h7 a8 h8 a9 h9 a10 h10 a11 h11 a12 h12 hc hd x0 x1 x2 x3 x4 x5 s0 s1 = k0_pay3 (k0_pay18 s0 (rows3 x0)) := by
  refine (View.read_writes_eq_canon _ _ _ fun _ => scover0_C_2 ..).trans ?_
  unfold kernelRun0_C
  sl_unfold_words
  rw [View.canon_cons_unit_zero (S := S8x256) zero2]
  simp only [View.readAt_eq_ld, h2.read_unread, h10.read_unread, View.ld_unit_zero (S := S4096x256) zero2]

/-- The gate's rounded weight tile, stored at a column tile's first point. -/
theorem gate_first (hc : cond0_0 i) (hd : cond0_1 i) :
    sout0_A_0 c i a2 h2 a3 h3 a4 h4 a5 h5 a6 h6 a7 h7 a8 h8 a9 h9 a10 h10 a11 h11 a12 h12 hc hd x0 x1 x2 x3 x4 x5 = k0_pay5 x1 := by
  refine (View.read_writes_eq_canon _ _ _ fun _ => scover0_A_0 ..).trans ?_
  unfold kernelRun0_A
  sl_unfold_words
  rw [View.canon_unit_zero zero2]
  simp only [View.readAt_eq_ld, h3.read_unread, View.ld_unit_zero (S := S1x4096x256) zero3]

/-- The value's rounded weight tile, stored at a column tile's first point. -/
theorem val_first (hc : cond0_0 i) (hd : cond0_1 i) :
    sout0_A_1 c i a2 h2 a3 h3 a4 h4 a5 h5 a6 h6 a7 h7 a8 h8 a9 h9 a10 h10 a11 h11 a12 h12 hc hd x0 x1 x2 x3 x4 x5 = k0_pay6 x2 := by
  refine (View.read_writes_eq_canon _ _ _ fun _ => scover0_A_1 ..).trans ?_
  unfold kernelRun0_A
  sl_unfold_words
  rw [View.canon_unit_zero zero2]
  simp only [View.readAt_eq_ld, h4.read_unread, View.ld_unit_zero (S := S1x4096x256) zero3]

end Cert.Proof.Ffn1

end
-- ==== Proof.Ffn1.Points.lean ====
/-
  WHAT THE UP PROJECTION'S BUFFERS HOLD AFTER A GRID POINT. Point `t` works on row block `t % 8` and column tile `t / 8`. The weight
  scratch holds the current column tile from its first point on; the tail scratch holds the last eight gate rows of the block just
  done, which the next block of the same sequence convolves over.
-/
module

public import proofs.«01_k».proof.Proof.Ffn1.Body
public import Idealize.ShloMosaic.Lib.Pointwise

@[expose] public section

noncomputable section

namespace Cert.Proof.Ffn1

open Cert.Kernel8Ideal Cert.Kernel8Ideal.Gen Cert.Kernel8Ideal.Value
open Idealize.ShloMosaic Idealize.ShloMosaic.TcCoe Idealize.SL.Sem
open Idealize.ShloMosaic.Pipeline (Dat)

open Cert.Proof.Ffn (zero2 zero3 rows0 rows1 rows2 rows3 act)

variable {F : FTy → Type} [FloatOps F]
variable (m : (ℓ : Loc nD τ sig) → Buf (Elt F) ℓ)

theorem point_lt (t : Fin cfg0.N) : t.val < 344 := lt_of_lt_of_eq t.isLt N_0

theorem index0 : ∀ t : Fin cfg0.N, win0_0.index t 0 = t.val % 8 ∧ win0_0.index t 1 = 0 :=
  (by decide +kernel : ∀ t : Fin grid0.N, _)
theorem index1 : ∀ t : Fin cfg0.N, win0_1.index t 0 = 1 ∧ win0_1.index t 1 = 0 ∧ win0_1.index t 2 = t.val / 8 :=
  (by decide +kernel : ∀ t : Fin grid0.N, _)
theorem index2 : ∀ t : Fin cfg0.N, win0_2.index t 0 = 1 ∧ win0_2.index t 1 = 0 ∧ win0_2.index t 2 = t.val / 8 + 43 :=
  (by decide +kernel : ∀ t : Fin grid0.N, _)
theorem index3 : ∀ t : Fin cfg0.N, win0_3.index t 0 = t.val % 8 / 2 ∧ win0_3.index t 1 = 0 ∧ win0_3.index t 2 = t.val / 8 :=
  (by decide +kernel : ∀ t : Fin grid0.N, _)
theorem index4 : ∀ t : Fin cfg0.N, win0_4.index t 0 = 0 ∧ win0_4.index t 1 = t.val / 8 :=
  (by decide +kernel : ∀ t : Fin grid0.N, _)
theorem index5 : ∀ t : Fin cfg0.N, win0_5.index t 0 = 0 ∧ win0_5.index t 1 = t.val / 8 :=
  (by decide +kernel : ∀ t : Fin grid0.N, _)
theorem index6 : ∀ t : Fin cfg0.N, win0_6.index t 0 = t.val % 8 ∧ win0_6.index t 1 = t.val / 8 :=
  (by decide +kernel : ∀ t : Fin grid0.N, _)
theorem index7 : ∀ t : Fin cfg0.N, win0_7.index t 0 = t.val % 8 ∧ win0_7.index t 1 = 0 ∧ win0_7.index t 2 = t.val / 8 :=
  (by decide +kernel : ∀ t : Fin grid0.N, _)

/-- The row block at a point, by coordinates. -/
theorem iblk0_apply (c : Dev nD) (t : Fin cfg0.N) (r : Fin 1024) (k : Fin 4096) :
    (iblk m c 0 t : Vec F S1024x4096 .bf16) (ix2 r k)
      = m ((c : Thread nD τ).loc main_arg0) (ix2 ⟨1024 * (t.val % 8) + r.val, by omega⟩ k) := by
  have hi := index0 t
  unfold iblk
  rw [View.read_apply, ← V_main_arg0 m c]
  refine congrArg (V m c main_arg0) (funext fun a => Fin.ext ?_)
  match a with
  | ⟨0,_⟩ => show win0_0.index t 0 * 1024 + 1 * r.val = 1024 * (t.val % 8) + r.val; rw [hi.1]; omega
  | ⟨1,_⟩ => show win0_0.index t 1 * 4096 + 1 * k.val = k.val; rw [hi.2]; omega

/-- The gate's weight tile. -/
theorem iblk1_apply (c : Dev nD) (t : Fin cfg0.N) (z : Fin 1) (k : Fin 4096) (n : Fin 256) :
    (iblk m c 1 t : Vec F S1x4096x256 .f32) (ix3 z k n)
      = m ((c : Thread nD τ).loc main_arg1) (ix3 1 k ⟨256 * (t.val / 8) + n.val, by have := point_lt t; omega⟩) := by
  have hi := index1 t
  unfold iblk
  rw [View.read_apply, ← V_main_arg1 m c]
  refine congrArg (V m c main_arg1) (funext fun a => Fin.ext ?_)
  match a with
  | ⟨0,_⟩ => show win0_1.index t 0 * 1 + 1 * z.val = 1; rw [hi.1]; omega
  | ⟨1,_⟩ => show win0_1.index t 1 * 4096 + 1 * k.val = k.val; rw [hi.2.1]; omega
  | ⟨2,_⟩ => show win0_1.index t 2 * 256 + 1 * n.val = 256 * (t.val / 8) + n.val; rw [hi.2.2]; omega

/-- The value's weight tile: 43 column tiles further. -/
theorem iblk2_apply (c : Dev nD) (t : Fin cfg0.N) (z : Fin 1) (k : Fin 4096) (n : Fin 256) :
    (iblk m c 2 t : Vec F S1x4096x256 .f32) (ix3 z k n)
      = m ((c : Thread nD τ).loc main_arg1) (ix3 1 k ⟨11008 + (256 * (t.val / 8) + n.val), by have := point_lt t; omega⟩) := by
  have hi := index2 t
  unfold iblk
  rw [View.read_apply, ← V_main_arg1 m c]
  refine congrArg (V m c main_arg1) (funext fun a => Fin.ext ?_)
  match a with
  | ⟨0,_⟩ => show win0_2.index t 0 * 1 + 1 * z.val = 1; rw [hi.1]; omega
  | ⟨1,_⟩ => show win0_2.index t 1 * 4096 + 1 * k.val = k.val; rw [hi.2.1]; omega
  | ⟨2,_⟩ => show win0_2.index t 2 * 256 + 1 * n.val = 11008 + (256 * (t.val / 8) + n.val); rw [hi.2.2]; omega

/-- The padded state's rows for the block's sequence. -/
theorem iblk3_apply (c : Dev nD) (t : Fin cfg0.N) (z : Fin 1) (q : Fin 8) (n : Fin 256) :
    (iblk m c 3 t : Vec F S1x8x256 .f32) (ix3 z q n)
      = V m c main_v0 (ix3 ⟨t.val % 8 / 2, by omega⟩ q ⟨256 * (t.val / 8) + n.val, by have := point_lt t; omega⟩) := by
  have hi := index3 t
  unfold iblk
  rw [View.read_apply]
  refine congrArg (V m c main_v0) (funext fun a => Fin.ext ?_)
  match a with
  | ⟨0,_⟩ => show win0_3.index t 0 * 1 + 1 * z.val = t.val % 8 / 2; rw [hi.1]; omega
  | ⟨1,_⟩ => show win0_3.index t 1 * 8 + 1 * q.val = q.val; rw [hi.2.1]; omega
  | ⟨2,_⟩ => show win0_3.index t 2 * 256 + 1 * n.val = 256 * (t.val / 8) + n.val; rw [hi.2.2]; omega

/-- The taps' tile. -/
theorem iblk4_apply (c : Dev nD) (t : Fin cfg0.N) (q : Fin 3) (n : Fin 256) :
    (iblk m c 4 t : Vec F S3x256 .f32) (ix2 q n)
      = m ((c : Thread nD τ).loc main_arg3) (ix2 q ⟨256 * (t.val / 8) + n.val, by have := point_lt t; omega⟩) := by
  have hi := index4 t
  unfold iblk
  rw [View.read_apply, ← V_main_arg3 m c]
  refine congrArg (V m c main_arg3) (funext fun a => Fin.ext ?_)
  match a with
  | ⟨0,_⟩ => show win0_4.index t 0 * 3 + 1 * q.val = q.val; rw [hi.1]; omega
  | ⟨1,_⟩ => show win0_4.index t 1 * 256 + 1 * n.val = 256 * (t.val / 8) + n.val; rw [hi.2]; omega

/-- The bias's tile. -/
theorem iblk5_apply (c : Dev nD) (t : Fin cfg0.N) (q : Fin 1) (n : Fin 256) :
    (iblk m c 5 t : Vec F S1x256 .f32) (ix2 q n)
      = V m c main_v1 (ix2 0 ⟨256 * (t.val / 8) + n.val, by have := point_lt t; omega⟩) := by
  have hi := index5 t
  unfold iblk
  rw [View.read_apply]
  refine congrArg (V m c main_v1) (funext fun a => Fin.ext ?_)
  match a with
  | ⟨0,_⟩ => show win0_5.index t 0 * 1 + 1 * q.val = 0; rw [hi.1]; omega
  | ⟨1,_⟩ => show win0_5.index t 1 * 256 + 1 * n.val = 256 * (t.val / 8) + n.val; rw [hi.2]; omega

/-- Two points of one column tile read the same tile. -/
theorem iblk1_congr (c : Dev nD) (t t' : Fin cfg0.N) (h : t.val / 8 = t'.val / 8) :
    (iblk m c 1 t : Vec F S1x4096x256 .f32) = iblk m c 1 t' := by
  funext y
  rw [show y = ix3 (y 0) (y 1) (y 2) from eq_ix3 y]
  refine (iblk1_apply m c t _ _ _).trans (Eq.trans ?_ (iblk1_apply m c t' _ _ _).symm)
  simp only [h]

/-- Two points of one column tile read the same tile. -/
theorem iblk2_congr (c : Dev nD) (t t' : Fin cfg0.N) (h : t.val / 8 = t'.val / 8) :
    (iblk m c 2 t : Vec F S1x4096x256 .f32) = iblk m c 2 t' := by
  funext y
  rw [show y = ix3 (y 0) (y 1) (y 2) from eq_ix3 y]
  refine (iblk2_apply m c t _ _ _).trans (Eq.trans ?_ (iblk2_apply m c t' _ _ _).symm)
  simp only [h]

/-- The last eight gate rows of the block at a point. -/
abbrev tailLeft (c : Dev nD) (t : Fin cfg0.N) : Vec F S8x256 .f32 := k0_pay3 (k0_pay18 (k0_pay5 (iblk m c 1 t)) (rows3 (iblk m c 0 t)))

/-- After any point the weight scratch holds the point's own tiles. -/
theorem scratch_eq (c : Dev nD) : ∀ (n : ℕ) (h : n < cfg0.N),
    (outsAt0 m c n h).2.2.1 = k0_pay5 (iblk m c 1 ⟨n, h⟩) ∧ (outsAt0 m c n h).2.2.2.1 = k0_pay6 (iblk m c 2 ⟨n, h⟩)
  | 0, h => by
    rw [outsAt0_A m c ⟨0, h⟩ rfl rfl]
    dsimp only
    exact ⟨gate_first .., val_first ..⟩
  | n + 1, h => by
    by_cases h0 : (n + 1) % 8 = 0
    · rw [outsAt0_A m c ⟨n + 1, h⟩ h0 (by dsimp only; omega)]
      dsimp only
      exact ⟨gate_first .., val_first ..⟩
    · have e1 : k0_pay5 (iblk m c 1 ⟨n, Nat.lt_of_succ_lt h⟩) = k0_pay5 (iblk m c 1 ⟨n + 1, h⟩) :=
        congrArg _ (iblk1_congr m c _ _ (by show n / 8 = (n + 1) / 8; omega))
      have e2 : k0_pay6 (iblk m c 2 ⟨n, Nat.lt_of_succ_lt h⟩) = k0_pay6 (iblk m c 2 ⟨n + 1, h⟩) :=
        congrArg _ (iblk2_congr m c _ _ (by show n / 8 = (n + 1) / 8; omega))
      have ih := scratch_eq c n (Nat.lt_of_succ_lt h)
      by_cases h1 : (n + 1) % 2 = 0
      · rw [outsAt0_C m c ⟨n + 1, h⟩ h0 h1]
        exact ⟨ih.1.trans e1, ih.2.trans e2⟩
      · rw [outsAt0_B m c ⟨n + 1, h⟩ h0 h1]
        exact ⟨ih.1.trans e1, ih.2.trans e2⟩

/-- What the point before left in the weight scratch, at a point that is not its column tile's first. -/
theorem before_eq (c : Dev nD) (t : Fin cfg0.N) (h0 : ¬t.val % 8 = 0) (h : t.val - 1 < cfg0.N) :
    (outsAt0 m c (t.val - 1) h).2.2.1 = k0_pay5 (iblk m c 1 t) ∧ (outsAt0 m c (t.val - 1) h).2.2.2.1 = k0_pay6 (iblk m c 2 t) := by
  have ih := scratch_eq m c (t.val - 1) h
  exact ⟨ih.1.trans (congrArg _ (iblk1_congr m c _ _ (by show (t.val - 1) / 8 = t.val / 8; omega))),
    ih.2.trans (congrArg _ (iblk2_congr m c _ _ (by show (t.val - 1) / 8 = t.val / 8; omega)))⟩

/-- After any point the tail scratch and the block of last rows hold the last eight gate rows of the point's block. -/
theorem rows_eq (c : Dev nD) (t : Fin cfg0.N) :
    (outsAt0 m c t.val t.isLt).2.1 = k0_pay4 (k0_pay18 (k0_pay5 (iblk m c 1 t)) (rows3 (iblk m c 0 t)))
      ∧ (outsAt0 m c t.val t.isLt).2.2.2.2 = tailLeft m c t := by
  by_cases h0 : t.val % 8 = 0
  · rw [outsAt0_A m c t h0 (by omega)]
    dsimp only
    exact ⟨rows_first .., tail_first ..⟩
  · have e := (before_eq m c t h0 (Nat.lt_of_le_of_lt (Nat.sub_le _ _) t.isLt)).1
    by_cases h1 : t.val % 2 = 0
    · rw [outsAt0_C m c t h0 h1]
      dsimp only
      rw [rows_between, tail_between, e]
      exact ⟨rfl, rfl⟩
    · rw [outsAt0_B m c t h0 h1]
      dsimp only
      rw [rows_inside, tail_inside, e]
      exact ⟨rfl, rfl⟩

/-- The activations' block at a sequence's first block: the tail is the state. -/
theorem outs_even (c : Dev nD) (t : Fin cfg0.N) (h1 : t.val % 2 = 0) :
    (outsAt0 m c t.val t.isLt).1
      = act (iblk m c 0 t) (k0_pay5 (iblk m c 1 t)) (k0_pay6 (iblk m c 2 t)) (iblk m c 4 t) (iblk m c 5 t) (k0_pay7 (iblk m c 3 t)) := by
  by_cases h0 : t.val % 8 = 0
  · rw [outsAt0_A m c t h0 h1]
    dsimp only
    exact out_first ..
  · have e := before_eq m c t h0 (Nat.lt_of_le_of_lt (Nat.sub_le _ _) t.isLt)
    rw [outsAt0_C m c t h0 h1]
    dsimp only
    rw [out_between, e.1, e.2]

/-- The activations' block at a later block of a sequence: the tail is what the block before left. -/
theorem outs_odd (c : Dev nD) (t t' : Fin cfg0.N) (h1 : ¬t.val % 2 = 0) (ht : t'.val = t.val - 1) :
    (outsAt0 m c t.val t.isLt).1
      = act (iblk m c 0 t) (k0_pay5 (iblk m c 1 t)) (k0_pay6 (iblk m c 2 t)) (iblk m c 4 t) (iblk m c 5 t) (tailLeft m c t') := by
  have h0 : ¬t.val % 8 = 0 := by omega
  have e := before_eq m c t h0 (Nat.lt_of_le_of_lt (Nat.sub_le _ _) t.isLt)
  have e2 : (outsAt0 m c (t.val - 1) (Nat.lt_of_le_of_lt (Nat.sub_le _ _) t.isLt)).2.2.2.2 = tailLeft m c t' := by
    obtain ⟨n, hn⟩ := t'
    dsimp only at ht
    subst ht
    exact (rows_eq m c ⟨t.val - 1, hn⟩).2
  rw [outsAt0_B m c t h0 h1]
  dsimp only
  rw [out_inside, e.1, e.2, e2]

end Cert.Proof.Ffn1

end
-- ==== Proof.Ffn1.Value.lean ====
/-
  WHAT THE UP PROJECTION LEAVES, over the extended reals: in each row and feature the gate, convolved down its own sequence with the
  state before its first row, gates the value; and of every 1024 rows the last eight gate rows.
-/
module

public import proofs.«01_k».proof.Proof.Ffn1.Points
public import proofs.«01_k».proof.Proof.Ffn.Value
public import Idealize.ShloMosaic.Lib.StableHlo.Run
public import Idealize.ShloMosaic.Lib.ValueLayout

@[expose] public section

noncomputable section

namespace Cert.Proof.Ffn1

open Cert.Kernel8Ideal Cert.Kernel8Ideal.Gen Cert.Kernel8Ideal.Value
open Idealize.ShloMosaic Idealize.ShloMosaic.TcCoe Idealize.SL.Sem
open Idealize.ShloMosaic.Pipeline (Dat)

/-- Both layers' weights, with layer 1's in layer 0's place: the first layer's call is specified for these. -/
def layerOne (w : S2x4096x22016.Idx → EReal) : S2x4096x22016.Idx → EReal := fun i => w (ix3 1 (i 1) (i 2))

variable (m : (ℓ : Loc nD τ sig) → Buf (Elt Ideal) ℓ) (ρ : Dev nD → PrngReg)

/-- The host pads the state with six zero rows in front before the call. -/
theorem V_v0 (c : Dev nD) (b : Fin 4) (q : Fin 8) (n : Fin 11008) (hq : 6 ≤ q.val) :
    (V m c main_v0 : S4x8x11008.Idx → EReal) (ix3 b q n) = (m ((c : Thread nD τ).loc main_arg2) : S4x2x11008.Idx → EReal) (ix3 b ⟨q.val - 6, by omega⟩ n) := by
  have e : V m c main_v0 = pad S4x8x11008 ![0, 6, 0] ![0, 0, 0] ![0, 0, 0] (m ((c : Thread nD τ).loc main_arg2)) (sitofp (F := Ideal) .f32 (constantI S_ 32 0#32)) pads_S4x2x11008_S4x8x11008_000_600_000 h_S_ := by
    unfold V
    simp only [hostOps0, hostOps0_1, hostOps0_2, List.flatten_cons, List.flatten_nil, List.cons_append, List.nil_append, List.append_nil]
    after_results
    rfl
  rw [e]
  pointwise
  refine dif_pos fun a => ?_
  match a with
  | ⟨0, _⟩ => show 0 ≤ b.val ∧ (b.val - 0) % 1 = 0 ∧ (b.val - 0) / 1 < 4; omega
  | ⟨1, _⟩ => show 6 ≤ q.val ∧ (q.val - 6) % 1 = 0 ∧ (q.val - 6) / 1 < 2; omega
  | ⟨2, _⟩ => show 0 ≤ n.val ∧ (n.val - 0) % 1 = 0 ∧ (n.val - 0) / 1 < 11008; omega

/-- The host makes the bias a row. -/
theorem V_v1 (c : Dev nD) (z : Fin 1) (n : Fin 11008) :
    (V m c main_v1 : S1x11008.Idx → EReal) (ix2 z n) = (m ((c : Thread nD τ).loc main_arg4) : S11008.Idx → EReal) (ix1 n) := by
  have e : V m c main_v1 = shapeCast S1x11008 (m ((c : Thread nD τ).loc main_arg4)) shapeCasts_S11008_S1x11008 := by
    unfold V
    simp only [hostOps0, hostOps0_1, hostOps0_2, List.flatten_cons, List.flatten_nil, List.cons_append, List.nil_append, List.append_nil]
    after_results
    rfl
  rw [e]
  exact Idealize.ShloMosaic.ValueIdx.shapeCast_a_1a_apply ..

theorem pay5_apply (w : Vec Ideal S1x4096x256 .f32) (k : Fin 4096) (n : Fin 256) : k0_pay5 w (ix2 k n) = (w (ix3 0 k n) : EReal) := by
  pointwise [k0_pay5]
theorem pay6_apply (w : Vec Ideal S1x4096x256 .f32) (k : Fin 4096) (n : Fin 256) : k0_pay6 w (ix2 k n) = (w (ix3 0 k n) : EReal) := by
  pointwise [k0_pay6]
theorem pay7_apply (w : Vec Ideal S1x8x256 .f32) (q : Fin 8) (n : Fin 256) : k0_pay7 w (ix2 q n) = (w (ix3 0 q n) : EReal) := by
  pointwise [k0_pay7]
theorem pay3_apply (g : FVec Ideal S256x256 .f32) (q : Fin 8) (n : Fin 256) : k0_pay3 g (ix2 q n) = (g (ix2 ⟨248 + q.val, by omega⟩ n) : EReal) := by
  pointwise [k0_pay3, k0_pay2]
theorem pay4_apply (g : FVec Ideal S256x256 .f32) (z : Fin 1) (q : Fin 8) (n : Fin 256) : k0_pay4 g (ix3 z q n) = (g (ix2 ⟨248 + q.val, by omega⟩ n) : EReal) := by
  pointwise [k0_pay4, k0_pay2]

open Cert.Proof.Ffn (gated blockProd blockEarlier blockConv actAt act act_apply prod3 rows0 rows1 rows2 rows3 upAt gateAt valAt histAt convAt actSpec rowsSpec)

section Result

/-- The arrays as the launch finds them, of the weights layer 1's. -/
abbrev arrH (c : Dev nD) : S8192x4096.Idx → EReal := m ((c : Thread nD τ).loc main_arg0)
abbrev arrW (c : Dev nD) : S2x4096x22016.Idx → EReal := layerOne (m ((c : Thread nD τ).loc main_arg1))
abbrev arrS (c : Dev nD) : S4x2x11008.Idx → EReal := m ((c : Thread nD τ).loc main_arg2)
abbrev arrC (c : Dev nD) : S3x11008.Idx → EReal := m ((c : Thread nD τ).loc main_arg3)
abbrev arrB (c : Dev nD) : S11008.Idx → EReal := m ((c : Thread nD τ).loc main_arg4)

/-- What the activations' array ends holding. -/
abbrev actResult (c : Dev nD) : S8192x11008.Idx → EReal := actSpec (arrH m c) (arrW m c) (arrS m c) (arrC m c) (arrB m c)

/-- What the array of last rows ends holding. -/
abbrev rowsResult (c : Dev nD) : S8x8x11008.Idx → EReal := rowsSpec (arrH m c) (arrW m c)

/-- A point's product with its gate tile is the gate at the block's place. -/
theorem gate_block (c : Dev nD) (t : Fin cfg0.N) (r : Fin 1024) (n : Fin 256) :
    blockProd (iblk m c 0 t) (k0_pay5 (iblk m c 1 t)) r n
      = gateAt (arrH m c) (arrW m c) ⟨1024 * (t.val % 8) + r.val, by omega⟩ ⟨256 * (t.val / 8) + n.val, by have := point_lt t; omega⟩ := by
  unfold blockProd gateAt upAt
  refine Finset.sum_congr rfl fun k _ => ?_
  rw [iblk0_apply, pay5_apply, iblk1_apply]
  rfl

/-- A point's product with its value tile is the value at the block's place. -/
theorem val_block (c : Dev nD) (t : Fin cfg0.N) (r : Fin 1024) (n : Fin 256) :
    blockProd (iblk m c 0 t) (k0_pay6 (iblk m c 2 t)) r n
      = valAt (arrH m c) (arrW m c) ⟨1024 * (t.val % 8) + r.val, by omega⟩ ⟨256 * (t.val / 8) + n.val, by have := point_lt t; omega⟩ := by
  unfold blockProd valAt upAt
  refine Finset.sum_congr rfl fun k _ => ?_
  rw [iblk0_apply, pay6_apply, iblk2_apply]
  rfl

/-- At a sequence's first block what lies before it is the state. -/
theorem hist_even (c : Dev nD) (t : Fin cfg0.N) (h1 : t.val % 2 = 0) (s : ℕ) (hs : s ≤ 2) (r : Fin 1024) (n : Fin 256) :
    blockEarlier (iblk m c 0 t) (k0_pay5 (iblk m c 1 t)) (k0_pay7 (iblk m c 3 t)) s (by omega) r n
      = histAt (arrH m c) (arrW m c) (arrS m c) s hs ⟨1024 * (t.val % 8) + r.val, by omega⟩ ⟨256 * (t.val / 8) + n.val, by have := point_lt t; omega⟩ := by
  unfold blockEarlier histAt
  by_cases h : r.val < s
  · rw [dif_pos h, dif_pos (by dsimp only; omega), pay7_apply, iblk3_apply, V_v0 m c _ _ _ (by dsimp only; omega)]
    refine congrArg (arrS m c) (congr (congrArg₂ ix3 (Fin.ext ?_) (Fin.ext ?_)) rfl)
    · show t.val % 8 / 2 = (1024 * (t.val % 8) + r.val) / 2048
      omega
    · show 8 + r.val - s - 6 = (1024 * (t.val % 8) + r.val) % 2048 + 2 - s
      omega
  · rw [dif_neg h, dif_neg (by dsimp only; omega), gate_block]
    exact congrArg (fun z => gateAt (arrH m c) (arrW m c) z _) (Fin.ext (by show 1024 * (t.val % 8) + (r.val - s) = 1024 * (t.val % 8) + r.val - s; omega))

/-- The last rows a point leaves are the gate's. -/
theorem tailLeft_apply (c : Dev nD) (t : Fin cfg0.N) (q : Fin 8) (n : Fin 256) :
    (tailLeft m c t (ix2 q n) : EReal)
      = gateAt (arrH m c) (arrW m c) ⟨1024 * (t.val % 8) + (1016 + q.val), by omega⟩ ⟨256 * (t.val / 8) + n.val, by have := point_lt t; omega⟩ := by
  refine (pay3_apply _ q n).trans ((prod3 (iblk m c 0 t) (k0_pay5 (iblk m c 1 t)) _ n).trans ((gate_block m c t _ n).trans ?_))
  exact congrArg (fun z => gateAt (arrH m c) (arrW m c) z _) (Fin.ext (by show 1024 * (t.val % 8) + (768 + (248 + q.val)) = 1024 * (t.val % 8) + (1016 + q.val); omega))

/-- At a later block of a sequence it is what the block before left. -/
theorem hist_odd (c : Dev nD) (t t' : Fin cfg0.N) (h1 : ¬t.val % 2 = 0) (ht : t'.val = t.val - 1) (s : ℕ) (hs : s ≤ 2) (r : Fin 1024) (n : Fin 256) :
    blockEarlier (iblk m c 0 t) (k0_pay5 (iblk m c 1 t)) (tailLeft m c t') s (by omega) r n
      = histAt (arrH m c) (arrW m c) (arrS m c) s hs ⟨1024 * (t.val % 8) + r.val, by omega⟩ ⟨256 * (t.val / 8) + n.val, by have := point_lt t; omega⟩ := by
  unfold blockEarlier histAt
  have hn : ¬(1024 * (t.val % 8) + r.val) % 2048 < s := by omega
  refine Eq.trans ?_ (dif_neg hn).symm
  by_cases h : r.val < s
  · rw [dif_pos h, tailLeft_apply]
    refine congrArg₂ (gateAt (arrH m c) (arrW m c)) (Fin.ext ?_) (Fin.ext ?_)
    · show 1024 * (t'.val % 8) + (1016 + (8 + r.val - s)) = 1024 * (t.val % 8) + r.val - s
      omega
    · show 256 * (t'.val / 8) + n.val = 256 * (t.val / 8) + n.val
      omega
  · rw [dif_neg h, gate_block]
    exact congrArg (fun z => gateAt (arrH m c) (arrW m c) z _) (Fin.ext (by show 1024 * (t.val % 8) + (r.val - s) = 1024 * (t.val % 8) + r.val - s; omega))

/-- So, with either tail, the block's activations are the specification's. -/
theorem act_block (c : Dev nD) (t : Fin cfg0.N) (tail : Vec Ideal S8x256 .f32)
    (ht : ∀ (s : ℕ) (hs : s ≤ 2) (r : Fin 1024) (n : Fin 256), blockEarlier (iblk m c 0 t) (k0_pay5 (iblk m c 1 t)) tail s (by omega) r n
      = histAt (arrH m c) (arrW m c) (arrS m c) s hs ⟨1024 * (t.val % 8) + r.val, by omega⟩ ⟨256 * (t.val / 8) + n.val, by have := point_lt t; omega⟩)
    (r : Fin 1024) (n : Fin 256) :
    act (iblk m c 0 t) (k0_pay5 (iblk m c 1 t)) (k0_pay6 (iblk m c 2 t)) (iblk m c 4 t) (iblk m c 5 t) tail (ix2 r n)
      = actResult m c (ix2 ⟨1024 * (t.val % 8) + r.val, by omega⟩ ⟨256 * (t.val / 8) + n.val, by have := point_lt t; omega⟩) := by
  rw [act_apply]
  unfold actResult actSpec actAt
  refine congrArg₂ gated ?_ (val_block m c t r n)
  show blockConv (iblk m c 0 t) (k0_pay5 (iblk m c 1 t)) (iblk m c 4 t) (iblk m c 5 t) tail r n
    = convAt (arrH m c) (arrW m c) (arrS m c) (arrC m c) (arrB m c) ⟨1024 * (t.val % 8) + r.val, by omega⟩ ⟨256 * (t.val / 8) + n.val, by have := point_lt t; omega⟩
  unfold blockConv convAt
  rw [ht, ht, gate_block, iblk4_apply, iblk4_apply, iblk4_apply, iblk5_apply, V_v1]

/-- Where the outputs' blocks lie. -/
theorem emb6 (t : Fin cfg0.N) (r : Fin 1024) (n : Fin 256) :
    ((cfg0.win 6).blk t).view.emb (ix2 r n : S1024x256.Idx)
      = (ix2 ⟨1024 * (t.val % 8) + r.val, by omega⟩ ⟨256 * (t.val / 8) + n.val, by have := point_lt t; omega⟩ : S8192x11008.Idx) := by
  have hi := index6 t
  funext a
  apply Fin.ext
  match a with
  | ⟨0, _⟩ => show win0_6.index t 0 * 1024 + 1 * r.val = 1024 * (t.val % 8) + r.val; rw [hi.1]; omega
  | ⟨1, _⟩ => show win0_6.index t 1 * 256 + 1 * n.val = 256 * (t.val / 8) + n.val; rw [hi.2]; omega
theorem emb7 (t : Fin cfg0.N) (z : Fin 1) (q : Fin 8) (n : Fin 256) :
    ((cfg0.win 7).blk t).view.emb (ix3 z q n : S1x8x256.Idx)
      = (ix3 ⟨t.val % 8, by omega⟩ q ⟨256 * (t.val / 8) + n.val, by have := point_lt t; omega⟩ : S8x8x11008.Idx) := by
  have hi := index7 t
  funext a
  apply Fin.ext
  match a with
  | ⟨0, _⟩ => show win0_7.index t 0 * 1 + 1 * z.val = t.val % 8; rw [hi.1]; omega
  | ⟨1, _⟩ => show win0_7.index t 1 * 8 + 1 * q.val = q.val; rw [hi.2.1]; omega
  | ⟨2, _⟩ => show win0_7.index t 2 * 256 + 1 * n.val = 256 * (t.val / 8) + n.val; rw [hi.2.2]; omega

/-- The activations' block after a point, at an index. -/
theorem outs_apply (c : Dev nD) (t : Fin cfg0.N) (r : Fin 1024) (n : Fin 256) :
    ((outsAt0 m c t.val t.isLt).1 (ix2 r n) : EReal)
      = actResult m c (ix2 ⟨1024 * (t.val % 8) + r.val, by omega⟩ ⟨256 * (t.val / 8) + n.val, by have := point_lt t; omega⟩) := by
  by_cases h1 : t.val % 2 = 0
  · rw [outs_even m c t h1]
    exact act_block m c t _ (hist_even m c t h1) r n
  · rw [outs_odd m c t ⟨t.val - 1, Nat.lt_of_le_of_lt (Nat.sub_le _ _) t.isLt⟩ h1 rfl]
    exact act_block m c t _ (hist_odd m c t _ h1 rfl) r n

/-- The block of last rows after a point, at an index. -/
theorem rows_apply (c : Dev nD) (t : Fin cfg0.N) (z : Fin 1) (q : Fin 8) (n : Fin 256) :
    ((outsAt0 m c t.val t.isLt).2.1 (ix3 z q n) : EReal)
      = rowsResult m c (ix3 ⟨t.val % 8, by omega⟩ q ⟨256 * (t.val / 8) + n.val, by have := point_lt t; omega⟩) := by
  rw [(rows_eq m c t).1]
  refine (pay4_apply _ z q n).trans ((pay3_apply _ q n).symm.trans ((tailLeft_apply m c t q n).trans ?_))
  rfl

/-- What a point writes back is its block of the activations. -/
theorem flushed_act (c : Dev nD) (t : Fin cfg0.N) :
    (dats m 0 c).flushed 6 t = ((cfg0.win 6).blk t).view.read (Elt Ideal) (actResult m c) := by
  rw [flushed6]
  have hp := outs_apply m c t
  revert hp
  generalize (outsAt0 m c t.val t.isLt).1 = X
  generalize actResult m c = G
  intro hp
  funext y
  rw [View.read_apply]
  show X y = G _
  obtain ⟨r, n, rfl⟩ : ∃ (r : Fin 1024) (n : Fin 256), y = ix2 r n := ⟨y 0, y 1, eq_ix2 y⟩
  rw [emb6]
  exact hp r n

/-- And its block of the last rows. -/
theorem flushed_rows (c : Dev nD) (t : Fin cfg0.N) :
    (dats m 0 c).flushed 7 t = ((cfg0.win 7).blk t).view.read (Elt Ideal) (rowsResult m c) := by
  rw [flushed7]
  have hp := rows_apply m c t
  revert hp
  generalize (outsAt0 m c t.val t.isLt).2.1 = X
  generalize rowsResult m c = G
  intro hp
  funext y
  rw [View.read_apply]
  show X y = G _
  obtain ⟨z, q, n, rfl⟩ : ∃ (z : Fin 1) (q : Fin 8) (n : Fin 256), y = ix3 z q n := ⟨y 0, y 1, y 2, eq_ix3 y⟩
  rw [emb7]
  exact hp z q n

/-- Every index of the activations lies in a block written back. -/
theorem cover_act (i : S8192x11008.Idx) : ∃ t : Fin cfg0.N, (cfg0.win 6).flush t = true ∧ i ∈ ((cfg0.win 6).blk t).view.set := by
  obtain ⟨r, n, rfl⟩ : ∃ (r : Fin 8192) (n : Fin 11008), i = ix2 r n := ⟨i 0, i 1, eq_ix2 i⟩
  let t : Fin cfg0.N := ⟨8 * (n.val / 256) + r.val / 1024, by rw [show cfg0.N = 344 from N_0]; omega⟩
  have ht : t.val = 8 * (n.val / 256) + r.val / 1024 := rfl
  have e := emb6 t ⟨r.val % 1024, by omega⟩ ⟨n.val % 256, by omega⟩
  have e' : (ix2 ⟨1024 * (t.val % 8) + r.val % 1024, by omega⟩ ⟨256 * (t.val / 8) + n.val % 256, by have := point_lt t; omega⟩ : S8192x11008.Idx) = ix2 r n := by
    congr 1 <;> apply Fin.ext <;> dsimp only <;> rw [ht] <;> omega
  exact ⟨t, flush0_6 t, (e.trans e') ▸ ((cfg0.win 6).blk t).view.emb_mem_set _⟩

/-- And every index of the last rows. -/
theorem cover_rows (i : S8x8x11008.Idx) : ∃ t : Fin cfg0.N, (cfg0.win 7).flush t = true ∧ i ∈ ((cfg0.win 7).blk t).view.set := by
  obtain ⟨b, q, n, rfl⟩ : ∃ (b : Fin 8) (q : Fin 8) (n : Fin 11008), i = ix3 b q n := ⟨i 0, i 1, i 2, eq_ix3 i⟩
  let t : Fin cfg0.N := ⟨8 * (n.val / 256) + b.val, by rw [show cfg0.N = 344 from N_0]; omega⟩
  have ht : t.val = 8 * (n.val / 256) + b.val := rfl
  have e := emb7 t 0 q ⟨n.val % 256, by omega⟩
  have e' : (ix3 ⟨t.val % 8, by omega⟩ q ⟨256 * (t.val / 8) + n.val % 256, by have := point_lt t; omega⟩ : S8x8x11008.Idx) = ix3 b q n := by
    congr 1 <;> apply Fin.ext <;> dsimp only <;> rw [ht] <;> omega
  exact ⟨t, flush0_7 t, (e.trans e') ▸ ((cfg0.win 7).blk t).view.emb_mem_set _⟩

/-- The two arrays after the run. -/
theorem final_act (c : Dev nD) : (dats m 0 c).arrAt 6 cfg0.N = actResult m c := by
  funext i
  rw [(dats m 0 c).arrAt_eq_piecewise 6 (actResult m c) (fun t _ => flushed_act m c t) i]
  exact if_pos (cover_act i)
theorem final_rows (c : Dev nD) : (dats m 0 c).arrAt 7 cfg0.N = rowsResult m c := by
  funext i
  rw [(dats m 0 c).arrAt_eq_piecewise 7 (rowsResult m c) (fun t _ => flushed_rows m c t) i]
  exact if_pos (cover_rows i)

end Result

end Cert.Proof.Ffn1

end
-- ==== Proof.Ffn1.Reference.lean ====
/-
  THE REFERENCE OF LAYER 1'S UP PROJECTION: slicing layer 1 out of the weights is slicing layer 0 out of them with layer 1's in
  layer 0's place, so that the first layer's reference gives the values.
-/
module

public import proofs.«01_k».proof.Proof.Ffn1.Value
public import proofs.«01_k».proof.Proof.Ffn.Reference
public import proofs.«01_k».proof.Proof.Gen.Reference8Ideal.Run

@[expose] public section

noncomputable section

namespace Cert.Proof.Ffn1

open Cert.Reference8Ideal Cert.Reference8Ideal.Gen
open Idealize.ShloMosaic Idealize.ShloMosaic.TcCoe Idealize.SL.Sem
open Cert.Proof.Ffn (actSpec rowsSpec refGate refVal refPadded refConv refAct reference_act real_of_finite)

variable (a0 : FVec Ideal S8192x4096 .bf16) (a1 : FVec Ideal S2x4096x22016 .f32)

/-- Layer 1's slice of the weights. -/
theorem slice_one :
    (extractStridedSlice S1x4096x22016 ![1, 0, 0] a1 slices_S2x4096x22016_S1x4096x22016_1_0_0 : FVec Ideal S1x4096x22016 .f32)
      = extractStridedSlice S1x4096x22016 ![0, 0, 0] (layerOne a1 : FVec Ideal S2x4096x22016 .f32) Cert.Reference4Ideal.Gen.slices_S2x4096x22016_S1x4096x22016_0_0_0 := by
  funext i
  idx_vars i
  unfold layerOne
  pointwise

/-- The reference's up projection, by sequence, row and column. -/
abbrev refUp : FVec Ideal S4x2048x22016 .f32 :=
  shapeCast S4x2048x22016 (Host.dotGeneral dot_S8192x4096_S4096x22016_S8192x22016_1_0_0_1_n_n none (extf .f32 a0 bitsLt_bf16_f32) (shapeCast S4096x22016 (extractStridedSlice S1x4096x22016 ![1, 0, 0] a1 slices_S2x4096x22016_S1x4096x22016_1_0_0) shapeCasts_S1x4096x22016_S4096x22016)) shapeCasts_S8192x22016_S4x2048x22016

theorem gate_eq : extractStridedSlice S4x2048x11008 ![0, 0, 0] (refUp a0 a1) slices_S4x2048x22016_S4x2048x11008_0_0_0 = refGate a0 (layerOne a1) := by
  unfold refUp
  rw [slice_one]
  rfl

theorem val_eq : extractStridedSlice S4x2048x11008 ![0, 0, 11008] (refUp a0 a1) slices_S4x2048x22016_S4x2048x11008_0_0_11008 = refVal a0 (layerOne a1) := by
  unfold refUp
  rw [slice_one]
  rfl

/-- The reference's last rows. -/
theorem reference_rows :
    (extractStridedSlice S8x8x11008 ![0, 1016, 0] (shapeCast S8x1024x11008 (extractStridedSlice S4x2048x11008 ![0, 0, 0] (refUp a0 a1) slices_S4x2048x22016_S4x2048x11008_0_0_0) shapeCasts_S4x2048x11008_S8x1024x11008) slices_S8x1024x11008_S8x8x11008_0_1016_0 : FVec Ideal S8x8x11008 .f32)
      = rowsSpec a0 (layerOne a1) := by
  rw [gate_eq]
  exact Ffn.reference_rows a0 (layerOne a1)

/-- The reference's activations, where every argument is real. -/
theorem reference_result (m' : (ℓ : Loc nD τ sig) → Buf (Elt Ideal) ℓ) (c : Dev nD)
    (h : Cert.Pre_finite.fn (F := Ideal) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) = fun _ => 1#1) :
    Value.res_main_v34 m' c
      = actSpec (m' ((c.tc : Thread nD τ).loc main_arg0)) (layerOne (m' ((c.tc : Thread nD τ).loc main_arg1))) (m' ((c.tc : Thread nD τ).loc main_arg2)) (m' ((c.tc : Thread nD τ).loc main_arg3)) (m' ((c.tc : Thread nD τ).loc main_arg4)) :=
  have ⟨r0, r1, r2, r3, r4⟩ := real_of_finite _ _ _ _ _ h
  Eq.trans (by
      unfold Value.res_main_v34
      show refAct (refConv _ _ (refPadded _ (extractStridedSlice S4x2048x11008 ![0, 0, 0] (refUp _ _) slices_S4x2048x22016_S4x2048x11008_0_0_0))) (extractStridedSlice S4x2048x11008 ![0, 0, 11008] (refUp _ _) slices_S4x2048x22016_S4x2048x11008_0_0_11008) = _
      rw [gate_eq, val_eq])
    (reference_act _ (layerOne (m' ((c.tc : Thread nD τ).loc main_arg1))) _ _ _ r0 (fun _ => r1 _) r2 r3 r4)

end Cert.Proof.Ffn1

end
-- ==== Proof.Ffn1.Claim.lean ====
/-
  THE UP PROJECTION'S RUNS, side by side: the kernel and the reference end with the same activations and the same last rows.
-/
module

public import proofs.«01_k».proof.Proof.Ffn1.Reference
public import proofs.«01_k».proof.Proof.Gen.Kernel8Ideal.Value
public import proofs.«01_k».proof.Defs
public import Idealize.ShloMosaic.Lib.Quiescent

@[expose] public section

noncomputable section

namespace Cert.Proof.Ffn1

open Idealize.ShloMosaic Idealize.ShloMosaic.TcCoe Idealize.SL.Sem

/-- The reference leaves its arguments as they were, and it declares no semaphore. -/
theorem frame_reference : Cert.quiescent_Reference8Ideal := fun m' ρ' _ =>
  (θ_run _ _ _).mono (fun r hr => ⟨fun c => (hr c).2.2, sem_eq_zero_of_no_sems (by decide) r.2⟩) (Reference8Ideal.Value.run m' ρ')

/-- Both programs end with the gated activations and the last gate rows. -/
theorem algebraic : Cert.algebraic_Kernel8Ideal_Reference8Ideal_pre_finite := by
  intro m ρ m' ρ' hp h
  refine ⟨actResult m, rowsResult m,
    (θ_run _ _ _).mono (fun _ hr c => ⟨(hr c).1.trans (final_act m c), (hr c).2.1.trans (final_rows m c), (hr c).2.2⟩) (Kernel8Ideal.Value.run_blocks m ρ),
    (θ_run _ _ _).mono (fun _ hr c => ?_) (Reference8Ideal.Value.run m' ρ')⟩
  obtain ⟨e0, e1, e2, e3, e4⟩ := h c
  have hp : Cert.Pre_finite.fn (F := Ideal) _ _ _ _ _ = fun _ => 1#1 := hp c
  refine ⟨(hr c).1.trans ?_, (hr c).2.1.trans ?_, (hr c).2.2⟩
  · rw [← e0, ← e1, ← e2, ← e3, ← e4] at hp
    refine (reference_result m' c hp).trans ?_
    rw [e0, e1, e2, e3, e4]
  · rw [e0, e1]
    exact reference_rows _ _

end Cert.Proof.Ffn1

end
-- ==== Proof.In1.Table.lean ====
/-
  THE PREFETCHED TABLE of the input projection: the row at which each column tile of the projection begins, as @main
  writes it, and the side condition the program puts on it. Everything below it is stated at these contents.
-/
module

public import proofs.«01_k».proof.Proof.Gen.Kernel9Ideal.Launch
public import proofs.«01_k».proof.Proof.Gen.Kernel9Ideal.Skeleton
public import Idealize.ShloMosaic.Lib.Pipeline.FrameBody
public import Idealize.ShloMosaic.Lib.StableHlo.Run
public import Idealize.ShloMosaic.Lib.Ring
public import Idealize.ShloMosaic.Lib.Tactic
public import Idealize.ShloMosaic.Lib.WordCmp

@[expose] public section

set_option maxRecDepth 16384

noncomputable section

namespace Cert.Kernel9Ideal.In

open Cert.Kernel9Ideal Cert.Kernel9Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

/-- The table as @main writes it, in units of sixteen rows. -/
abbrev tabRow : (⟨S22, .i32⟩ : BufTy).Contents (Elt F) := fun x => lit0 (S22.rowMajor x)

/-- The one table's contents. -/
def tabs : pre0.Contents (Elt F) := fun | ⟨0, _⟩ => tabRow | ⟨_ + 1, h⟩ => absurd h (Nat.not_lt.2 (Nat.le_add_left _ _))

/-- The row at which column tile `j` begins. -/
def rowOf (j : ℕ) : ℕ := (if h : j < 22 then lit0 ⟨j, h⟩ else 0#32).toNat * 16

theorem coord_word (i : grid0.Coords) : (Scalar.indexCast (BitVec.ofNat 32 (i 0).val) : Index).toNat = (i 0).val := by
  have h : (i 0).val < 22 := (i 0).isLt
  show (BitVec.ofNat 32 (i 0).val).toNat = _
  rw [BitVec.toNat_ofNat]; omega

/-- A one-element rectangle of the table at `off` is entry `off 0`. -/
theorem rowMajor22 (off : Fin 1 → ℕ) (h : ∀ a, off a + S1.size a ≤ S22.size a) (x : (Rect.unit (s := S22) off S1.size h).shape.Idx) :
    (S22.rowMajor ((Rect.unit (s := S22) off S1.size h).emb x)).val = off 0 := by
  have hx : (x 0).val = 0 := by have := (x 0).isLt; change (x 0).val < 1 at this; omega
  have e : (S22.rowMajor ((Rect.unit (s := S22) off S1.size h).emb x)).val = ((Rect.unit (s := S22) off S1.size h).emb x 0 : ℕ) := by
    rw [Shape.rowMajor_val_succ]
    refine (congrArg₂ (· + ·) (Nat.mul_one _) (Nat.lt_one_iff.mp (Fin.isLt _))).trans (Nat.add_zero _)
  rw [e, Rect.emb_apply]
  show off 0 + 1 * (x 0).val = _
  omega

theorem at_eq (i : grid0.Coords) : (tabs (F := F)).at 0 (Rect.unit (s := S22) (k0_off1 i) S1.size (k0_off1_inb i)) numel1_S1 = lit0 (i 0) :=
  congrArg lit0 (Fin.ext ((rowMajor22 (k0_off1 i) (k0_off1_inb i) _).trans (coord_word i)))

theorem rowMajor22_one (y : S22.Idx) : (S22.rowMajor y).val = (y 0).val := by
  rw [Shape.rowMajor_val_succ]
  exact (congrArg₂ (· + ·) (Nat.mul_one _) (Nat.lt_one_iff.mp (Fin.isLt _))).trans (Nat.add_zero _)

theorem atD_eq (i : grid0.Coords) : (tabs (F := F)).atD 0 (k0_off1 i) = lit0 (i 0) := by
  unfold Pipeline.Prefetch.Contents.atD
  split
  · exact congrArg lit0 (Fin.ext ((rowMajor22_one _).trans (coord_word i)))
  · next hn => exact absurd (fun a => by fin_cases a; exact k0_off1_inb i 0) hn

theorem mult_eq (i : grid0.Coords) : k0_mult1 (tabs (F := F)) i = lit0 (i 0) * 16#32 :=
  congrArg (fun v : BitVec 32 => v * 16#32) (atD_eq i)

theorem lit_facts : ∀ j : Fin 22, (16 : Int) ∣ (lit0 j * 16#32).toInt ∧ (lit0 j * 16#32).toNat = rowOf j ∧ rowOf j + 512 ≤ 13120 := by
  decide +kernel

/-- The block of the weights that column tile `j` is read from: the second layer's, at the table's row. -/
theorem transform_1 (i : grid0.Coords) :
    cc0_transform_1 k0_off1_inb numel1_S1 (tabs (F := F)) i = ![1, rowOf (i 0).val, 0] := by
  have h : cc0_transform_1 k0_off1_inb numel1_S1 (tabs (F := F)) i = ![1, (lit0 (i 0) * 16#32).toNat, 0] :=
    congrArg (fun v : BitVec 32 => (![1, (v * 16#32).toNat, 0] : Fin 3 → ℕ)) (at_eq i)
  rw [h, (lit_facts (i 0)).2.1]

/-- The program's side condition holds of the table. -/
theorem ok_tabs : ok0 (tabs (F := F)) := by
  unfold ok0
  refine ⟨fun i => ?_, fun i => ⟨fun a => ?_, Or.inl rfl⟩⟩
  · rw [mult_eq]; exact (lit_facts (i 0)).1
  · rw [transform_1]
    have := (lit_facts (i 0)).2.2
    match a with
    | ⟨0, _⟩ => show 1 + 1 ≤ 2; omega
    | ⟨1, _⟩ => exact this
    | ⟨2, _⟩ => show 0 + 4096 ≤ 4096; omega

/-- The admissible contents the proof is written at. -/
def adm : (pcfg0 (F := F)).Adm := ⟨tabs, ok_tabs⟩

/-- The pipeline there. -/
abbrev cfgA : Pipeline.Cfg sig Λ₀ := cfg0 (adm (F := F))

/-- It as @main's one pipeline. -/
abbrev pcs : Fin 1 → Pipeline.Cfg sig Λ₀ := Pipeline.pin (pcfgs (F := F)) fun | 0 => adm | ⟨_ + 1, h⟩ => absurd h (Nat.not_lt.2 (Nat.le_add_left _ _))

end Cert.Kernel9Ideal.In
end
-- ==== Proof.In1.Points.lean ====
/-
  THE INPUT PROJECTION UP TO ITS BODY: the arrays as the region finds them, each window's block, the body's branch
  conditions over the grid's points, and the staging buffers the body is called with.
-/
module

public import proofs.«01_k».proof.Proof.In1.Table

@[expose] public section

set_option maxRecDepth 16384

noncomputable section

namespace Cert.Kernel9Ideal.In

open Cert.Kernel9Ideal Cert.Kernel9Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the table written, the weights transposed. -/
def V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := ⟨rfl, rfl⟩

theorem hmain (𝒱₀ : Variants) : Pipeline.HMainP (Ix := Unit) (Name := ℕ) (U := UR sig nD τ) (Lvl := ℕ) (pcfgs (F := F)) 0 defs₀ 𝒱₀ m (main (F := F)) (V m) :=
  Pipeline.hmainP_prefix (pcfgs (F := F)) 0 defs₀ 𝒱₀ m main hostOps0 hostOps0_sub hostOps0_fresh main_chain

theorem V_main_arg0 (c : Dev nD) : V m c main_arg0 = m ((c : Thread nD τ).loc main_arg0) := by unfold V; after_results
theorem V_main_arg1 (c : Dev nD) : V m c main_arg1 = m ((c : Thread nD τ).loc main_arg1) := by unfold V; after_results
theorem V_main_arg2 (c : Dev nD) : V m c main_arg2 = m ((c : Thread nD τ).loc main_arg2) := by unfold V; after_results
/-- The table holds its literal. -/
theorem V_main_c (c : Dev nD) : V m c main_c = tabRow (F := F) := by unfold V; after_results; rfl
/-- The windows on the weights read them transposed. -/
theorem V_main_v0 (c : Dev nD) : V m c main_v0 = transpose S2x13120x4096 [0, 2, 1] (m ((c : Thread nD τ).loc main_arg2)) transposes_S2x4096x13120_S2x13120x4096_0_2_1 := by
  unfold V; after_results

/-! ## The windows' blocks -/

/-- Window `w`'s block at point `t`, read off its array as the region finds it. -/
def iblk (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V m c (Pipeline.arrRef spec0 w))

/-! ## The body's branch conditions -/

/-- The point opens its column tile. -/
abbrev cond1 (i : grid0.Coords) : Prop := (Scalar.cmpi .ne (Scalar.extui (Scalar.cmpi .eq (BitVec.ofNat 32 (i 1).val) 0#32)) 0#32) = 1#1
/-- The column tile is read whole from the weights. -/
abbrev cond2 (i : grid0.Coords) : Prop := (Scalar.cmpi .ne (Scalar.extui (Scalar.cmpi .slt (BitVec.ofNat 32 (i 0).val) 21#32)) 0#32) = 1#1
/-- The column tile is put together from three pieces. -/
abbrev cond3 (i : grid0.Coords) : Prop := (Scalar.cmpi .ne (Scalar.extui (Scalar.cmpi .eq (BitVec.ofNat 32 (i 0).val) 21#32)) 0#32) = 1#1

theorem coords0 (t : Fin grid0.N) : (grid0.coords t 0).val = t.val / 8 % 22 := Pipeline.Grid.coords_val t 0 (by decide) rfl
theorem coords1 (t : Fin grid0.N) : (grid0.coords t 1).val = t.val % 8 := by
  have e : (grid0.coords t 1).val = t.val / 1 % 8 := Pipeline.Grid.coords_val t 1 (by decide) rfl
  rwa [Nat.div_one] at e

theorem hcond1 (t : Fin grid0.N) : cond1 (grid0.coords t) ↔ t.val % 8 = 0 := by
  have ht : t.val < 176 := Nat.lt_of_lt_of_eq t.isLt N_0
  simp only [cond1, coords1]
  word_cmp

theorem hcond2 (t : Fin grid0.N) : cond2 (grid0.coords t) ↔ t.val / 8 < 21 := by
  have ht : t.val < 176 := Nat.lt_of_lt_of_eq t.isLt N_0
  simp only [cond2, coords0]
  word_cmp

theorem hcond3 (t : Fin grid0.N) : cond3 (grid0.coords t) ↔ t.val / 8 = 21 := by
  have ht : t.val < 176 := Nat.lt_of_lt_of_eq t.isLt N_0
  simp only [cond3, coords0]
  word_cmp

theorem hcond4 (t : Fin grid0.N) : k0_cond4 (grid0.coords t) = 1#1 ↔ t.val % 8 = 0 := hcond1 t

/-! ## The staging buffers -/

abbrev ms0 (t : Fin (cfgA (F := F)).N) : Memref sig .tc .vmem S1024x4096 .bf16 := spec0_0.stage ((cfgA (F := F)).slots t 0)
abbrev hs0 (t : Fin (cfgA (F := F)).N) : (ms0 t).IsWhole := hstage0_0 (((cfgA (F := F)).slots t 0).cast nbuf0_0)
abbrev ms1 (t : Fin (cfgA (F := F)).N) : Memref sig .tc .vmem S1x512x4096 .f32 := spec0_1.stage ((cfgA (F := F)).slots t 1)
abbrev hs1 (t : Fin (cfgA (F := F)).N) : (ms1 t).IsWhole := hstage0_1 (((cfgA (F := F)).slots t 1).cast nbuf0_1)
abbrev ms2 (t : Fin (cfgA (F := F)).N) : Memref sig .tc .vmem S1x288x4096 .f32 := spec0_2.stage ((cfgA (F := F)).slots t 2)
abbrev hs2 (t : Fin (cfgA (F := F)).N) : (ms2 t).IsWhole := hstage0_2 (((cfgA (F := F)).slots t 2).cast nbuf0_2)
abbrev ms3 (t : Fin (cfgA (F := F)).N) : Memref sig .tc .vmem S1x16x4096 .f32 := spec0_3.stage ((cfgA (F := F)).slots t 3)
abbrev hs3 (t : Fin (cfgA (F := F)).N) : (ms3 t).IsWhole := hstage0_3 (((cfgA (F := F)).slots t 3).cast nbuf0_3)
abbrev ms4 (t : Fin (cfgA (F := F)).N) : Memref sig .tc .vmem S1x16x4096 .f32 := spec0_4.stage ((cfgA (F := F)).slots t 4)
abbrev hs4 (t : Fin (cfgA (F := F)).N) : (ms4 t).IsWhole := hstage0_4 (((cfgA (F := F)).slots t 4).cast nbuf0_4)
abbrev ms5 (t : Fin (cfgA (F := F)).N) : Memref sig .tc .vmem S64x4096 .bf16 := spec0_5.stage ((cfgA (F := F)).slots t 5)
abbrev hs5 (t : Fin (cfgA (F := F)).N) : (ms5 t).IsWhole := hstage0_5 (((cfgA (F := F)).slots t 5).cast nbuf0_5)
abbrev ms6 (t : Fin (cfgA (F := F)).N) : Memref sig .tc .vmem S1024x512 .f32 := spec0_6.stage ((cfgA (F := F)).slots t 6)
abbrev hs6 (t : Fin (cfgA (F := F)).N) : (ms6 t).IsWhole := hstage0_6 (((cfgA (F := F)).slots t 6).cast nbuf0_6)
abbrev ms7 (t : Fin (cfgA (F := F)).N) : Memref sig .tc .vmem S64x512 .f32 := spec0_7.stage ((cfgA (F := F)).slots t 7)
abbrev hs7 (t : Fin (cfgA (F := F)).N) : (ms7 t).IsWhole := hstage0_7 (((cfgA (F := F)).slots t 7).cast nbuf0_7)
/-- The scratch: the column tile of the weights, rounded. -/
abbrev scM : Memref sig .tc .vmem S512x4096 .bf16 := Memref.whole cc0_scratch0

/-- The body at point `t`. -/
abbrev bodyAt (t : Fin (cfgA (F := F)).N) : Prog (TpuEff nD τ sig (Elt F) Λ₀ .tc) PUnit :=
  cc0_mm_in (grid0.coords t) (Memref.whole main_c) (Memref.isWhole_whole _) (ms0 t) (hs0 t) (ms1 t) (hs1 t) (ms2 t) (hs2 t) (ms3 t) (hs3 t)
    (ms4 t) (hs4 t) (ms5 t) (hs5 t) (ms6 t) (hs6 t) (ms7 t) (hs7 t) scM (Memref.isWhole_whole _)

/-- The body table's row at point `t` is that. -/
theorem defs₀_row (t : Fin (cfgA (F := F)).N) :
    defs₀ (F := F) .tc (cfgA (F := F)).body ((cfgA (F := F)).bodyArgs t ((cfgA (F := F)).slots t)) = bodyAt t := by
  unfold defs₀; rw [Defs.onTc_tc]

/-- The launch's invariant with the scratch as a memref owned at some contents. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel9Ideal.In
end
-- ==== Proof.In1.RunA.lean ====
/-
  THE BODY'S RUN at the first point of a column tile read whole.
-/
module

public import proofs.«01_k».proof.Proof.In1.Points

@[expose] public section

set_option maxRecDepth 16384

noncomputable section

namespace Cert.Kernel9Ideal.In

open Cert.Kernel9Ideal Cert.Kernel9Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point of a column tile read whole from the weights: the pieces each buffer ends with, found by the run. -/
def runA (c : Dev nD) (i : grid0.Coords) (a2 : Memref sig .tc .smem S22 .i32) (h2 : a2.IsWhole) (a3 : Memref sig .tc .vmem S1024x4096 .bf16) (h3 : a3.IsWhole)
    (a4 : Memref sig .tc .vmem S1x512x4096 .f32) (h4 : a4.IsWhole) (a5 : Memref sig .tc .vmem S1x288x4096 .f32) (h5 : a5.IsWhole)
    (a6 : Memref sig .tc .vmem S1x16x4096 .f32) (h6 : a6.IsWhole) (a7 : Memref sig .tc .vmem S1x16x4096 .f32) (h7 : a7.IsWhole)
    (a8 : Memref sig .tc .vmem S64x4096 .bf16) (h8 : a8.IsWhole) (a9 : Memref sig .tc .vmem S1024x512 .f32) (h9 : a9.IsWhole)
    (a10 : Memref sig .tc .vmem S64x512 .f32) (h10 : a10.IsWhole) (a11 : Memref sig .tc .vmem S512x4096 .bf16) (h11 : a11.IsWhole)
    (hc1 : cond1 i) (hc2 : cond2 i) (hc3 : ¬cond3 i) (hc4 : k0_cond4 i = 1#1)
    (x0 : Vec F S1024x4096 .bf16) (x1 : Vec F S1x512x4096 .f32) (x2 : Vec F S1x288x4096 .f32) (x3 x4 : Vec F S1x16x4096 .f32) (x5 : Vec F S64x4096 .bf16) :
    Σ' (L6 : List (View.Piece (Elt F) S1024x512 .f32)) (L7 : List (View.Piece (Elt F) S64x512 .f32)), { LS : List (View.Piece (Elt F) S512x4096 .bf16) //
      ∀ (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ d, owns (c : Thread nD τ) a9 fullShare d) ∗ (∃ d, owns (c : Thread nD τ) a10 fullShare d) ∗ (∃ d, owns (c : Thread nD τ) a11 fullShare d)
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ f, a9.view.loc (c : Thread nD τ) ↦[a9.view.set]{fullShare} a9.view.writes (Elt F) f L6) ∗ (∃ f, a10.view.loc (c : Thread nD τ) ↦[a10.view.set]{fullShare} a10.view.writes (Elt F) f L7) ∗ (∃ f, a11.view.loc (c : Thread nD τ) ↦[a11.view.set]{fullShare} a11.view.writes (Elt F) f LS)) -∗ K ⟨⟩))
          ⊢ wp frame (wpE (defs₀ (F := F)) Variants.none c none) E (cc0_mm_in i a2 h2 a3 h3 a4 h4 a5 h5 a6 h6 a7 h7 a8 h8 a9 h9 a10 h10 a11 h11) K } := by
  refine ⟨?_, ?_, ?_, fun E K => ?run⟩
  case run =>
    simp only [cc0_mm_in_eq_skeleton]; unfold cc0_mm_in_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    sl_exec (disch := first | sl_exact hc1 | sl_exact hc2 | sl_exact hc3 | sl_exact hc4)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]; · iexists _; iexact H6
    isplitl [H7]; · iexists _; iexact H7
    iexists _; iexact HS

end Cert.Kernel9Ideal.In
end
-- ==== Proof.In1.RunT.lean ====
/-
  THE BODY'S RUN at the first point of the last column tile, put together from three pieces.
-/
module

public import proofs.«01_k».proof.Proof.In1.RunA

@[expose] public section

set_option maxRecDepth 16384

noncomputable section

namespace Cert.Kernel9Ideal.In

open Cert.Kernel9Ideal Cert.Kernel9Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at the first point of the column tile put together from three pieces of the weights: the pieces each buffer ends with. -/
def runT (c : Dev nD) (i : grid0.Coords) (a2 : Memref sig .tc .smem S22 .i32) (h2 : a2.IsWhole) (a3 : Memref sig .tc .vmem S1024x4096 .bf16) (h3 : a3.IsWhole)
    (a4 : Memref sig .tc .vmem S1x512x4096 .f32) (h4 : a4.IsWhole) (a5 : Memref sig .tc .vmem S1x288x4096 .f32) (h5 : a5.IsWhole)
    (a6 : Memref sig .tc .vmem S1x16x4096 .f32) (h6 : a6.IsWhole) (a7 : Memref sig .tc .vmem S1x16x4096 .f32) (h7 : a7.IsWhole)
    (a8 : Memref sig .tc .vmem S64x4096 .bf16) (h8 : a8.IsWhole) (a9 : Memref sig .tc .vmem S1024x512 .f32) (h9 : a9.IsWhole)
    (a10 : Memref sig .tc .vmem S64x512 .f32) (h10 : a10.IsWhole) (a11 : Memref sig .tc .vmem S512x4096 .bf16) (h11 : a11.IsWhole)
    (hc1 : cond1 i) (hc2 : ¬cond2 i) (hc3 : cond3 i) (hc4 : k0_cond4 i = 1#1)
    (x0 : Vec F S1024x4096 .bf16) (x1 : Vec F S1x512x4096 .f32) (x2 : Vec F S1x288x4096 .f32) (x3 x4 : Vec F S1x16x4096 .f32) (x5 : Vec F S64x4096 .bf16) :
    Σ' (L6 : List (View.Piece (Elt F) S1024x512 .f32)) (L7 : List (View.Piece (Elt F) S64x512 .f32)), { LS : List (View.Piece (Elt F) S512x4096 .bf16) //
      ∀ (E : Set ℕ) (K : PUnit → sProp 𝕄),
        iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ d, owns (c : Thread nD τ) a9 fullShare d) ∗ (∃ d, owns (c : Thread nD τ) a10 fullShare d) ∗ (∃ d, owns (c : Thread nD τ) a11 fullShare d)
            ∗ (iprop(owns (c : Thread nD τ) a3 fullShare x0 ∗ owns (c : Thread nD τ) a4 fullShare x1 ∗ owns (c : Thread nD τ) a5 fullShare x2 ∗ owns (c : Thread nD τ) a6 fullShare x3 ∗ owns (c : Thread nD τ) a7 fullShare x4 ∗ owns (c : Thread nD τ) a8 fullShare x5 ∗ (∃ f, a9.view.loc (c : Thread nD τ) ↦[a9.view.set]{fullShare} a9.view.writes (Elt F) f L6) ∗ (∃ f, a10.view.loc (c : Thread nD τ) ↦[a10.view.set]{fullShare} a10.view.writes (Elt F) f L7) ∗ (∃ f, a11.view.loc (c : Thread nD τ) ↦[a11.view.set]{fullShare} a11.view.writes (Elt F) f LS)) -∗ K ⟨⟩))
          ⊢ wp frame (wpE (defs₀ (F := F)) Variants.none c none) E (cc0_mm_in i a2 h2 a3 h3 a4 h4 a5 h5 a6 h6 a7 h7 a8 h8 a9 h9 a10 h10 a11 h11) K } := by
  refine ⟨?_, ?_, ?_, fun E K => ?run⟩
  case run =>
    simp only [cc0_mm_in_eq_skeleton]; unfold cc0_mm_in_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds, %fs, -, HS⟩, Hk⟩
    obtain rfl := h3.eq_unread hf0; obtain rfl := h4.eq_unread hf1; obtain rfl := h5.eq_unread hf2
    obtain rfl := h6.eq_unread hf3; obtain rfl := h7.eq_unread hf4; obtain rfl := h8.eq_unread hf5
    sl_exec (disch := first | sl_exact hc1 | sl_exact hc2 | sl_exact hc3 | sl_exact hc4)
    sl_step
    iapply Hk
    isplitl [H0]
    · iexists _; isplitr; · ipureintro; exact h3.read_unread _
      iexact H0
    isplitl [H1]
    · iexists _; isplitr; · ipureintro; exact h4.read_unread _
      iexact H1
    isplitl [H2]
    · iexists _; isplitr; · ipureintro; exact h5.read_unread _
      iexact H2
    isplitl [H3]
    · iexists _; isplitr; · ipureintro; exact h6.read_unread _
      iexact H3
    isplitl [H4]
    · iexists _; isplitr; · ipureintro; exact h7.read_unread _
      iexact H4
    isplitl [H5]
    · iexists _; isplitr; · ipureintro; exact h8.read_unread _
      iexact H5
    isplitl [H6]; · iexists _; iexact H6
    isplitl [H7]; · iexists _; iexact H7
    iexists _; iexact HS

end Cert.Kernel9Ideal.In
end
-- ==== Proof.In1.RunH.lean ====
/-
  THE BODY'S RUN at a later point of a column tile.
-/
module

public import proofs.«01_k».proof.Proof.In1.RunT

@[expose] public section

set_option maxRecDepth 16384

noncomputable section

namespace Cert.Kernel9Ideal.In

open Cert.Kernel9Ideal Cert.Kernel9Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body at any later point of a column tile: the scratch is read and the second output not touched. -/
def runH (c : Dev nD) (i : grid0.Coords) (a2 : Memref sig .tc .smem S22 .i32) (h2 : a2.IsWhole) (a3 : Memref sig .tc .vmem S1024x4096 .bf16) (h3 : a3.IsWhole)
    (a4 : Memref sig .tc .vmem S1x512x4096 .f32) (h4 : a4.IsWhole) (a5 : Memref sig .tc .vmem S1x288x4096 .f32) (h5 : a5.IsWhole)
    (a6 : Memref sig .tc .vmem S1x16x4096 .f32) (h6 : a6.IsWhole) (a7 : Memref sig .tc .vmem S1x16x4096 .f32) (h7 : a7.IsWhole)
    (a8 : Memref sig .tc .vmem S64x4096 .bf16) (h8 : a8.IsWhole) (a9 : Memref sig .tc .vmem S1024x512 .f32) (h9 : a9.IsWhole)
    (a10 : Memref sig .tc .vmem S64x512 .f32) (h10 : a10.IsWhole) (a11 : Memref sig .tc .vmem S512x4096 .bf16) (h11 : a11.IsWhole)
    (hc1 : ¬cond1 i) (hc4 : ¬k0_cond4 i = 1#1)
    (x0 : Vec F S1024x4096 .bf16) (xs : Vec F S512x4096 .bf16) :
    { L6 : List (View.Piece (Elt F) S1024x512 .f32) //
      ∀ (E : Set ℕ) (K : PUnit → sProp 𝕄),
        iprop(owns (c : Thread nD τ) a3 fullShare x0 ∗ (∃ d, owns (c : Thread nD τ) a9 fullShare d) ∗ owns (c : Thread nD τ) a11 fullShare xs
            ∗ (iprop(owns (c : Thread nD τ) a3 fullShare x0 ∗ (∃ f, a9.view.loc (c : Thread nD τ) ↦[a9.view.set]{fullShare} a9.view.writes (Elt F) f L6) ∗ owns (c : Thread nD τ) a11 fullShare xs) -∗ K ⟨⟩))
          ⊢ wp frame (wpE (defs₀ (F := F)) Variants.none c none) E (cc0_mm_in i a2 h2 a3 h3 a4 h4 a5 h5 a6 h6 a7 h7 a8 h8 a9 h9 a10 h10 a11 h11) K } := by
  refine ⟨?_, fun E K => ?run⟩
  case run =>
    simp only [cc0_mm_in_eq_skeleton]; unfold cc0_mm_in_skel
    unfold owns
    iintro ⟨⟨%f0, %hf0, H0⟩, ⟨%d6, %f6, -, H6⟩, ⟨%fs, %hfs, HS⟩, Hk⟩
    obtain rfl := h3.eq_unread hf0; obtain rfl := h11.eq_unread hfs
    sl_exec (disch := first | sl_exact hc1 | sl_exact hc4)
    sl_step
    iapply Hk
    isplitl [H0]
    · iexists _; isplitr; · ipureintro; exact h3.read_unread _
      iexact H0
    isplitl [H6]; · iexists _; iexact H6
    iexists _; isplitr; · ipureintro; exact h11.read_unread _
    iexact HS

end Cert.Kernel9Ideal.In
end
-- ==== Proof.In1.Body.lean ====
/-
  WHAT ONE POINT OF THE INPUT PROJECTION LEAVES, over any float instance: a column tile of the weights rounded into scratch
  at its first point, and there the guest rows' product with it; at every point the product of a block of the rows with it.
-/
module

public import proofs.«01_k».proof.Proof.In1.RunH
public import Idealize.ShloMosaic.Lib.Pipeline.ValueKit.Basic

@[expose] public section

set_option maxRecDepth 16384

noncomputable section

namespace Cert.Kernel9Ideal.In

open Cert.Kernel9Ideal Cert.Kernel9Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- The last column tile: zeros, with the three pieces rounded over its rows 0 to 287, 384 to 399 and 400 to 415. -/
def tail (x2 : Vec F S1x288x4096 .f32) (x3 x4 : Vec F S1x16x4096 .f32) : Vec F S512x4096 .bf16 :=
  View.canon (Val := Elt F) (s := S512x4096) (e := .bf16)
    [⟨Rect.unit ![400, 0] ![16, 4096] inb_S512x4096_S16x4096_400_0, k0_pay5 x4⟩,
      ⟨Rect.unit ![384, 0] ![16, 4096] inb_S512x4096_S16x4096_384_0, k0_pay4 x3⟩,
      ⟨Rect.unit ![0, 0] ![288, 4096] inb_S512x4096_S288x4096_0_0, k0_pay3 x2⟩,
      ⟨Rect.unit ![0, 0] ![512, 4096] inb_S512x4096_S512x4096_0_0, k0_pay2⟩]

theorem tail_cover (w5 : (Rect.unit (s := S512x4096) ![400, 0] ![16, 4096] inb_S512x4096_S16x4096_400_0).shape.Idx → Elt F .bf16)
    (w4 : (Rect.unit (s := S512x4096) ![384, 0] ![16, 4096] inb_S512x4096_S16x4096_384_0).shape.Idx → Elt F .bf16)
    (w3 : (Rect.unit (s := S512x4096) ![0, 0] ![288, 4096] inb_S512x4096_S288x4096_0_0).shape.Idx → Elt F .bf16)
    (w2 : (Rect.unit (s := S512x4096) ![0, 0] ![512, 4096] inb_S512x4096_S512x4096_0_0).shape.Idx → Elt F .bf16) (y : S512x4096.Idx) :
    ∃ p ∈ ([⟨Rect.unit ![400, 0] ![16, 4096] inb_S512x4096_S16x4096_400_0, w5⟩, ⟨Rect.unit ![384, 0] ![16, 4096] inb_S512x4096_S16x4096_384_0, w4⟩,
      ⟨Rect.unit ![0, 0] ![288, 4096] inb_S512x4096_S288x4096_0_0, w3⟩, ⟨Rect.unit ![0, 0] ![512, 4096] inb_S512x4096_S512x4096_0_0, w2⟩] : List (View.Piece (Elt F) S512x4096 .bf16)), y ∈ p.1.set :=
  View.cover_of_wholeMem _ ⟨_, List.mem_cons_of_mem _ (List.mem_cons_of_mem _ (List.mem_cons_of_mem _ List.mem_cons_self)), decide_eq_true ⟨fun a => congrFun zero2 a, fun _ => rfl, fun _ => rfl⟩⟩ y

variable (c : Dev nD) (i : grid0.Coords) (a2 : Memref sig .tc .smem S22 .i32) (h2 : a2.IsWhole) (a3 : Memref sig .tc .vmem S1024x4096 .bf16) (h3 : a3.IsWhole)
    (a4 : Memref sig .tc .vmem S1x512x4096 .f32) (h4 : a4.IsWhole) (a5 : Memref sig .tc .vmem S1x288x4096 .f32) (h5 : a5.IsWhole)
    (a6 : Memref sig .tc .vmem S1x16x4096 .f32) (h6 : a6.IsWhole) (a7 : Memref sig .tc .vmem S1x16x4096 .f32) (h7 : a7.IsWhole)
    (a8 : Memref sig .tc .vmem S64x4096 .bf16) (h8 : a8.IsWhole) (a9 : Memref sig .tc .vmem S1024x512 .f32) (h9 : a9.IsWhole)
    (a10 : Memref sig .tc .vmem S64x512 .f32) (h10 : a10.IsWhole) (a11 : Memref sig .tc .vmem S512x4096 .bf16) (h11 : a11.IsWhole)
    (x0 : Vec F S1024x4096 .bf16) (x1 : Vec F S1x512x4096 .f32) (x2 : Vec F S1x288x4096 .f32) (x3 x4 : Vec F S1x16x4096 .f32) (x5 : Vec F S64x4096 .bf16) (xs : Vec F S512x4096 .bf16)

/-! ## The pieces, read back -/

theorem valueA_rows (hc1 : cond1 i) (hc2 : cond2 i) (hc3 : ¬cond3 i) (hc4 : k0_cond4 i = 1#1) (f : a9.view.ty.Contents (Elt F)) :
    a9.view.read (Elt F) (a9.view.writes (Elt F) f (runA c i a2 h2 a3 h3 a4 h4 a5 h5 a6 h6 a7 h7 a8 h8 a9 h9 a10 h10 a11 h11 hc1 hc2 hc3 hc4 x0 x1 x2 x3 x4 x5).1) = k0_pay7 x0 (k0_pay1 x1) := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  simp only [View.readAt_eq_ld, h3.read_unread, h4.read_unread, View.ld_unit_zero (S := S1024x4096) zero2, View.ld_unit_zero (S := S1x512x4096) zero3, View.readCov_unit_zero (S := S512x4096) _ zero2]

theorem valueA_guest (hc1 : cond1 i) (hc2 : cond2 i) (hc3 : ¬cond3 i) (hc4 : k0_cond4 i = 1#1) (f : a10.view.ty.Contents (Elt F)) :
    a10.view.read (Elt F) (a10.view.writes (Elt F) f (runA c i a2 h2 a3 h3 a4 h4 a5 h5 a6 h6 a7 h7 a8 h8 a9 h9 a10 h10 a11 h11 hc1 hc2 hc3 hc4 x0 x1 x2 x3 x4 x5).2.1) = k0_pay6 x5 (k0_pay1 x1) := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  simp only [View.readAt_eq_ld, h8.read_unread, h4.read_unread, View.ld_unit_zero (S := S64x4096) zero2, View.ld_unit_zero (S := S1x512x4096) zero3, View.readCov_unit_zero (S := S512x4096) _ zero2]

theorem valueA_scratch (hc1 : cond1 i) (hc2 : cond2 i) (hc3 : ¬cond3 i) (hc4 : k0_cond4 i = 1#1) (f : a11.view.ty.Contents (Elt F)) :
    a11.view.read (Elt F) (a11.view.writes (Elt F) f (runA c i a2 h2 a3 h3 a4 h4 a5 h5 a6 h6 a7 h7 a8 h8 a9 h9 a10 h10 a11 h11 hc1 hc2 hc3 hc4 x0 x1 x2 x3 x4 x5).2.2.1) = k0_pay1 x1 := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  simp only [View.readAt_eq_ld, h4.read_unread, View.ld_unit_zero (S := S1x512x4096) zero3]

theorem valueT_rows (hc1 : cond1 i) (hc2 : ¬cond2 i) (hc3 : cond3 i) (hc4 : k0_cond4 i = 1#1) (f : a9.view.ty.Contents (Elt F)) :
    a9.view.read (Elt F) (a9.view.writes (Elt F) f (runT c i a2 h2 a3 h3 a4 h4 a5 h5 a6 h6 a7 h7 a8 h8 a9 h9 a10 h10 a11 h11 hc1 hc2 hc3 hc4 x0 x1 x2 x3 x4 x5).1) = k0_pay7 x0 (tail x2 x3 x4) := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  rw [View.readCov_eq_canon_ld _ _ _ (tail_cover _ _ _ _)]
  simp only [View.readAt_eq_ld, h3.read_unread, h5.read_unread, h6.read_unread, h7.read_unread, View.ld_unit_zero (S := S1024x4096) zero2, View.ld_unit_zero (S := S512x4096) zero2, View.ld_unit_zero (S := S1x288x4096) zero3, View.ld_unit_zero (S := S1x16x4096) zero3]
  rfl

theorem valueT_guest (hc1 : cond1 i) (hc2 : ¬cond2 i) (hc3 : cond3 i) (hc4 : k0_cond4 i = 1#1) (f : a10.view.ty.Contents (Elt F)) :
    a10.view.read (Elt F) (a10.view.writes (Elt F) f (runT c i a2 h2 a3 h3 a4 h4 a5 h5 a6 h6 a7 h7 a8 h8 a9 h9 a10 h10 a11 h11 hc1 hc2 hc3 hc4 x0 x1 x2 x3 x4 x5).2.1) = k0_pay6 x5 (tail x2 x3 x4) := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  rw [View.readCov_eq_canon_ld _ _ _ (tail_cover _ _ _ _)]
  simp only [View.readAt_eq_ld, h8.read_unread, h5.read_unread, h6.read_unread, h7.read_unread, View.ld_unit_zero (S := S64x4096) zero2, View.ld_unit_zero (S := S512x4096) zero2, View.ld_unit_zero (S := S1x288x4096) zero3, View.ld_unit_zero (S := S1x16x4096) zero3]
  rfl

theorem valueT_scratch (hc1 : cond1 i) (hc2 : ¬cond2 i) (hc3 : cond3 i) (hc4 : k0_cond4 i = 1#1) (f : a11.view.ty.Contents (Elt F)) :
    a11.view.read (Elt F) (a11.view.writes (Elt F) f (runT c i a2 h2 a3 h3 a4 h4 a5 h5 a6 h6 a7 h7 a8 h8 a9 h9 a10 h10 a11 h11 hc1 hc2 hc3 hc4 x0 x1 x2 x3 x4 x5).2.2.1) = tail x2 x3 x4 := by
  refine (View.read_writes_eq_canon _ _ _ (View.cover_of_wholeMem _ ⟨_, List.mem_cons_of_mem _ (List.mem_cons_of_mem _ (List.mem_cons_of_mem _ List.mem_cons_self)), decide_eq_true ⟨fun a => congrFun zero2 a, fun _ => rfl, fun _ => rfl⟩⟩)).trans ?_
  sl_unfold_words
  simp only [View.readAt_eq_ld, h5.read_unread, h6.read_unread, h7.read_unread, View.ld_unit_zero (S := S1x288x4096) zero3, View.ld_unit_zero (S := S1x16x4096) zero3]
  rfl

theorem valueH_rows (hc1 : ¬cond1 i) (hc4 : ¬k0_cond4 i = 1#1) (f : a9.view.ty.Contents (Elt F)) :
    a9.view.read (Elt F) (a9.view.writes (Elt F) f (runH c i a2 h2 a3 h3 a4 h4 a5 h5 a6 h6 a7 h7 a8 h8 a9 h9 a10 h10 a11 h11 hc1 hc4 x0 xs).1) = k0_pay7 x0 xs := by
  refine (View.read_writes_eq_canon _ _ _ (View.cover_of_wholeMem _ ⟨_, List.mem_cons_self, decide_eq_true ⟨fun a => congrFun zero2 a, fun _ => rfl, fun _ => rfl⟩⟩)).trans ?_
  sl_unfold_words
  rw [View.canon_unit_zero zero2]
  simp only [View.readAt_eq_ld, h3.read_unread, h11.read_unread, View.ld_unit_zero (S := S1024x4096) zero2, View.ld_unit_zero (S := S512x4096) zero2]

end Cert.Kernel9Ideal.In
end
-- ==== Proof.In1.Data.lean ====
/-
  THE INPUT PROJECTION'S PROOF DATA: what each staging buffer and the scratch hold after each point, the body's triple at a
  generic point, and the launch.
-/
module

public import proofs.«01_k».proof.Proof.In1.Body
public import Idealize.ShloMosaic.Lib.Claim
public import Idealize.ShloMosaic.Lib.Pipeline.TableIdle

@[expose] public section

set_option maxRecDepth 16384

noncomputable section

namespace Cert.Kernel9Ideal.In

open Cert.Kernel9Ideal Cert.Kernel9Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point of `t`'s column tile. -/
def open_ (t : Fin (cfgA (F := F)).N) : Fin (cfgA (F := F)).N := ⟨t.val - t.val % 8, Nat.lt_of_le_of_lt (Nat.sub_le _ _) t.isLt⟩

theorem open_self (t : Fin (cfgA (F := F)).N) (h : t.val % 8 = 0) : open_ t = t := Fin.ext (by show t.val - t.val % 8 = t.val; omega)

theorem open_prev (t : Fin (cfgA (F := F)).N) (h : ¬t.val % 8 = 0) :
    open_ (F := F) ⟨t.val - 1, Nat.lt_of_le_of_lt (Nat.sub_le _ _) t.isLt⟩ = open_ t :=
  Fin.ext (by show t.val - 1 - (t.val - 1) % 8 = t.val - t.val % 8; omega)

/-- The column tile put in scratch at its first point `t`. -/
def tile (c : Dev nD) (t : Fin (cfgA (F := F)).N) : Vec F S512x4096 .bf16 :=
  if t.val / 8 < 21 then k0_pay1 (iblk m c 1 t) else tail (iblk m c 2 t) (iblk m c 3 t) (iblk m c 4 t)

/-- The scratch after point `t`. -/
def scr (c : Dev nD) (t : Fin (cfgA (F := F)).N) : Vec F S512x4096 .bf16 := tile m c (open_ t)
/-- The rows' block after point `t`. -/
def rows (c : Dev nD) (t : Fin (cfgA (F := F)).N) : Vec F S1024x512 .f32 := k0_pay7 (iblk m c 0 t) (scr m c t)
/-- The guest rows' block after point `t`: as its column tile's first point left it. -/
def guest (c : Dev nD) (t : Fin (cfgA (F := F)).N) : Vec F S64x512 .f32 := k0_pay6 (iblk m c 5 (open_ t)) (scr m c t)

theorem scr_prev (c : Dev nD) (t : Fin (cfgA (F := F)).N) (h : ¬t.val % 8 = 0) :
    scr m c ⟨t.val - 1, Nat.lt_of_le_of_lt (Nat.sub_le _ _) t.isLt⟩ = scr m c t := by
  unfold scr; rw [open_prev t h]

theorem guest_prev (c : Dev nD) (t : Fin (cfgA (F := F)).N) (h : ¬t.val % 8 = 0) :
    guest m c ⟨t.val - 1, Nat.lt_of_le_of_lt (Nat.sub_le _ _) t.isLt⟩ = guest m c t := by
  unfold guest; rw [open_prev t h, scr_prev m c t h]

/-- The invariant before position `n`: the scratch at anything before the first point, afterwards at what the point before left. -/
def PhiS (c : Dev nD) : (n : ℕ) → n ≤ (cfgA (F := F)).N → sProp 𝕄
  | 0, _ => Pipeline.ΦA spec0 c
  | n + 1, hn => iprop(iprop(owns (c : Thread nD τ) scM fullShare (scr m c ⟨n, hn⟩)) ∗ (∃ r, prngReg c r))

theorem PhiS_zero (c : Dev nD) (n : ℕ) (h : n ≤ (cfgA (F := F)).N) (hz : n = 0) : PhiS m c n h = Pipeline.ΦA spec0 c := by
  subst hz; rfl

theorem PhiS_succ (c : Dev nD) (n : ℕ) (hn : n < (cfgA (F := F)).N) :
    PhiS m c (n + 1) hn = iprop(iprop(owns (c : Thread nD τ) scM fullShare (scr m c ⟨n, hn⟩)) ∗ (∃ r, prngReg c r)) := rfl

theorem PhiS_pos (c : Dev nD) (n : ℕ) (h : n ≤ (cfgA (F := F)).N) (hz : n ≠ 0) :
    PhiS m c n h = iprop(iprop(owns (c : Thread nD τ) scM fullShare (scr m c ⟨n - 1, by omega⟩)) ∗ (∃ r, prngReg c r)) := by
  cases n with
  | zero => exact absurd rfl hz
  | succ n => rfl

/-- The proof data of the pipeline on core `c`. Four input windows are on one array: each holds its share of it. -/
def dat (c : Dev nD) : Dat τ (Elt F) Unit ℕ (UR sig nD τ) ℕ (cfgA (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rows m c t
    | ⟨7, _⟩ => guest m c t
  Φ t := PhiS m c t.val (Nat.le_of_lt_succ t.isLt)
  q w := Pipeline.shareOf spec0 w
  owed _ := 0

theorem A_eq (c : Dev nD) (w : Fin (cfgA (F := F)).W) : (dat m c).A w = V m c (Pipeline.arrRef spec0 w) := by
  dsimp only [dat]

theorem PhiS_castSucc (c : Dev nD) (t : Fin (cfgA (F := F)).N) : (dat m c).Φ t.castSucc = PhiS m c t.val (Nat.le_of_lt t.isLt) := by
  dsimp only [dat]; exact Pipeline.Dat.Φ_castSucc (PhiS m c) t

theorem after0 (c : Dev nD) (t : Fin (cfgA (F := F)).N) : (dat m c).after 0 t = iblk m c 0 t := rfl
theorem after1 (c : Dev nD) (t : Fin (cfgA (F := F)).N) : (dat m c).after 1 t = iblk m c 1 t := rfl
theorem after2 (c : Dev nD) (t : Fin (cfgA (F := F)).N) : (dat m c).after 2 t = iblk m c 2 t := rfl
theorem after3 (c : Dev nD) (t : Fin (cfgA (F := F)).N) : (dat m c).after 3 t = iblk m c 3 t := rfl
theorem after4 (c : Dev nD) (t : Fin (cfgA (F := F)).N) : (dat m c).after 4 t = iblk m c 4 t := rfl
theorem after5 (c : Dev nD) (t : Fin (cfgA (F := F)).N) : (dat m c).after 5 t = iblk m c 5 t := rfl
theorem after6 (c : Dev nD) (t : Fin (cfgA (F := F)).N) : (dat m c).after 6 t = rows m c t := rfl
theorem after7 (c : Dev nD) (t : Fin (cfgA (F := F)).N) : (dat m c).after 7 t = guest m c t := rfl

/-! An input window's staging buffer holds its block at every point, fetched there or not. -/

theorem before_in (c : Dev nD) (t : Fin (cfgA (F := F)).N) :
    (∀ d, (dat m c).before 0 t d = iblk m c 0 t)
      ∧ (∀ d, (dat m c).before 1 t d = iblk m c 1 t)
      ∧ (∀ d, (dat m c).before 2 t d = iblk m c 2 t)
      ∧ (∀ d, (dat m c).before 3 t d = iblk m c 3 t)
      ∧ (∀ d, (dat m c).before 4 t d = iblk m c 4 t)
      ∧ (∀ d, (dat m c).before 5 t d = iblk m c 5 t) := by
  refine ⟨fun d => ?_, fun d => ?_, fun d => ?_, fun d => ?_, fun d => ?_, fun d => ?_⟩ <;>
    exact ((dat m c).before_in_eq_fetched _ rfl (fun _ => rfl) (fun _ _ _ => rfl) (fun t => rfl) t d).trans rfl

/-! ## The second output, which only a column tile's first point stores -/

theorem idle7 (t : Fin (cfgA (F := F)).N) : (cfgA (F := F)).idle 7 ((cfgA (F := F)).grid.coords t) = !(k0_cond4 (grid0.coords t) == 1#1) := rfl

/-- It is written back at a column tile's last point, -/
theorem flush7 : ∀ t : Fin grid0.N, ((cfgA (F := F)).win 7).flush t = decide (t.val % 8 = 7) := fun t =>
  Bool.eq_iff_iff.mpr (((Pipeline.Window.flush_reads ((cfgA (F := F)).win 7) rfl 0 (show 1 < grid0.bound 0 by decide) (show grid0.fixedAfter reads0_7 0 = true by decide) (Pipeline.Window.sep_of_coord cc0_transform_7 0 1 (fun _ => rfl) (by decide)) (P := 8) (m := 7) (show grid0.stride 0 = 8 by decide) rfl t)).trans (decide_eq_true_iff).symm)

/-- so it holds nothing yet exactly at a column tile's first point. -/
theorem fresh7 (n : ℕ) (h : n ≤ (cfgA (F := F)).N) : (cfgA (F := F)).fresh 7 n = decide (n % 8 = 0) := by
  refine (cfgA (F := F)).fresh_tab 7 (fun n => decide (n % 8 = 0)) rfl (fun t => ?_) n h
  rw [flush7, idle7, show (k0_cond4 (grid0.coords t) == 1#1) = decide (t.val % 8 = 0) from Bool.eq_iff_iff.mpr (beq_iff_eq.trans ((hcond4 t).trans decide_eq_true_iff.symm))]
  rw [Bool.eq_iff_iff]
  simp only [decide_eq_true_eq, Bool.or_eq_true, Bool.and_eq_true, Bool.not_eq_true', decide_eq_false_iff_not]
  omega

theorem before7 (c : Dev nD) (t : Fin (cfgA (F := F)).N) (h : ¬t.val % 8 = 0) (d) : (dat m c).before 7 t d = guest m c t := by
  refine ((dat m c).before_out_traj 7 rfl (fun _ _ => rfl) (fun t hz hi hf => ?_) t.val t rfl d).trans ?_
  · rw [fresh7 _ (Nat.le_of_lt t.isLt)] at hf
    rw [after7, after7, guest_prev m c t (by simpa using hf)]
  · rw [fresh7 _ (Nat.le_of_lt t.isLt), if_neg (by simpa using h), after7]
    exact guest_prev m c t h

/-- What the body owes of the second output, from the buffer at `guest`. -/
theorem leaves7 (c : Dev nD) (t : Fin (cfgA (F := F)).N) :
    owns (c : Thread nD τ) (ms7 t) fullShare (guest m c t) ⊢ ((dat m c).leavesExact 7 t : sProp 𝕄) := by
  by_cases h : t.val % 8 = 0
  · have hi : (cfgA (F := F)).idle 7 ((cfgA (F := F)).grid.coords t) = false := by rw [idle7, (hcond4 t).mpr h]; rfl
    unfold Dat.leavesExact; rw [hi]; exact .rfl
  · unfold Dat.leavesExact
    cases (cfgA (F := F)).idle 7 ((cfgA (F := F)).grid.coords t)
    · exact .rfl
    · cases ((cfgA (F := F)).win 7).flush t
      · have e : owns (c : Thread nD τ) (ms7 t) fullShare (guest m c t) ⊢ (owns (c : Thread nD τ) (((cfgA (F := F)).win 7).stage ((cfgA (F := F)).slots t 7)) fullShare ((dat m c).before 7 t (guest m c t)) : sProp 𝕄) :=
          Entails.of_eq (congrArg (fun X => owns (c : Thread nD τ) (ms7 t) fullShare X) (before7 m c t h (guest m c t)).symm)
        iintro H; iexists (guest m c t); iapply e; iexact H
      · exact .rfl

end Cert.Kernel9Ideal.In
end
-- ==== Proof.In1.Blocks.lean ====
/-
  THE INPUT PROJECTION'S BLOCKS, BY COORDINATES: which elements of the argument arrays each input window's block holds, and
  where each output block lies in its array.
-/
module

public import proofs.«01_k».proof.Proof.In1.Data
public import Idealize.ShloMosaic.Lib.Pointwise
public import Idealize.ShloMosaic.Lib.ValueLayout

@[expose] public section

set_option maxRecDepth 16384

noncomputable section

namespace Cert.Kernel9Ideal.In

open Cert.Kernel9Ideal Cert.Kernel9Ideal.Gen
open Idealize.ShloMosaic Idealize.ShloMosaic.TcCoe Idealize.SL.Sem
open Idealize.ShloMosaic.Pipeline (Dat)

variable (m : (ℓ : Loc nD τ sig) → Buf (Elt Ideal) ℓ)

theorem point_lt (t : Fin (cfgA (F := Ideal)).N) : t.val < 176 := lt_of_lt_of_eq t.isLt N_0

theorem index0 : ∀ t : Fin grid0.N, cc0_transform_0 (grid0.coords t) = ![t.val % 8, 0] := by decide +kernel
theorem index2 : ∀ t : Fin grid0.N, cc0_transform_2 (grid0.coords t) = ![1, 7184, 0] := by decide +kernel
theorem index3 : ∀ t : Fin grid0.N, cc0_transform_3 (grid0.coords t) = ![1, 4096, 0] := by decide +kernel
theorem index4 : ∀ t : Fin grid0.N, cc0_transform_4 (grid0.coords t) = ![1, 10032, 0] := by decide +kernel
theorem index5 : ∀ t : Fin grid0.N, cc0_transform_5 (grid0.coords t) = ![0, 0] := by decide +kernel
theorem index6 : ∀ t : Fin grid0.N, cc0_transform_6 (grid0.coords t) = ![t.val % 8, t.val / 8] := by decide +kernel
theorem index7 : ∀ t : Fin grid0.N, cc0_transform_7 (grid0.coords t) = ![0, t.val / 8] := by decide +kernel
/-- The first row of the weights' tile, by the point: the table's entry of the column tile. -/
theorem row_le : ∀ t : Fin grid0.N, rowOf ((grid0.coords t) 0) + 512 ≤ 13120 := by decide +kernel

/-- The transposed weights, by coordinates. -/
theorem weights_apply (c : Dev nD) (l : Fin 2) (n : Fin 13120) (k : Fin 4096) :
    (V m c main_v0 : S2x13120x4096.Idx → EReal) (ix3 l n k) = (m ((c : Thread nD τ).loc main_arg2) : S2x4096x13120.Idx → EReal) (ix3 l k n) := by
  rw [V_main_v0]
  pointwise

/-- A row of the row block. -/
theorem iblk0_apply (c : Dev nD) (t : Fin (cfgA (F := Ideal)).N) (r : Fin 1024) (k : Fin 4096) :
    (iblk m c 0 t : Vec Ideal S1024x4096 .bf16) (ix2 r k)
      = m ((c : Thread nD τ).loc main_arg0) (ix2 ⟨1024 * (t.val % 8) + r.val, by omega⟩ k) := by
  have hi := index0 t
  unfold iblk
  rw [View.read_apply, ← V_main_arg0 m c]
  refine congrArg (V m c main_arg0) (funext fun a => Fin.ext ?_)
  match a with
  | ⟨0, _⟩ => show cc0_transform_0 (grid0.coords t) 0 * 1024 + 1 * r.val = _; rw [hi]; show (t.val % 8) * 1024 + 1 * r.val = 1024 * (t.val % 8) + r.val; omega
  | ⟨1, _⟩ => show cc0_transform_0 (grid0.coords t) 1 * 4096 + 1 * k.val = _; rw [hi]; show 0 * 4096 + 1 * k.val = k.val; omega

/-- The guest rows' block is its whole array. -/
theorem iblk5_apply (c : Dev nD) (t : Fin (cfgA (F := Ideal)).N) (r : Fin 64) (k : Fin 4096) :
    (iblk m c 5 t : Vec Ideal S64x4096 .bf16) (ix2 r k) = m ((c : Thread nD τ).loc main_arg1) (ix2 r k) := by
  have hi := index5 t
  unfold iblk
  rw [View.read_apply, ← V_main_arg1 m c]
  refine congrArg (V m c main_arg1) (funext fun a => Fin.ext ?_)
  match a with
  | ⟨0, _⟩ => show cc0_transform_5 (grid0.coords t) 0 * 64 + 1 * r.val = _; rw [hi]; show 0 * 64 + 1 * r.val = r.val; omega
  | ⟨1, _⟩ => show cc0_transform_5 (grid0.coords t) 1 * 4096 + 1 * k.val = _; rw [hi]; show 0 * 4096 + 1 * k.val = k.val; omega

/-- The tile the table leads to: layer 1's columns from the table's row on. -/
theorem iblk1_apply (c : Dev nD) (t : Fin (cfgA (F := Ideal)).N) (z : Fin 1) (r : Fin 512) (k : Fin 4096) :
    (iblk m c 1 t : Vec Ideal S1x512x4096 .f32) (ix3 z r k)
      = (m ((c : Thread nD τ).loc main_arg2) : S2x4096x13120.Idx → EReal) (ix3 1 k ⟨rowOf ((grid0.coords t) 0) + r.val, by have := row_le t; omega⟩) := by
  have hi := transform_1 (F := Ideal) (grid0.coords t)
  rw [← weights_apply m c]
  unfold iblk
  rw [View.read_apply]
  refine congrArg (V m c main_v0) (funext fun a => Fin.ext ?_)
  match a with
  | ⟨0, _⟩ => show cc0_transform_1 k0_off1_inb numel1_S1 (tabs (F := Ideal)) (grid0.coords t) 0 + 1 * z.val = _; rw [hi]; show 1 + 1 * z.val = 1; omega
  | ⟨1, _⟩ => show cc0_transform_1 k0_off1_inb numel1_S1 (tabs (F := Ideal)) (grid0.coords t) 1 + 1 * r.val = _; rw [hi]; show rowOf _ + 1 * r.val = rowOf _ + r.val; omega
  | ⟨2, _⟩ => show cc0_transform_1 k0_off1_inb numel1_S1 (tabs (F := Ideal)) (grid0.coords t) 2 + 1 * k.val = _; rw [hi]; show 0 + 1 * k.val = k.val; omega

/-- The last tile's first piece: columns 7184 on. -/
theorem iblk2_apply (c : Dev nD) (t : Fin (cfgA (F := Ideal)).N) (z : Fin 1) (r : Fin 288) (k : Fin 4096) :
    (iblk m c 2 t : Vec Ideal S1x288x4096 .f32) (ix3 z r k)
      = (m ((c : Thread nD τ).loc main_arg2) : S2x4096x13120.Idx → EReal) (ix3 1 k ⟨7184 + r.val, by omega⟩) := by
  have hi := index2 t
  rw [← weights_apply m c]
  unfold iblk
  rw [View.read_apply]
  refine congrArg (V m c main_v0) (funext fun a => Fin.ext ?_)
  match a with
  | ⟨0, _⟩ => show cc0_transform_2 (grid0.coords t) 0 + 1 * z.val = _; rw [hi]; show 1 + 1 * z.val = 1; omega
  | ⟨1, _⟩ => show cc0_transform_2 (grid0.coords t) 1 + 1 * r.val = _; rw [hi]; show 7184 + 1 * r.val = 7184 + r.val; omega
  | ⟨2, _⟩ => show cc0_transform_2 (grid0.coords t) 2 + 1 * k.val = _; rw [hi]; show 0 + 1 * k.val = k.val; omega

/-- Its second piece: columns 4096 on. -/
theorem iblk3_apply (c : Dev nD) (t : Fin (cfgA (F := Ideal)).N) (z : Fin 1) (r : Fin 16) (k : Fin 4096) :
    (iblk m c 3 t : Vec Ideal S1x16x4096 .f32) (ix3 z r k)
      = (m ((c : Thread nD τ).loc main_arg2) : S2x4096x13120.Idx → EReal) (ix3 1 k ⟨4096 + r.val, by omega⟩) := by
  have hi := index3 t
  rw [← weights_apply m c]
  unfold iblk
  rw [View.read_apply]
  refine congrArg (V m c main_v0) (funext fun a => Fin.ext ?_)
  match a with
  | ⟨0, _⟩ => show cc0_transform_3 (grid0.coords t) 0 + 1 * z.val = _; rw [hi]; show 1 + 1 * z.val = 1; omega
  | ⟨1, _⟩ => show cc0_transform_3 (grid0.coords t) 1 + 1 * r.val = _; rw [hi]; show 4096 + 1 * r.val = 4096 + r.val; omega
  | ⟨2, _⟩ => show cc0_transform_3 (grid0.coords t) 2 + 1 * k.val = _; rw [hi]; show 0 + 1 * k.val = k.val; omega

/-- Its third piece: columns 10032 on. -/
theorem iblk4_apply (c : Dev nD) (t : Fin (cfgA (F := Ideal)).N) (z : Fin 1) (r : Fin 16) (k : Fin 4096) :
    (iblk m c 4 t : Vec Ideal S1x16x4096 .f32) (ix3 z r k)
      = (m ((c : Thread nD τ).loc main_arg2) : S2x4096x13120.Idx → EReal) (ix3 1 k ⟨10032 + r.val, by omega⟩) := by
  have hi := index4 t
  rw [← weights_apply m c]
  unfold iblk
  rw [View.read_apply]
  refine congrArg (V m c main_v0) (funext fun a => Fin.ext ?_)
  match a with
  | ⟨0, _⟩ => show cc0_transform_4 (grid0.coords t) 0 + 1 * z.val = _; rw [hi]; show 1 + 1 * z.val = 1; omega
  | ⟨1, _⟩ => show cc0_transform_4 (grid0.coords t) 1 + 1 * r.val = _; rw [hi]; show 10032 + 1 * r.val = 10032 + r.val; omega
  | ⟨2, _⟩ => show cc0_transform_4 (grid0.coords t) 2 + 1 * k.val = _; rw [hi]; show 0 + 1 * k.val = k.val; omega

/-- The rows' output block: row block `t % 8`, column tile `t / 8`. -/
theorem emb6 (t : Fin (cfgA (F := Ideal)).N) (r : Fin 1024) (n : Fin 512) :
    (((cfgA (F := Ideal)).win 6).blk t).view.emb (ix2 r n : S1024x512.Idx)
      = (ix2 ⟨1024 * (t.val % 8) + r.val, by omega⟩ ⟨512 * (t.val / 8) + n.val, by have := point_lt t; omega⟩ : S8192x11264.Idx) := by
  have hi := index6 t
  funext a
  apply Fin.ext
  match a with
  | ⟨0, _⟩ => show cc0_transform_6 (grid0.coords t) 0 * 1024 + 1 * r.val = _; rw [hi]; show (t.val % 8) * 1024 + 1 * r.val = 1024 * (t.val % 8) + r.val; omega
  | ⟨1, _⟩ => show cc0_transform_6 (grid0.coords t) 1 * 512 + 1 * n.val = _; rw [hi]; show (t.val / 8) * 512 + 1 * n.val = 512 * (t.val / 8) + n.val; omega

/-- The guest rows' output block: column tile `t / 8`. -/
theorem emb7 (t : Fin (cfgA (F := Ideal)).N) (r : Fin 64) (n : Fin 512) :
    (((cfgA (F := Ideal)).win 7).blk t).view.emb (ix2 r n : S64x512.Idx)
      = (ix2 r ⟨512 * (t.val / 8) + n.val, by have := point_lt t; omega⟩ : S64x11264.Idx) := by
  have hi := index7 t
  funext a
  apply Fin.ext
  match a with
  | ⟨0, _⟩ => show cc0_transform_7 (grid0.coords t) 0 * 64 + 1 * r.val = _; rw [hi]; show 0 * 64 + 1 * r.val = r.val; omega
  | ⟨1, _⟩ => show cc0_transform_7 (grid0.coords t) 1 * 512 + 1 * n.val = _; rw [hi]; show (t.val / 8) * 512 + 1 * n.val = 512 * (t.val / 8) + n.val; omega

/-- Every point writes its rows back. -/
theorem flush6 : ∀ t : Fin grid0.N, ((cfgA (F := Ideal)).win 6).flush t = true := by decide +kernel

end Cert.Kernel9Ideal.In

end
-- ==== Proof.In1.Columns.lean ====
/-
  THE ORDER OF THE INPUT PROJECTION'S COLUMNS: which column of the weights each column of the result is formed with, and the
  column tile the kernel has in scratch at a point.
-/
module

public import proofs.«01_k».proof.Proof.In1.Blocks
public import proofs.«01_k».proof.Proof.In.Columns

@[expose] public section

set_option maxRecDepth 16384

noncomputable section

namespace Cert.Kernel9Ideal.In

open Cert.Kernel9Ideal Cert.Kernel9Ideal.Gen
open Idealize.ShloMosaic Idealize.ShloMosaic.TcCoe Idealize.SL.Sem
open Idealize.ShloMosaic.Pipeline (Dat)

open Cert.Kernel5Ideal.In (source source_tile source_5 source_6 source_7 source_8 source_9 column column_of column_none)

/-- Both layers' weights, with layer 1's in layer 0's place: the first layer's call is specified for these. -/
def layerOne (w : S2x4096x13120.Idx → EReal) : S2x4096x13120.Idx → EReal := fun i => w (ix3 1 (i 1) (i 2))

/-- The table holds where each tile's columns start. -/
theorem row_source : ∀ j : Fin 21, rowOf j.val = source (512 * j.val) := by decide +kernel

variable (m : (ℓ : Loc nD τ sig) → Buf (Elt Ideal) ℓ)

theorem source_row (t : Fin (cfgA (F := Ideal)).N) (h : t.val / 8 < 21) (r : ℕ) (hr : r < 512) :
    source (512 * (t.val / 8) + r) = rowOf ((grid0.coords t) 0) + r := by
  have e : ((grid0.coords t) 0).val = t.val / 8 := (coords0 t).trans (Nat.mod_eq_of_lt (by omega))
  rw [source_tile _ _ h hr, e]
  exact congrArg (· + r) (row_source ⟨t.val / 8, h⟩).symm

theorem pay1_apply (w : Vec Ideal S1x512x4096 .f32) (r : Fin 512) (k : Fin 4096) : (k0_pay1 w) (ix2 r k) = (w (ix3 0 r k) : EReal) := by
  pointwise [k0_pay1]
theorem pay2_apply (r : Fin 512) (k : Fin 4096) : (k0_pay2 (F := Ideal)) (ix2 r k) = (0 : EReal) := by
  pointwise [k0_pay2]
theorem pay3_apply (w : Vec Ideal S1x288x4096 .f32) (r : Fin 288) (k : Fin 4096) : (k0_pay3 w) (ix2 r k) = (w (ix3 0 r k) : EReal) := by
  pointwise [k0_pay3]
theorem pay4_apply (w : Vec Ideal S1x16x4096 .f32) (r : Fin 16) (k : Fin 4096) : (k0_pay4 w) (ix2 r k) = (w (ix3 0 r k) : EReal) := by
  pointwise [k0_pay4]
theorem pay5_apply (w : Vec Ideal S1x16x4096 .f32) (r : Fin 16) (k : Fin 4096) : (k0_pay5 w) (ix2 r k) = (w (ix3 0 r k) : EReal) := by
  pointwise [k0_pay5]

/-- An index lies in a block of whole rows exactly when its row is one of them. -/
theorem mem_rows {off n : ℕ} (inb) (r : Fin 512) (k : Fin 4096) :
    (ix2 r k : S512x4096.Idx) ∈ (Rect.unit (s := S512x4096) ![off, 0] ![n, 4096] inb).set ↔ off ≤ r.val ∧ r.val < off + n := by
  rw [Rect.mem_set_unit]
  constructor
  · intro h; exact h 0
  · intro h a
    match a with
    | ⟨0, _⟩ => exact h
    | ⟨1, _⟩ => exact ⟨Nat.zero_le _, by show k.val < 0 + 4096; omega⟩

/-- Row `r` of a block of whole rows is row `off + r` of the array. -/
theorem emb_rows {off n : ℕ} (inb) (r' : Fin n) (r : Fin 512) (k : Fin 4096) (h : r.val = off + r'.val) :
    (Rect.unit (s := S512x4096) ![off, 0] ![n, 4096] inb).emb (ix2 r' k : (⟨2, ![n, 4096]⟩ : Shape).Idx) = (ix2 r k : S512x4096.Idx) := by
  funext a
  apply Fin.ext
  match a with
  | ⟨0, _⟩ => show off + 1 * r'.val = r.val; omega
  | ⟨1, _⟩ => show 0 + 1 * k.val = k.val; omega

/-- The last tile, by coordinates. -/
theorem tail_apply (x2 : Vec Ideal S1x288x4096 .f32) (x3 x4 : Vec Ideal S1x16x4096 .f32) (r : Fin 512) (k : Fin 4096) :
    (tail x2 x3 x4) (ix2 r k) = (if h : r.val < 288 then x2 (ix3 0 ⟨r.val, h⟩ k)
      else if h : 384 ≤ r.val ∧ r.val < 400 then x3 (ix3 0 ⟨r.val - 384, by omega⟩ k)
      else if h : 400 ≤ r.val ∧ r.val < 416 then x4 (ix3 0 ⟨r.val - 400, by omega⟩ k)
      else 0 : EReal) := by
  by_cases h5 : 400 ≤ r.val ∧ r.val < 416
  · rw [dif_neg (by omega), dif_neg (by omega), dif_pos h5]
    exact ((congrArg (tail x2 x3 x4) (emb_rows inb_S512x4096_S16x4096_400_0 ⟨r.val - 400, by omega⟩ r k (by show r.val = 400 + (r.val - 400); omega)).symm).trans
      (View.canon_cons_emb _ _ _ _)).trans (pay5_apply x4 _ k)
  have e5 : tail x2 x3 x4 (ix2 r k) = _ := View.canon_cons_of_not_mem _ _ (fun h => h5 ((mem_rows inb_S512x4096_S16x4096_400_0 r k).mp h))
  by_cases h4 : 384 ≤ r.val ∧ r.val < 400
  · rw [dif_neg (by omega), dif_pos h4]
    exact (e5.trans ((congrArg (View.canon _) (emb_rows inb_S512x4096_S16x4096_384_0 ⟨r.val - 384, by omega⟩ r k (by show r.val = 384 + (r.val - 384); omega)).symm).trans
      (View.canon_cons_emb _ _ _ _))).trans (pay4_apply x3 _ k)
  have e4 := e5.trans (View.canon_cons_of_not_mem _ _ (fun h => h4 ((mem_rows inb_S512x4096_S16x4096_384_0 r k).mp h)))
  by_cases h3 : r.val < 288
  · rw [dif_pos h3]
    exact (e4.trans ((congrArg (View.canon _) (emb_rows inb_S512x4096_S288x4096_0_0 ⟨r.val, h3⟩ r k (by show r.val = 0 + r.val; omega)).symm).trans
      (View.canon_cons_emb _ _ _ _))).trans (pay3_apply x2 _ k)
  have e3 := e4.trans (View.canon_cons_of_not_mem _ _ (fun h => h3 (by have := ((mem_rows inb_S512x4096_S288x4096_0_0 r k).mp h).2; omega)))
  rw [dif_neg h3, dif_neg h4, dif_neg h5]
  exact (e3.trans ((congrArg (View.canon _) (emb_rows inb_S512x4096_S512x4096_0_0 r r k (by omega)).symm).trans
    (View.canon_cons_emb _ _ _ _))).trans (pay2_apply r k)

/-- THE SCRATCH: at a point of column tile `j` it holds the columns of the weights that the tile's columns are formed with. -/
theorem scr_apply (c : Dev nD) (t : Fin (cfgA (F := Ideal)).N) (r : Fin 512) (k : Fin 4096) :
    (scr m c t) (ix2 r k) = column (layerOne (m ((c : Thread nD τ).loc main_arg2))) (512 * (t.val / 8) + r.val) k := by
  have ht := point_lt t
  have ho : (open_ t).val / 8 = t.val / 8 := by show (t.val - t.val % 8) / 8 = _; omega
  unfold scr tile
  rw [← ho]
  generalize open_ t = s at ho
  by_cases h : s.val / 8 < 21
  · rw [if_pos h, pay1_apply, iblk1_apply]
    exact (column_of (layerOne _) _ _ _ (source_row s h r.val r.isLt)).symm
  · rw [if_neg h, tail_apply]
    have e : s.val / 8 = 21 := by omega
    rw [e]
    have hr := r.isLt
    by_cases h2 : r.val < 288
    · rw [dif_pos h2, iblk2_apply]
      exact (column_of (layerOne _) _ _ _ ((source_5 _ (by omega) (by omega)).trans (by show _ = 7184 + r.val; omega))).symm
    by_cases h3 : 384 ≤ r.val ∧ r.val < 400
    · rw [dif_neg h2, dif_pos h3, iblk3_apply]
      exact (column_of (layerOne _) _ _ _ ((source_7 _ (by omega) (by omega)).trans (by show _ = 4096 + (r.val - 384); omega))).symm
    by_cases h4 : 400 ≤ r.val ∧ r.val < 416
    · rw [dif_neg h2, dif_neg h3, dif_pos h4, iblk4_apply]
      exact (column_of (layerOne _) _ _ _ ((source_8 _ (by omega) (by omega)).trans (by show _ = 10032 + (r.val - 400); omega))).symm
    rw [dif_neg h2, dif_neg h3, dif_neg h4]
    refine (column_none _ _ _ ?_).symm
    by_cases h5 : r.val < 384
    · exact source_6 _ (by omega) (by omega)
    · exact source_9 _ (by omega)

end Cert.Kernel9Ideal.In

end
-- ==== Proof.In1.Frame.lean ====
/-
  THE INPUT PROJECTION'S RUN: the body's triple at a generic point, the launch, and the frame.
-/
module

public import proofs.«01_k».proof.Proof.In1.Data

@[expose] public section

set_option maxRecDepth 16384

noncomputable section

namespace Cert.Kernel9Ideal.In

open Cert.Kernel9Ideal Cert.Kernel9Ideal.Gen
open Idealize.ShloMosaic Idealize.ShloMosaic.TcCoe Idealize.ShloMosaic.Tactic
open Idealize.SL RA BI BIBase Laws ProofMode Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point `t`, -/
def bodyPre (c : Dev nD) (t : Fin (cfgA (F := F)).N) : sProp 𝕄 :=
  iprop((dat m c).Φ t.castSucc ∗ (dat m c).owesAt () t.castSucc
    ∗ (∃ d, owns (c : Thread nD τ) (ms0 t) fullShare ((dat m c).before 0 t d)) ∗ (∃ d, owns (c : Thread nD τ) (ms1 t) fullShare ((dat m c).before 1 t d)) ∗ (∃ d, owns (c : Thread nD τ) (ms2 t) fullShare ((dat m c).before 2 t d)) ∗ (∃ d, owns (c : Thread nD τ) (ms3 t) fullShare ((dat m c).before 3 t d)) ∗ (∃ d, owns (c : Thread nD τ) (ms4 t) fullShare ((dat m c).before 4 t d)) ∗ (∃ d, owns (c : Thread nD τ) (ms5 t) fullShare ((dat m c).before 5 t d)) ∗ (∃ d, owns (c : Thread nD τ) (ms6 t) fullShare ((dat m c).before 6 t d)) ∗ (∃ d, owns (c : Thread nD τ) (ms7 t) fullShare ((dat m c).before 7 t d)))

/-- and what it returns. -/
def bodyPost (c : Dev nD) (t : Fin (cfgA (F := F)).N) : sProp 𝕄 :=
  iprop((dat m c).Φ t.succ ∗ (dat m c).owesAt () t.succ
    ∗ owns (c : Thread nD τ) (ms0 t) fullShare ((dat m c).after 0 t) ∗ owns (c : Thread nD τ) (ms1 t) fullShare ((dat m c).after 1 t) ∗ owns (c : Thread nD τ) (ms2 t) fullShare ((dat m c).after 2 t) ∗ owns (c : Thread nD τ) (ms3 t) fullShare ((dat m c).after 3 t) ∗ owns (c : Thread nD τ) (ms4 t) fullShare ((dat m c).after 4 t) ∗ owns (c : Thread nD τ) (ms5 t) fullShare ((dat m c).after 5 t) ∗ owns (c : Thread nD τ) (ms6 t) fullShare ((dat m c).after 6 t) ∗ (dat m c).leavesExact 7 t)

/-- The invariant gives the scratch at some contents. -/
theorem Phi_out (c : Dev nD) (t : Fin ((cfgA (F := F)).N + 1)) : (dat m c).Φ t ⊢ Pipeline.ΦA spec0 c := by
  rw [show (dat m c).Φ t = PhiS m c t.val (Nat.le_of_lt_succ t.isLt) from rfl]
  by_cases hz : t.val = 0
  · rw [PhiS_zero m c _ _ hz]
  · rw [PhiS_pos m c _ _ hz, PhiA_eq]
    iintro ⟨HS, Hg⟩
    isplitl [HS]
    · iexists _; iexact HS
    iexact Hg

set_option maxHeartbeats 3200000 in
/-- The body at any point. -/
theorem sound_body (c : Dev nD) (t : Fin (cfgA (F := F)).N) :
    bodyPre m c t ⊢ wp frame (wpE (defs₀ (F := F)) Variants.none c none) Set.univ (bodyAt t) (fun _ => bodyPost m c t) := by
  unfold bodyPre bodyPost bodyAt
  obtain ⟨b0, b1, b2, b3, b4, b5⟩ := before_in m c t
  simp only [b0, b1, b2, b3, b4, b5]
  rw [show (dat m c).owesAt () t.succ = (dat m c).owesAt () t.castSucc from rfl,
    after0, after1, after2, after3, after4, after5, after6]
  rw [show (dat m c).Φ t.succ = PhiS m c (t.val + 1) t.isLt from rfl, PhiS_succ]
  have hN : t.val < 176 := lt_of_lt_of_eq t.isLt (show (cfgA (F := F)).N = 176 from N_0)
  by_cases h0 : t.val % 8 = 0
  · have hc1 : cond1 (grid0.coords t) := (hcond1 t).mpr h0
    have hc4 : k0_cond4 (grid0.coords t) = 1#1 := (hcond4 t).mpr h0
    by_cases h1 : t.val / 8 < 21
    · have hc2 : cond2 (grid0.coords t) := (hcond2 t).mpr h1
      have hc3 : ¬cond3 (grid0.coords t) := fun h => absurd ((hcond3 t).mp h) (by omega)
      have escr : scr m c t = k0_pay1 (iblk m c 1 t) := by unfold scr tile; rw [open_self t h0, if_pos h1]
      have erows : rows m c t = k0_pay7 (iblk m c 0 t) (k0_pay1 (iblk m c 1 t)) := by unfold rows; rw [escr]
      have eguest : guest m c t = k0_pay6 (iblk m c 5 t) (k0_pay1 (iblk m c 1 t)) := by unfold guest; rw [escr, open_self t h0]
      refine (sep_mono_left (Phi_out m c _)).trans ?_
      rw [PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runA c (grid0.coords t) _ _ _ _ _ _ _ _ _ _ _ _ _ _ _ _ _ _ _ _ hc1 hc2 hc3 hc4 (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact (valueA_scratch c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 es).trans escr.symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (valueA_rows c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 e6).trans erows.symm
      iapply (leaves7 m c t)
      unfold owns; iexists _; isplitr
      swap; · iexact H7
      ipureintro; exact (valueA_guest c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 e7).trans eguest.symm
    · have h3 : t.val / 8 = 21 := by omega
      have hc2 : ¬cond2 (grid0.coords t) := fun h => h1 ((hcond2 t).mp h)
      have hc3 : cond3 (grid0.coords t) := (hcond3 t).mpr h3
      have escr : scr m c t = tail (iblk m c 2 t) (iblk m c 3 t) (iblk m c 4 t) := by unfold scr tile; rw [open_self t h0, if_neg h1]
      have erows : rows m c t = k0_pay7 (iblk m c 0 t) (tail (iblk m c 2 t) (iblk m c 3 t) (iblk m c 4 t)) := by unfold rows; rw [escr]
      have eguest : guest m c t = k0_pay6 (iblk m c 5 t) (tail (iblk m c 2 t) (iblk m c 3 t) (iblk m c 4 t)) := by unfold guest; rw [escr, open_self t h0]
      refine (sep_mono_left (Phi_out m c _)).trans ?_
      rw [PhiA_eq]
      iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((runT c (grid0.coords t) _ _ _ _ _ _ _ _ _ _ _ _ _ _ _ _ _ _ _ _ hc1 hc2 hc3 hc4 (iblk m c 0 t) (iblk m c 1 t) (iblk m c 2 t) (iblk m c 3 t) (iblk m c 4 t) (iblk m c 5 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS]; · iexact HS
      iintro ⟨H0, H1, H2, H3, H4, H5, ⟨%e6, H6⟩, ⟨%e7, H7⟩, ⟨%es, HS⟩⟩
      isplitl [HS Hg]
      · isplitl [HS]
        · unfold owns; iexists _; isplitr
          swap; · iexact HS
          ipureintro; exact (valueT_scratch c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 es).trans escr.symm
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact (valueT_rows c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 e6).trans erows.symm
      iapply (leaves7 m c t)
      unfold owns; iexists _; isplitr
      swap; · iexact H7
      ipureintro; exact (valueT_guest c (grid0.coords t) _ _ _ _ _ _ _ _ _ _ _ _ _ _ _ _ _ _ _ _ (iblk m c 0 t) (iblk m c 1 t) (iblk m c 2 t) (iblk m c 3 t) (iblk m c 4 t) (iblk m c 5 t) hc1 hc2 hc3 hc4 e7).trans eguest.symm
  · have hc1 : ¬cond1 (grid0.coords t) := fun h => h0 ((hcond1 t).mp h)
    have hc4 : ¬k0_cond4 (grid0.coords t) = 1#1 := fun h => h0 ((hcond4 t).mp h)
    have hz : t.val ≠ 0 := fun h => h0 (by rw [h])
    have e7 : ∀ d, (dat m c).before 7 t d = guest m c t := before7 m c t h0
    simp only [e7]
    rw [PhiS_castSucc m c t, PhiS_pos m c _ _ hz, scr_prev m c t h0]
    iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runH c (grid0.coords t) _ _ _ _ _ _ _ _ _ _ _ _ _ _ _ _ _ _ _ _ hc1 hc4 (iblk m c 0 t) (scr m c t)).2 Set.univ _)
    isplitl [H0]; · iexact H0
    isplitl [H6]; · iexists _; iexact H6
    isplitl [HS]; · iexact HS
    iintro ⟨H0, ⟨%e6, H6⟩, HS⟩
    isplitl [HS Hg]
    · isplitl [HS]
      · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact valueH_rows c (grid0.coords t) _ _ _ _ _ _ _ _ _ _ _ _ _ _ _ _ _ _ _ _ (iblk m c 0 t) (scr m c t) hc1 hc4 e6
    iapply (leaves7 m c t)
    iexact H7

/-- The library's body obligation. -/
theorem body_obligation (c : Dev nD) : BodyObligation (dat (F := F) m c) (defs₀ (F := F)) Variants.none () Set.univ := fun t => by
  rw [bigSep_W0, bigSep_W0, defs₀_row]
  exact triple_restated (sound_body m c t) rfl .rfl fun _ => .rfl

/-- What the launch hands the region is the invariant before the first point; the table is not needed any more. -/
theorem hin (c : Dev nD) : iprop(Pipeline.ΦA spec0 c ∗ Pipeline.ΦT pre0 (tabs (F := F)) c) ⊢ (dat m c).Φ 0 := by
  rw [show (dat m c).Φ 0 = PhiS m c 0 (Nat.zero_le _) from rfl, PhiS_zero m c 0 _ rfl]
  iintro ⟨H, -⟩; iexact H

theorem hout (c : Dev nD) : (dat m c).Φ (Fin.last (cfgA (F := F)).N) ⊢ Pipeline.ΦA spec0 c :=
  Phi_out m c _

/-- The admissible contents of the one pipeline's table, and the proof data there. -/
def adms : (p : Fin 1) → (pcfgs (F := F) p).Adm := fun | 0 => adm | ⟨_ + 1, h⟩ => absurd h (Nat.not_lt.2 (Nat.le_add_left _ _))
def dats : (p : Fin 1) → (c : Dev nD) → Dat τ (Elt F) Unit ℕ (UR sig nD τ) ℕ (Pipeline.pin (pcfgs (F := F)) adms p) c :=
  fun | 0 => dat m | ⟨_ + 1, h⟩ => absurd h (Nat.not_lt.2 (Nat.le_add_left _ _))

/-- The region finds the table at those contents. -/
theorem hpf (c : Dev nD) : ∀ k, V m c (pre0.ref k) = tabs (F := F) k := fun | ⟨0, _⟩ => V_main_c m c | ⟨_ + 1, h⟩ => absurd h (Nat.not_lt.2 (Nat.le_add_left _ _))

set_option backward.isDefEq.respectTransparency.types false in
/-- THE LAUNCH, every counter at zero at the end. -/
theorem run_main_quiescent : θ_run defs (onTc (τ := τ) (main (F := F))) (s₀ m ρ) (fun r => (Pipeline.FramePost (Pipeline.pin (pcfgs (F := F)) adms) (dats m) 0 (V m)) r ∧ r.2.sem = fun _ => 0) :=
  Pipeline.θ_run_frameP_track_shared (Q' := _) (pcfgs (F := F)) adms (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hpf := hpf m) (hin := hin m) (hout := hout m)

theorem run_main : θ_run defs (onTc (τ := τ) (main (F := F))) (s₀ m ρ) (Pipeline.FramePost (Pipeline.pin (pcfgs (F := F)) adms) (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dat m c).arrAt_in 0 rfl _).trans ((A_eq m c 0).trans (V_main_arg0 m c))),
      ((h c).1 5).trans (((dat m c).arrAt_in 5 rfl _).trans ((A_eq m c 5).trans (V_main_arg1 m c))),
      ((h c).2 main_arg2 (show main_arg2 ∈ Pipeline.restRefs sig spec0 by decide)).trans (V_main_arg2 m c)⟩) (run_main m ρ)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel9Ideal.In
end
-- ==== Proof.In1.Value.lean ====
/-
  WHAT THE INPUT PROJECTION LEAVES, over the extended reals: each result is its rows applied to layer 1's weights, the columns
  taken in the order `source` says and zero where it names none.
-/
module

public import proofs.«01_k».proof.Proof.In1.Columns
public import proofs.«01_k».proof.Proof.In1.Frame
public import proofs.«01_k».proof.Proof.In.Value

@[expose] public section

set_option maxRecDepth 16384

noncomputable section

namespace Cert.Kernel9Ideal.In

open Cert.Kernel9Ideal Cert.Kernel9Ideal.Gen
open Idealize.ShloMosaic Idealize.ShloMosaic.TcCoe Idealize.SL.Sem
open Idealize.ShloMosaic.Pipeline (Dat)

open Cert.Kernel5Ideal.In (projected column)

variable (m : (ℓ : Loc nD τ sig) → Buf (Elt Ideal) ℓ) (ρ : Dev nD → PrngReg)

theorem pay7_apply (x : Vec Ideal S1024x4096 .bf16) (s : Vec Ideal S512x4096 .bf16) (r : Fin 1024) (n : Fin 512) :
    (k0_pay7 x s) (ix2 r n) = ∑ k : Fin 4096, (x (ix2 r k) : EReal) * s (ix2 n k) := by
  pointwise [k0_pay7]
theorem pay6_apply (x : Vec Ideal S64x4096 .bf16) (s : Vec Ideal S512x4096 .bf16) (r : Fin 64) (n : Fin 512) :
    (k0_pay6 x s) (ix2 r n) = ∑ k : Fin 4096, (x (ix2 r k) : EReal) * s (ix2 n k) := by
  pointwise [k0_pay6]

/-- The rows' block a point leaves, by coordinates. -/
theorem rows_apply (c : Dev nD) (t : Fin (cfgA (F := Ideal)).N) (r : Fin 1024) (n : Fin 512) :
    (rows m c t) (ix2 r n) = projected (m ((c : Thread nD τ).loc main_arg0)) (layerOne (m ((c : Thread nD τ).loc main_arg2))) (⟨1024 * (t.val % 8) + r.val, by omega⟩ : Fin 8192) (512 * (t.val / 8) + n.val) := by
  unfold rows projected
  rw [pay7_apply]
  exact Finset.sum_congr rfl fun k _ => congrArg₂ (· * ·) (iblk0_apply m c t r k) (scr_apply m c t n k)

/-- The guest rows' block a point leaves, by coordinates. -/
theorem guest_apply (c : Dev nD) (t : Fin (cfgA (F := Ideal)).N) (r : Fin 64) (n : Fin 512) :
    (guest m c t) (ix2 r n) = projected (m ((c : Thread nD τ).loc main_arg1)) (layerOne (m ((c : Thread nD τ).loc main_arg2))) r (512 * (t.val / 8) + n.val) := by
  unfold guest projected
  rw [pay6_apply]
  exact Finset.sum_congr rfl fun k _ => congrArg₂ (· * ·) (iblk5_apply m c (open_ t) r k) (scr_apply m c t n k)

/-- What the rows' result ends holding. -/
def main_rows (c : Dev nD) (i : S8192x11264.Idx) : EReal :=
  projected (m ((c : Thread nD τ).loc main_arg0)) (layerOne (m ((c : Thread nD τ).loc main_arg2))) (i 0 : Fin 8192) (i 1).val

/-- What the guest rows' result ends holding. -/
def guest_rows (c : Dev nD) (i : S64x11264.Idx) : EReal :=
  projected (m ((c : Thread nD τ).loc main_arg1)) (layerOne (m ((c : Thread nD τ).loc main_arg2))) (i 0 : Fin 64) (i 1).val

theorem main_rows_apply (c : Dev nD) (r : Fin 8192) (n : Fin 11264) :
    main_rows m c (ix2 r n) = projected (m ((c : Thread nD τ).loc main_arg0)) (layerOne (m ((c : Thread nD τ).loc main_arg2))) r n.val := rfl
theorem guest_rows_apply (c : Dev nD) (r : Fin 64) (n : Fin 11264) :
    guest_rows m c (ix2 r n) = projected (m ((c : Thread nD τ).loc main_arg1)) (layerOne (m ((c : Thread nD τ).loc main_arg2))) r n.val := rfl

theorem flushed_rows (c : Dev nD) (t : Fin (cfgA (F := Ideal)).N) :
    (dat m c).flushed 6 t = (((cfgA (F := Ideal)).win 6).blk t).view.read (Elt Ideal) (main_rows m c) := by
  have hp : ∀ (r : Fin 1024) (n : Fin 512), (rows m c t) (ix2 r n) = main_rows m c (ix2 ⟨1024 * (t.val % 8) + r.val, by omega⟩ ⟨512 * (t.val / 8) + n.val, by have := point_lt t; omega⟩) :=
    fun r n => rows_apply m c t r n
  show (rows m c t : S1024x512.Idx → EReal) = _
  revert hp
  generalize rows m c t = X
  generalize main_rows m c = G
  intro hp
  funext y
  rw [View.read_apply]
  show X y = G _
  obtain ⟨r, n, rfl⟩ : ∃ (r : Fin 1024) (n : Fin 512), y = ix2 r n := ⟨y 0, y 1, eq_ix2 y⟩
  rw [emb6]
  exact hp r n

theorem flushed_guest (c : Dev nD) (t : Fin (cfgA (F := Ideal)).N) :
    (dat m c).flushed 7 t = (((cfgA (F := Ideal)).win 7).blk t).view.read (Elt Ideal) (guest_rows m c) := by
  have hp : ∀ (r : Fin 64) (n : Fin 512), (guest m c t) (ix2 r n) = guest_rows m c (ix2 r ⟨512 * (t.val / 8) + n.val, by have := point_lt t; omega⟩) :=
    fun r n => guest_apply m c t r n
  show (guest m c t : S64x512.Idx → EReal) = _
  revert hp
  generalize guest m c t = X
  generalize guest_rows m c = G
  intro hp
  funext y
  rw [View.read_apply]
  show X y = G _
  obtain ⟨r, n, rfl⟩ : ∃ (r : Fin 64) (n : Fin 512), y = ix2 r n := ⟨y 0, y 1, eq_ix2 y⟩
  rw [emb7]
  exact hp r n

/-- Every index of the rows' result lies in some point's block. -/
theorem cover6 (i : S8192x11264.Idx) : ∃ t : Fin (cfgA (F := Ideal)).N, ((cfgA (F := Ideal)).win 6).flush t = true ∧ i ∈ (((cfgA (F := Ideal)).win 6).blk t).view.set := by
  obtain ⟨r, n, rfl⟩ : ∃ (r : Fin 8192) (n : Fin 11264), i = ix2 r n := ⟨i 0, i 1, eq_ix2 i⟩
  let t : Fin (cfgA (F := Ideal)).N := ⟨8 * (n.val / 512) + r.val / 1024, by rw [show (cfgA (F := Ideal)).N = 176 from N_0]; omega⟩
  have ht : t.val = 8 * (n.val / 512) + r.val / 1024 := rfl
  have e := emb6 t ⟨r.val % 1024, by omega⟩ ⟨n.val % 512, by omega⟩
  have e' : (ix2 ⟨1024 * (t.val % 8) + r.val % 1024, by omega⟩ ⟨512 * (t.val / 8) + n.val % 512, by rw [ht]; omega⟩ : S8192x11264.Idx) = ix2 r n := by
    congr 1 <;> apply Fin.ext <;> dsimp only <;> rw [ht] <;> omega
  exact ⟨t, flush6 t, (e.trans e') ▸ (((cfgA (F := Ideal)).win 6).blk t).view.emb_mem_set _⟩

/-- Every index of the guest rows' result lies in the block of a column tile's last point. -/
theorem cover7 (i : S64x11264.Idx) : ∃ t : Fin (cfgA (F := Ideal)).N, ((cfgA (F := Ideal)).win 7).flush t = true ∧ i ∈ (((cfgA (F := Ideal)).win 7).blk t).view.set := by
  obtain ⟨r, n, rfl⟩ : ∃ (r : Fin 64) (n : Fin 11264), i = ix2 r n := ⟨i 0, i 1, eq_ix2 i⟩
  let t : Fin (cfgA (F := Ideal)).N := ⟨8 * (n.val / 512) + 7, by rw [show (cfgA (F := Ideal)).N = 176 from N_0]; omega⟩
  have ht : t.val = 8 * (n.val / 512) + 7 := rfl
  have e := emb7 t r ⟨n.val % 512, by omega⟩
  have e' : (ix2 r ⟨512 * (t.val / 8) + n.val % 512, by rw [ht]; omega⟩ : S64x11264.Idx) = ix2 r n := by
    congr 1; apply Fin.ext; dsimp only; rw [ht]; omega
  exact ⟨t, (flush7 t).trans (decide_eq_true (by rw [ht]; omega)), (e.trans e') ▸ (((cfgA (F := Ideal)).win 7).blk t).view.emb_mem_set _⟩

/-- The result arrays after the run. -/
theorem final_rows (c : Dev nD) : (dat m c).arrAt 6 (cfgA (F := Ideal)).N = main_rows m c := by
  funext i
  rw [(dat m c).arrAt_eq_piecewise 6 (main_rows m c) (fun t _ => flushed_rows m c t) i]
  exact if_pos (cover6 i)

theorem final_guest (c : Dev nD) : (dat m c).arrAt 7 (cfgA (F := Ideal)).N = guest_rows m c := by
  funext i
  rw [(dat m c).arrAt_eq_piecewise 7 (guest_rows m c) (fun t _ => flushed_guest m c t) i]
  exact if_pos (cover7 i)

/-- THE RUN: both results, and the arguments as they were. -/
theorem run : θ_run defs (onTc (τ := τ) (main (F := Ideal))) ⟨m, fun _ => 0, ρ⟩ (fun r => ∀ c : Dev nD,
      r.2.mem ((c.tc : Thread nD τ).loc main_v1_0) = main_rows m c
      ∧ r.2.mem ((c.tc : Thread nD τ).loc main_v1_1) = guest_rows m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 6).trans (final_rows m c), ((h.1 c).1 7).trans (final_guest m c), h.2 c⟩)
    (θ_run_and (run_main m ρ) (unchanged m ρ))

end Cert.Kernel9Ideal.In

end
-- ==== Proof.In1.Reference.lean ====
/-
  THE REFERENCE OF LAYER 1'S INPUT PROJECTION: slicing layer 1 out of the weights is slicing layer 0 out of them with layer 1's
  in layer 0's place, so that the first layer's reference gives the values.
-/
module

public import proofs.«01_k».proof.Proof.In1.Value
public import proofs.«01_k».proof.Proof.In.Reference
public import proofs.«01_k».proof.Proof.Gen.Reference9Ideal.Run

@[expose] public section

noncomputable section

namespace Cert.Proof.In1

open Cert.Reference9Ideal Cert.Reference9Ideal.Gen
open Idealize.ShloMosaic Idealize.ShloMosaic.TcCoe Idealize.SL.Sem
open Cert.Kernel5Ideal.In (projected)
open Cert.Kernel9Ideal.In (layerOne)
open Cert.Proof.In (whole_rows whole_guest ordered_rows ordered_guest)

/-- Layer 1's slice of the weights. -/
theorem slice_one (w : FVec Ideal S2x4096x13120 .f32) :
    (extractStridedSlice S1x4096x13120 ![1, 0, 0] w slices_S2x4096x13120_S1x4096x13120_1_0_0 : FVec Ideal S1x4096x13120 .f32)
      = extractStridedSlice S1x4096x13120 ![0, 0, 0] (layerOne w : FVec Ideal S2x4096x13120 .f32) Cert.Reference5Ideal.Gen.slices_S2x4096x13120_S1x4096x13120_0_0_0 := by
  funext i
  idx_vars i
  unfold layerOne
  pointwise

/-- Layer 1's whole projection of the rows, and of the guest rows. -/
abbrev whole_rows_one (h : FVec Ideal S8192x4096 .bf16) (w : FVec Ideal S2x4096x13120 .f32) : FVec Ideal S8192x13120 .f32 :=
  Host.dotGeneral dot_S8192x4096_S4096x13120_S8192x13120_1_0_0_1_n_n none (extf .f32 h bitsLt_bf16_f32) (shapeCast _ (extractStridedSlice S1x4096x13120 ![1, 0, 0] w slices_S2x4096x13120_S1x4096x13120_1_0_0) shapeCasts_S1x4096x13120_S4096x13120)
abbrev whole_guest_one (h : FVec Ideal S64x4096 .bf16) (w : FVec Ideal S2x4096x13120 .f32) : FVec Ideal S64x13120 .f32 :=
  Host.dotGeneral dot_S64x4096_S4096x13120_S64x13120_1_0_0_1_n_n none (extf .f32 h bitsLt_bf16_f32) (shapeCast _ (extractStridedSlice S1x4096x13120 ![1, 0, 0] w slices_S2x4096x13120_S1x4096x13120_1_0_0) shapeCasts_S1x4096x13120_S4096x13120)

/-- The reference's first result. -/
theorem reference_rows (h : FVec Ideal S8192x4096 .bf16) (w : FVec Ideal S2x4096x13120 .f32) :
    ordered_rows (whole_rows_one h w) = (fun i => projected h (layerOne w) (i 0 : Fin 8192) (i 1).val : S8192x11264.Idx → EReal) := by
  unfold whole_rows_one
  rw [slice_one]
  exact In.reference_rows h (layerOne w)

/-- The reference's second result. -/
theorem reference_guest (h : FVec Ideal S64x4096 .bf16) (w : FVec Ideal S2x4096x13120 .f32) :
    ordered_guest (whole_guest_one h w) = (fun i => projected h (layerOne w) (i 0 : Fin 64) (i 1).val : S64x11264.Idx → EReal) := by
  unfold whole_guest_one
  rw [slice_one]
  exact In.reference_guest h (layerOne w)

end Cert.Proof.In1

end
-- ==== Proof.In1.Claim.lean ====
/-
  THE INPUT PROJECTION'S RUNS, side by side: the kernel and the reference end with the same two results.
-/
module

public import proofs.«01_k».proof.Proof.In1.Reference
public import proofs.«01_k».proof.Defs
public import Idealize.ShloMosaic.Lib.Quiescent

@[expose] public section

noncomputable section

namespace Cert.Proof.In1

open Cert.Kernel9Ideal.In (main_rows guest_rows)
open Idealize.ShloMosaic Idealize.ShloMosaic.TcCoe Idealize.SL.Sem

/-- The reference leaves its arguments as they were, and it declares no semaphore. -/
theorem frame_reference : Cert.quiescent_Reference9Ideal := fun m' ρ' _ =>
  (θ_run _ _ _).mono (fun r hr => ⟨fun c => (hr c).2.2, sem_eq_zero_of_no_sems (by decide) r.2⟩) (Reference9Ideal.Value.run m' ρ')

/-- Both programs end with the projection's rows and its guest rows. -/
theorem algebraic : Cert.algebraic_Kernel9Ideal_Reference9Ideal := by
  intro m ρ m' ρ' _ h
  refine ⟨main_rows m, guest_rows m, Kernel9Ideal.In.run m ρ, (θ_run _ _ _).mono (fun _ hr c => ?_) (Reference9Ideal.Value.run m' ρ')⟩
  obtain ⟨e0, e1, e2⟩ := h c
  refine ⟨(hr c).1.trans ?_, (hr c).2.1.trans ?_, (hr c).2.2⟩
  · unfold Reference9Ideal.Value.res_main_v18
    rw [e0, e2]
    exact reference_rows _ _
  · unfold Reference9Ideal.Value.res_main_v37
    rw [e1, e2]
    exact reference_guest _ _

end Cert.Proof.In1

end
-- ==== Proof.Norm.First.lean ====
/-
  THE FIRST NORM (rms_cast): every row of the prompts, normed. Point `t` works on rows 256 t to 256 t + 255 of the prompts laid
  end to end.
-/
module

public import proofs.«01_k».proof.Proof.Norm.Row
public import proofs.«01_k».proof.Proof.Gen.Kernel11Ideal.Value
public import proofs.«01_k».proof.Proof.Gen.Kernel11.Frame
public import proofs.«01_k».proof.Proof.Gen.Reference11Ideal.Run
public import proofs.«01_k».proof.Defs
public import Idealize.ShloMosaic.Lib.StableHlo.Run
public import Idealize.ShloMosaic.Lib.Quiescent

@[expose] public section

noncomputable section

namespace Cert.Proof.Norm.P11

open Cert.Kernel11Ideal Cert.Kernel11Ideal.Gen Cert.Kernel11Ideal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem point_lt (t : Fin cfg0.N) : t.val < 32 := lt_of_lt_of_eq t.isLt N_0
theorem index0 : ∀ t : Fin cfg0.N, win0_0.index t 0 = t.val ∧ win0_0.index t 1 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = t.val ∧ win0_2.index t 1 = 0 :=
  (by decide +kernel : ∀ t : Fin grid0.N, _)

/-- The rows' block. -/
theorem iblk0_apply (c : Dev nD) (t : Fin cfg0.N) (r : Fin 256) (n : Fin 4096) :
    (iblk m c 0 t : Vec Ideal S256x4096 .f32) (ix2 r n)
      = (V m c main_v0 : Vec Ideal S8192x4096 .f32) (ix2 ⟨256 * t.val + r.val, by have := point_lt t; omega⟩ n) := by
  unfold iblk
  rw [View.read_apply]
  exact congrArg (V m c main_v0) (at_ix2 _ _ _ (by show win0_0.index t 0 * 256 + 1 * r.val = 256 * t.val + r.val; rw [(index0 t).1]; omega)
    (by show win0_0.index t 1 * 4096 + 1 * n.val = n.val; rw [(index0 t).2]; omega))

/-- The weights' block: layer 0's. -/
theorem iblk1_apply (c : Dev nD) (t : Fin cfg0.N) (n : Fin 4096) :
    (iblk m c 1 t : Vec Ideal S1x4096 .f32) (ix2 0 n) = (m ((c : Thread nD τ).loc main_arg1) : S2x4096.Idx → EReal) (ix2 0 n) := by
  have e : V m c main_v3 = shapeCast S1x4096 (shapeCast S4096 (extractStridedSlice S1x4096 ![0, 0] (m ((c : Thread nD τ).loc main_arg1)) slices_S2x4096_S1x4096_0_0) shapeCasts_S1x4096_S4096) shapeCasts_S4096_S1x4096 := by
    unfold V
    after_results <;> rfl
  trans (V m c main_v3 : Vec Ideal S1x4096 .f32) (ix2 0 n)
  · unfold iblk
    rw [View.read_apply]
    exact congrArg (V m c main_v3) (at_ix2 _ _ _ (by show win0_1.index t 0 * 1 + 1 * 0 = 0; rw [(index1 t).1])
      (by show win0_1.index t 1 * 4096 + 1 * n.val = n.val; rw [(index1 t).2]; omega))
  · rw [e]
    exact slice_row _ n _ _ _

/-- The prompts laid end to end: row `r` is row `r % 2048` of prompt `r / 2048`. -/
theorem V_v0 (c : Dev nD) (r : Fin 8192) (n : Fin 4096) :
    (V m c main_v0 : S8192x4096.Idx → EReal) (ix2 r n)
      = (m ((c : Thread nD τ).loc main_arg0) : S4x2048x4096.Idx → EReal) (ix3 ⟨r.val / 2048, by omega⟩ ⟨r.val % 2048, by omega⟩ n) := by
  have e : V m c main_v0 = shapeCast S8192x4096 (m ((c : Thread nD τ).loc main_arg0)) shapeCasts_S4x2048x4096_S8192x4096 := by
    unfold V
    after_results <;> rfl
  rw [e]
  exact cast_rows _ r n _

/-- The norm of every row, with layer 0's weights. -/
def normed (x : S4x2048x4096.Idx → EReal) (w : S2x4096.Idx → EReal) (i : S8192x4096.Idx) : EReal :=
  norm (fun k => x (ix3 ⟨(i 0).val / 2048, by have : (i 0).val < 8192 := (i 0).isLt; omega⟩ ⟨(i 0).val % 2048, by omega⟩ k)) (fun k => w (ix2 0 k)) (i 1)

abbrev result (c : Dev nD) : S8192x4096.Idx → EReal :=
  normed (m ((c : Thread nD τ).loc main_arg0)) (m ((c : Thread nD τ).loc main_arg1))

theorem pay1_apply (x : Vec Ideal S256x4096 .f32) (w : Vec Ideal S1x4096 .f32) (r : Fin 256) (n : Fin 4096) :
    k0_pay1 x w (ix2 r n) = (norm (fun k => x (ix2 r k)) (fun k => w (ix2 0 k)) n : EReal) := by
  pointwise [k0_pay1]
  rfl

/-- Window 2's block lies at the point's rows. -/
theorem emb2 (t : Fin cfg0.N) (r : Fin 256) (n : Fin 4096) :
    ((cfg0.win 2).blk t).view.emb (ix2 r n : S256x4096.Idx)
      = (ix2 ⟨256 * t.val + r.val, by have := point_lt t; omega⟩ n : S8192x4096.Idx) :=
  at_ix2 _ _ _ (by show win0_2.index t 0 * 256 + 1 * r.val = 256 * t.val + r.val; rw [(index2 t).1]; omega)
    (by show win0_2.index t 1 * 4096 + 1 * n.val = n.val; rw [(index2 t).2]; omega)

/-- Every index lies in some point's block, and each point writes its block of the result back. -/
theorem final2 (c : Dev nD) : (dats m 0 c).arrAt 2 cfg0.N = result m c := by
  funext i
  rw [(dats m 0 c).arrAt_eq_piecewise 2 (result m c) (fun t _ => ?_) i]
  · obtain ⟨r, n, rfl⟩ : ∃ (r : Fin 8192) (n : Fin 4096), i = ix2 r n := ⟨i 0, i 1, eq_ix2 i⟩
    let t : Fin cfg0.N := ⟨r.val / 256, by rw [show cfg0.N = 32 from N_0]; omega⟩
    have e := emb2 t ⟨r.val % 256, by omega⟩ n
    rw [show (⟨256 * t.val + r.val % 256, by have := point_lt t; omega⟩ : Fin 8192) = r from Fin.ext (Nat.div_add_mod _ _)] at e
    exact if_pos ⟨t, flush0_2 t, e ▸ ((cfg0.win 2).blk t).view.emb_mem_set _⟩
  · rw [flushed2, show out0_2 (iblk m c 0 t) (iblk m c 1 t) = k0_pay1 (iblk m c 0 t) (iblk m c 1 t) from by
      unfold out0_2; simp only [View.canon_unit_zero (S := S256x4096) zero2, View.ld_unit_zero (S := S256x4096) zero2, View.ld_unit_zero (S := S1x4096) zero2]]
    generalize hX : k0_pay1 (iblk m c 0 t) (iblk m c 1 t) = X
    generalize hG : result m c = G
    funext y
    rw [View.read_apply]
    show X y = G _
    subst hX hG
    obtain ⟨r, n, rfl⟩ : ∃ (r : Fin 256) (n : Fin 4096), y = ix2 r n := ⟨y 0, y 1, eq_ix2 y⟩
    rw [emb2]
    rw [pay1_apply]
    simp only [iblk0_apply, iblk1_apply]
    exact congrArg (norm · _ n) (funext fun k => V_v0 m c _ k)

/-- The reference leaves its arguments as they were, and it declares no semaphore. -/
theorem frame_reference : Cert.quiescent_Reference11Ideal := fun m' ρ' _ =>
  (θ_run _ _ _).mono (fun r hr => ⟨fun c => (hr c).2, sem_eq_zero_of_no_sems (by decide) r.2⟩) (Reference11Ideal.Value.run m' ρ')

/-- Both programs end with the same norm. -/
theorem algebraic : Cert.algebraic_Kernel11Ideal_Reference11Ideal := by
  intro m ρ m' ρ' _ h
  refine ⟨result m, (θ_run _ _ _).mono (fun _ hr c => ⟨(hr c).1.trans (final2 m c), (hr c).2⟩) (Kernel11Ideal.Value.run_blocks m ρ),
    (θ_run _ _ _).mono (fun _ hr c => ⟨(hr c).1.trans ?_, (hr c).2⟩) (Reference11Ideal.Value.run m' ρ')⟩
  obtain ⟨e0, e1⟩ := h c
  rw [e0, e1]
  unfold result
  generalize m ((c : Thread nD τ).loc main_arg0) = x, m ((c : Thread nD τ).loc main_arg1) = w
  change FVec Ideal S4x2048x4096 .f32 at x
  change FVec Ideal S2x4096 .f32 at w
  funext i
  change (truncf .bf16 (shapeCast S8192x4096 (mulf (mulf x (broadcastInDim _ _ _ (Host.rsqrt (addf (Host.divf (broadcastInDim _ _ _
    (Host.reduceAdd (mulf x x) _ _ _)) _) _)))) (broadcastInDim _ _ _ (broadcastInDim _ _ _ (shapeCast _ (extractStridedSlice _ _ w _) _)))) _) _ : FVec Ideal S8192x4096 .bf16) i = _
  idx_vars i
  pointwise
  rfl

end Cert.Proof.Norm.P11

end
-- ==== Proof.Norm.AddCast.lean ====
/-
  THE ADDITION BEFORE A CALL (add_rms_cast): the stream plus the norm of what was computed, and the norm of that sum for the
  next call. Point `t` works on rows 256 t to 256 t + 255.
-/
module

public import proofs.«01_k».proof.Proof.Norm.Row
public import proofs.«01_k».proof.Proof.Gen.Kernel12Ideal.Value
public import proofs.«01_k».proof.Proof.Gen.Kernel12.Frame
public import proofs.«01_k».proof.Proof.Gen.Reference12Ideal.Run
public import proofs.«01_k».proof.Defs
public import Idealize.ShloMosaic.Lib.StableHlo.Run
public import Idealize.ShloMosaic.Lib.Quiescent

@[expose] public section

noncomputable section

namespace Cert.Proof.Norm.P12

open Cert.Kernel12Ideal Cert.Kernel12Ideal.Gen Cert.Kernel12Ideal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem point_lt (t : Fin cfg0.N) : t.val < 32 := lt_of_lt_of_eq t.isLt N_0
theorem index0 : ∀ t : Fin cfg0.N, win0_0.index t 0 = t.val ∧ win0_0.index t 1 = 0 :=
  (by decide +kernel : ∀ t : Fin grid0.N, _)
theorem index1 : ∀ t : Fin cfg0.N, win0_1.index t 0 = t.val ∧ win0_1.index t 1 = 0 :=
  (by decide +kernel : ∀ t : Fin grid0.N, _)
theorem index2 : ∀ t : Fin cfg0.N, win0_2.index t 0 = 0 ∧ win0_2.index t 1 = 0 :=
  (by decide +kernel : ∀ t : Fin grid0.N, _)
theorem index3 : ∀ t : Fin cfg0.N, win0_3.index t 0 = 0 ∧ win0_3.index t 1 = 0 :=
  (by decide +kernel : ∀ t : Fin grid0.N, _)
theorem index4 : ∀ t : Fin cfg0.N, win0_4.index t 0 = t.val ∧ win0_4.index t 1 = 0 :=
  (by decide +kernel : ∀ t : Fin grid0.N, _)
theorem index5 : ∀ t : Fin cfg0.N, win0_5.index t 0 = t.val ∧ win0_5.index t 1 = 0 :=
  (by decide +kernel : ∀ t : Fin grid0.N, _)

/-- The stream's block. -/
theorem iblk0_apply (c : Dev nD) (t : Fin cfg0.N) (r : Fin 256) (n : Fin 4096) :
    (iblk m c 0 t : Vec Ideal S256x4096 .f32) (ix2 r n)
      = (V m c main_arg0 : Vec Ideal S8192x4096 .f32) (ix2 ⟨256 * t.val + r.val, by have := point_lt t; omega⟩ n) := by
  unfold iblk
  rw [View.read_apply]
  exact congrArg (V m c main_arg0) (at_ix2 _ _ _ (by show win0_0.index t 0 * 256 + 1 * r.val = 256 * t.val + r.val; rw [(index0 t).1]; omega)
    (by show win0_0.index t 1 * 4096 + 1 * n.val = n.val; rw [(index0 t).2]; omega))

/-- The block of what is normed. -/
theorem iblk1_apply (c : Dev nD) (t : Fin cfg0.N) (r : Fin 256) (n : Fin 4096) :
    (iblk m c 1 t : Vec Ideal S256x4096 .f32) (ix2 r n)
      = (V m c main_arg1 : Vec Ideal S8192x4096 .f32) (ix2 ⟨256 * t.val + r.val, by have := point_lt t; omega⟩ n) := by
  unfold iblk
  rw [View.read_apply]
  exact congrArg (V m c main_arg1) (at_ix2 _ _ _ (by show win0_1.index t 0 * 256 + 1 * r.val = 256 * t.val + r.val; rw [(index1 t).1]; omega)
    (by show win0_1.index t 1 * 4096 + 1 * n.val = n.val; rw [(index1 t).2]; omega))

/-- The weights' block. -/
theorem iblk2_apply (c : Dev nD) (t : Fin cfg0.N) (n : Fin 4096) :
    (iblk m c 2 t : Vec Ideal S1x4096 .f32) (ix2 0 n) = (m ((c : Thread nD τ).loc main_arg2) : S4096.Idx → EReal) (ix1 n) := by
  have e : V m c main_v0 = shapeCast S1x4096 (m ((c : Thread nD τ).loc main_arg2)) shapeCasts_S4096_S1x4096 := by
    unfold V
    after_results <;> rfl
  trans (V m c main_v0 : Vec Ideal S1x4096 .f32) (ix2 0 n)
  · unfold iblk
    rw [View.read_apply]
    exact congrArg (V m c main_v0) (at_ix2 _ _ _ (by show win0_2.index t 0 * 1 + 1 * 0 = 0; rw [(index2 t).1])
      (by show win0_2.index t 1 * 4096 + 1 * n.val = n.val; rw [(index2 t).2]; omega))
  · rw [e]
    exact cast_row _ n _

/-- The next norm's weights' block. -/
theorem iblk3_apply (c : Dev nD) (t : Fin cfg0.N) (n : Fin 4096) :
    (iblk m c 3 t : Vec Ideal S1x4096 .f32) (ix2 0 n) = (m ((c : Thread nD τ).loc main_arg3) : S4096.Idx → EReal) (ix1 n) := by
  have e : V m c main_v1 = shapeCast S1x4096 (m ((c : Thread nD τ).loc main_arg3)) shapeCasts_S4096_S1x4096 := by
    unfold V
    after_results <;> rfl
  trans (V m c main_v1 : Vec Ideal S1x4096 .f32) (ix2 0 n)
  · unfold iblk
    rw [View.read_apply]
    exact congrArg (V m c main_v1) (at_ix2 _ _ _ (by show win0_3.index t 0 * 1 + 1 * 0 = 0; rw [(index3 t).1])
      (by show win0_3.index t 1 * 4096 + 1 * n.val = n.val; rw [(index3 t).2]; omega))
  · rw [e]
    exact cast_row _ n _

/-- The stream plus the norm. -/
def added (x y : S8192x4096.Idx → EReal) (w : S4096.Idx → EReal) (i : S8192x4096.Idx) : EReal :=
  x i + norm (fun k => y (ix2 (i 0) k)) (fun k => w (ix1 k)) (i 1)

abbrev sums (c : Dev nD) : S8192x4096.Idx → EReal :=
  added (m ((c : Thread nD τ).loc main_arg0)) (m ((c : Thread nD τ).loc main_arg1)) (m ((c : Thread nD τ).loc main_arg2))

theorem pay1_apply (y x : Vec Ideal S256x4096 .f32) (w : Vec Ideal S1x4096 .f32) (r : Fin 256) (n : Fin 4096) :
    k0_pay1 y x w (ix2 r n) = (x (ix2 r n) + norm (fun k => y (ix2 r k)) (fun k => w (ix2 0 k)) n : EReal) := by
  pointwise [k0_pay1]
  rfl

/-- The norm of the sum, with the next weights. -/
def next (s : S8192x4096.Idx → EReal) (w : S4096.Idx → EReal) (i : S8192x4096.Idx) : EReal :=
  norm (fun k => s (ix2 (i 0) k)) (fun k => w (ix1 k)) (i 1)

abbrev nexts (c : Dev nD) : S8192x4096.Idx → EReal := next (sums m c) (m ((c : Thread nD τ).loc main_arg3))

theorem pay2_apply (y x : Vec Ideal S256x4096 .f32) (w w' : Vec Ideal S1x4096 .f32) (r : Fin 256) (n : Fin 4096) :
    k0_pay2 y x w w' (ix2 r n) = (norm (fun k => k0_pay1 y x w (ix2 r k)) (fun k => w' (ix2 0 k)) n : EReal) := by
  pointwise [k0_pay2]
  rfl

/-- Window 4's block lies at the point's rows. -/
theorem emb4 (t : Fin cfg0.N) (r : Fin 256) (n : Fin 4096) :
    ((cfg0.win 4).blk t).view.emb (ix2 r n : S256x4096.Idx)
      = (ix2 ⟨256 * t.val + r.val, by have := point_lt t; omega⟩ n : S8192x4096.Idx) :=
  at_ix2 _ _ _ (by show win0_4.index t 0 * 256 + 1 * r.val = 256 * t.val + r.val; rw [(index4 t).1]; omega)
    (by show win0_4.index t 1 * 4096 + 1 * n.val = n.val; rw [(index4 t).2]; omega)

/-- Every index lies in some point's block, and each point writes its block of the result back. -/
theorem final4 (c : Dev nD) : (dats m 0 c).arrAt 4 cfg0.N = sums m c := by
  funext i
  rw [(dats m 0 c).arrAt_eq_piecewise 4 (sums m c) (fun t _ => ?_) i]
  · obtain ⟨r, n, rfl⟩ : ∃ (r : Fin 8192) (n : Fin 4096), i = ix2 r n := ⟨i 0, i 1, eq_ix2 i⟩
    let t : Fin cfg0.N := ⟨r.val / 256, by rw [show cfg0.N = 32 from N_0]; omega⟩
    have e := emb4 t ⟨r.val % 256, by omega⟩ n
    rw [show (⟨256 * t.val + r.val % 256, by have := point_lt t; omega⟩ : Fin 8192) = r from Fin.ext (Nat.div_add_mod _ _)] at e
    exact if_pos ⟨t, flush0_4 t, e ▸ ((cfg0.win 4).blk t).view.emb_mem_set _⟩
  · rw [flushed4, show out0_4 (iblk m c 0 t) (iblk m c 1 t) (iblk m c 2 t) (iblk m c 3 t) = k0_pay1 (iblk m c 1 t) (iblk m c 0 t) (iblk m c 2 t) from by
      unfold out0_4; simp only [View.canon_unit_zero (S := S256x4096) zero2, View.ld_unit_zero (S := S256x4096) zero2, View.ld_unit_zero (S := S1x4096) zero2]]
    generalize hX : k0_pay1 (iblk m c 1 t) (iblk m c 0 t) (iblk m c 2 t) = X
    generalize hG : sums m c = G
    funext y
    rw [View.read_apply]
    show X y = G _
    subst hX hG
    obtain ⟨r, n, rfl⟩ : ∃ (r : Fin 256) (n : Fin 4096), y = ix2 r n := ⟨y 0, y 1, eq_ix2 y⟩
    rw [emb4]
    rw [pay1_apply]
    simp only [iblk0_apply, iblk1_apply, iblk2_apply, V_main_arg0, V_main_arg1]
    rfl

/-- Window 5's block lies at the point's rows. -/
theorem emb5 (t : Fin cfg0.N) (r : Fin 256) (n : Fin 4096) :
    ((cfg0.win 5).blk t).view.emb (ix2 r n : S256x4096.Idx)
      = (ix2 ⟨256 * t.val + r.val, by have := point_lt t; omega⟩ n : S8192x4096.Idx) :=
  at_ix2 _ _ _ (by show win0_5.index t 0 * 256 + 1 * r.val = 256 * t.val + r.val; rw [(index5 t).1]; omega)
    (by show win0_5.index t 1 * 4096 + 1 * n.val = n.val; rw [(index5 t).2]; omega)

/-- Every index lies in some point's block, and each point writes its block of the result back. -/
theorem final5 (c : Dev nD) : (dats m 0 c).arrAt 5 cfg0.N = nexts m c := by
  funext i
  rw [(dats m 0 c).arrAt_eq_piecewise 5 (nexts m c) (fun t _ => ?_) i]
  · obtain ⟨r, n, rfl⟩ : ∃ (r : Fin 8192) (n : Fin 4096), i = ix2 r n := ⟨i 0, i 1, eq_ix2 i⟩
    let t : Fin cfg0.N := ⟨r.val / 256, by rw [show cfg0.N = 32 from N_0]; omega⟩
    have e := emb5 t ⟨r.val % 256, by omega⟩ n
    rw [show (⟨256 * t.val + r.val % 256, by have := point_lt t; omega⟩ : Fin 8192) = r from Fin.ext (Nat.div_add_mod _ _)] at e
    exact if_pos ⟨t, flush0_5 t, e ▸ ((cfg0.win 5).blk t).view.emb_mem_set _⟩
  · rw [flushed5, show out0_5 (iblk m c 0 t) (iblk m c 1 t) (iblk m c 2 t) (iblk m c 3 t) = k0_pay2 (iblk m c 1 t) (iblk m c 0 t) (iblk m c 2 t) (iblk m c 3 t) from by
      unfold out0_5; simp only [View.canon_unit_zero (S := S256x4096) zero2, View.ld_unit_zero (S := S256x4096) zero2, View.ld_unit_zero (S := S1x4096) zero2]]
    generalize hX : k0_pay2 (iblk m c 1 t) (iblk m c 0 t) (iblk m c 2 t) (iblk m c 3 t) = X
    generalize hG : nexts m c = G
    funext y
    rw [View.read_apply]
    show X y = G _
    subst hX hG
    obtain ⟨r, n, rfl⟩ : ∃ (r : Fin 256) (n : Fin 4096), y = ix2 r n := ⟨y 0, y 1, eq_ix2 y⟩
    rw [emb5]
    rw [pay2_apply]
    simp only [pay1_apply, iblk0_apply, iblk1_apply, iblk2_apply, iblk3_apply, V_main_arg0, V_main_arg1]
    rfl

/-- The reference leaves its arguments as they were, and it declares no semaphore. -/
theorem frame_reference : Cert.quiescent_Reference12Ideal := fun m' ρ' _ =>
  (θ_run _ _ _).mono (fun r hr => ⟨fun c => (hr c).2.2, sem_eq_zero_of_no_sems (by decide) r.2⟩) (Reference12Ideal.Value.run m' ρ')

/-- Both programs end with the same sum and the same norm of it. -/
theorem algebraic : Cert.algebraic_Kernel12Ideal_Reference12Ideal := by
  intro m ρ m' ρ' _ h
  refine ⟨sums m, nexts m,
    (θ_run _ _ _).mono (fun _ hr c => ⟨(hr c).1.trans (final4 m c), (hr c).2.1.trans (final5 m c), (hr c).2.2⟩) (Kernel12Ideal.Value.run_blocks m ρ),
    (θ_run _ _ _).mono (fun _ hr c => ?_) (Reference12Ideal.Value.run m' ρ')⟩
  obtain ⟨e0, e1, e2, e3⟩ := h c
  refine ⟨(hr c).1.trans ?_, (hr c).2.1.trans ?_, (hr c).2.2⟩
  · rw [e0, e1, e2]
    funext i
    idx_vars i
    pointwise
    rfl
  · rw [e0, e1, e2, e3]
    funext i
    idx_vars i
    pointwise
    rfl

end Cert.Proof.Norm.P12

end
-- ==== Proof.Norm.Add.lean ====
/-
  THE LAST ADDITION OF A LAYER (add_rms): the stream plus the norm of what the layer computed. Point `t` works on rows
  256 t to 256 t + 255.
-/
module

public import proofs.«01_k».proof.Proof.Norm.Row
public import proofs.«01_k».proof.Proof.Gen.Kernel13Ideal.Value
public import proofs.«01_k».proof.Proof.Gen.Kernel13.Frame
public import proofs.«01_k».proof.Proof.Gen.Reference13Ideal.Run
public import proofs.«01_k».proof.Defs
public import Idealize.ShloMosaic.Lib.StableHlo.Run
public import Idealize.ShloMosaic.Lib.Quiescent

@[expose] public section

noncomputable section

namespace Cert.Proof.Norm.P13

open Cert.Kernel13Ideal Cert.Kernel13Ideal.Gen Cert.Kernel13Ideal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem point_lt (t : Fin cfg0.N) : t.val < 32 := lt_of_lt_of_eq t.isLt N_0
theorem index0 : ∀ t : Fin cfg0.N, win0_0.index t 0 = t.val ∧ win0_0.index t 1 = 0 :=
  (by decide +kernel : ∀ t : Fin grid0.N, _)
theorem index1 : ∀ t : Fin cfg0.N, win0_1.index t 0 = t.val ∧ win0_1.index t 1 = 0 :=
  (by decide +kernel : ∀ t : Fin grid0.N, _)
theorem index2 : ∀ t : Fin cfg0.N, win0_2.index t 0 = 0 ∧ win0_2.index t 1 = 0 :=
  (by decide +kernel : ∀ t : Fin grid0.N, _)
theorem index3 : ∀ t : Fin cfg0.N, win0_3.index t 0 = t.val ∧ win0_3.index t 1 = 0 :=
  (by decide +kernel : ∀ t : Fin grid0.N, _)

/-- The stream's block. -/
theorem iblk0_apply (c : Dev nD) (t : Fin cfg0.N) (r : Fin 256) (n : Fin 4096) :
    (iblk m c 0 t : Vec Ideal S256x4096 .f32) (ix2 r n)
      = (V m c main_arg0 : Vec Ideal S8192x4096 .f32) (ix2 ⟨256 * t.val + r.val, by have := point_lt t; omega⟩ n) := by
  unfold iblk
  rw [View.read_apply]
  exact congrArg (V m c main_arg0) (at_ix2 _ _ _ (by show win0_0.index t 0 * 256 + 1 * r.val = 256 * t.val + r.val; rw [(index0 t).1]; omega)
    (by show win0_0.index t 1 * 4096 + 1 * n.val = n.val; rw [(index0 t).2]; omega))

/-- The block of what is normed. -/
theorem iblk1_apply (c : Dev nD) (t : Fin cfg0.N) (r : Fin 256) (n : Fin 4096) :
    (iblk m c 1 t : Vec Ideal S256x4096 .f32) (ix2 r n)
      = (V m c main_arg1 : Vec Ideal S8192x4096 .f32) (ix2 ⟨256 * t.val + r.val, by have := point_lt t; omega⟩ n) := by
  unfold iblk
  rw [View.read_apply]
  exact congrArg (V m c main_arg1) (at_ix2 _ _ _ (by show win0_1.index t 0 * 256 + 1 * r.val = 256 * t.val + r.val; rw [(index1 t).1]; omega)
    (by show win0_1.index t 1 * 4096 + 1 * n.val = n.val; rw [(index1 t).2]; omega))

/-- The weights' block. -/
theorem iblk2_apply (c : Dev nD) (t : Fin cfg0.N) (n : Fin 4096) :
    (iblk m c 2 t : Vec Ideal S1x4096 .f32) (ix2 0 n) = (m ((c : Thread nD τ).loc main_arg2) : S4096.Idx → EReal) (ix1 n) := by
  have e : V m c main_v0 = shapeCast S1x4096 (m ((c : Thread nD τ).loc main_arg2)) shapeCasts_S4096_S1x4096 := by
    unfold V
    after_results <;> rfl
  trans (V m c main_v0 : Vec Ideal S1x4096 .f32) (ix2 0 n)
  · unfold iblk
    rw [View.read_apply]
    exact congrArg (V m c main_v0) (at_ix2 _ _ _ (by show win0_2.index t 0 * 1 + 1 * 0 = 0; rw [(index2 t).1])
      (by show win0_2.index t 1 * 4096 + 1 * n.val = n.val; rw [(index2 t).2]; omega))
  · rw [e]
    exact cast_row _ n _

/-- The stream plus the norm. -/
def added (x y : S8192x4096.Idx → EReal) (w : S4096.Idx → EReal) (i : S8192x4096.Idx) : EReal :=
  x i + norm (fun k => y (ix2 (i 0) k)) (fun k => w (ix1 k)) (i 1)

abbrev sums (c : Dev nD) : S8192x4096.Idx → EReal :=
  added (m ((c : Thread nD τ).loc main_arg0)) (m ((c : Thread nD τ).loc main_arg1)) (m ((c : Thread nD τ).loc main_arg2))

theorem pay1_apply (y x : Vec Ideal S256x4096 .f32) (w : Vec Ideal S1x4096 .f32) (r : Fin 256) (n : Fin 4096) :
    k0_pay1 y x w (ix2 r n) = (x (ix2 r n) + norm (fun k => y (ix2 r k)) (fun k => w (ix2 0 k)) n : EReal) := by
  pointwise [k0_pay1]
  rfl

/-- Window 3's block lies at the point's rows. -/
theorem emb3 (t : Fin cfg0.N) (r : Fin 256) (n : Fin 4096) :
    ((cfg0.win 3).blk t).view.emb (ix2 r n : S256x4096.Idx)
      = (ix2 ⟨256 * t.val + r.val, by have := point_lt t; omega⟩ n : S8192x4096.Idx) :=
  at_ix2 _ _ _ (by show win0_3.index t 0 * 256 + 1 * r.val = 256 * t.val + r.val; rw [(index3 t).1]; omega)
    (by show win0_3.index t 1 * 4096 + 1 * n.val = n.val; rw [(index3 t).2]; omega)

/-- Every index lies in some point's block, and each point writes its block of the result back. -/
theorem final3 (c : Dev nD) : (dats m 0 c).arrAt 3 cfg0.N = sums m c := by
  funext i
  rw [(dats m 0 c).arrAt_eq_piecewise 3 (sums m c) (fun t _ => ?_) i]
  · obtain ⟨r, n, rfl⟩ : ∃ (r : Fin 8192) (n : Fin 4096), i = ix2 r n := ⟨i 0, i 1, eq_ix2 i⟩
    let t : Fin cfg0.N := ⟨r.val / 256, by rw [show cfg0.N = 32 from N_0]; omega⟩
    have e := emb3 t ⟨r.val % 256, by omega⟩ n
    rw [show (⟨256 * t.val + r.val % 256, by have := point_lt t; omega⟩ : Fin 8192) = r from Fin.ext (Nat.div_add_mod _ _)] at e
    exact if_pos ⟨t, flush0_3 t, e ▸ ((cfg0.win 3).blk t).view.emb_mem_set _⟩
  · rw [flushed3, show out0_3 (iblk m c 0 t) (iblk m c 1 t) (iblk m c 2 t) = k0_pay1 (iblk m c 1 t) (iblk m c 0 t) (iblk m c 2 t) from by
      unfold out0_3; simp only [View.canon_unit_zero (S := S256x4096) zero2, View.ld_unit_zero (S := S256x4096) zero2, View.ld_unit_zero (S := S1x4096) zero2]]
    generalize hX : k0_pay1 (iblk m c 1 t) (iblk m c 0 t) (iblk m c 2 t) = X
    generalize hG : sums m c = G
    funext y
    rw [View.read_apply]
    show X y = G _
    subst hX hG
    obtain ⟨r, n, rfl⟩ : ∃ (r : Fin 256) (n : Fin 4096), y = ix2 r n := ⟨y 0, y 1, eq_ix2 y⟩
    rw [emb3]
    rw [pay1_apply]
    simp only [iblk0_apply, iblk1_apply, iblk2_apply, V_main_arg0, V_main_arg1]
    rfl

/-- The reference leaves its arguments as they were, and it declares no semaphore. -/
theorem frame_reference : Cert.quiescent_Reference13Ideal := fun m' ρ' _ =>
  (θ_run _ _ _).mono (fun r hr => ⟨fun c => (hr c).2, sem_eq_zero_of_no_sems (by decide) r.2⟩) (Reference13Ideal.Value.run m' ρ')

/-- Both programs end with the same sum. -/
theorem algebraic : Cert.algebraic_Kernel13Ideal_Reference13Ideal := by
  intro m ρ m' ρ' _ h
  refine ⟨sums m, (θ_run _ _ _).mono (fun _ hr c => ⟨(hr c).1.trans (final3 m c), (hr c).2⟩) (Kernel13Ideal.Value.run_blocks m ρ),
    (θ_run _ _ _).mono (fun _ hr c => ⟨(hr c).1.trans ?_, (hr c).2⟩) (Reference13Ideal.Value.run m' ρ')⟩
  obtain ⟨e0, e1, e2⟩ := h c
  rw [e0, e1, e2]
  funext i
  idx_vars i
  pointwise
  rfl

end Cert.Proof.Norm.P13

end
-- ==== Proof.Norm.AddSample.lean ====
/-
  THE LAST ADDITION ON THE SAMPLE ROWS (add_rms), as in Add.lean: here the one point works on all 64 rows.
-/
module

public import proofs.«01_k».proof.Proof.Norm.Row
public import proofs.«01_k».proof.Proof.Gen.Kernel14Ideal.Value
public import proofs.«01_k».proof.Proof.Gen.Kernel14.Frame
public import proofs.«01_k».proof.Proof.Gen.Reference14Ideal.Run
public import proofs.«01_k».proof.Defs
public import Idealize.ShloMosaic.Lib.StableHlo.Run
public import Idealize.ShloMosaic.Lib.Quiescent

@[expose] public section

noncomputable section

namespace Cert.Proof.Norm.P14

open Cert.Kernel14Ideal Cert.Kernel14Ideal.Gen Cert.Kernel14Ideal.Value
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

theorem index0 : ∀ t : Fin cfg0.N, win0_0.index t 0 = 0 ∧ win0_0.index t 1 = 0 :=
  (by decide +kernel : ∀ t : Fin grid0.N, _)
theorem index1 : ∀ t : Fin cfg0.N, win0_1.index t 0 = 0 ∧ win0_1.index t 1 = 0 :=
  (by decide +kernel : ∀ t : Fin grid0.N, _)
theorem index2 : ∀ t : Fin cfg0.N, win0_2.index t 0 = 0 ∧ win0_2.index t 1 = 0 :=
  (by decide +kernel : ∀ t : Fin grid0.N, _)
theorem index3 : ∀ t : Fin cfg0.N, win0_3.index t 0 = 0 ∧ win0_3.index t 1 = 0 :=
  (by decide +kernel : ∀ t : Fin grid0.N, _)

/-- The stream's block. -/
theorem iblk0_apply (c : Dev nD) (t : Fin cfg0.N) (r : Fin 64) (n : Fin 4096) :
    (iblk m c 0 t : Vec Ideal S64x4096 .f32) (ix2 r n)
      = (V m c main_arg0 : Vec Ideal S64x4096 .f32) (ix2 r n) := by
  unfold iblk
  rw [View.read_apply]
  exact congrArg (V m c main_arg0) (at_ix2 _ _ _ (by show win0_0.index t 0 * 64 + 1 * r.val = r.val; rw [(index0 t).1]; omega)
    (by show win0_0.index t 1 * 4096 + 1 * n.val = n.val; rw [(index0 t).2]; omega))

/-- The block of what is normed. -/
theorem iblk1_apply (c : Dev nD) (t : Fin cfg0.N) (r : Fin 64) (n : Fin 4096) :
    (iblk m c 1 t : Vec Ideal S64x4096 .f32) (ix2 r n)
      = (V m c main_arg1 : Vec Ideal S64x4096 .f32) (ix2 r n) := by
  unfold iblk
  rw [View.read_apply]
  exact congrArg (V m c main_arg1) (at_ix2 _ _ _ (by show win0_1.index t 0 * 64 + 1 * r.val = r.val; rw [(index1 t).1]; omega)
    (by show win0_1.index t 1 * 4096 + 1 * n.val = n.val; rw [(index1 t).2]; omega))

/-- The weights' block. -/
theorem iblk2_apply (c : Dev nD) (t : Fin cfg0.N) (n : Fin 4096) :
    (iblk m c 2 t : Vec Ideal S1x4096 .f32) (ix2 0 n) = (m ((c : Thread nD τ).loc main_arg2) : S4096.Idx → EReal) (ix1 n) := by
  have e : V m c main_v0 = shapeCast S1x4096 (m ((c : Thread nD τ).loc main_arg2)) shapeCasts_S4096_S1x4096 := by
    unfold V
    after_results <;> rfl
  trans (V m c main_v0 : Vec Ideal S1x4096 .f32) (ix2 0 n)
  · unfold iblk
    rw [View.read_apply]
    exact congrArg (V m c main_v0) (at_ix2 _ _ _ (by show win0_2.index t 0 * 1 + 1 * 0 = 0; rw [(index2 t).1])
      (by show win0_2.index t 1 * 4096 + 1 * n.val = n.val; rw [(index2 t).2]; omega))
  · rw [e]
    exact cast_row _ n _

/-- The stream plus the norm. -/
def added (x y : S64x4096.Idx → EReal) (w : S4096.Idx → EReal) (i : S64x4096.Idx) : EReal :=
  x i + norm (fun k => y (ix2 (i 0) k)) (fun k => w (ix1 k)) (i 1)

abbrev sums (c : Dev nD) : S64x4096.Idx → EReal :=
  added (m ((c : Thread nD τ).loc main_arg0)) (m ((c : Thread nD τ).loc main_arg1)) (m ((c : Thread nD τ).loc main_arg2))

theorem pay1_apply (y x : Vec Ideal S64x4096 .f32) (w : Vec Ideal S1x4096 .f32) (r : Fin 64) (n : Fin 4096) :
    k0_pay1 y x w (ix2 r n) = (x (ix2 r n) + norm (fun k => y (ix2 r k)) (fun k => w (ix2 0 k)) n : EReal) := by
  pointwise [k0_pay1]
  rfl

/-- The output block is all of the result. -/
theorem emb3 (t : Fin cfg0.N) (r : Fin 64) (n : Fin 4096) :
    ((cfg0.win 3).blk t).view.emb (ix2 r n : S64x4096.Idx)
      = (ix2 r n : S64x4096.Idx) :=
  at_ix2 _ _ _ (by show win0_3.index t 0 * 64 + 1 * r.val = r.val; rw [(index3 t).1]; omega)
    (by show win0_3.index t 1 * 4096 + 1 * n.val = n.val; rw [(index3 t).2]; omega)

/-- Every index lies in some point's block, and each point writes its block of the result back. -/
theorem final3 (c : Dev nD) : (dats m 0 c).arrAt 3 cfg0.N = sums m c := by
  funext i
  rw [(dats m 0 c).arrAt_eq_piecewise 3 (sums m c) (fun t _ => ?_) i]
  · obtain ⟨r, n, rfl⟩ : ∃ (r : Fin 64) (n : Fin 4096), i = ix2 r n := ⟨i 0, i 1, eq_ix2 i⟩
    let t : Fin cfg0.N := ⟨0, by rw [show cfg0.N = 1 from N_0]; decide⟩
    exact if_pos ⟨t, flush0_3 t, emb3 t r n ▸ ((cfg0.win 3).blk t).view.emb_mem_set _⟩
  · rw [flushed3, show out0_3 (iblk m c 0 t) (iblk m c 1 t) (iblk m c 2 t) = k0_pay1 (iblk m c 1 t) (iblk m c 0 t) (iblk m c 2 t) from by
      unfold out0_3; simp only [View.canon_unit_zero (S := S64x4096) zero2, View.ld_unit_zero (S := S64x4096) zero2, View.ld_unit_zero (S := S1x4096) zero2]]
    generalize hX : k0_pay1 (iblk m c 1 t) (iblk m c 0 t) (iblk m c 2 t) = X
    generalize hG : sums m c = G
    funext y
    rw [View.read_apply]
    show X y = G _
    subst hX hG
    obtain ⟨r, n, rfl⟩ : ∃ (r : Fin 64) (n : Fin 4096), y = ix2 r n := ⟨y 0, y 1, eq_ix2 y⟩
    rw [emb3]
    rw [pay1_apply]
    simp only [iblk0_apply, iblk1_apply, iblk2_apply, V_main_arg0, V_main_arg1]
    rfl

/-- The reference leaves its arguments as they were, and it declares no semaphore. -/
theorem frame_reference : Cert.quiescent_Reference14Ideal := fun m' ρ' _ =>
  (θ_run _ _ _).mono (fun r hr => ⟨fun c => (hr c).2, sem_eq_zero_of_no_sems (by decide) r.2⟩) (Reference14Ideal.Value.run m' ρ')

/-- Both programs end with the same sum. -/
theorem algebraic : Cert.algebraic_Kernel14Ideal_Reference14Ideal := by
  intro m ρ m' ρ' _ h
  refine ⟨sums m, (θ_run _ _ _).mono (fun _ hr c => ⟨(hr c).1.trans (final3 m c), (hr c).2⟩) (Kernel14Ideal.Value.run_blocks m ρ),
    (θ_run _ _ _).mono (fun _ hr c => ⟨(hr c).1.trans ?_, (hr c).2⟩) (Reference14Ideal.Value.run m' ρ')⟩
  obtain ⟨e0, e1, e2⟩ := h c
  rw [e0, e1, e2]
  funext i
  idx_vars i
  pointwise
  rfl

end Cert.Proof.Norm.P14

end
-- ==== Proof.Up.First.lean ====
/-
  THE SAMPLE ROWS' UP PROJECTION of layer 0 (mm_up): the product of the 64 rows with the layer's weights. Point `t` works on
  columns 512 t to 512 t + 511.
-/
module

public import proofs.«01_k».proof.Proof.Gen.Kernel15Ideal.Value
public import proofs.«01_k».proof.Proof.Gen.Kernel15.Frame
public import proofs.«01_k».proof.Proof.Gen.Reference15Ideal.Run
public import proofs.«01_k».proof.Proof.Norm.Row
public import proofs.«01_k».proof.Defs
public import Idealize.ShloMosaic.Lib.StableHlo.Run
public import Idealize.ShloMosaic.Lib.Quiescent

@[expose] public section

noncomputable section

namespace Cert.Proof.Up.P15

open Cert.Kernel15Ideal Cert.Kernel15Ideal.Gen Cert.Kernel15Ideal.Value Norm
open Idealize.ShloMosaic Idealize.ShloMosaic.TcCoe Idealize.SL.Sem
open Idealize.ShloMosaic.Pipeline (Dat)

variable (m : (ℓ : Loc nD τ sig) → Buf (Elt Ideal) ℓ)

theorem point_lt (t : Fin cfg0.N) : t.val < 43 := lt_of_lt_of_eq t.isLt N_0
theorem index0 : ∀ t : Fin cfg0.N, win0_0.index t 0 = 0 ∧ win0_0.index t 1 = 0 :=
  (by decide +kernel : ∀ t : Fin grid0.N, _)
theorem index1 : ∀ t : Fin cfg0.N, win0_1.index t 0 = 0 ∧ win0_1.index t 1 = 0 ∧ win0_1.index t 2 = t.val :=
  (by decide +kernel : ∀ t : Fin grid0.N, _)
theorem index2 : ∀ t : Fin cfg0.N, win0_2.index t 0 = 0 ∧ win0_2.index t 1 = t.val :=
  (by decide +kernel : ∀ t : Fin grid0.N, _)

/-- The rows' block is all of them. -/
theorem iblk0_apply (c : Dev nD) (t : Fin cfg0.N) (r : Fin 64) (k : Fin 4096) :
    (iblk m c 0 t : Vec Ideal S64x4096 .bf16) (ix2 r k) = m ((c : Thread nD τ).loc main_arg0) (ix2 r k) := by
  unfold iblk
  rw [View.read_apply, ← V_main_arg0 m c]
  exact congrArg (V m c main_arg0) (at_ix2 _ _ _ (by show win0_0.index t 0 * 64 + 1 * r.val = r.val; rw [(index0 t).1]; omega)
    (by show win0_0.index t 1 * 4096 + 1 * k.val = k.val; rw [(index0 t).2]; omega))

/-- The weights' block: the point's columns of the layer's weights. -/
theorem iblk1_apply (c : Dev nD) (t : Fin cfg0.N) (k : Fin 4096) (n : Fin 512) :
    (iblk m c 1 t : Vec Ideal S1x4096x512 .f32) (ix3 0 k n)
      = m ((c : Thread nD τ).loc main_arg1) (ix3 0 k ⟨512 * t.val + n.val, by have := point_lt t; omega⟩) := by
  unfold iblk
  rw [View.read_apply, ← V_main_arg1 m c]
  refine congrArg (V m c main_arg1) (funext fun a => Fin.ext ?_)
  match a with
  | ⟨0, _⟩ => show win0_1.index t 0 * 1 + 1 * 0 = 0; rw [(index1 t).1]
  | ⟨1, _⟩ => show win0_1.index t 1 * 4096 + 1 * k.val = k.val; rw [(index1 t).2.1]; omega
  | ⟨2, _⟩ => show win0_1.index t 2 * 512 + 1 * n.val = 512 * t.val + n.val; rw [(index1 t).2.2]; omega

/-- The output block lies at the point's columns. -/
theorem emb2 (t : Fin cfg0.N) (r : Fin 64) (n : Fin 512) :
    ((cfg0.win 2).blk t).view.emb (ix2 r n : S64x512.Idx) = (ix2 r ⟨512 * t.val + n.val, by have := point_lt t; omega⟩ : S64x22016.Idx) :=
  at_ix2 _ _ _ (by show win0_2.index t 0 * 64 + 1 * r.val = r.val; rw [(index2 t).1]; omega)
    (by show win0_2.index t 1 * 512 + 1 * n.val = 512 * t.val + n.val; rw [(index2 t).2]; omega)

/-- What the result array ends holding: the product. -/
def product (a : S64x4096.Idx → EReal) (w : S2x4096x22016.Idx → EReal) (i : S64x22016.Idx) : EReal :=
  ∑ k : Fin 4096, a (ix2 (i 0) k) * w (ix3 0 k (i 1))

abbrev result (c : Dev nD) := product (m ((c : Thread nD τ).loc main_arg0)) (m ((c : Thread nD τ).loc main_arg1))

theorem pay1_apply (x : Vec Ideal S64x4096 .bf16) (w : Vec Ideal S1x4096x512 .f32) (r : Fin 64) (n : Fin 512) :
    k0_pay1 x w (ix2 r n) = ∑ k : Fin 4096, (x (ix2 r k) : EReal) * w (ix3 0 k n) := by
  pointwise [k0_pay1]

/-- Every index lies in some point's block, and each point writes its block of the product back. -/
theorem final_result (c : Dev nD) : (dats m 0 c).arrAt 2 cfg0.N = result m c := by
  funext i
  rw [(dats m 0 c).arrAt_eq_piecewise 2 (result m c) (fun t _ => ?_) i]
  · obtain ⟨r, n, rfl⟩ : ∃ (r : Fin 64) (n : Fin 22016), i = ix2 r n := ⟨i 0, i 1, eq_ix2 i⟩
    let t : Fin cfg0.N := ⟨n.val / 512, by rw [show cfg0.N = 43 from N_0]; omega⟩
    have e := emb2 t r ⟨n.val % 512, by omega⟩
    rw [show (⟨512 * t.val + n.val % 512, by have := point_lt t; omega⟩ : Fin 22016) = n from Fin.ext (Nat.div_add_mod _ _)] at e
    exact if_pos ⟨t, flush0_2 t, e ▸ ((cfg0.win 2).blk t).view.emb_mem_set _⟩
  · rw [flushed2, show out0_2 (iblk m c 0 t) (iblk m c 1 t) = k0_pay1 (iblk m c 0 t) (iblk m c 1 t) from by
      unfold out0_2; simp only [View.canon_unit_zero (S := S64x512) zero2, View.ld_unit_zero (S := S64x4096) zero2, View.ld_unit_zero (S := S1x4096x512) zero3]]
    generalize hX : k0_pay1 (iblk m c 0 t) (iblk m c 1 t) = X
    generalize hG : result m c = G
    funext y
    rw [View.read_apply]
    show X y = G _
    subst hX hG
    obtain ⟨r, n, rfl⟩ : ∃ (r : Fin 64) (n : Fin 512), y = ix2 r n := ⟨y 0, y 1, eq_ix2 y⟩
    rw [emb2, pay1_apply]
    simp only [iblk0_apply, iblk1_apply]
    rfl

/-- The reference leaves its arguments as they were, and it declares no semaphore. -/
theorem frame_reference : Cert.quiescent_Reference15Ideal := fun m' ρ' _ =>
  (θ_run _ _ _).mono (fun r hr => ⟨fun c => (hr c).2, sem_eq_zero_of_no_sems (by decide) r.2⟩) (Reference15Ideal.Value.run m' ρ')

/-- Both programs end with the same product. -/
theorem algebraic : Cert.algebraic_Kernel15Ideal_Reference15Ideal := by
  intro m ρ m' ρ' _ h
  refine ⟨result m, (θ_run _ _ _).mono (fun _ hr c => ⟨(hr c).1.trans (final_result m c), (hr c).2⟩) (Kernel15Ideal.Value.run_blocks m ρ),
    (θ_run _ _ _).mono (fun _ hr c => ⟨(hr c).1.trans ?_, (hr c).2⟩) (Reference15Ideal.Value.run m' ρ')⟩
  obtain ⟨e0, e1⟩ := h c
  rw [e0, e1]
  funext i
  idx_vars i
  pointwise
  rfl

end Cert.Proof.Up.P15

end
-- ==== Proof.Up.Second.lean ====
/-
  THE SAMPLE ROWS' UP PROJECTION of layer 1 (mm_up): the product of the 64 rows with the layer's weights. Point `t` works on
  columns 512 t to 512 t + 511.
-/
module

public import proofs.«01_k».proof.Proof.Gen.Kernel16Ideal.Value
public import proofs.«01_k».proof.Proof.Gen.Kernel16.Frame
public import proofs.«01_k».proof.Proof.Gen.Reference16Ideal.Run
public import proofs.«01_k».proof.Proof.Norm.Row
public import proofs.«01_k».proof.Defs
public import Idealize.ShloMosaic.Lib.StableHlo.Run
public import Idealize.ShloMosaic.Lib.Quiescent

@[expose] public section

noncomputable section

namespace Cert.Proof.Up.P16

open Cert.Kernel16Ideal Cert.Kernel16Ideal.Gen Cert.Kernel16Ideal.Value Norm
open Idealize.ShloMosaic Idealize.ShloMosaic.TcCoe Idealize.SL.Sem
open Idealize.ShloMosaic.Pipeline (Dat)

variable (m : (ℓ : Loc nD τ sig) → Buf (Elt Ideal) ℓ)

theorem point_lt (t : Fin cfg0.N) : t.val < 43 := lt_of_lt_of_eq t.isLt N_0
theorem index0 : ∀ t : Fin cfg0.N, win0_0.index t 0 = 0 ∧ win0_0.index t 1 = 0 :=
  (by decide +kernel : ∀ t : Fin grid0.N, _)
theorem index1 : ∀ t : Fin cfg0.N, win0_1.index t 0 = 1 ∧ win0_1.index t 1 = 0 ∧ win0_1.index t 2 = t.val :=
  (by decide +kernel : ∀ t : Fin grid0.N, _)
theorem index2 : ∀ t : Fin cfg0.N, win0_2.index t 0 = 0 ∧ win0_2.index t 1 = t.val :=
  (by decide +kernel : ∀ t : Fin grid0.N, _)

/-- The rows' block is all of them. -/
theorem iblk0_apply (c : Dev nD) (t : Fin cfg0.N) (r : Fin 64) (k : Fin 4096) :
    (iblk m c 0 t : Vec Ideal S64x4096 .bf16) (ix2 r k) = m ((c : Thread nD τ).loc main_arg0) (ix2 r k) := by
  unfold iblk
  rw [View.read_apply, ← V_main_arg0 m c]
  exact congrArg (V m c main_arg0) (at_ix2 _ _ _ (by show win0_0.index t 0 * 64 + 1 * r.val = r.val; rw [(index0 t).1]; omega)
    (by show win0_0.index t 1 * 4096 + 1 * k.val = k.val; rw [(index0 t).2]; omega))

/-- The weights' block: the point's columns of the layer's weights. -/
theorem iblk1_apply (c : Dev nD) (t : Fin cfg0.N) (k : Fin 4096) (n : Fin 512) :
    (iblk m c 1 t : Vec Ideal S1x4096x512 .f32) (ix3 0 k n)
      = m ((c : Thread nD τ).loc main_arg1) (ix3 1 k ⟨512 * t.val + n.val, by have := point_lt t; omega⟩) := by
  unfold iblk
  rw [View.read_apply, ← V_main_arg1 m c]
  refine congrArg (V m c main_arg1) (funext fun a => Fin.ext ?_)
  match a with
  | ⟨0, _⟩ => show win0_1.index t 0 * 1 + 1 * 0 = 1; rw [(index1 t).1]
  | ⟨1, _⟩ => show win0_1.index t 1 * 4096 + 1 * k.val = k.val; rw [(index1 t).2.1]; omega
  | ⟨2, _⟩ => show win0_1.index t 2 * 512 + 1 * n.val = 512 * t.val + n.val; rw [(index1 t).2.2]; omega

/-- The output block lies at the point's columns. -/
theorem emb2 (t : Fin cfg0.N) (r : Fin 64) (n : Fin 512) :
    ((cfg0.win 2).blk t).view.emb (ix2 r n : S64x512.Idx) = (ix2 r ⟨512 * t.val + n.val, by have := point_lt t; omega⟩ : S64x22016.Idx) :=
  at_ix2 _ _ _ (by show win0_2.index t 0 * 64 + 1 * r.val = r.val; rw [(index2 t).1]; omega)
    (by show win0_2.index t 1 * 512 + 1 * n.val = 512 * t.val + n.val; rw [(index2 t).2]; omega)

/-- What the result array ends holding: the product. -/
def product (a : S64x4096.Idx → EReal) (w : S2x4096x22016.Idx → EReal) (i : S64x22016.Idx) : EReal :=
  ∑ k : Fin 4096, a (ix2 (i 0) k) * w (ix3 1 k (i 1))

abbrev result (c : Dev nD) := product (m ((c : Thread nD τ).loc main_arg0)) (m ((c : Thread nD τ).loc main_arg1))

theorem pay1_apply (x : Vec Ideal S64x4096 .bf16) (w : Vec Ideal S1x4096x512 .f32) (r : Fin 64) (n : Fin 512) :
    k0_pay1 x w (ix2 r n) = ∑ k : Fin 4096, (x (ix2 r k) : EReal) * w (ix3 0 k n) := by
  pointwise [k0_pay1]

/-- Every index lies in some point's block, and each point writes its block of the product back. -/
theorem final_result (c : Dev nD) : (dats m 0 c).arrAt 2 cfg0.N = result m c := by
  funext i
  rw [(dats m 0 c).arrAt_eq_piecewise 2 (result m c) (fun t _ => ?_) i]
  · obtain ⟨r, n, rfl⟩ : ∃ (r : Fin 64) (n : Fin 22016), i = ix2 r n := ⟨i 0, i 1, eq_ix2 i⟩
    let t : Fin cfg0.N := ⟨n.val / 512, by rw [show cfg0.N = 43 from N_0]; omega⟩
    have e := emb2 t r ⟨n.val % 512, by omega⟩
    rw [show (⟨512 * t.val + n.val % 512, by have := point_lt t; omega⟩ : Fin 22016) = n from Fin.ext (Nat.div_add_mod _ _)] at e
    exact if_pos ⟨t, flush0_2 t, e ▸ ((cfg0.win 2).blk t).view.emb_mem_set _⟩
  · rw [flushed2, show out0_2 (iblk m c 0 t) (iblk m c 1 t) = k0_pay1 (iblk m c 0 t) (iblk m c 1 t) from by
      unfold out0_2; simp only [View.canon_unit_zero (S := S64x512) zero2, View.ld_unit_zero (S := S64x4096) zero2, View.ld_unit_zero (S := S1x4096x512) zero3]]
    generalize hX : k0_pay1 (iblk m c 0 t) (iblk m c 1 t) = X
    generalize hG : result m c = G
    funext y
    rw [View.read_apply]
    show X y = G _
    subst hX hG
    obtain ⟨r, n, rfl⟩ : ∃ (r : Fin 64) (n : Fin 512), y = ix2 r n := ⟨y 0, y 1, eq_ix2 y⟩
    rw [emb2, pay1_apply]
    simp only [iblk0_apply, iblk1_apply]
    rfl

/-- The reference leaves its arguments as they were, and it declares no semaphore. -/
theorem frame_reference : Cert.quiescent_Reference16Ideal := fun m' ρ' _ =>
  (θ_run _ _ _).mono (fun r hr => ⟨fun c => (hr c).2, sem_eq_zero_of_no_sems (by decide) r.2⟩) (Reference16Ideal.Value.run m' ρ')

/-- Both programs end with the same product. -/
theorem algebraic : Cert.algebraic_Kernel16Ideal_Reference16Ideal := by
  intro m ρ m' ρ' _ h
  refine ⟨result m, (θ_run _ _ _).mono (fun _ hr c => ⟨(hr c).1.trans (final_result m c), (hr c).2⟩) (Kernel16Ideal.Value.run_blocks m ρ),
    (θ_run _ _ _).mono (fun _ hr c => ⟨(hr c).1.trans ?_, (hr c).2⟩) (Reference16Ideal.Value.run m' ρ')⟩
  obtain ⟨e0, e1⟩ := h c
  rw [e0, e1]
  funext i
  idx_vars i
  pointwise
  rfl

end Cert.Proof.Up.P16

end
-- ==== Proof.KvS.First.lean ====
/-
  THE SAMPLE ROWS' KEYS AND VALUES of layer 0 (mm_kv): the products of the 64 rows with the layer's key and value columns of
  the input projection, written into the layer's slot of each result. Of layer 1's slot nothing is said.
  Point `t` works on columns 256 t to 256 t + 255, and rounds its own weight tiles before it multiplies.
-/
module

public import proofs.«01_k».proof.Proof.Gen.Kernel18Ideal.Value
public import proofs.«01_k».proof.Proof.Gen.Kernel18.Frame
public import proofs.«01_k».proof.Proof.Gen.Reference18Ideal.Run
public import proofs.«01_k».proof.Proof.Gen.On_layer_zero_sample
public import proofs.«01_k».proof.Proof.Norm.Row
public import proofs.«01_k».proof.Defs
public import Idealize.ShloMosaic.Lib.Tactic
public import Idealize.ShloMosaic.Lib.Pointwise
public import Idealize.ShloMosaic.Lib.StableHlo.Run
public import Idealize.ShloMosaic.Lib.Quiescent

@[expose] public section

noncomputable section

namespace Cert.Proof.KvS.P18

open Idealize.ShloMosaic Idealize.ShloMosaic.TcCoe Idealize.SL.Sem
open Idealize.ShloMosaic.Pipeline (Dat)

section Kernel

open Cert.Kernel18Ideal Cert.Kernel18Ideal.Gen Cert.Kernel18Ideal.Value Norm

/-- Layer 0's columns `off …` of the input projection applied to the activations, whatever the slot. -/
def projZero (off : ℕ) (hoff : off + 1024 ≤ 13120) (h : S64x4096.Idx → EReal) (w : S2x4096x13120.Idx → EReal)
    (i : S2x64x1024.Idx) : EReal :=
  ∑ k : Fin 4096, h (ix2 (i 1) k) * w (ix3 0 k ⟨off + (i 2).val, by have : (i 2).val < 1024 := (i 2).isLt; omega⟩)

variable (m : (ℓ : Loc nD τ sig) → Buf (Elt Ideal) ℓ)

theorem point_lt (t : Fin cfg0.N) : t.val < 4 := lt_of_lt_of_eq t.isLt N_0

section Point

variable (c : Dev nD) (i : grid0.Coords) (a2 : Memref sig .tc .vmem S64x4096 .bf16) (h2 : a2.IsWhole)
  (a3 : Memref sig .tc .vmem S1x256x4096 .f32) (h3 : a3.IsWhole) (a4 : Memref sig .tc .vmem S1x256x4096 .f32) (h4 : a4.IsWhole)
  (a5 : Memref sig .tc .vmem S1x64x256 .f32) (h5 : a5.IsWhole) (a6 : Memref sig .tc .vmem S1x64x256 .f32) (h6 : a6.IsWhole)
  (a7 : Memref sig .tc .vmem S256x4096 .bf16) (h7 : a7.IsWhole) (a8 : Memref sig .tc .vmem S256x4096 .bf16) (h8 : a8.IsWhole)
  (x0 : Vec Ideal S64x4096 .bf16) (x1 x2 : Vec Ideal S1x256x4096 .f32)

/-- The first output block is the product with the first tile, rounded at the point itself … -/
theorem out0_first (hc : cond0_0 i) :
    out0_A_3 c i a2 h2 a3 h3 a4 h4 a5 h5 a6 h6 a7 h7 a8 h8 hc x0 x1 x2 = k0_pay3 x0 (k0_pay1 x1) := by
  refine (View.read_writes_eq_canon _ _ _ fun _ => cover0_A_3 ..).trans ?_
  unfold kernelRun0_A
  sl_unfold_words
  rw [View.canon_unit_zero zero3]
  simp only [View.readCov_unit_zero (S := S256x4096) _ zero2, View.readAt_eq_ld, h2.read_unread, h3.read_unread, View.ld_unit_zero (S := S1x256x4096) zero3, View.ld_unit_zero (S := S64x4096) zero2]

/-- … and the second with the second. -/
theorem out1_first (hc : cond0_0 i) :
    out0_A_4 c i a2 h2 a3 h3 a4 h4 a5 h5 a6 h6 a7 h7 a8 h8 hc x0 x1 x2 = k0_pay4 x0 (k0_pay2 x2) := by
  refine (View.read_writes_eq_canon _ _ _ fun _ => cover0_A_4 ..).trans ?_
  unfold kernelRun0_A
  sl_unfold_words
  rw [View.canon_unit_zero zero3]
  simp only [View.readCov_unit_zero (S := S256x4096) _ zero2, View.readAt_eq_ld, h2.read_unread, h4.read_unread, View.ld_unit_zero (S := S1x256x4096) zero3, View.ld_unit_zero (S := S64x4096) zero2]

end Point

/-- The row block is all the rows. -/
theorem index0 : ∀ t : Fin cfg0.N, win0_0.index t 0 = 0 ∧ win0_0.index t 1 = 0 :=
  (by decide +kernel : ∀ t : Fin grid0.N, _)

/-- The key weights' tile starts at column `11072 + 256 t` of layer 0. -/
theorem index1 : ∀ t : Fin cfg0.N, win0_1.index t 0 = 0 ∧ win0_1.index t 1 = 11072 + 256 * t.val ∧ win0_1.index t 2 = 0 :=
  (by decide +kernel : ∀ t : Fin grid0.N, _)

/-- The value weights' tile starts at column `12096 + 256 t` of layer 0. -/
theorem index2 : ∀ t : Fin cfg0.N, win0_2.index t 0 = 0 ∧ win0_2.index t 1 = 12096 + 256 * t.val ∧ win0_2.index t 2 = 0 :=
  (by decide +kernel : ∀ t : Fin grid0.N, _)

/-- The key output's block: layer 0, all rows, column tile `t`. -/
theorem index3 : ∀ t : Fin cfg0.N, win0_3.index t 0 = 0 ∧ win0_3.index t 1 = 0 ∧ win0_3.index t 2 = t.val :=
  (by decide +kernel : ∀ t : Fin grid0.N, _)

/-- The value output's block is the same one of its own array. -/
theorem index4 : ∀ t : Fin cfg0.N, win0_4.index t 0 = 0 ∧ win0_4.index t 1 = 0 ∧ win0_4.index t 2 = t.val :=
  (by decide +kernel : ∀ t : Fin grid0.N, _)

/-- The row block read at point `t`, by coordinates. -/
theorem iblk0_apply (c : Dev nD) (t : Fin cfg0.N) (r : Fin 64) (k : Fin 4096) :
    (iblk m c 0 t : Vec Ideal S64x4096 .bf16) (ix2 r k)
      = m ((c : Thread nD τ).loc main_arg0) (ix2 r k) := by
  have hi := index0 t
  unfold iblk
  rw [View.read_apply, ← V_main_arg0 m c]
  refine congrArg (V m c main_arg0) (funext fun a => Fin.ext ?_)
  match a with
  | ⟨0, _⟩ => show win0_0.index t 0 * 64 + 1 * r.val = r.val; rw [hi.1]; omega
  | ⟨1, _⟩ => show win0_0.index t 1 * 4096 + 1 * k.val = k.val; rw [hi.2]; omega

/-- The key weights' tile read at point `t`, by coordinates of the weights stored with the contracted axis last. -/
theorem iblk1_apply (c : Dev nD) (t : Fin cfg0.N) (z : Fin 1) (n : Fin 256) (k : Fin 4096) :
    (iblk m c 1 t : Vec Ideal S1x256x4096 .f32) (ix3 z n k)
      = (V m c main_v0 : Vec Ideal S2x13120x4096 .f32) (ix3 0 ⟨11072 + 256 * t.val + n.val, by have := point_lt t; omega⟩ k) := by
  have hi := index1 t
  unfold iblk
  rw [View.read_apply]
  refine congrArg (V m c main_v0) (funext fun a => Fin.ext ?_)
  match a with
  | ⟨0, _⟩ => show win0_1.index t 0 + 1 * z.val = 0; rw [hi.1]; omega
  | ⟨1, _⟩ => show win0_1.index t 1 + 1 * n.val = 11072 + 256 * t.val + n.val; rw [hi.2.1]; omega
  | ⟨2, _⟩ => show win0_1.index t 2 + 1 * k.val = k.val; rw [hi.2.2]; omega

/-- The value weights' tile read at point `t`. -/
theorem iblk2_apply (c : Dev nD) (t : Fin cfg0.N) (z : Fin 1) (n : Fin 256) (k : Fin 4096) :
    (iblk m c 2 t : Vec Ideal S1x256x4096 .f32) (ix3 z n k)
      = (V m c main_v0 : Vec Ideal S2x13120x4096 .f32) (ix3 0 ⟨12096 + 256 * t.val + n.val, by have := point_lt t; omega⟩ k) := by
  have hi := index2 t
  unfold iblk
  rw [View.read_apply]
  refine congrArg (V m c main_v0) (funext fun a => Fin.ext ?_)
  match a with
  | ⟨0, _⟩ => show win0_2.index t 0 + 1 * z.val = 0; rw [hi.1]; omega
  | ⟨1, _⟩ => show win0_2.index t 1 + 1 * n.val = 12096 + 256 * t.val + n.val; rw [hi.2.1]; omega
  | ⟨2, _⟩ => show win0_2.index t 2 + 1 * k.val = k.val; rw [hi.2.2]; omega

/-- The host transposes the weights before the call: the contracted axis goes last. -/
theorem V_v0 (c : Dev nD) (l : Fin 2) (n : Fin 13120) (k : Fin 4096) :
    (V m c main_v0 : S2x13120x4096.Idx → EReal) (ix3 l n k) = (m ((c : Thread nD τ).loc main_arg1) : S2x4096x13120.Idx → EReal) (ix3 l k n) := by
  have e : V m c main_v0 = transpose S2x13120x4096 [0, 2, 1] (m ((c : Thread nD τ).loc main_arg1)) transposes_S2x4096x13120_S2x13120x4096_0_2_1 := by
    unfold V
    after_results
  rw [e]
  pointwise

/-- One element of a product block: the row of the row block against the row of the rounded tile. -/
theorem pay3_apply (x : Vec Ideal S64x4096 .bf16) (w : Vec Ideal S1x256x4096 .f32) (z : Fin 1) (r : Fin 64) (n : Fin 256) :
    (k0_pay3 x (k0_pay1 w)) (ix3 z r n) = ∑ k : Fin 4096, (x (ix2 r k) : EReal) * w (ix3 0 n k) := by
  pointwise [k0_pay3, k0_pay1]

theorem pay4_apply (x : Vec Ideal S64x4096 .bf16) (w : Vec Ideal S1x256x4096 .f32) (z : Fin 1) (r : Fin 64) (n : Fin 256) :
    (k0_pay4 x (k0_pay2 w)) (ix3 z r n) = ∑ k : Fin 4096, (x (ix2 r k) : EReal) * w (ix3 0 n k) := by
  pointwise [k0_pay4, k0_pay2]

/-- What the first result array ends holding in layer 0's slot, by the arguments. -/
abbrev keys (c : Dev nD) : S2x64x1024.Idx → EReal :=
  projZero 11072 (by decide) (m ((c : Thread nD τ).loc main_arg0)) (m ((c : Thread nD τ).loc main_arg1))

/-- What the second result array ends holding there. -/
abbrev vals (c : Dev nD) : S2x64x1024.Idx → EReal :=
  projZero 12096 (by decide) (m ((c : Thread nD τ).loc main_arg0)) (m ((c : Thread nD τ).loc main_arg1))

/-- An output block's place in its array, by coordinates. -/
theorem emb3 (t : Fin cfg0.N) (z : Fin 1) (r : Fin 64) (n : Fin 256) :
    ((cfg0.win 3).blk t).view.emb (ix3 z r n : S1x64x256.Idx)
      = (ix3 0 r ⟨256 * t.val + n.val, by have := point_lt t; omega⟩ : S2x64x1024.Idx) := by
  have hi := index3 t
  funext a
  apply Fin.ext
  match a with
  | ⟨0, _⟩ => show win0_3.index t 0 * 1 + 1 * z.val = 0; rw [hi.1]; omega
  | ⟨1, _⟩ => show win0_3.index t 1 * 64 + 1 * r.val = r.val; rw [hi.2.1]; omega
  | ⟨2, _⟩ => show win0_3.index t 2 * 256 + 1 * n.val = 256 * t.val + n.val; rw [hi.2.2]; omega

theorem emb4 (t : Fin cfg0.N) (z : Fin 1) (r : Fin 64) (n : Fin 256) :
    ((cfg0.win 4).blk t).view.emb (ix3 z r n : S1x64x256.Idx)
      = (ix3 0 r ⟨256 * t.val + n.val, by have := point_lt t; omega⟩ : S2x64x1024.Idx) := by
  have hi := index4 t
  funext a
  apply Fin.ext
  match a with
  | ⟨0, _⟩ => show win0_4.index t 0 * 1 + 1 * z.val = 0; rw [hi.1]; omega
  | ⟨1, _⟩ => show win0_4.index t 1 * 64 + 1 * r.val = r.val; rw [hi.2.1]; omega
  | ⟨2, _⟩ => show win0_4.index t 2 * 256 + 1 * n.val = 256 * t.val + n.val; rw [hi.2.2]; omega

/-- Two columns of layer 0 of equal position hold the same weights. -/
theorem weight_congr (w : S2x4096x13120.Idx → EReal) (k : Fin 4096) {a b : Fin 13120} (h : a.val = b.val) :
    w (ix3 0 k a) = w (ix3 0 k b) := by rw [Fin.ext h]

/-- What a point writes back is its block of `keys`. -/
theorem flushed_keys (c : Dev nD) (t : Fin cfg0.N) :
    (dats m 0 c).flushed 3 t = ((cfg0.win 3).blk t).view.read (Elt Ideal) (keys m c) := by
  rw [flushed3_A, out0_first]
  funext y
  rw [View.read_apply]
  show (k0_pay3 (iblk m c 0 t) (k0_pay1 (iblk m c 1 t))) y = keys m c _
  obtain ⟨z, r, n, rfl⟩ : ∃ (z : Fin 1) (r : Fin 64) (n : Fin 256), y = ix3 z r n := ⟨y 0, y 1, y 2, eq_ix3 y⟩
  rw [pay3_apply, emb3]
  unfold keys projZero
  refine Finset.sum_congr rfl fun k _ => ?_
  rw [iblk0_apply, iblk1_apply, V_v0]
  exact congrArg₂ (· * ·) rfl (weight_congr _ k (Nat.add_assoc ..))

theorem flushed_vals (c : Dev nD) (t : Fin cfg0.N) :
    (dats m 0 c).flushed 4 t = ((cfg0.win 4).blk t).view.read (Elt Ideal) (vals m c) := by
  rw [flushed4_A, out1_first]
  funext y
  rw [View.read_apply]
  show (k0_pay4 (iblk m c 0 t) (k0_pay2 (iblk m c 2 t))) y = vals m c _
  obtain ⟨z, r, n, rfl⟩ : ∃ (z : Fin 1) (r : Fin 64) (n : Fin 256), y = ix3 z r n := ⟨y 0, y 1, y 2, eq_ix3 y⟩
  rw [pay4_apply, emb4]
  unfold vals projZero
  refine Finset.sum_congr rfl fun k _ => ?_
  rw [iblk0_apply, iblk2_apply, V_v0]
  exact congrArg₂ (· * ·) rfl (weight_congr _ k (Nat.add_assoc ..))

/-- Every index of layer 0 lies in some point's block. -/
theorem cover (i : S2x64x1024.Idx) (h : (i 0).val = 0) :
    (∃ t : Fin cfg0.N, (cfg0.win 3).flush t = true ∧ i ∈ ((cfg0.win 3).blk t).view.set)
      ∧ ∃ t : Fin cfg0.N, (cfg0.win 4).flush t = true ∧ i ∈ ((cfg0.win 4).blk t).view.set := by
  obtain ⟨l, r, n, rfl⟩ : ∃ (l : Fin 2) (r : Fin 64) (n : Fin 1024), i = ix3 l r n := ⟨i 0, i 1, i 2, eq_ix3 i⟩
  have hl : l = 0 := Fin.ext h
  subst hl
  let t : Fin cfg0.N := ⟨n.val / 256, by rw [show cfg0.N = 4 from N_0]; omega⟩
  have ht : t.val = n.val / 256 := rfl
  have e3 := emb3 t 0 r ⟨n.val % 256, by omega⟩
  have e4 := emb4 t 0 r ⟨n.val % 256, by omega⟩
  have e : (ix3 0 r ⟨256 * t.val + n.val % 256, by rw [ht]; omega⟩ : S2x64x1024.Idx) = ix3 0 r n := by
    rw [show (⟨256 * t.val + n.val % 256, by rw [ht]; omega⟩ : Fin 1024) = n from Fin.ext (Nat.div_add_mod _ _)]
  exact ⟨⟨t, flush0_3 t, (e3.trans e) ▸ ((cfg0.win 3).blk t).view.emb_mem_set _⟩,
    ⟨t, flush0_4 t, (e4.trans e) ▸ ((cfg0.win 4).blk t).view.emb_mem_set _⟩⟩

/-- Layer 0's slot of the first result array after the run. -/
theorem final_keys (c : Dev nD) (i : S2x64x1024.Idx) (h : (i 0).val = 0) : (dats m 0 c).arrAt 3 cfg0.N i = keys m c i := by
  rw [(dats m 0 c).arrAt_eq_piecewise 3 (keys m c) (fun t _ => flushed_keys m c t) i]
  exact if_pos (cover i h).1

/-- Layer 0's slot of the second result array after the run. -/
theorem final_vals (c : Dev nD) (i : S2x64x1024.Idx) (h : (i 0).val = 0) : (dats m 0 c).arrAt 4 cfg0.N i = vals m c i := by
  rw [(dats m 0 c).arrAt_eq_piecewise 4 (vals m c) (fun t _ => flushed_vals m c t) i]
  exact if_pos (cover i h).2

end Kernel

section Reference

open Cert.Reference18Ideal Cert.Reference18Ideal.Gen

/-- The mask is set exactly in layer 0's slot, for either result. -/
theorem mask_iff [Cert.On_layer_zero_sample.Facts] (h : FVec Ideal S64x4096 .bf16) (w : FVec Ideal S2x4096x13120 .f32) (i : S2x64x1024.Idx) :
    ((Cert.On_layer_zero_sample.fn (F := Ideal) h w).1 i = 1#1 ↔ (i 0).val = 0) ∧ ((Cert.On_layer_zero_sample.fn (F := Ideal) h w).2 i = 1#1 ↔ (i 0).val = 0) := by
  have key : ∀ l < 2, IntOp.cmpi .eq (BitVec.ofNat 32 l) 0#32 = 1#1 ↔ l = 0 := by decide
  exact ⟨key _ (i 0).isLt, key _ (i 0).isLt⟩

/-- The whole input projection of layer 0, as the reference forms it. -/
abbrev whole (h : FVec Ideal S64x4096 .bf16) (w : FVec Ideal S2x4096x13120 .f32) : FVec Ideal S64x13120 .f32 :=
  Host.dotGeneral dot_S64x4096_S4096x13120_S64x13120_1_0_0_1_n_n none (extf .f32 h bitsLt_bf16_f32) (shapeCast _ (extractStridedSlice S1x4096x13120 ![0, 0, 0] w slices_S2x4096x13120_S1x4096x13120_0_0_0) shapeCasts_S1x4096x13120_S4096x13120)

/-- Columns of a projection stacked on another array. -/
abbrev stacked (p z : FVec Ideal S64x1024 .f32) : FVec Ideal S2x64x1024 .f32 :=
  concatenate S2x64x1024 0 [⟨S1x64x1024, (broadcastInDim S1x64x1024 ![1, 2] bcast_S64x1024_S1x64x1024_1_2 p)⟩, ⟨S1x64x1024, (broadcastInDim S1x64x1024 ![1, 2] bcast_S64x1024_S1x64x1024_1_2 z)⟩] concatenates_S1x64x1024_S1x64x1024_S2x64x1024_d0

/-- The reference's keys and values in layer 0's slot. -/
theorem reference_both (h : FVec Ideal S64x4096 .bf16) (w : FVec Ideal S2x4096x13120 .f32) (z : FVec Ideal S64x1024 .f32)
    (i : S2x64x1024.Idx) (hi : (i 0).val = 0) :
    stacked (extractStridedSlice S64x1024 ![0, 11072] (whole h w) slices_S64x13120_S64x1024_0_11072) z i
      = projZero 11072 (by decide) h w i
      ∧ stacked (extractStridedSlice S64x1024 ![0, 12096] (whole h w) slices_S64x13120_S64x1024_0_12096) z i
      = projZero 12096 (by decide) h w i := by
  idx_vars i
  constructor
  all_goals
    unfold projZero stacked whole
    pointwise
    rw [dif_pos (by have : i0.val = 0 := hi; omega)]

end Reference

/-- The reference leaves its arguments as they were, and it declares no semaphore. -/
theorem frame_reference : Cert.quiescent_Reference18Ideal := fun m' ρ' _ =>
  (θ_run _ _ _).mono (fun r hr => ⟨fun c => (hr c).2.2, sem_eq_zero_of_no_sems (by decide) r.2⟩) (Reference18Ideal.Value.run m' ρ')

/-- Where the mask is set both programs' results are layer 0's keys and values. -/
theorem algebraic : Cert.algebraic_Kernel18Ideal_Reference18Ideal_on_layer_zero_sample := by
  intro m ρ m' ρ' _ h
  refine ⟨keys m, vals m, ?_, ?_⟩
  · exact (θ_run _ _ _).mono (fun _ hr c =>
      ⟨fun i hi => (congrFun (hr c).1 i).trans (final_keys m c i ((mask_iff _ _ i).1.mp hi)),
        fun i hi => (congrFun (hr c).2.1 i).trans (final_vals m c i ((mask_iff _ _ i).2.mp hi)), (hr c).2.2⟩)
      (Kernel18Ideal.Value.run_blocks m ρ)
  · refine (θ_run _ _ _).mono (fun _ hr c => ?_) (Reference18Ideal.Value.run m' ρ')
    obtain ⟨e0, e1⟩ := h c
    refine ⟨fun i hi => (congrFun (hr c).1 i).trans ?_, fun i hi => (congrFun (hr c).2.1 i).trans ?_, (hr c).2.2⟩
    · rw [e0, e1]
      exact (reference_both _ _ _ i ((mask_iff _ _ i).1.mp hi)).1
    · rw [e0, e1]
      exact (reference_both _ _ _ i ((mask_iff _ _ i).2.mp hi)).2

end Cert.Proof.KvS.P18

end
-- ==== Proof.KvS.Second.lean ====
/-
  THE SAMPLE ROWS' KEYS AND VALUES of layer 1 (mm_kv): the products of the 64 rows with the layer's key and value columns of
  the input projection, written into the layer's slot of each result; layer 0's slot is as the result's buffer came in.
  Point `t` works on columns 256 t to 256 t + 255, and rounds its own weight tiles before it multiplies.
-/
module

public import proofs.«01_k».proof.Proof.Gen.Kernel17Ideal.Value
public import proofs.«01_k».proof.Proof.Gen.Kernel17.Frame
public import proofs.«01_k».proof.Proof.Gen.Reference17Ideal.Run
public import proofs.«01_k».proof.Proof.Norm.Row
public import proofs.«01_k».proof.Defs
public import Idealize.ShloMosaic.Lib.Tactic
public import Idealize.ShloMosaic.Lib.Pointwise
public import Idealize.ShloMosaic.Lib.StableHlo.Run
public import Idealize.ShloMosaic.Lib.Quiescent

@[expose] public section

noncomputable section

namespace Cert.Proof.KvS.P17

open Idealize.ShloMosaic Idealize.ShloMosaic.TcCoe Idealize.SL.Sem
open Idealize.ShloMosaic.Pipeline (Dat)

section Kernel

open Cert.Kernel17Ideal Cert.Kernel17Ideal.Gen Cert.Kernel17Ideal.Value Norm

/-- Layer 1's columns `off …` of the input projection applied to the activations, over what the buffer held in layer 0. -/
def projInto (off : ℕ) (hoff : off + 1024 ≤ 13120) (h : S64x4096.Idx → EReal) (w : S2x4096x13120.Idx → EReal)
    (buf : S2x64x1024.Idx → EReal) (i : S2x64x1024.Idx) : EReal :=
  if (i 0).val = 1 then ∑ k : Fin 4096, h (ix2 (i 1) k) * w (ix3 1 k ⟨off + (i 2).val, by have : (i 2).val < 1024 := (i 2).isLt; omega⟩)
  else buf i

variable (m : (ℓ : Loc nD τ sig) → Buf (Elt Ideal) ℓ)

theorem point_lt (t : Fin cfg0.N) : t.val < 4 := lt_of_lt_of_eq t.isLt N_0

section Point

variable (c : Dev nD) (i : grid0.Coords) (a2 : Memref sig .tc .vmem S64x4096 .bf16) (h2 : a2.IsWhole)
  (a3 : Memref sig .tc .vmem S1x256x4096 .f32) (h3 : a3.IsWhole) (a4 : Memref sig .tc .vmem S1x256x4096 .f32) (h4 : a4.IsWhole)
  (a5 : Memref sig .tc .vmem S1x64x256 .f32) (h5 : a5.IsWhole) (a6 : Memref sig .tc .vmem S1x64x256 .f32) (h6 : a6.IsWhole)
  (a7 : Memref sig .tc .vmem S256x4096 .bf16) (h7 : a7.IsWhole) (a8 : Memref sig .tc .vmem S256x4096 .bf16) (h8 : a8.IsWhole)
  (x0 : Vec Ideal S64x4096 .bf16) (x1 x2 : Vec Ideal S1x256x4096 .f32)

/-- The first output block is the product with the first tile, rounded at the point itself … -/
theorem out0_first (hc : cond0_0 i) :
    out0_A_3 c i a2 h2 a3 h3 a4 h4 a5 h5 a6 h6 a7 h7 a8 h8 hc x0 x1 x2 = k0_pay3 x0 (k0_pay1 x1) := by
  refine (View.read_writes_eq_canon _ _ _ fun _ => cover0_A_3 ..).trans ?_
  unfold kernelRun0_A
  sl_unfold_words
  rw [View.canon_unit_zero zero3]
  simp only [View.readCov_unit_zero (S := S256x4096) _ zero2, View.readAt_eq_ld, h2.read_unread, h3.read_unread, View.ld_unit_zero (S := S1x256x4096) zero3, View.ld_unit_zero (S := S64x4096) zero2]

/-- … and the second with the second. -/
theorem out1_first (hc : cond0_0 i) :
    out0_A_4 c i a2 h2 a3 h3 a4 h4 a5 h5 a6 h6 a7 h7 a8 h8 hc x0 x1 x2 = k0_pay4 x0 (k0_pay2 x2) := by
  refine (View.read_writes_eq_canon _ _ _ fun _ => cover0_A_4 ..).trans ?_
  unfold kernelRun0_A
  sl_unfold_words
  rw [View.canon_unit_zero zero3]
  simp only [View.readCov_unit_zero (S := S256x4096) _ zero2, View.readAt_eq_ld, h2.read_unread, h4.read_unread, View.ld_unit_zero (S := S1x256x4096) zero3, View.ld_unit_zero (S := S64x4096) zero2]

end Point

/-- The row block is all the rows. -/
theorem index0 : ∀ t : Fin cfg0.N, win0_0.index t 0 = 0 ∧ win0_0.index t 1 = 0 :=
  (by decide +kernel : ∀ t : Fin grid0.N, _)

/-- The key weights' tile starts at column `11072 + 256 t` of layer 1. -/
theorem index1 : ∀ t : Fin cfg0.N, win0_1.index t 0 = 1 ∧ win0_1.index t 1 = 11072 + 256 * t.val ∧ win0_1.index t 2 = 0 :=
  (by decide +kernel : ∀ t : Fin grid0.N, _)

/-- The value weights' tile starts at column `12096 + 256 t` of layer 1. -/
theorem index2 : ∀ t : Fin cfg0.N, win0_2.index t 0 = 1 ∧ win0_2.index t 1 = 12096 + 256 * t.val ∧ win0_2.index t 2 = 0 :=
  (by decide +kernel : ∀ t : Fin grid0.N, _)

/-- The key output's block: layer 1, all rows, column tile `t`. -/
theorem index3 : ∀ t : Fin cfg0.N, win0_3.index t 0 = 1 ∧ win0_3.index t 1 = 0 ∧ win0_3.index t 2 = t.val :=
  (by decide +kernel : ∀ t : Fin grid0.N, _)

/-- The value output's block is the same one of its own array. -/
theorem index4 : ∀ t : Fin cfg0.N, win0_4.index t 0 = 1 ∧ win0_4.index t 1 = 0 ∧ win0_4.index t 2 = t.val :=
  (by decide +kernel : ∀ t : Fin grid0.N, _)

/-- The row block read at point `t`, by coordinates. -/
theorem iblk0_apply (c : Dev nD) (t : Fin cfg0.N) (r : Fin 64) (k : Fin 4096) :
    (iblk m c 0 t : Vec Ideal S64x4096 .bf16) (ix2 r k)
      = m ((c : Thread nD τ).loc main_arg0) (ix2 r k) := by
  have hi := index0 t
  unfold iblk
  rw [View.read_apply, ← V_main_arg0 m c]
  refine congrArg (V m c main_arg0) (funext fun a => Fin.ext ?_)
  match a with
  | ⟨0, _⟩ => show win0_0.index t 0 * 64 + 1 * r.val = r.val; rw [hi.1]; omega
  | ⟨1, _⟩ => show win0_0.index t 1 * 4096 + 1 * k.val = k.val; rw [hi.2]; omega

/-- The key weights' tile read at point `t`, by coordinates of the weights stored with the contracted axis last. -/
theorem iblk1_apply (c : Dev nD) (t : Fin cfg0.N) (z : Fin 1) (n : Fin 256) (k : Fin 4096) :
    (iblk m c 1 t : Vec Ideal S1x256x4096 .f32) (ix3 z n k)
      = (V m c main_v0 : Vec Ideal S2x13120x4096 .f32) (ix3 1 ⟨11072 + 256 * t.val + n.val, by have := point_lt t; omega⟩ k) := by
  have hi := index1 t
  unfold iblk
  rw [View.read_apply]
  refine congrArg (V m c main_v0) (funext fun a => Fin.ext ?_)
  match a with
  | ⟨0, _⟩ => show win0_1.index t 0 + 1 * z.val = 1; rw [hi.1]; omega
  | ⟨1, _⟩ => show win0_1.index t 1 + 1 * n.val = 11072 + 256 * t.val + n.val; rw [hi.2.1]; omega
  | ⟨2, _⟩ => show win0_1.index t 2 + 1 * k.val = k.val; rw [hi.2.2]; omega

/-- The value weights' tile read at point `t`. -/
theorem iblk2_apply (c : Dev nD) (t : Fin cfg0.N) (z : Fin 1) (n : Fin 256) (k : Fin 4096) :
    (iblk m c 2 t : Vec Ideal S1x256x4096 .f32) (ix3 z n k)
      = (V m c main_v0 : Vec Ideal S2x13120x4096 .f32) (ix3 1 ⟨12096 + 256 * t.val + n.val, by have := point_lt t; omega⟩ k) := by
  have hi := index2 t
  unfold iblk
  rw [View.read_apply]
  refine congrArg (V m c main_v0) (funext fun a => Fin.ext ?_)
  match a with
  | ⟨0, _⟩ => show win0_2.index t 0 + 1 * z.val = 1; rw [hi.1]; omega
  | ⟨1, _⟩ => show win0_2.index t 1 + 1 * n.val = 12096 + 256 * t.val + n.val; rw [hi.2.1]; omega
  | ⟨2, _⟩ => show win0_2.index t 2 + 1 * k.val = k.val; rw [hi.2.2]; omega

/-- The host transposes the weights before the call: the contracted axis goes last. -/
theorem V_v0 (c : Dev nD) (l : Fin 2) (n : Fin 13120) (k : Fin 4096) :
    (V m c main_v0 : S2x13120x4096.Idx → EReal) (ix3 l n k) = (m ((c : Thread nD τ).loc main_arg1) : S2x4096x13120.Idx → EReal) (ix3 l k n) := by
  have e : V m c main_v0 = transpose S2x13120x4096 [0, 2, 1] (m ((c : Thread nD τ).loc main_arg1)) transposes_S2x4096x13120_S2x13120x4096_0_2_1 := by
    unfold V
    after_results
  rw [e]
  pointwise

theorem V_out0 (c : Dev nD) : V m c main_v1_0 = m ((c : Thread nD τ).loc main_arg2) := by
  unfold V
  after_results
  rfl
theorem V_out1 (c : Dev nD) : V m c main_v1_1 = m ((c : Thread nD τ).loc main_arg3) := by
  unfold V
  after_results
  rfl

/-- One element of a product block: the row of the row block against the row of the rounded tile. -/
theorem pay3_apply (x : Vec Ideal S64x4096 .bf16) (w : Vec Ideal S1x256x4096 .f32) (z : Fin 1) (r : Fin 64) (n : Fin 256) :
    (k0_pay3 x (k0_pay1 w)) (ix3 z r n) = ∑ k : Fin 4096, (x (ix2 r k) : EReal) * w (ix3 0 n k) := by
  pointwise [k0_pay3, k0_pay1]

theorem pay4_apply (x : Vec Ideal S64x4096 .bf16) (w : Vec Ideal S1x256x4096 .f32) (z : Fin 1) (r : Fin 64) (n : Fin 256) :
    (k0_pay4 x (k0_pay2 w)) (ix3 z r n) = ∑ k : Fin 4096, (x (ix2 r k) : EReal) * w (ix3 0 n k) := by
  pointwise [k0_pay4, k0_pay2]

/-- What the first result array ends holding, by the arguments. -/
abbrev keys (c : Dev nD) : S2x64x1024.Idx → EReal :=
  projInto 11072 (by decide) (m ((c : Thread nD τ).loc main_arg0)) (m ((c : Thread nD τ).loc main_arg1)) (m ((c : Thread nD τ).loc main_arg2))

/-- What the second result array ends holding. -/
abbrev vals (c : Dev nD) : S2x64x1024.Idx → EReal :=
  projInto 12096 (by decide) (m ((c : Thread nD τ).loc main_arg0)) (m ((c : Thread nD τ).loc main_arg1)) (m ((c : Thread nD τ).loc main_arg3))

/-- An output block's place in its array, by coordinates. -/
theorem emb3 (t : Fin cfg0.N) (z : Fin 1) (r : Fin 64) (n : Fin 256) :
    ((cfg0.win 3).blk t).view.emb (ix3 z r n : S1x64x256.Idx)
      = (ix3 1 r ⟨256 * t.val + n.val, by have := point_lt t; omega⟩ : S2x64x1024.Idx) := by
  have hi := index3 t
  funext a
  apply Fin.ext
  match a with
  | ⟨0, _⟩ => show win0_3.index t 0 * 1 + 1 * z.val = 1; rw [hi.1]; omega
  | ⟨1, _⟩ => show win0_3.index t 1 * 64 + 1 * r.val = r.val; rw [hi.2.1]; omega
  | ⟨2, _⟩ => show win0_3.index t 2 * 256 + 1 * n.val = 256 * t.val + n.val; rw [hi.2.2]; omega

theorem emb4 (t : Fin cfg0.N) (z : Fin 1) (r : Fin 64) (n : Fin 256) :
    ((cfg0.win 4).blk t).view.emb (ix3 z r n : S1x64x256.Idx)
      = (ix3 1 r ⟨256 * t.val + n.val, by have := point_lt t; omega⟩ : S2x64x1024.Idx) := by
  have hi := index4 t
  funext a
  apply Fin.ext
  match a with
  | ⟨0, _⟩ => show win0_4.index t 0 * 1 + 1 * z.val = 1; rw [hi.1]; omega
  | ⟨1, _⟩ => show win0_4.index t 1 * 64 + 1 * r.val = r.val; rw [hi.2.1]; omega
  | ⟨2, _⟩ => show win0_4.index t 2 * 256 + 1 * n.val = 256 * t.val + n.val; rw [hi.2.2]; omega

/-- Two columns of layer 1 of equal position hold the same weights. -/
theorem weight_congr (w : S2x4096x13120.Idx → EReal) (k : Fin 4096) {a b : Fin 13120} (h : a.val = b.val) :
    w (ix3 1 k a) = w (ix3 1 k b) := by rw [Fin.ext h]

/-- What a point writes back is its block of `keys`. -/
theorem flushed_keys (c : Dev nD) (t : Fin cfg0.N) :
    (dats m 0 c).flushed 3 t = ((cfg0.win 3).blk t).view.read (Elt Ideal) (keys m c) := by
  rw [flushed3_A, out0_first]
  funext y
  rw [View.read_apply]
  show (k0_pay3 (iblk m c 0 t) (k0_pay1 (iblk m c 1 t))) y = keys m c _
  obtain ⟨z, r, n, rfl⟩ : ∃ (z : Fin 1) (r : Fin 64) (n : Fin 256), y = ix3 z r n := ⟨y 0, y 1, y 2, eq_ix3 y⟩
  rw [pay3_apply, emb3]
  unfold keys projInto
  rw [if_pos (show (ix3 (1 : Fin 2) _ _ 0).val = 1 from rfl)]
  refine Finset.sum_congr rfl fun k _ => ?_
  rw [iblk0_apply, iblk1_apply, V_v0]
  exact congrArg₂ (· * ·) rfl (weight_congr _ k (Nat.add_assoc ..))

theorem flushed_vals (c : Dev nD) (t : Fin cfg0.N) :
    (dats m 0 c).flushed 4 t = ((cfg0.win 4).blk t).view.read (Elt Ideal) (vals m c) := by
  rw [flushed4_A, out1_first]
  funext y
  rw [View.read_apply]
  show (k0_pay4 (iblk m c 0 t) (k0_pay2 (iblk m c 2 t))) y = vals m c _
  obtain ⟨z, r, n, rfl⟩ : ∃ (z : Fin 1) (r : Fin 64) (n : Fin 256), y = ix3 z r n := ⟨y 0, y 1, y 2, eq_ix3 y⟩
  rw [pay4_apply, emb4]
  unfold vals projInto
  rw [if_pos (show (ix3 (1 : Fin 2) _ _ 0).val = 1 from rfl)]
  refine Finset.sum_congr rfl fun k _ => ?_
  rw [iblk0_apply, iblk2_apply, V_v0]
  exact congrArg₂ (· * ·) rfl (weight_congr _ k (Nat.add_assoc ..))

/-- Every index of layer 1 lies in some point's block. -/
theorem cover (i : S2x64x1024.Idx) (h : (i 0).val = 1) :
    (∃ t : Fin cfg0.N, (cfg0.win 3).flush t = true ∧ i ∈ ((cfg0.win 3).blk t).view.set)
      ∧ ∃ t : Fin cfg0.N, (cfg0.win 4).flush t = true ∧ i ∈ ((cfg0.win 4).blk t).view.set := by
  obtain ⟨l, r, n, rfl⟩ : ∃ (l : Fin 2) (r : Fin 64) (n : Fin 1024), i = ix3 l r n := ⟨i 0, i 1, i 2, eq_ix3 i⟩
  have hl : l = 1 := Fin.ext h
  subst hl
  let t : Fin cfg0.N := ⟨n.val / 256, by rw [show cfg0.N = 4 from N_0]; omega⟩
  have ht : t.val = n.val / 256 := rfl
  have e3 := emb3 t 0 r ⟨n.val % 256, by omega⟩
  have e4 := emb4 t 0 r ⟨n.val % 256, by omega⟩
  have e : (ix3 1 r ⟨256 * t.val + n.val % 256, by rw [ht]; omega⟩ : S2x64x1024.Idx) = ix3 1 r n := by
    rw [show (⟨256 * t.val + n.val % 256, by rw [ht]; omega⟩ : Fin 1024) = n from Fin.ext (Nat.div_add_mod _ _)]
  exact ⟨⟨t, flush0_3 t, (e3.trans e) ▸ ((cfg0.win 3).blk t).view.emb_mem_set _⟩,
    ⟨t, flush0_4 t, (e4.trans e) ▸ ((cfg0.win 4).blk t).view.emb_mem_set _⟩⟩

/-- The first result array after the run. -/
theorem final_keys (c : Dev nD) : (dats m 0 c).arrAt 3 cfg0.N = keys m c := by
  funext i
  rw [(dats m 0 c).arrAt_eq_piecewise 3 (keys m c) (fun t _ => flushed_keys m c t) i]
  split
  · rfl
  · rename_i h
    have h0 : ¬((i : S2x64x1024.Idx) 0).val = 1 := fun e => h (cover i e).1
    rw [A_eq]
    unfold keys projInto
    rw [if_neg h0]
    exact congrFun (V_out0 m c) i

/-- The second result array after the run. -/
theorem final_vals (c : Dev nD) : (dats m 0 c).arrAt 4 cfg0.N = vals m c := by
  funext i
  rw [(dats m 0 c).arrAt_eq_piecewise 4 (vals m c) (fun t _ => flushed_vals m c t) i]
  split
  · rfl
  · rename_i h
    have h0 : ¬((i : S2x64x1024.Idx) 0).val = 1 := fun e => h (cover i e).2
    rw [A_eq]
    unfold vals projInto
    rw [if_neg h0]
    exact congrFun (V_out1 m c) i

end Kernel

section Reference

open Cert.Reference17Ideal Cert.Reference17Ideal.Gen

/-- The whole input projection of layer 1, as the reference forms it. -/
abbrev whole (h : FVec Ideal S64x4096 .bf16) (w : FVec Ideal S2x4096x13120 .f32) : FVec Ideal S64x13120 .f32 :=
  Host.dotGeneral dot_S64x4096_S4096x13120_S64x13120_1_0_0_1_n_n none (extf .f32 h bitsLt_bf16_f32) (shapeCast _ (extractStridedSlice S1x4096x13120 ![1, 0, 0] w slices_S2x4096x13120_S1x4096x13120_1_0_0) shapeCasts_S1x4096x13120_S4096x13120)

/-- Columns of a projection stacked under the buffer's layer 0. -/
abbrev stacked (buf : FVec Ideal S2x64x1024 .f32) (p : FVec Ideal S64x1024 .f32) : FVec Ideal S2x64x1024 .f32 :=
  concatenate S2x64x1024 0 [⟨S1x64x1024, (broadcastInDim S1x64x1024 ![1, 2] bcast_S64x1024_S1x64x1024_1_2 (shapeCast _ (extractStridedSlice S1x64x1024 ![0, 0, 0] buf slices_S2x64x1024_S1x64x1024_0_0_0) shapeCasts_S1x64x1024_S64x1024))⟩, ⟨S1x64x1024, (broadcastInDim S1x64x1024 ![1, 2] bcast_S64x1024_S1x64x1024_1_2 p)⟩] concatenates_S1x64x1024_S1x64x1024_S2x64x1024_d0

/-- The reference's keys and values. -/
theorem reference_both (h : FVec Ideal S64x4096 .bf16) (w : FVec Ideal S2x4096x13120 .f32) (buf : FVec Ideal S2x64x1024 .f32) :
    stacked buf (extractStridedSlice S64x1024 ![0, 11072] (whole h w) slices_S64x13120_S64x1024_0_11072)
      = projInto 11072 (by decide) h w buf
      ∧ stacked buf (extractStridedSlice S64x1024 ![0, 12096] (whole h w) slices_S64x13120_S64x1024_0_12096)
      = projInto 12096 (by decide) h w buf := by
  constructor
  all_goals
    funext i
    idx_vars i
    unfold projInto stacked whole
    pointwise
    by_cases h1 : i0.val = 1
    · rw [dif_neg (by omega), if_pos h1]
    · have h0 : i0 = 0 := Fin.ext (by show i0.val = 0; omega)
      subst h0
      rfl

end Reference

/-- The reference leaves its arguments as they were, and it declares no semaphore. -/
theorem frame_reference : Cert.quiescent_Reference17Ideal := fun m' ρ' _ =>
  (θ_run _ _ _).mono (fun r hr => ⟨fun c => (hr c).2.2, sem_eq_zero_of_no_sems (by decide) r.2⟩) (Reference17Ideal.Value.run m' ρ')

/-- Both programs end with the same keys and the same values. -/
theorem algebraic : Cert.algebraic_Kernel17Ideal_Reference17Ideal := by
  intro m ρ m' ρ' _ h
  refine ⟨keys m, vals m,
    (θ_run _ _ _).mono (fun _ hr c => ⟨(hr c).1.trans (final_keys m c), (hr c).2.1.trans (final_vals m c), (hr c).2.2⟩) (Kernel17Ideal.Value.run_blocks m ρ),
    (θ_run _ _ _).mono (fun _ hr c => ?_) (Reference17Ideal.Value.run m' ρ')⟩
  obtain ⟨e0, e1, e2, e3⟩ := h c
  refine ⟨(hr c).1.trans ?_, (hr c).2.1.trans ?_, (hr c).2.2⟩
  · rw [e0, e1, e2]
    exact (reference_both _ _ _).1
  · rw [e0, e1, e3]
    exact (reference_both _ _ _).2

end Cert.Proof.KvS.P17

end
-- ==== Proof.Kv0.Body.lean ====
/-
  WHAT ONE GRID POINT OF LAYER 0'S KEY/VALUE PROJECTION LEAVES. At the first point of each column tile the two weight tiles are
  rounded into the two scratch buffers; at every point the two output blocks are the products of the row block with the two
  scratch buffers' contents. Written over any float instance.
-/
module

public import proofs.«01_k».proof.Proof.Gen.Kernel10Ideal.Value
public import proofs.«01_k».proof.Proof.Norm.Row

@[expose] public section

noncomputable section

namespace Cert.Proof.Kv0

open Cert.Kernel10Ideal Cert.Kernel10Ideal.Gen Cert.Kernel10Ideal.Value
open Idealize.ShloMosaic Idealize.ShloMosaic.TcCoe Idealize.SL.Sem
open Idealize.ShloMosaic.Pipeline (Dat)
open Norm (zero2 zero3)

variable {F : FTy → Type} [FloatOps F]
variable (m : (ℓ : Loc nD τ sig) → Buf (Elt F) ℓ)

section Cases

variable (c : Dev nD) (i : grid0.Coords) (a2 : Memref sig .tc .vmem S1024x4096 .bf16) (h2 : a2.IsWhole)
  (a3 : Memref sig .tc .vmem S1x256x4096 .f32) (h3 : a3.IsWhole) (a4 : Memref sig .tc .vmem S1x256x4096 .f32) (h4 : a4.IsWhole)
  (a5 : Memref sig .tc .vmem S1x1024x256 .f32) (h5 : a5.IsWhole) (a6 : Memref sig .tc .vmem S1x1024x256 .f32) (h6 : a6.IsWhole)
  (a7 : Memref sig .tc .vmem S256x4096 .bf16) (h7 : a7.IsWhole) (a8 : Memref sig .tc .vmem S256x4096 .bf16) (h8 : a8.IsWhole)
  (x0 : Vec F S1024x4096 .bf16) (x1 x2 : Vec F S1x256x4096 .f32) (s0 s1 : Vec F S256x4096 .bf16)

/-- At the first point of a column tile the first scratch buffer receives the rounded first weight tile. -/
theorem scratch0_first (hc : cond0_0 i) :
    sout0_A_0 c i a2 h2 a3 h3 a4 h4 a5 h5 a6 h6 a7 h7 a8 h8 hc x0 x1 x2 = k0_pay1 x1 := by
  refine (View.read_writes_eq_canon _ _ _ fun _ => scover0_A_0 ..).trans ?_
  unfold kernelRun0_A
  sl_unfold_words
  rw [View.canon_unit_zero zero2]
  simp only [View.readAt_eq_ld, h3.read_unread, View.ld_unit_zero (S := S1x256x4096) zero3]

/-- … and the second the rounded second weight tile. -/
theorem scratch1_first (hc : cond0_0 i) :
    sout0_A_1 c i a2 h2 a3 h3 a4 h4 a5 h5 a6 h6 a7 h7 a8 h8 hc x0 x1 x2 = k0_pay2 x2 := by
  refine (View.read_writes_eq_canon _ _ _ fun _ => scover0_A_1 ..).trans ?_
  unfold kernelRun0_A
  sl_unfold_words
  rw [View.canon_unit_zero zero2]
  simp only [View.readAt_eq_ld, h4.read_unread, View.ld_unit_zero (S := S1x256x4096) zero3]

/-- At that point the first output block is the product with the tile just rounded. -/
theorem out0_first (hc : cond0_0 i) :
    out0_A_3 c i a2 h2 a3 h3 a4 h4 a5 h5 a6 h6 a7 h7 a8 h8 hc x0 x1 x2 = k0_pay3 x0 (k0_pay1 x1) := by
  refine (View.read_writes_eq_canon _ _ _ fun _ => cover0_A_3 ..).trans ?_
  unfold kernelRun0_A
  sl_unfold_words
  rw [View.canon_unit_zero zero3]
  simp only [View.readCov_unit_zero (S := S256x4096) _ zero2, View.readAt_eq_ld, h2.read_unread, h3.read_unread, View.ld_unit_zero (S := S1x256x4096) zero3, View.ld_unit_zero (S := S1024x4096) zero2]

/-- … and so is the second. -/
theorem out1_first (hc : cond0_0 i) :
    out0_A_4 c i a2 h2 a3 h3 a4 h4 a5 h5 a6 h6 a7 h7 a8 h8 hc x0 x1 x2 = k0_pay4 x0 (k0_pay2 x2) := by
  refine (View.read_writes_eq_canon _ _ _ fun _ => cover0_A_4 ..).trans ?_
  unfold kernelRun0_A
  sl_unfold_words
  rw [View.canon_unit_zero zero3]
  simp only [View.readCov_unit_zero (S := S256x4096) _ zero2, View.readAt_eq_ld, h2.read_unread, h4.read_unread, View.ld_unit_zero (S := S1x256x4096) zero3, View.ld_unit_zero (S := S1024x4096) zero2]

/-- At the other points the first output block is the product with the scratch's contents. -/
theorem out0_later (hc : ¬cond0_0 i) :
    out0_B_3 c i a2 h2 a3 h3 a4 h4 a5 h5 a6 h6 a7 h7 a8 h8 hc x0 x1 x2 s0 s1 = k0_pay3 x0 s0 := by
  refine (View.read_writes_eq_canon _ _ _ fun _ => cover0_B_3 ..).trans ?_
  unfold kernelRun0_B
  rw [View.canon_unit_zero zero3]
  simp only [View.readAt_eq_ld, h2.read_unread, h7.read_unread, View.ld_unit_zero (S := S1024x4096) zero2, View.ld_unit_zero (S := S256x4096) zero2]

/-- … and so is the second. -/
theorem out1_later (hc : ¬cond0_0 i) :
    out0_B_4 c i a2 h2 a3 h3 a4 h4 a5 h5 a6 h6 a7 h7 a8 h8 hc x0 x1 x2 s0 s1 = k0_pay4 x0 s1 := by
  refine (View.read_writes_eq_canon _ _ _ fun _ => cover0_B_4 ..).trans ?_
  unfold kernelRun0_B
  rw [View.canon_unit_zero zero3]
  simp only [View.readAt_eq_ld, h2.read_unread, h8.read_unread, View.ld_unit_zero (S := S1024x4096) zero2, View.ld_unit_zero (S := S256x4096) zero2]

end Cases

end Cert.Proof.Kv0

end
-- ==== Proof.Kv0.Points.lean ====
/-
  WHAT THE BUFFERS OF LAYER 0'S KEY/VALUE PROJECTION HOLD AFTER A GRID POINT. Point `t` works on row block `t % 8` and column tile
  `t / 8`. The scratch buffers hold the rounded weight tiles of the current column tile from the tile's first point on, so
  at every point both output blocks are the product of the point's row block with the point's own two weight tiles.
-/
module

public import proofs.«01_k».proof.Proof.Kv0.Body

@[expose] public section

noncomputable section

namespace Cert.Proof.Kv0

open Cert.Kernel10Ideal Cert.Kernel10Ideal.Gen Cert.Kernel10Ideal.Value
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The row block's place in the activations: block row `t % 8`. -/
theorem index0 : ∀ t : Fin cfg0.N, win0_0.index t 0 = t.val % 8 ∧ win0_0.index t 1 = 0 :=
  (by decide +kernel : ∀ t : Fin grid0.N, _)

/-- The key weights' tile starts at column `11072 + 256 (t / 8)` of layer 0. -/
theorem index1 : ∀ t : Fin cfg0.N, win0_1.index t 0 = 0 ∧ win0_1.index t 1 = 11072 + 256 * (t.val / 8) ∧ win0_1.index t 2 = 0 :=
  (by decide +kernel : ∀ t : Fin grid0.N, _)

/-- The value weights' tile starts at column `12096 + 256 (t / 8)` of layer 0. -/
theorem index2 : ∀ t : Fin cfg0.N, win0_2.index t 0 = 0 ∧ win0_2.index t 1 = 12096 + 256 * (t.val / 8) ∧ win0_2.index t 2 = 0 :=
  (by decide +kernel : ∀ t : Fin grid0.N, _)

/-- The key output's block: layer 0, row block `t % 8`, column tile `t / 8`. -/
theorem index3 : ∀ t : Fin cfg0.N, win0_3.index t 0 = 0 ∧ win0_3.index t 1 = t.val % 8 ∧ win0_3.index t 2 = t.val / 8 :=
  (by decide +kernel : ∀ t : Fin grid0.N, _)

/-- The value output's block is the same one of its own array. -/
theorem index4 : ∀ t : Fin cfg0.N, win0_4.index t 0 = 0 ∧ win0_4.index t 1 = t.val % 8 ∧ win0_4.index t 2 = t.val / 8 :=
  (by decide +kernel : ∀ t : Fin grid0.N, _)

/-- The row block read at point `t`, by coordinates. -/
theorem iblk0_apply (c : Dev nD) (t : Fin cfg0.N) (r : Fin 1024) (k : Fin 4096) :
    (iblk m c 0 t : Vec F S1024x4096 .bf16) (ix2 r k)
      = m ((c : Thread nD τ).loc main_arg0) (ix2 ⟨1024 * (t.val % 8) + r.val, by omega⟩ k) := by
  have hi := index0 t
  unfold iblk
  rw [View.read_apply, ← V_main_arg0 m c]
  refine congrArg (V m c main_arg0) (funext fun a => Fin.ext ?_)
  match a with
  | ⟨0, _⟩ => show win0_0.index t 0 * 1024 + 1 * r.val = 1024 * (t.val % 8) + r.val; rw [hi.1]; omega
  | ⟨1, _⟩ => show win0_0.index t 1 * 4096 + 1 * k.val = k.val; rw [hi.2]; omega

/-- The key weights' tile read at point `t`, by coordinates of the weights stored with the contracted axis last. -/
theorem iblk1_apply (c : Dev nD) (t : Fin cfg0.N) (z : Fin 1) (n : Fin 256) (k : Fin 4096) :
    (iblk m c 1 t : Vec F S1x256x4096 .f32) (ix3 z n k)
      = (V m c main_v0 : Vec F S2x13120x4096 .f32) (ix3 0 ⟨11072 + 256 * (t.val / 8) + n.val, by have := N_0; have : t.val < 32 := lt_of_lt_of_eq t.isLt N_0; omega⟩ k) := by
  have hi := index1 t
  unfold iblk
  rw [View.read_apply]
  refine congrArg (V m c main_v0) (funext fun a => Fin.ext ?_)
  match a with
  | ⟨0, _⟩ => show win0_1.index t 0 + 1 * z.val = 0; rw [hi.1]; omega
  | ⟨1, _⟩ => show win0_1.index t 1 + 1 * n.val = 11072 + 256 * (t.val / 8) + n.val; rw [hi.2.1]; omega
  | ⟨2, _⟩ => show win0_1.index t 2 + 1 * k.val = k.val; rw [hi.2.2]; omega

/-- The value weights' tile read at point `t`. -/
theorem iblk2_apply (c : Dev nD) (t : Fin cfg0.N) (z : Fin 1) (n : Fin 256) (k : Fin 4096) :
    (iblk m c 2 t : Vec F S1x256x4096 .f32) (ix3 z n k)
      = (V m c main_v0 : Vec F S2x13120x4096 .f32) (ix3 0 ⟨12096 + 256 * (t.val / 8) + n.val, by have := N_0; have : t.val < 32 := lt_of_lt_of_eq t.isLt N_0; omega⟩ k) := by
  have hi := index2 t
  unfold iblk
  rw [View.read_apply]
  refine congrArg (V m c main_v0) (funext fun a => Fin.ext ?_)
  match a with
  | ⟨0, _⟩ => show win0_2.index t 0 + 1 * z.val = 0; rw [hi.1]; omega
  | ⟨1, _⟩ => show win0_2.index t 1 + 1 * n.val = 12096 + 256 * (t.val / 8) + n.val; rw [hi.2.1]; omega
  | ⟨2, _⟩ => show win0_2.index t 2 + 1 * k.val = k.val; rw [hi.2.2]; omega

/-- Two points of one column tile read the same key weights' tile … -/
theorem iblk1_congr (c : Dev nD) (t t' : Fin cfg0.N) (h : t.val / 8 = t'.val / 8) :
    (iblk m c 1 t : Vec F S1x256x4096 .f32) = iblk m c 1 t' := by
  funext y
  rw [show y = ix3 (y 0) (y 1) (y 2) from eq_ix3 y]
  refine (iblk1_apply m c t _ _ _).trans (Eq.trans ?_ (iblk1_apply m c t' _ _ _).symm)
  simp only [h]

/-- … and the same value weights' tile. -/
theorem iblk2_congr (c : Dev nD) (t t' : Fin cfg0.N) (h : t.val / 8 = t'.val / 8) :
    (iblk m c 2 t : Vec F S1x256x4096 .f32) = iblk m c 2 t' := by
  funext y
  rw [show y = ix3 (y 0) (y 1) (y 2) from eq_ix3 y]
  refine (iblk2_apply m c t _ _ _).trans (Eq.trans ?_ (iblk2_apply m c t' _ _ _).symm)
  simp only [h]

/-- After any point the two scratch buffers hold that point's rounded weight tiles: stored at the tile's first point,
    kept at the others. -/
theorem scratch_eq (c : Dev nD) : ∀ (n : ℕ) (h : n < cfg0.N),
    (outsAt0 m c n h).2.2.1 = k0_pay1 (iblk m c 1 ⟨n, h⟩) ∧ (outsAt0 m c n h).2.2.2 = k0_pay2 (iblk m c 2 ⟨n, h⟩)
  | 0, h => by
    rw [outsAt0_A m c ⟨0, h⟩ rfl]
    dsimp only
    exact ⟨scratch0_first .., scratch1_first ..⟩
  | n + 1, h => by
    by_cases h0 : (n + 1) % 8 = 0
    · rw [outsAt0_A m c ⟨n + 1, h⟩ h0]
      dsimp only
      exact ⟨scratch0_first .., scratch1_first ..⟩
    · rw [outsAt0_B m c ⟨n + 1, h⟩ h0]
      dsimp only
      have ih := scratch_eq c n (Nat.lt_of_succ_lt h)
      have hd : n / 8 = (n + 1) / 8 := by omega
      exact ⟨ih.1.trans (congrArg k0_pay1 (iblk1_congr m c ⟨n, _⟩ ⟨n + 1, h⟩ hd)),
        ih.2.trans (congrArg k0_pay2 (iblk2_congr m c ⟨n, _⟩ ⟨n + 1, h⟩ hd))⟩

/-- After any point the two output blocks are the products of the point's row block with the point's rounded tiles. -/
theorem outs_eq (c : Dev nD) (t : Fin cfg0.N) :
    (outsAt0 m c t.val t.isLt).1 = k0_pay3 (iblk m c 0 t) (k0_pay1 (iblk m c 1 t))
      ∧ (outsAt0 m c t.val t.isLt).2.1 = k0_pay4 (iblk m c 0 t) (k0_pay2 (iblk m c 2 t)) := by
  by_cases h0 : t.val % 8 = 0
  · rw [outsAt0_A m c t h0]
    dsimp only
    exact ⟨out0_first .., out1_first ..⟩
  · rw [outsAt0_B m c t h0]
    have hs := scratch_eq m c (t.val - 1) (Nat.lt_of_le_of_lt (Nat.sub_le _ _) t.isLt)
    have hd : (t.val - 1) / 8 = t.val / 8 := by omega
    rw [out0_later, out1_later, hs.1, hs.2, iblk1_congr m c ⟨t.val - 1, _⟩ t hd, iblk2_congr m c ⟨t.val - 1, _⟩ t hd]
    exact ⟨rfl, rfl⟩

end Cert.Proof.Kv0

end
-- ==== Proof.Kv0.Value.lean ====
/-
  WHAT LAYER 0'S KEY/VALUE PROJECTION LEAVES, over the extended reals. Layer 0's slot of each result is the product of the
  activations with the layer's key (or value) columns of the input projection. Of layer 1's slot nothing is said.
-/
module

public import proofs.«01_k».proof.Proof.Kv0.Points
public import Idealize.ShloMosaic.Lib.StableHlo.Run

@[expose] public section

noncomputable section

namespace Cert.Proof.Kv0

open Cert.Kernel10Ideal Cert.Kernel10Ideal.Gen Cert.Kernel10Ideal.Value
open Idealize.ShloMosaic Idealize.ShloMosaic.TcCoe Idealize.SL.Sem
open Idealize.ShloMosaic.Pipeline (Dat)

/-- Layer 0's columns `off …` of the input projection applied to the activations, whatever the slot. -/
def projZero (off : ℕ) (hoff : off + 1024 ≤ 13120) (h : S8192x4096.Idx → EReal) (w : S2x4096x13120.Idx → EReal)
    (i : S2x8192x1024.Idx) : EReal :=
  ∑ k : Fin 4096, h (ix2 (i 1) k) * w (ix3 0 k ⟨off + (i 2).val, by have : (i 2).val < 1024 := (i 2).isLt; omega⟩)

variable (m : (ℓ : Loc nD τ sig) → Buf (Elt Ideal) ℓ) (ρ : Dev nD → PrngReg)

/-- The host transposes the weights before the call: the contracted axis goes last. -/
theorem V_v0 (c : Dev nD) (l : Fin 2) (n : Fin 13120) (k : Fin 4096) :
    (V m c main_v0 : S2x13120x4096.Idx → EReal) (ix3 l n k) = (m ((c : Thread nD τ).loc main_arg1) : S2x4096x13120.Idx → EReal) (ix3 l k n) := by
  have e : V m c main_v0 = transpose S2x13120x4096 [0, 2, 1] (m ((c : Thread nD τ).loc main_arg1)) transposes_S2x4096x13120_S2x13120x4096_0_2_1 := by
    unfold V
    after_results
  rw [e]
  pointwise

/-- One element of a product block: the row of the row block against the row of the rounded tile. -/
theorem pay3_apply (x : Vec Ideal S1024x4096 .bf16) (w : Vec Ideal S1x256x4096 .f32) (z : Fin 1) (r : Fin 1024) (n : Fin 256) :
    (k0_pay3 x (k0_pay1 w)) (ix3 z r n) = ∑ k : Fin 4096, (x (ix2 r k) : EReal) * w (ix3 0 n k) := by
  pointwise [k0_pay3, k0_pay1]

theorem pay4_apply (x : Vec Ideal S1024x4096 .bf16) (w : Vec Ideal S1x256x4096 .f32) (z : Fin 1) (r : Fin 1024) (n : Fin 256) :
    (k0_pay4 x (k0_pay2 w)) (ix3 z r n) = ∑ k : Fin 4096, (x (ix2 r k) : EReal) * w (ix3 0 n k) := by
  pointwise [k0_pay4, k0_pay2]

/-- What the first result array ends holding in layer 0's slot, by the arguments. -/
abbrev keys (c : Dev nD) : S2x8192x1024.Idx → EReal :=
  projZero 11072 (by decide) (m ((c : Thread nD τ).loc main_arg0)) (m ((c : Thread nD τ).loc main_arg1))

/-- What the second result array ends holding there. -/
abbrev vals (c : Dev nD) : S2x8192x1024.Idx → EReal :=
  projZero 12096 (by decide) (m ((c : Thread nD τ).loc main_arg0)) (m ((c : Thread nD τ).loc main_arg1))

/-- An output block's place in its array, by coordinates. -/
theorem emb3 (t : Fin cfg0.N) (z : Fin 1) (r : Fin 1024) (n : Fin 256) :
    ((cfg0.win 3).blk t).view.emb (ix3 z r n : S1x1024x256.Idx)
      = (ix3 0 ⟨1024 * (t.val % 8) + r.val, by omega⟩ ⟨256 * (t.val / 8) + n.val, by have : t.val < 32 := lt_of_lt_of_eq t.isLt N_0; omega⟩ : S2x8192x1024.Idx) := by
  have hi := index3 t
  funext a
  apply Fin.ext
  match a with
  | ⟨0, _⟩ => show win0_3.index t 0 * 1 + 1 * z.val = 0; rw [hi.1]; omega
  | ⟨1, _⟩ => show win0_3.index t 1 * 1024 + 1 * r.val = 1024 * (t.val % 8) + r.val; rw [hi.2.1]; omega
  | ⟨2, _⟩ => show win0_3.index t 2 * 256 + 1 * n.val = 256 * (t.val / 8) + n.val; rw [hi.2.2]; omega

theorem emb4 (t : Fin cfg0.N) (z : Fin 1) (r : Fin 1024) (n : Fin 256) :
    ((cfg0.win 4).blk t).view.emb (ix3 z r n : S1x1024x256.Idx)
      = (ix3 0 ⟨1024 * (t.val % 8) + r.val, by omega⟩ ⟨256 * (t.val / 8) + n.val, by have : t.val < 32 := lt_of_lt_of_eq t.isLt N_0; omega⟩ : S2x8192x1024.Idx) := by
  have hi := index4 t
  funext a
  apply Fin.ext
  match a with
  | ⟨0, _⟩ => show win0_4.index t 0 * 1 + 1 * z.val = 0; rw [hi.1]; omega
  | ⟨1, _⟩ => show win0_4.index t 1 * 1024 + 1 * r.val = 1024 * (t.val % 8) + r.val; rw [hi.2.1]; omega
  | ⟨2, _⟩ => show win0_4.index t 2 * 256 + 1 * n.val = 256 * (t.val / 8) + n.val; rw [hi.2.2]; omega

/-- Two columns of layer 0 of equal position hold the same weights. -/
theorem weight_congr (w : S2x4096x13120.Idx → EReal) (k : Fin 4096) {a b : Fin 13120} (h : a.val = b.val) :
    w (ix3 0 k a) = w (ix3 0 k b) := by rw [Fin.ext h]

/-- What a point writes back is its block of `keys`. -/
theorem flushed_keys (c : Dev nD) (t : Fin cfg0.N) :
    (dats m 0 c).flushed 3 t = ((cfg0.win 3).blk t).view.read (Elt Ideal) (keys m c) := by
  rw [flushed3, (outs_eq m c t).1]
  funext y
  rw [View.read_apply]
  show (k0_pay3 (iblk m c 0 t) (k0_pay1 (iblk m c 1 t))) y = keys m c _
  obtain ⟨z, r, n, rfl⟩ : ∃ (z : Fin 1) (r : Fin 1024) (n : Fin 256), y = ix3 z r n := ⟨y 0, y 1, y 2, eq_ix3 y⟩
  rw [pay3_apply, emb3]
  unfold keys projZero
  refine Finset.sum_congr rfl fun k _ => ?_
  rw [iblk0_apply, iblk1_apply, V_v0]
  exact congrArg₂ (· * ·) rfl (weight_congr _ k (Nat.add_assoc ..))

theorem flushed_vals (c : Dev nD) (t : Fin cfg0.N) :
    (dats m 0 c).flushed 4 t = ((cfg0.win 4).blk t).view.read (Elt Ideal) (vals m c) := by
  rw [flushed4, (outs_eq m c t).2]
  funext y
  rw [View.read_apply]
  show (k0_pay4 (iblk m c 0 t) (k0_pay2 (iblk m c 2 t))) y = vals m c _
  obtain ⟨z, r, n, rfl⟩ : ∃ (z : Fin 1) (r : Fin 1024) (n : Fin 256), y = ix3 z r n := ⟨y 0, y 1, y 2, eq_ix3 y⟩
  rw [pay4_apply, emb4]
  unfold vals projZero
  refine Finset.sum_congr rfl fun k _ => ?_
  rw [iblk0_apply, iblk2_apply, V_v0]
  exact congrArg₂ (· * ·) rfl (weight_congr _ k (Nat.add_assoc ..))

/-- Every index of layer 0 lies in some point's block. -/
theorem cover (i : S2x8192x1024.Idx) (h : (i 0).val = 0) :
    (∃ t : Fin cfg0.N, (cfg0.win 3).flush t = true ∧ i ∈ ((cfg0.win 3).blk t).view.set)
      ∧ ∃ t : Fin cfg0.N, (cfg0.win 4).flush t = true ∧ i ∈ ((cfg0.win 4).blk t).view.set := by
  obtain ⟨l, r, n, rfl⟩ : ∃ (l : Fin 2) (r : Fin 8192) (n : Fin 1024), i = ix3 l r n := ⟨i 0, i 1, i 2, eq_ix3 i⟩
  have hl : l = 0 := Fin.ext h
  subst hl
  let t : Fin cfg0.N := ⟨8 * (n.val / 256) + r.val / 1024, by rw [show cfg0.N = 32 from N_0]; omega⟩
  have ht : t.val = 8 * (n.val / 256) + r.val / 1024 := rfl
  have e3 := emb3 t 0 ⟨r.val % 1024, by omega⟩ ⟨n.val % 256, by omega⟩
  have e4 := emb4 t 0 ⟨r.val % 1024, by omega⟩ ⟨n.val % 256, by omega⟩
  have e : (ix3 0 ⟨1024 * (t.val % 8) + r.val % 1024, by omega⟩ ⟨256 * (t.val / 8) + n.val % 256, by rw [ht]; omega⟩ : S2x8192x1024.Idx) = ix3 0 r n := by
    congr 1 <;> apply Fin.ext <;> dsimp only <;> rw [ht] <;> omega
  exact ⟨⟨t, flush0_3 t, (e3.trans e) ▸ ((cfg0.win 3).blk t).view.emb_mem_set _⟩,
    ⟨t, flush0_4 t, (e4.trans e) ▸ ((cfg0.win 4).blk t).view.emb_mem_set _⟩⟩

/-- Layer 0's slot of the first result array after the run. -/
theorem final_keys (c : Dev nD) (i : S2x8192x1024.Idx) (h : (i 0).val = 0) : (dats m 0 c).arrAt 3 cfg0.N i = keys m c i := by
  rw [(dats m 0 c).arrAt_eq_piecewise 3 (keys m c) (fun t _ => flushed_keys m c t) i]
  exact if_pos (cover i h).1

/-- Layer 0's slot of the second result array after the run. -/
theorem final_vals (c : Dev nD) (i : S2x8192x1024.Idx) (h : (i 0).val = 0) : (dats m 0 c).arrAt 4 cfg0.N i = vals m c i := by
  rw [(dats m 0 c).arrAt_eq_piecewise 4 (vals m c) (fun t _ => flushed_vals m c t) i]
  exact if_pos (cover i h).2

end Cert.Proof.Kv0

end
-- ==== Proof.Kv0.Reference.lean ====
/-
  THE REFERENCE OF LAYER 0'S KEY/VALUE PROJECTION, read at an index of layer 0's slot: slices of the layer's whole input
  projection, stacked on zeros, are `projZero` there. And the mask of the claim, read at an index: it selects that slot.
-/
module

public import proofs.«01_k».proof.Proof.Kv0.Value
public import proofs.«01_k».proof.Proof.Gen.Reference10Ideal.Run
public import proofs.«01_k».proof.Proof.Gen.On_layer_zero

@[expose] public section

noncomputable section

namespace Cert.Proof.Kv0

open Cert.Reference10Ideal Cert.Reference10Ideal.Gen
open Idealize.ShloMosaic Idealize.ShloMosaic.TcCoe Idealize.SL.Sem

/-- The mask is set exactly in layer 0's slot, for either result. -/
theorem mask_iff [Cert.On_layer_zero.Facts] (h : FVec Ideal S8192x4096 .bf16) (w : FVec Ideal S2x4096x13120 .f32) (i : S2x8192x1024.Idx) :
    ((Cert.On_layer_zero.fn (F := Ideal) h w).1 i = 1#1 ↔ (i 0).val = 0) ∧ ((Cert.On_layer_zero.fn (F := Ideal) h w).2 i = 1#1 ↔ (i 0).val = 0) := by
  have key : ∀ l < 2, IntOp.cmpi .eq (BitVec.ofNat 32 l) 0#32 = 1#1 ↔ l = 0 := by decide
  exact ⟨key _ (i 0).isLt, key _ (i 0).isLt⟩

/-- The whole input projection of layer 0, as the reference forms it. -/
abbrev whole (h : FVec Ideal S8192x4096 .bf16) (w : FVec Ideal S2x4096x13120 .f32) : FVec Ideal S8192x13120 .f32 :=
  Host.dotGeneral dot_S8192x4096_S4096x13120_S8192x13120_1_0_0_1_n_n none (extf .f32 h bitsLt_bf16_f32) (shapeCast _ (extractStridedSlice S1x4096x13120 ![0, 0, 0] w slices_S2x4096x13120_S1x4096x13120_0_0_0) shapeCasts_S1x4096x13120_S4096x13120)

/-- Columns of a projection stacked on another array. -/
abbrev stacked (p z : FVec Ideal S8192x1024 .f32) : FVec Ideal S2x8192x1024 .f32 :=
  concatenate S2x8192x1024 0 [⟨S1x8192x1024, (broadcastInDim S1x8192x1024 ![1, 2] bcast_S8192x1024_S1x8192x1024_1_2 p)⟩, ⟨S1x8192x1024, (broadcastInDim S1x8192x1024 ![1, 2] bcast_S8192x1024_S1x8192x1024_1_2 z)⟩] concatenates_S1x8192x1024_S1x8192x1024_S2x8192x1024_d0

/-- The key result in layer 0's slot. -/
theorem reference_keys (h : FVec Ideal S8192x4096 .bf16) (w : FVec Ideal S2x4096x13120 .f32) (z : FVec Ideal S8192x1024 .f32)
    (i : S2x8192x1024.Idx) (hi : (i 0).val = 0) :
    stacked (extractStridedSlice S8192x1024 ![0, 11072] (whole h w) slices_S8192x13120_S8192x1024_0_11072) z i
      = projZero 11072 (by decide) h w i := by
  idx_vars i
  unfold projZero stacked whole
  pointwise
  rw [dif_pos (by have : i0.val = 0 := hi; omega)]

/-- The value result in layer 0's slot. -/
theorem reference_vals (h : FVec Ideal S8192x4096 .bf16) (w : FVec Ideal S2x4096x13120 .f32) (z : FVec Ideal S8192x1024 .f32)
    (i : S2x8192x1024.Idx) (hi : (i 0).val = 0) :
    stacked (extractStridedSlice S8192x1024 ![0, 12096] (whole h w) slices_S8192x13120_S8192x1024_0_12096) z i
      = projZero 12096 (by decide) h w i := by
  idx_vars i
  unfold projZero stacked whole
  pointwise
  rw [dif_pos (by have : i0.val = 0 := hi; omega)]

end Cert.Proof.Kv0

end
-- ==== Proof.Kv0.Claim.lean ====
/-
  THE RUNS OF LAYER 0'S KEY/VALUE PROJECTION, side by side: the kernel and the reference agree in layer 0's slot of both
  results.
-/
module

public import proofs.«01_k».proof.Proof.Kv0.Reference
public import proofs.«01_k».proof.Defs
public import Idealize.ShloMosaic.Lib.Quiescent

@[expose] public section

noncomputable section

namespace Cert.Proof.Kv0

open Idealize.ShloMosaic Idealize.ShloMosaic.TcCoe Idealize.SL.Sem

/-- The reference leaves its arguments as they were, and it declares no semaphore. -/
theorem frame_reference : Cert.quiescent_Reference10Ideal := fun m' ρ' _ =>
  (θ_run _ _ _).mono (fun r hr => ⟨fun c => (hr c).2.2, sem_eq_zero_of_no_sems (by decide) r.2⟩) (Reference10Ideal.Value.run m' ρ')

/-- Where the mask is set both programs' results are layer 0's keys and values. -/
theorem algebraic : Cert.algebraic_Kernel10Ideal_Reference10Ideal_on_layer_zero := by
  intro m ρ m' ρ' _ h
  refine ⟨keys m, vals m, ?_, ?_⟩
  · exact (θ_run _ _ _).mono (fun _ hr c =>
      ⟨fun i hi => (congrFun (hr c).1 i).trans (final_keys m c i ((mask_iff _ _ i).1.mp hi)),
        fun i hi => (congrFun (hr c).2.1 i).trans (final_vals m c i ((mask_iff _ _ i).2.mp hi)), (hr c).2.2⟩)
      (Kernel10Ideal.Value.run_blocks m ρ)
  · refine (θ_run _ _ _).mono (fun _ hr c => ?_) (Reference10Ideal.Value.run m' ρ')
    obtain ⟨e0, e1⟩ := h c
    refine ⟨fun i hi => (congrFun (hr c).1 i).trans ?_, fun i hi => (congrFun (hr c).2.1 i).trans ?_, (hr c).2.2⟩
    · rw [e0, e1]
      exact reference_keys _ _ _ i ((mask_iff _ _ i).1.mp hi)
    · rw [e0, e1]
      exact reference_vals _ _ _ i ((mask_iff _ _ i).2.mp hi)

end Cert.Proof.Kv0

end
-- ==== Proof.lean ====
module

public import proofs.«01_k».proof.Proof.Kv.Claim
public import proofs.«01_k».proof.Proof.Out.Claim
public import proofs.«01_k».proof.Proof.Down.Claim
public import proofs.«01_k».proof.Proof.Ffn.Claim
public import proofs.«01_k».proof.Proof.Gen.Pre_finite
public import proofs.«01_k».proof.Proof.Gen.Kernel2.Frame
public import proofs.«01_k».proof.Proof.Gen.Kernel3.Frame
public import proofs.«01_k».proof.Proof.Gen.Kernel4.Frame
public import proofs.«01_k».proof.Proof.In.Claim
public import proofs.«01_k».proof.Proof.InBits.Frame
public import proofs.«01_k».proof.Proof.Out1.Claim
public import proofs.«01_k».proof.Proof.Down1.Claim
public import proofs.«01_k».proof.Proof.Ffn1.Claim
public import proofs.«01_k».proof.Proof.In1.Claim
public import proofs.«01_k».proof.Proof.InBits1.Frame
public import proofs.«01_k».proof.Proof.Norm.First
public import proofs.«01_k».proof.Proof.Norm.AddCast
public import proofs.«01_k».proof.Proof.Norm.Add
public import proofs.«01_k».proof.Proof.Norm.AddSample
public import proofs.«01_k».proof.Proof.Up.First
public import proofs.«01_k».proof.Proof.Up.Second
public import proofs.«01_k».proof.Proof.KvS.First
public import proofs.«01_k».proof.Proof.KvS.Second
public import proofs.«01_k».proof.Proof.Kv0.Claim
public import proofs.«01_k».proof.Proof.Gen.Kernel10.Frame
public import proofs.«01_k».proof.Proof.Gen.On_layer_zero
public import proofs.«01_k».proof.Proof.Gen.Kernel6.Frame
public import proofs.«01_k».proof.Proof.Gen.Kernel7.Frame
public import proofs.«01_k».proof.Proof.Gen.Kernel8.Frame
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Pre_finite.Gen.facts, Cert.On_layer_zero.Gen.facts, Cert.On_layer_zero_sample.Gen.facts, by
  exact ⟨fun m ρ _ => Cert.Kernel.Gen.frame m ρ, fun m ρ _ => Cert.KernelIdeal.Gen.frame m ρ, Kv.frame_reference,
    fun m ρ _ => Cert.Kernel2.Gen.frame m ρ, fun m ρ _ => Cert.Kernel2Ideal.Gen.frame m ρ, Out.frame_reference,
    fun m ρ _ => Cert.Kernel3.Gen.frame m ρ, fun m ρ _ => Cert.Kernel3Ideal.Gen.frame m ρ, Down.frame_reference,
    fun m ρ _ => Cert.Kernel4.Gen.frame m ρ, fun m ρ _ => Cert.Kernel4Ideal.Gen.frame m ρ, fun m ρ _ => Cert.Kernel4Ideal.Gen.frame m ρ,
    Ffn.frame_reference, fun m ρ _ => Ffn.frame_reference m ρ trivial,
    fun m ρ _ => Cert.Kernel5.In.frame m ρ, fun m ρ _ => Cert.Kernel5Ideal.In.frame m ρ, In.frame_reference,
    fun m ρ _ => Cert.Kernel6.Gen.frame m ρ, fun m ρ _ => Cert.Kernel6Ideal.Gen.frame m ρ, Out1.frame_reference,
    fun m ρ _ => Cert.Kernel7.Gen.frame m ρ, fun m ρ _ => Cert.Kernel7Ideal.Gen.frame m ρ, Down1.frame_reference,
    fun m ρ _ => Cert.Kernel8.Gen.frame m ρ, fun m ρ _ => Cert.Kernel8Ideal.Gen.frame m ρ, fun m ρ _ => Cert.Kernel8Ideal.Gen.frame m ρ,
    Ffn1.frame_reference, fun m ρ _ => Ffn1.frame_reference m ρ trivial,
    fun m ρ _ => Cert.Kernel9.In.frame m ρ, fun m ρ _ => Cert.Kernel9Ideal.In.frame m ρ, In1.frame_reference,
    fun m ρ _ => Cert.Kernel10.Gen.frame m ρ, fun m ρ _ => Cert.Kernel10Ideal.Gen.frame m ρ, Kv0.frame_reference,
    fun m ρ _ => Cert.Kernel11.Gen.frame m ρ, fun m ρ _ => Cert.Kernel11Ideal.Gen.frame m ρ, Norm.P11.frame_reference,
    fun m ρ _ => Cert.Kernel12.Gen.frame m ρ, fun m ρ _ => Cert.Kernel12Ideal.Gen.frame m ρ, Norm.P12.frame_reference,
    fun m ρ _ => Cert.Kernel13.Gen.frame m ρ, fun m ρ _ => Cert.Kernel13Ideal.Gen.frame m ρ, Norm.P13.frame_reference,
    fun m ρ _ => Cert.Kernel14.Gen.frame m ρ, fun m ρ _ => Cert.Kernel14Ideal.Gen.frame m ρ, Norm.P14.frame_reference,
    fun m ρ _ => Cert.Kernel15.Gen.frame m ρ, fun m ρ _ => Cert.Kernel15Ideal.Gen.frame m ρ, Up.P15.frame_reference,
    fun m ρ _ => Cert.Kernel16.Gen.frame m ρ, fun m ρ _ => Cert.Kernel16Ideal.Gen.frame m ρ, Up.P16.frame_reference,
    fun m ρ _ => Cert.Kernel17.Gen.frame m ρ, fun m ρ _ => Cert.Kernel17Ideal.Gen.frame m ρ, KvS.P17.frame_reference,
    fun m ρ _ => Cert.Kernel18.Gen.frame m ρ, fun m ρ _ => Cert.Kernel18Ideal.Gen.frame m ρ, KvS.P18.frame_reference,
    trivial, Kv.algebraic,
    trivial, Out.algebraic,
    trivial, Down.algebraic,
    trivial, Ffn.algebraic,
    trivial, In.algebraic,
    trivial, Out1.algebraic,
    trivial, Down1.algebraic,
    trivial, Ffn1.algebraic,
    trivial, In1.algebraic,
    trivial, Kv0.algebraic,
    trivial, Norm.P11.algebraic,
    trivial, Norm.P12.algebraic,
    trivial, Norm.P13.algebraic,
    trivial, Norm.P14.algebraic,
    trivial, Up.P15.algebraic,
    trivial, Up.P16.algebraic,
    trivial, KvS.P17.algebraic,
    trivial, KvS.P18.algebraic⟩⟩

end Cert.Proof

end
